-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v80) = v0 c
          ∧ r.2.mem ((c.tc : Thread Cert.Reference10Ideal.nD Cert.Reference10Ideal.τ).loc Cert.Reference10Ideal.main_v81) = v1 c
          ∧ r.2.mem ((c.tc : Thread Cert.Reference10Ideal.nD Cert.Reference10Ideal.τ).loc Cert.Reference10Ideal.main_v82) = v2 c
          ∧ r.2.mem ((c.tc : Thread Cert.Reference10Ideal.nD Cert.Reference10Ideal.τ).loc Cert.Reference10Ideal.main_v83) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)) (v4 : (c : Dev Cert.Kernel11Ideal.nD) → Buf (Elt Ideal) ((c.tc : Thread Cert.Kernel11Ideal.nD Cert.Kernel11Ideal.τ).loc Cert.Kernel11Ideal.main_v3_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_v3_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v43) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_v39) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v33) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)) (v4 : (c : Dev Cert.Kernel13Ideal.nD) → Buf (Elt Ideal) ((c.tc : Thread Cert.Kernel13Ideal.nD Cert.Kernel13Ideal.τ).loc Cert.Kernel13Ideal.main_v7_4)) (v5 : (c : Dev Cert.Kernel13Ideal.nD) → Buf (Elt Ideal) ((c.tc : Thread Cert.Kernel13Ideal.nD Cert.Kernel13Ideal.τ).loc Cert.Kernel13Ideal.main_v7_5)) (v6 : (c : Dev Cert.Kernel13Ideal.nD) → Buf (Elt Ideal) ((c.tc : Thread Cert.Kernel13Ideal.nD Cert.Kernel13Ideal.τ).loc Cert.Kernel13Ideal.main_v7_6)) (v7 : (c : Dev Cert.Kernel13Ideal.nD) → Buf (Elt Ideal) ((c.tc : Thread Cert.Kernel13Ideal.nD Cert.Kernel13Ideal.τ).loc Cert.Kernel13Ideal.main_v7_7)) (v8 : (c : Dev Cert.Kernel13Ideal.nD) → Buf (Elt Ideal) ((c.tc : Thread Cert.Kernel13Ideal.nD Cert.Kernel13Ideal.τ).loc Cert.Kernel13Ideal.main_v7_8)) (v9 : (c : Dev Cert.Kernel13Ideal.nD) → Buf (Elt Ideal) ((c.tc : Thread Cert.Kernel13Ideal.nD Cert.Kernel13Ideal.τ).loc Cert.Kernel13Ideal.main_v7_9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_v7_4) = v4 c
          ∧ r.2.mem ((c.tc : Thread Cert.Kernel13Ideal.nD Cert.Kernel13Ideal.τ).loc Cert.Kernel13Ideal.main_v7_5) = v5 c
          ∧ r.2.mem ((c.tc : Thread Cert.Kernel13Ideal.nD Cert.Kernel13Ideal.τ).loc Cert.Kernel13Ideal.main_v7_6) = v6 c
          ∧ r.2.mem ((c.tc : Thread Cert.Kernel13Ideal.nD Cert.Kernel13Ideal.τ).loc Cert.Kernel13Ideal.main_v7_7) = v7 c
          ∧ r.2.mem ((c.tc : Thread Cert.Kernel13Ideal.nD Cert.Kernel13Ideal.τ).loc Cert.Kernel13Ideal.main_v7_8) = v8 c
          ∧ r.2.mem ((c.tc : Thread Cert.Kernel13Ideal.nD Cert.Kernel13Ideal.τ).loc Cert.Kernel13Ideal.main_v7_9) = v9 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_v17) = v4 c
          ∧ r.2.mem ((c.tc : Thread Cert.Reference13Ideal.nD Cert.Reference13Ideal.τ).loc Cert.Reference13Ideal.main_v19) = v5 c
          ∧ r.2.mem ((c.tc : Thread Cert.Reference13Ideal.nD Cert.Reference13Ideal.τ).loc Cert.Reference13Ideal.main_v21) = v6 c
          ∧ r.2.mem ((c.tc : Thread Cert.Reference13Ideal.nD Cert.Reference13Ideal.τ).loc Cert.Reference13Ideal.main_v25) = v7 c
          ∧ r.2.mem ((c.tc : Thread Cert.Reference13Ideal.nD Cert.Reference13Ideal.τ).loc Cert.Reference13Ideal.main_v27) = v8 c
          ∧ r.2.mem ((c.tc : Thread Cert.Reference13Ideal.nD Cert.Reference13Ideal.τ).loc Cert.Reference13Ideal.main_v29) = v9 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v44_1)) (v1 : (c : Dev Cert.Kernel21Ideal.nD) → Buf (Elt Ideal) ((c.tc : Thread Cert.Kernel21Ideal.nD Cert.Kernel21Ideal.τ).loc Cert.Kernel21Ideal.main_v44_2)) (v2 : (c : Dev Cert.Kernel21Ideal.nD) → Buf (Elt Ideal) ((c.tc : Thread Cert.Kernel21Ideal.nD Cert.Kernel21Ideal.τ).loc Cert.Kernel21Ideal.main_v44_3)) (v3 : (c : Dev Cert.Kernel21Ideal.nD) → Buf (Elt Ideal) ((c.tc : Thread Cert.Kernel21Ideal.nD Cert.Kernel21Ideal.τ).loc Cert.Kernel21Ideal.main_v44_4)) (v4 : (c : Dev Cert.Kernel21Ideal.nD) → Buf (Elt Ideal) ((c.tc : Thread Cert.Kernel21Ideal.nD Cert.Kernel21Ideal.τ).loc Cert.Kernel21Ideal.main_v44_5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v44_1) = v0 c
          ∧ r.2.mem ((c.tc : Thread Cert.Kernel21Ideal.nD Cert.Kernel21Ideal.τ).loc Cert.Kernel21Ideal.main_v44_2) = v1 c
          ∧ r.2.mem ((c.tc : Thread Cert.Kernel21Ideal.nD Cert.Kernel21Ideal.τ).loc Cert.Kernel21Ideal.main_v44_3) = v2 c
          ∧ r.2.mem ((c.tc : Thread Cert.Kernel21Ideal.nD Cert.Kernel21Ideal.τ).loc Cert.Kernel21Ideal.main_v44_4) = v3 c
          ∧ r.2.mem ((c.tc : Thread Cert.Kernel21Ideal.nD Cert.Kernel21Ideal.τ).loc Cert.Kernel21Ideal.main_v44_5) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v143) = v0 c
          ∧ r.2.mem ((c.tc : Thread Cert.Reference21Ideal.nD Cert.Reference21Ideal.τ).loc Cert.Reference21Ideal.main_v162) = v1 c
          ∧ r.2.mem ((c.tc : Thread Cert.Reference21Ideal.nD Cert.Reference21Ideal.τ).loc Cert.Reference21Ideal.main_v163) = v2 c
          ∧ r.2.mem ((c.tc : Thread Cert.Reference21Ideal.nD Cert.Reference21Ideal.τ).loc Cert.Reference21Ideal.main_v164) = v3 c
          ∧ r.2.mem ((c.tc : Thread Cert.Reference21Ideal.nD Cert.Reference21Ideal.τ).loc Cert.Reference21Ideal.main_v165) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v45_0)) (v1 : (c : Dev Cert.Kernel22Ideal.nD) → Buf (Elt Ideal) ((c.tc : Thread Cert.Kernel22Ideal.nD Cert.Kernel22Ideal.τ).loc Cert.Kernel22Ideal.main_v45_1)) (v2 : (c : Dev Cert.Kernel22Ideal.nD) → Buf (Elt Ideal) ((c.tc : Thread Cert.Kernel22Ideal.nD Cert.Kernel22Ideal.τ).loc Cert.Kernel22Ideal.main_v45_2)) (v3 : (c : Dev Cert.Kernel22Ideal.nD) → Buf (Elt Ideal) ((c.tc : Thread Cert.Kernel22Ideal.nD Cert.Kernel22Ideal.τ).loc Cert.Kernel22Ideal.main_v45_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v45_0) = v0 c
          ∧ r.2.mem ((c.tc : Thread Cert.Kernel22Ideal.nD Cert.Kernel22Ideal.τ).loc Cert.Kernel22Ideal.main_v45_1) = v1 c
          ∧ r.2.mem ((c.tc : Thread Cert.Kernel22Ideal.nD Cert.Kernel22Ideal.τ).loc Cert.Kernel22Ideal.main_v45_2) = v2 c
          ∧ r.2.mem ((c.tc : Thread Cert.Kernel22Ideal.nD Cert.Kernel22Ideal.τ).loc Cert.Kernel22Ideal.main_v45_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v97) = v0 c
          ∧ r.2.mem ((c.tc : Thread Cert.Reference22Ideal.nD Cert.Reference22Ideal.τ).loc Cert.Reference22Ideal.main_v98) = v1 c
          ∧ r.2.mem ((c.tc : Thread Cert.Reference22Ideal.nD Cert.Reference22Ideal.τ).loc Cert.Reference22Ideal.main_v99) = v2 c
          ∧ r.2.mem ((c.tc : Thread Cert.Reference22Ideal.nD Cert.Reference22Ideal.τ).loc Cert.Reference22Ideal.main_v101) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite4 : Cert.Pre_finite4.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S1024 : S_.BroadcastsInDim S1024 (![] : Fin 0 → Fin S1024.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024x5632 .f32) (main_arg2 : FVec F S1024 .f32) (main_arg3 : FVec F S1024 .f32) (main_arg4 : FVec F S4096x5632 .f32) (main_arg5 : FVec F S4096x1024 .f32) : IVec S4096x1024 1 × IVec S1024x5632 1 × IVec S1024 1 × IVec S4096x5632 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x5632 .f32 := Host.absf main_arg4
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite10.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .f32) (main_arg1 : FVec F S2816x1024 .f32) (main_arg2 : FVec F S4096x1024 .f32) (main_arg3 : FVec F S1024 .f32) (main_arg4 : FVec F S1024 .f32) (main_arg5 : FVec F S4096x1024 .f32) : IVec S4096x2816 1 × IVec S2816x1024 1 × IVec S4096x1024 1 × IVec S1024 1 × IVec S1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite4.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x96 1 × IVec S4096x8x96 1 × IVec S4096x8x64 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Kernel.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S5632x1024 : Shape := ⟨2, ![5632, 1024]⟩
abbrev S1x1024 : Shape := ⟨2, ![1, 1024]⟩
abbrev S256x2816 : Shape := ⟨2, ![256, 2816]⟩
abbrev S2816x1024 : Shape := ⟨2, ![2816, 1024]⟩
abbrev S256x1024 : Shape := ⟨2, ![256, 1024]⟩
abbrev S256x1 : Shape := ⟨2, ![256, 1]⟩
abbrev S256 : Shape := ⟨1, ![256]⟩

abbrev nBuf : Space → Nat
  | .hbm => 39
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024, .f32⟩
  | .hbm, ⟨3, _⟩ => ⟨S1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .bf16⟩
  | .hbm, ⟨31, _⟩ => ⟨S4096x2816, .f32⟩
  | .hbm, ⟨32, _⟩ => ⟨S4096x2816, .bf16⟩
  | .hbm, ⟨33, _⟩ => ⟨S1024x5632, .bf16⟩
  | .hbm, ⟨34, _⟩ => ⟨S5632x1024, .bf16⟩
  | .hbm, ⟨35, _⟩ => ⟨S1x1024, .f32⟩
  | .hbm, ⟨36, _⟩ => ⟨S4096x1024, .f32⟩
  | .hbm, ⟨37, _⟩ => ⟨S1x1024, .f32⟩
  | .hbm, ⟨38, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024, .f32⟩
  | .hbm, ⟨3, _⟩ => ⟨S1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x5632, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S1x1024, .f32⟩
  | .hbm, ⟨96, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S4096x2816 : Shape := ⟨2, ![4096, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x1024, .bf16⟩
  | .hbm, ⟨4, _⟩ => ⟨S4096x2816, .bf16⟩
  | .hbm, ⟨5, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S8x4096x96 : Shape := ⟨3, ![8, 4096, 96]⟩
abbrev S8x4096x128 : Shape := ⟨3, ![8, 4096, 128]⟩
abbrev S8x4096x64 : Shape := ⟨3, ![8, 4096, 64]⟩
abbrev S8x1x4096 : Shape := ⟨3, ![8, 1, 4096]⟩
abbrev S4x512x128 : Shape := ⟨3, ![4, 512, 128]⟩
abbrev S4x512x64 : Shape := ⟨3, ![4, 512, 64]⟩
abbrev S4x1x512 : Shape := ⟨3, ![4, 1, 512]⟩
abbrev S4x4096x128 : Shape := ⟨3, ![4, 4096, 128]⟩
abbrev S8x4x512x128 : Shape := ⟨4, ![8, 4, 512, 128]⟩
abbrev S4x512x512 : Shape := ⟨3, ![4, 512, 512]⟩
abbrev S512x512 : Shape := ⟨2, ![512, 512]⟩
abbrev S1x512x512 : Shape := ⟨3, ![1, 512, 512]⟩
abbrev S1x4x512x128 : Shape := ⟨4, ![1, 4, 512, 128]⟩

abbrev nBuf : Space → Nat
  | .hbm => 59
  | .vmem => 21
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x64x4096, .f32⟩
  | .hbm, ⟨35, _⟩ => ⟨S4096x8x64, .f32⟩
  | .hbm, ⟨36, _⟩ => ⟨S4096x8x64, .f32⟩
  | .hbm, ⟨37, _⟩ => ⟨S_, .f32⟩
  | .hbm, ⟨38, _⟩ => ⟨S4096x8, .f32⟩
  | .hbm, ⟨39, _⟩ => ⟨S8x4096x96, .f32⟩
  | .hbm, ⟨40, _⟩ => ⟨S8x4096x96, .bf16⟩
  | .hbm, ⟨41, _⟩ => ⟨S_, .i32⟩
  | .hbm, ⟨42, _⟩ => ⟨S_, .bf16⟩
  | .hbm, ⟨43, _⟩ => ⟨S8x4096x128, .bf16⟩
  | .hbm, ⟨44, _⟩ => ⟨S8x4096x96, .f32⟩
  | .hbm, ⟨45, _⟩ => ⟨S8x4096x96, .bf16⟩
  | .hbm, ⟨46, _⟩ => ⟨S_, .i32⟩
  | .hbm, ⟨47, _⟩ => ⟨S_, .bf16⟩
  | .hbm, ⟨48, _⟩ => ⟨S8x4096x128, .bf16⟩
  | .hbm, ⟨49, _⟩ => ⟨S8x4096x64, .f32⟩
  | .hbm, ⟨50, _⟩ => ⟨S8x4096x64, .bf16⟩
  | .hbm, ⟨51, _⟩ => ⟨S8x4096x64, .f32⟩
  | .hbm, ⟨52, _⟩ => ⟨S8x4096x64, .bf16⟩
  | .hbm, ⟨53, _⟩ => ⟨S8x1x4096, .f32⟩
  | .hbm, ⟨54, _⟩ => ⟨S8x4096, .f32⟩
  | .hbm, ⟨55, _⟩ => ⟨S8x1x4096, .f32⟩
  | .hbm, ⟨56, _⟩ => ⟨S8x4096x128, .f32⟩
  | .hbm, ⟨57, _⟩ => ⟨S8x4096x128, .f32⟩
  | .hbm, ⟨58, _⟩ => ⟨S8x4096x64, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x64, .bf16⟩
  | .local _ .vmem, ⟨5, _⟩ => ⟨S4x512x64, .bf16⟩
  | .local _ .vmem, ⟨6, _⟩ => ⟨S4x512x64, .bf16⟩
  | .local _ .vmem, ⟨7, _⟩ => ⟨S4x512x64, .bf16⟩
  | .local _ .vmem, ⟨8, _⟩ => ⟨S4x1x512, .f32⟩
  | .local _ .vmem, ⟨9, _⟩ => ⟨S4x1x512, .f32⟩
  | .local _ .vmem, ⟨10, _⟩ => ⟨S4x1x512, .f32⟩
  | .local _ .vmem, ⟨11, _⟩ => ⟨S4x1x512, .f32⟩
  | .local _ .vmem, ⟨12, _⟩ => ⟨S4x4096x128, .f32⟩
  | .local _ .vmem, ⟨13, _⟩ => ⟨S4x4096x128, .f32⟩
  | .local _ .vmem, ⟨14, _⟩ => ⟨S4x512x128, .f32⟩
  | .local _ .vmem, ⟨15, _⟩ => ⟨S4x512x128, .f32⟩
  | .local _ .vmem, ⟨16, _⟩ => ⟨S4x512x64, .f32⟩
  | .local _ .vmem, ⟨17, _⟩ => ⟨S4x512x64, .f32⟩
  | .local _ .vmem, ⟨18, _⟩ => ⟨S8x4x512x128, .f32⟩
  | .local _ .vmem, ⟨19, _⟩ => ⟨S4x512x128, .f32⟩
  | .local _ .vmem, ⟨20, _⟩ => ⟨S4x512x64, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call1_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_v40_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .eq arg2 arg1
  let v9 : BitVec 32 := Scalar.extui v8
  let c0_i32_4 : BitVec 32 := 0#32
  let v10 : BitVec 1 := Scalar.cmpi .ne v9 c0_i32_4
  v10

def k0_off1 (i : grid0.Coords) : Fin 4 → Nat :=
  let arg2 : BitVec 32 := BitVec.ofNat 32 (i 2).val
  let v68 : Index := Scalar.indexCast arg2
  let c0_45 : Index := 0#32
  let c0_46 : Index := 0#32
  let c0_47 : Index := 0#32
  ![v68.toNat, 0, 0, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .sgt arg2 arg1
  let v12 : BitVec 32 := Scalar.extui v11
  let c0_i32_5 : BitVec 32 := 0#32
  let v13 : BitVec 1 := Scalar.cmpi .ne v12 c0_i32_5
  v13

def k0_off2 (i : grid0.Coords) : Fin 4 → Nat :=
  let arg2 : BitVec 32 := BitVec.ofNat 32 (i 2).val
  let v60 : Index := Scalar.indexCast arg2
  let c0_44 : Index := 0#32
  let c0_45 : Index := 0#32
  let c0_46 : Index := 0#32
  ![v60.toNat, 0, 0, 0]
def k0_cond6 (i : grid0.Coords) : BitVec 1 :=
  let arg1 : BitVec 32 := BitVec.ofNat 32 (i 1).val
  let c7_i32_7 : BitVec 32 := 7#32
  let v17 : BitVec 1 := Scalar.cmpi .eq arg1 c7_i32_7
  let arg2 : BitVec 32 := BitVec.ofNat 32 (i 2).val
  let c7_i32_8 : BitVec 32 := 7#32
  let v18 : BitVec 1 := Scalar.cmpi .eq arg2 c7_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel4Ideal.lean ====
variable {F : FTy → Type} [FloatOps F] [Named F]
def κ : String → Option EReal := fun
  | "mask" => some ⊥
  | _ => none
-- ==== Reference4Ideal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S8x4096x128 : Shape := ⟨3, ![8, 4096, 128]⟩
abbrev S8x4096x64 : Shape := ⟨3, ![8, 4096, 64]⟩

abbrev nBuf : Space → Nat
  | .hbm => 99
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S8x64x4096, .f32⟩
  | .hbm, ⟨63, _⟩ => ⟨S8x4096x4096, .f32⟩
  | .hbm, ⟨64, _⟩ => ⟨S8x64x4096, .f32⟩
  | .hbm, ⟨65, _⟩ => ⟨S4096x8x64, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096x4096, .f32⟩
  | .hbm, ⟨85, _⟩ => ⟨S8x4096x4096, .f32⟩
  | .hbm, ⟨86, _⟩ => ⟨S8x4096x96, .f32⟩
  | .hbm, ⟨87, _⟩ => ⟨S4096x8x96, .f32⟩
  | .hbm, ⟨88, _⟩ => ⟨S8x4096x96, .f32⟩
  | .hbm, ⟨89, _⟩ => ⟨S4096x8x96, .f32⟩
  | .hbm, ⟨90, _⟩ => ⟨S8x4096x96, .f32⟩
  | .hbm, ⟨91, _⟩ => ⟨S_, .i32⟩
  | .hbm, ⟨92, _⟩ => ⟨S_, .f32⟩
  | .hbm, ⟨93, _⟩ => ⟨S8x4096x128, .f32⟩
  | .hbm, ⟨94, _⟩ => ⟨S8x4096x96, .f32⟩
  | .hbm, ⟨95, _⟩ => ⟨S_, .i32⟩
  | .hbm, ⟨96, _⟩ => ⟨S_, .f32⟩
  | .hbm, ⟨97, _⟩ => ⟨S8x4096x128, .f32⟩
  | .hbm, ⟨98, _⟩ => ⟨S8x4096x64, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel5.lean ====
abbrev S4096x1024 : Shape := ⟨2, ![4096, 1024]⟩
abbrev S1024x512 : Shape := ⟨2, ![1024, 512]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S1024x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x1024 : Shape := ⟨2, ![4096, 1024]⟩
abbrev S1024x1536 : Shape := ⟨2, ![1024, 1536]⟩
abbrev S4096x1536 : Shape := ⟨2, ![4096, 1536]⟩
abbrev S2048x1024 : Shape := ⟨2, ![2048, 1024]⟩
abbrev S2048x1536 : Shape := ⟨2, ![2048, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1536, .bf16⟩
  | .hbm, ⟨4, _⟩ => ⟨S1024x1536, .f32⟩
  | .local _ .vmem, ⟨0, _⟩ => ⟨S2048x1024, .f32⟩
  | .local _ .vmem, ⟨1, _⟩ => ⟨S2048x1024, .f32⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1536, .f32⟩
  | .hbm, ⟨4, _⟩ => ⟨S1536x1024, .f32⟩
  | .hbm, ⟨5, _⟩ => ⟨S1024x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x1024, .f32⟩
  | .hbm, ⟨4, _⟩ => ⟨S1024x512, .bf16⟩
  | .hbm, ⟨5, _⟩ => ⟨S512x1024, .bf16⟩
  | .hbm, ⟨6, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x1024 : Shape := ⟨2, ![4096, 1024]⟩
abbrev S1024x512 : Shape := ⟨2, ![1024, 512]⟩
abbrev S4096x512 : Shape := ⟨2, ![4096, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x1024, .f32⟩
  | .hbm, ⟨4, _⟩ => ⟨S4096x512, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel9.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩
abbrev S512x1536 : Shape := ⟨2, ![512, 1536]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1024, .f32⟩
  | .hbm, ⟨4, _⟩ => ⟨S4096x1536, .bf16⟩
  | .hbm, ⟨5, _⟩ => ⟨S1024x1536, .bf16⟩
  | .hbm, ⟨6, _⟩ => ⟨S1536x1024, .bf16⟩
  | .hbm, ⟨7, _⟩ => ⟨S4096x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1024, .f32⟩
  | .hbm, ⟨4, _⟩ => ⟨S4096x1536, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1x128, .f32⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S1x128, .f32⟩
  | .hbm, ⟨115, _⟩ => ⟨S1x1024, .f32⟩
  | .hbm, ⟨116, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S4096x2816 : Shape := ⟨2, ![4096, 2816]⟩
abbrev S256x1024 : Shape := ⟨2, ![256, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S256x1408 : Shape := ⟨2, ![256, 1408]⟩
abbrev S8x1408 : Shape := ⟨2, ![8, 1408]⟩
abbrev S248x1408 : Shape := ⟨2, ![248, 1408]⟩

abbrev nBuf : Space → Nat
  | .hbm => 13
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x1024, .bf16⟩
  | .hbm, ⟨5, _⟩ => ⟨S1024x5632, .bf16⟩
  | .hbm, ⟨6, _⟩ => ⟨S1x5632, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S4096x2816, .f32⟩
  | .local _ .vmem, ⟨0, _⟩ => ⟨S256x1024, .bf16⟩
  | .local _ .vmem, ⟨1, _⟩ => ⟨S256x1024, .bf16⟩
  | .local _ .vmem, ⟨2, _⟩ => ⟨S8x1024, .f32⟩
  | .local _ .vmem, ⟨3, _⟩ => ⟨S8x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .bf16⟩
  | .local _ .vmem, ⟨21, _⟩ => ⟨S256x1408, .bf16⟩
  | .local _ .vmem, ⟨22, _⟩ => ⟨S256x1408, .f32⟩
  | .local _ .vmem, ⟨23, _⟩ => ⟨S256x1408, .f32⟩
  | .local _ .vmem, ⟨24, _⟩ => ⟨S256x1408, .f32⟩
  | .local _ .vmem, ⟨25, _⟩ => ⟨S256x1408, .f32⟩
  | .local _ .vmem, ⟨26, _⟩ => ⟨S256x1408, .f32⟩
  | .local _ .vmem, ⟨27, _⟩ => ⟨S256x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference11Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S4098x5632 : Shape := ⟨2, ![4098, 5632]⟩
abbrev S1x5632 : Shape := ⟨2, ![1, 5632]⟩
abbrev S4097x5632 : Shape := ⟨2, ![4097, 5632]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S_, .i32⟩
  | .hbm, ⟨6, _⟩ => ⟨S_, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .i32⟩
  | .hbm, ⟨18, _⟩ => ⟨S_, .f32⟩
  | .hbm, ⟨19, _⟩ => ⟨S4097x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel12.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel13.lean ====
abbrev S4096x1024 : Shape := ⟨2, ![4096, 1024]⟩
abbrev S1024x1952 : Shape := ⟨2, ![1024, 1952]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x1536 : Shape := ⟨2, ![1024, 1536]⟩
abbrev S1024x2048 : Shape := ⟨2, ![1024, 2048]⟩
abbrev S4096x512 : Shape := ⟨2, ![4096, 512]⟩
abbrev S8x4096x64 : Shape := ⟨3, ![8, 4096, 64]⟩
abbrev S8x4x1024x64 : Shape := ⟨4, ![8, 4, 1024, 64]⟩
abbrev S8x16x256x64 : Shape := ⟨4, ![8, 16, 256, 64]⟩
abbrev S512x1024 : Shape := ⟨2, ![512, 1024]⟩
abbrev S512x512 : Shape := ⟨2, ![512, 512]⟩
abbrev S8x512x64 : Shape := ⟨3, ![8, 512, 64]⟩
abbrev S8x4x128x64 : Shape := ⟨4, ![8, 4, 128, 64]⟩
abbrev S8x16x32x64 : Shape := ⟨4, ![8, 16, 32, 64]⟩
abbrev S1024x512 : Shape := ⟨2, ![1024, 512]⟩
abbrev S512x64 : Shape := ⟨2, ![512, 64]⟩
abbrev S1x512x64 : Shape := ⟨3, ![1, 512, 64]⟩
abbrev S8x128x64 : Shape := ⟨3, ![8, 128, 64]⟩
abbrev S8x1x128x64 : Shape := ⟨4, ![8, 1, 128, 64]⟩
abbrev S8x32x64 : Shape := ⟨3, ![8, 32, 64]⟩
abbrev S8x1x32x64 : Shape := ⟨4, ![8, 1, 32, 64]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S1024x1952, .bf16⟩
  | .hbm, ⟨3, _⟩ => ⟨S1024x384, .bf16⟩
  | .hbm, ⟨4, _⟩ => ⟨S_, .bf16⟩
  | .hbm, ⟨5, _⟩ => ⟨S1024x64, .bf16⟩
  | .hbm, ⟨6, _⟩ => ⟨S1024x32, .bf16⟩
  | .hbm, ⟨7, _⟩ => ⟨S_, .bf16⟩
  | .hbm, ⟨8, _⟩ => ⟨S1024x32, .bf16⟩
  | .hbm, ⟨9, _⟩ => ⟨S1024x1536, .bf16⟩
  | .hbm, ⟨10, _⟩ => ⟨S1024x2048, .bf16⟩
  | .hbm, ⟨11, _⟩ => ⟨S4096x512, .f32⟩
  | .hbm, ⟨12, _⟩ => ⟨S8x4096x64, .bf16⟩
  | .hbm, ⟨13, _⟩ => ⟨S8x4x1024x64, .bf16⟩
  | .hbm, ⟨14, _⟩ => ⟨S8x16x256x64, .bf16⟩
  | .hbm, ⟨15, _⟩ => ⟨S8x4096x64, .bf16⟩
  | .hbm, ⟨16, _⟩ => ⟨S8x4x1024x64, .bf16⟩
  | .hbm, ⟨17, _⟩ => ⟨S8x16x256x64, .bf16⟩
  | .hbm, ⟨18, _⟩ => ⟨S8x4096x64, .bf16⟩
  | .hbm, ⟨19, _⟩ => ⟨S8x4x1024x64, .bf16⟩
  | .hbm, ⟨20, _⟩ => ⟨S8x16x256x64, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x512, .f32⟩
  | .local _ .vmem, ⟨4, _⟩ => ⟨S512x512, .f32⟩
  | .local _ .vmem, ⟨5, _⟩ => ⟨S8x512x64, .bf16⟩
  | .local _ .vmem, ⟨6, _⟩ => ⟨S8x512x64, .bf16⟩
  | .local _ .vmem, ⟨7, _⟩ => ⟨S8x4x128x64, .bf16⟩
  | .local _ .vmem, ⟨8, _⟩ => ⟨S8x4x128x64, .bf16⟩
  | .local _ .vmem, ⟨9, _⟩ => ⟨S8x16x32x64, .bf16⟩
  | .local _ .vmem, ⟨10, _⟩ => ⟨S8x16x32x64, .bf16⟩
  | .local _ .vmem, ⟨11, _⟩ => ⟨S8x512x64, .bf16⟩
  | .local _ .vmem, ⟨12, _⟩ => ⟨S8x512x64, .bf16⟩
  | .local _ .vmem, ⟨13, _⟩ => ⟨S8x4x128x64, .bf16⟩
  | .local _ .vmem, ⟨14, _⟩ => ⟨S8x4x128x64, .bf16⟩
  | .local _ .vmem, ⟨15, _⟩ => ⟨S8x16x32x64, .bf16⟩
  | .local _ .vmem, ⟨16, _⟩ => ⟨S8x16x32x64, .bf16⟩
  | .local _ .vmem, ⟨17, _⟩ => ⟨S8x512x64, .bf16⟩
  | .local _ .vmem, ⟨18, _⟩ => ⟨S8x512x64, .bf16⟩
  | .local _ .vmem, ⟨19, _⟩ => ⟨S8x4x128x64, .bf16⟩
  | .local _ .vmem, ⟨20, _⟩ => ⟨S8x4x128x64, .bf16⟩
  | .local _ .vmem, ⟨21, _⟩ => ⟨S8x16x32x64, .bf16⟩
  | .local _ .vmem, ⟨22, _⟩ => ⟨S8x16x32x64, .bf16⟩
  | .local _ .vmem, ⟨23, _⟩ => ⟨S8x512x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev main_v7_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x32x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x32x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x16x32x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S4096x1024 : Shape := ⟨2, ![4096, 1024]⟩
abbrev S1024x1952 : Shape := ⟨2, ![1024, 1952]⟩
abbrev S4096x1952 : Shape := ⟨2, ![4096, 1952]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x512 : Shape := ⟨2, ![4096, 512]⟩
abbrev S4096x8x64 : Shape := ⟨3, ![4096, 8, 64]⟩
abbrev S8x4096x64 : Shape := ⟨3, ![8, 4096, 64]⟩
abbrev S1024x4x8x64 : Shape := ⟨4, ![1024, 4, 8, 64]⟩
abbrev S8x4x1024x64 : Shape := ⟨4, ![8, 4, 1024, 64]⟩
abbrev S256x16x8x64 : Shape := ⟨4, ![256, 16, 8, 64]⟩
abbrev S8x16x256x64 : Shape := ⟨4, ![8, 16, 256, 64]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S4096x1952, .f32⟩
  | .hbm, ⟨3, _⟩ => ⟨S4096x384, .f32⟩
  | .hbm, ⟨4, _⟩ => ⟨S_, .f32⟩
  | .hbm, ⟨5, _⟩ => ⟨S4096x64, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x8x64, .bf16⟩
  | .hbm, ⟨13, _⟩ => ⟨S8x4096x64, .bf16⟩
  | .hbm, ⟨14, _⟩ => ⟨S1024x4x8x64, .bf16⟩
  | .hbm, ⟨15, _⟩ => ⟨S8x4x1024x64, .bf16⟩
  | .hbm, ⟨16, _⟩ => ⟨S256x16x8x64, .bf16⟩
  | .hbm, ⟨17, _⟩ => ⟨S8x16x256x64, .bf16⟩
  | .hbm, ⟨18, _⟩ => ⟨S4096x512, .f32⟩
  | .hbm, ⟨19, _⟩ => ⟨S4096x512, .bf16⟩
  | .hbm, ⟨20, _⟩ => ⟨S4096x8x64, .bf16⟩
  | .hbm, ⟨21, _⟩ => ⟨S8x4096x64, .bf16⟩
  | .hbm, ⟨22, _⟩ => ⟨S1024x4x8x64, .bf16⟩
  | .hbm, ⟨23, _⟩ => ⟨S8x4x1024x64, .bf16⟩
  | .hbm, ⟨24, _⟩ => ⟨S256x16x8x64, .bf16⟩
  | .hbm, ⟨25, _⟩ => ⟨S8x16x256x64, .bf16⟩
  | .hbm, ⟨26, _⟩ => ⟨S4096x512, .f32⟩
  | .hbm, ⟨27, _⟩ => ⟨S4096x512, .bf16⟩
  | .hbm, ⟨28, _⟩ => ⟨S4096x8x64, .bf16⟩
  | .hbm, ⟨29, _⟩ => ⟨S8x4096x64, .bf16⟩
  | .hbm, ⟨30, _⟩ => ⟨S1024x4x8x64, .bf16⟩
  | .hbm, ⟨31, _⟩ => ⟨S8x4x1024x64, .bf16⟩
  | .hbm, ⟨32, _⟩ => ⟨S256x16x8x64, .bf16⟩
  | .hbm, ⟨33, _⟩ => ⟨S8x16x256x64, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel15.lean ====
abbrev S1024x488 : Shape := ⟨2, ![1024, 488]⟩
abbrev S256x488 : Shape := ⟨2, ![256, 488]⟩

abbrev nBuf : Space → Nat
  | .hbm => 7
  | .vmem => 14
  | .smem => 0
  | _ => 0

abbrev bufTy : (tb : Table) → Fin (tcTables nBuf tb) → BufTy
  | .hbm, ⟨0, _⟩ => ⟨S1024x488, .f32⟩
  | .hbm, ⟨1, _⟩ => ⟨S1024x488, .f32⟩
  | .hbm, ⟨2, _⟩ => ⟨S1024x488, .f32⟩
  | .hbm, ⟨3, _⟩ => ⟨S1024x488, .f32⟩
  | .hbm, ⟨4, _⟩ => ⟨S1024x488, .f32⟩
  | .hbm, ⟨5, _⟩ => ⟨S1024x488, .f32⟩
  | .hbm, ⟨6, _⟩ => ⟨S1024x488, .f32⟩
  | .local _ .vmem, ⟨0, _⟩ => ⟨S256x488, .f32⟩
  | .local _ .vmem, ⟨1, _⟩ => ⟨S256x488, .f32⟩
  | .local _ .vmem, ⟨2, _⟩ => ⟨S256x488, .f32⟩
  | .local _ .vmem, ⟨3, _⟩ => ⟨S256x488, .f32⟩
  | .local _ .vmem, ⟨4, _⟩ => ⟨S256x488, .f32⟩
  | .local _ .vmem, ⟨5, _⟩ => ⟨S256x488, .f32⟩
  | .local _ .vmem, ⟨6, _⟩ => ⟨S256x488, .f32⟩
  | .local _ .vmem, ⟨7, _⟩ => ⟨S256x488, .f32⟩
  | .local _ .vmem, ⟨8, _⟩ => ⟨S256x488, .f32⟩
  | .local _ .vmem, ⟨9, _⟩ => ⟨S256x488, .f32⟩
  | .local _ .vmem, ⟨10, _⟩ => ⟨S256x488, .f32⟩
  | .local _ .vmem, ⟨11, _⟩ => ⟨S256x488, .f32⟩
  | .local _ .vmem, ⟨12, _⟩ => ⟨S256x488, .f32⟩
  | .local _ .vmem, ⟨13, _⟩ => ⟨S256x488, .f32⟩
  | _, _ => ⟨S1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1024x488 : Shape := ⟨2, ![1024, 488]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x488, .f32⟩
  | .hbm, ⟨1, _⟩ => ⟨S1024x488, .f32⟩
  | .hbm, ⟨2, _⟩ => ⟨S1024x488, .f32⟩
  | .hbm, ⟨3, _⟩ => ⟨S1024x488, .f32⟩
  | .hbm, ⟨4, _⟩ => ⟨S_, .f32⟩
  | .hbm, ⟨5, _⟩ => ⟨S1024x488, .f32⟩
  | .hbm, ⟨6, _⟩ => ⟨S1024x488, .f32⟩
  | .hbm, ⟨7, _⟩ => ⟨S_, .f32⟩
  | .hbm, ⟨8, _⟩ => ⟨S1024x488, .f32⟩
  | .hbm, ⟨9, _⟩ => ⟨S1024x488, .f32⟩
  | .hbm, ⟨10, _⟩ => ⟨S1024x488, .f32⟩
  | .hbm, ⟨11, _⟩ => ⟨S_, .f32⟩
  | .hbm, ⟨12, _⟩ => ⟨S1024x488, .f32⟩
  | .hbm, ⟨13, _⟩ => ⟨S1024x488, .f32⟩
  | .hbm, ⟨14, _⟩ => ⟨S1024x488, .f32⟩
  | .hbm, ⟨15, _⟩ => ⟨S_, .f32⟩
  | .hbm, ⟨16, _⟩ => ⟨S1024x488, .f32⟩
  | .hbm, ⟨17, _⟩ => ⟨S1024x488, .f32⟩
  | .hbm, ⟨18, _⟩ => ⟨S1024x488, .f32⟩
  | .hbm, ⟨19, _⟩ => ⟨S_, .f32⟩
  | .hbm, ⟨20, _⟩ => ⟨S1024x488, .f32⟩
  | .hbm, ⟨21, _⟩ => ⟨S1024x488, .f32⟩
  | .hbm, ⟨22, _⟩ => ⟨S_, .f32⟩
  | .hbm, ⟨23, _⟩ => ⟨S1024x488, .f32⟩
  | .hbm, ⟨24, _⟩ => ⟨S1024x488, .f32⟩
  | .hbm, ⟨25, _⟩ => ⟨S1024x488, .f32⟩
  | .hbm, ⟨26, _⟩ => ⟨S_, .f32⟩
  | .hbm, ⟨27, _⟩ => ⟨S1024x488, .f32⟩
  | .hbm, ⟨28, _⟩ => ⟨S1024x488, .f32⟩
  | .hbm, ⟨29, _⟩ => ⟨S1024x488, .f32⟩
  | .hbm, ⟨30, _⟩ => ⟨S_, .f32⟩
  | .hbm, ⟨31, _⟩ => ⟨S1024x488, .f32⟩
  | .hbm, ⟨32, _⟩ => ⟨S1024x488, .f32⟩
  | .hbm, ⟨33, _⟩ => ⟨S1024x488, .f32⟩
  | .hbm, ⟨34, _⟩ => ⟨S_, .f32⟩
  | .hbm, ⟨35, _⟩ => ⟨S1024x488, .f32⟩
  | .hbm, ⟨36, _⟩ => ⟨S1024x488, .f32⟩
  | _, _ => ⟨S1024x488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S64x768 : Shape := ⟨2, ![64, 768]⟩
abbrev S16x768 : Shape := ⟨2, ![16, 768]⟩

abbrev nBuf : Space → Nat
  | .hbm => 7
  | .vmem => 14
  | .smem => 0
  | _ => 0

abbrev bufTy : (tb : Table) → Fin (tcTables nBuf tb) → BufTy
  | .hbm, ⟨0, _⟩ => ⟨S64x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S64x768, .f32⟩
  | .hbm, ⟨5, _⟩ => ⟨S64x768, .f32⟩
  | .hbm, ⟨6, _⟩ => ⟨S64x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | .local _ .vmem, ⟨7, _⟩ => ⟨S16x768, .f32⟩
  | .local _ .vmem, ⟨8, _⟩ => ⟨S16x768, .f32⟩
  | .local _ .vmem, ⟨9, _⟩ => ⟨S16x768, .f32⟩
  | .local _ .vmem, ⟨10, _⟩ => ⟨S16x768, .f32⟩
  | .local _ .vmem, ⟨11, _⟩ => ⟨S16x768, .f32⟩
  | .local _ .vmem, ⟨12, _⟩ => ⟨S16x768, .f32⟩
  | .local _ .vmem, ⟨13, _⟩ => ⟨S16x768, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S64x768 : Shape := ⟨2, ![64, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S_, .f32⟩
  | .hbm, ⟨5, _⟩ => ⟨S64x768, .f32⟩
  | .hbm, ⟨6, _⟩ => ⟨S64x768, .f32⟩
  | .hbm, ⟨7, _⟩ => ⟨S_, .f32⟩
  | .hbm, ⟨8, _⟩ => ⟨S64x768, .f32⟩
  | .hbm, ⟨9, _⟩ => ⟨S64x768, .f32⟩
  | .hbm, ⟨10, _⟩ => ⟨S64x768, .f32⟩
  | .hbm, ⟨11, _⟩ => ⟨S_, .f32⟩
  | .hbm, ⟨12, _⟩ => ⟨S64x768, .f32⟩
  | .hbm, ⟨13, _⟩ => ⟨S64x768, .f32⟩
  | .hbm, ⟨14, _⟩ => ⟨S64x768, .f32⟩
  | .hbm, ⟨15, _⟩ => ⟨S_, .f32⟩
  | .hbm, ⟨16, _⟩ => ⟨S64x768, .f32⟩
  | .hbm, ⟨17, _⟩ => ⟨S64x768, .f32⟩
  | .hbm, ⟨18, _⟩ => ⟨S64x768, .f32⟩
  | .hbm, ⟨19, _⟩ => ⟨S_, .f32⟩
  | .hbm, ⟨20, _⟩ => ⟨S64x768, .f32⟩
  | .hbm, ⟨21, _⟩ => ⟨S64x768, .f32⟩
  | .hbm, ⟨22, _⟩ => ⟨S_, .f32⟩
  | .hbm, ⟨23, _⟩ => ⟨S64x768, .f32⟩
  | .hbm, ⟨24, _⟩ => ⟨S64x768, .f32⟩
  | .hbm, ⟨25, _⟩ => ⟨S64x768, .f32⟩
  | .hbm, ⟨26, _⟩ => ⟨S_, .f32⟩
  | .hbm, ⟨27, _⟩ => ⟨S64x768, .f32⟩
  | .hbm, ⟨28, _⟩ => ⟨S64x768, .f32⟩
  | .hbm, ⟨29, _⟩ => ⟨S64x768, .f32⟩
  | .hbm, ⟨30, _⟩ => ⟨S_, .f32⟩
  | .hbm, ⟨31, _⟩ => ⟨S64x768, .f32⟩
  | .hbm, ⟨32, _⟩ => ⟨S64x768, .f32⟩
  | .hbm, ⟨33, _⟩ => ⟨S64x768, .f32⟩
  | .hbm, ⟨34, _⟩ => ⟨S_, .f32⟩
  | .hbm, ⟨35, _⟩ => ⟨S64x768, .f32⟩
  | .hbm, ⟨36, _⟩ => ⟨S64x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x1024 : Shape := ⟨2, ![256, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1280x128 : Shape := ⟨2, ![1280, 128]⟩

abbrev nBuf : Space → Nat
  | .hbm => 7
  | .vmem => 7
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x512 : Shape := ⟨2, ![4096, 512]⟩
abbrev S8x4096x96 : Shape := ⟨3, ![8, 4096, 96]⟩
abbrev S8x4096x64 : Shape := ⟨3, ![8, 4096, 64]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S8x256x96 : Shape := ⟨3, ![8, 256, 96]⟩
abbrev S_ : Shape := ⟨0, ![]⟩
abbrev S8x256x128 : Shape := ⟨3, ![8, 256, 128]⟩
abbrev S8x128x64 : Shape := ⟨3, ![8, 128, 64]⟩
abbrev S8x128x128 : Shape := ⟨3, ![8, 128, 128]⟩
abbrev S8x4096x128 : Shape := ⟨3, ![8, 4096, 128]⟩
abbrev S1x256 : Shape := ⟨2, ![1, 256]⟩
abbrev S1x128 : Shape := ⟨2, ![1, 128]⟩
abbrev S8x128x256 : Shape := ⟨3, ![8, 128, 256]⟩
abbrev S8x64x128 : Shape := ⟨3, ![8, 64, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x80 : Shape := ⟨2, ![4096, 80]⟩
abbrev S4096x48 : Shape := ⟨2, ![4096, 48]⟩
abbrev S256x512 : Shape := ⟨2, ![256, 512]⟩
abbrev S8x256x64 : Shape := ⟨3, ![8, 256, 64]⟩
abbrev S256x128 : Shape := ⟨2, ![256, 128]⟩
abbrev S256x256 : Shape := ⟨2, ![256, 256]⟩
abbrev S256x1 : Shape := ⟨2, ![256, 1]⟩
abbrev S1x256x128 : Shape := ⟨3, ![1, 256, 128]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S1x256x64 : Shape := ⟨3, ![1, 256, 64]⟩
abbrev S256x64 : Shape := ⟨2, ![256, 64]⟩
abbrev S1x64x128 : Shape := ⟨3, ![1, 64, 128]⟩
abbrev S64x128 : Shape := ⟨2, ![64, 128]⟩
abbrev S1x128x64 : Shape := ⟨3, ![1, 128, 64]⟩
abbrev S128x64 : Shape := ⟨2, ![128, 64]⟩

abbrev nBuf : Space → Nat
  | .hbm => 76
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S8x4096x96, .f32⟩
  | .hbm, ⟨2, _⟩ => ⟨S8x4096x96, .f32⟩
  | .hbm, ⟨3, _⟩ => ⟨S8x4096x64, .f32⟩
  | .hbm, ⟨4, _⟩ => ⟨S256, .f32⟩
  | .hbm, ⟨5, _⟩ => ⟨S128, .f32⟩
  | .hbm, ⟨6, _⟩ => ⟨S256x8x96, .f32⟩
  | .hbm, ⟨7, _⟩ => ⟨S128x8x64, .f32⟩
  | .hbm, ⟨8, _⟩ => ⟨S128x8x64, .f32⟩
  | .hbm, ⟨9, _⟩ => ⟨S256x8x96, .bf16⟩
  | .hbm, ⟨10, _⟩ => ⟨S8x256x96, .bf16⟩
  | .hbm, ⟨11, _⟩ => ⟨S_, .i32⟩
  | .hbm, ⟨12, _⟩ => ⟨S_, .bf16⟩
  | .hbm, ⟨13, _⟩ => ⟨S8x256x128, .bf16⟩
  | .hbm, ⟨14, _⟩ => ⟨S128x8x64, .bf16⟩
  | .hbm, ⟨15, _⟩ => ⟨S8x128x64, .bf16⟩
  | .hbm, ⟨16, _⟩ => ⟨S_, .i32⟩
  | .hbm, ⟨17, _⟩ => ⟨S_, .bf16⟩
  | .hbm, ⟨18, _⟩ => ⟨S8x128x128, .bf16⟩
  | .hbm, ⟨19, _⟩ => ⟨S128x8x64, .bf16⟩
  | .hbm, ⟨20, _⟩ => ⟨S8x128x64, .bf16⟩
  | .hbm, ⟨21, _⟩ => ⟨S_, .f32⟩
  | .hbm, ⟨22, _⟩ => ⟨S8x4096x128, .f32⟩
  | .hbm, ⟨23, _⟩ => ⟨S_, .f32⟩
  | .hbm, ⟨24, _⟩ => ⟨S8x4096x128, .f32⟩
  | .hbm, ⟨25, _⟩ => ⟨S1x256, .f32⟩
  | .hbm, ⟨26, _⟩ => ⟨S1x128, .f32⟩
  | .hbm, ⟨27, _⟩ => ⟨S8x128x256, .bf16⟩
  | .hbm, ⟨28, _⟩ => ⟨S8x128x128, .bf16⟩
  | .hbm, ⟨29, _⟩ => ⟨S8x64x128, .bf16⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S4096, .i32⟩
  | .hbm, ⟨39, _⟩ => ⟨S4096, .f32⟩
  | .hbm, ⟨40, _⟩ => ⟨S4096x1, .f32⟩
  | .hbm, ⟨41, _⟩ => ⟨S1x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S_, .f32⟩
  | .hbm, ⟨48, _⟩ => ⟨S4096x64, .f32⟩
  | .hbm, ⟨49, _⟩ => ⟨S_, .f32⟩
  | .hbm, ⟨50, _⟩ => ⟨S4096x32, .f32⟩
  | .hbm, ⟨51, _⟩ => ⟨S4096x128, .f32⟩
  | .hbm, ⟨52, _⟩ => ⟨S_, .f32⟩
  | .hbm, ⟨53, _⟩ => ⟨S4096x80, .f32⟩
  | .hbm, ⟨54, _⟩ => ⟨S_, .f32⟩
  | .hbm, ⟨55, _⟩ => ⟨S4096x32, .f32⟩
  | .hbm, ⟨56, _⟩ => ⟨S4096x128, .f32⟩
  | .hbm, ⟨57, _⟩ => ⟨S_, .f32⟩
  | .hbm, ⟨58, _⟩ => ⟨S4096x64, .f32⟩
  | .hbm, ⟨59, _⟩ => ⟨S4096x16, .f32⟩
  | .hbm, ⟨60, _⟩ => ⟨S_, .f32⟩
  | .hbm, ⟨61, _⟩ => ⟨S4096x48, .f32⟩
  | .hbm, ⟨62, _⟩ => ⟨S4096x128, .f32⟩
  | .hbm, ⟨63, _⟩ => ⟨S_, .f32⟩
  | .hbm, ⟨64, _⟩ => ⟨S4096x64, .f32⟩
  | .hbm, ⟨65, _⟩ => ⟨S_, .f32⟩
  | .hbm, ⟨66, _⟩ => ⟨S4096x32, .f32⟩
  | .hbm, ⟨67, _⟩ => ⟨S_, .f32⟩
  | .hbm, ⟨68, _⟩ => ⟨S4096x32, .f32⟩
  | .hbm, ⟨69, _⟩ => ⟨S4096x128, .f32⟩
  | .hbm, ⟨70, _⟩ => ⟨S4096x512, .f32⟩
  | .hbm, ⟨71, _⟩ => ⟨S8x256x128, .f32⟩
  | .hbm, ⟨72, _⟩ => ⟨S8x128x128, .f32⟩
  | .hbm, ⟨73, _⟩ => ⟨S8x128x64, .f32⟩
  | .hbm, ⟨74, _⟩ => ⟨S1x256, .f32⟩
  | .hbm, ⟨75, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S8x256x64, .f32⟩
  | .local _ .vmem, ⟨7, _⟩ => ⟨S8x256x64, .f32⟩
  | .local _ .vmem, ⟨8, _⟩ => ⟨S1x256, .f32⟩
  | .local _ .vmem, ⟨9, _⟩ => ⟨S1x128, .f32⟩
  | .local _ .vmem, ⟨10, _⟩ => ⟨S8x128x256, .bf16⟩
  | .local _ .vmem, ⟨11, _⟩ => ⟨S8x128x128, .bf16⟩
  | .local _ .vmem, ⟨12, _⟩ => ⟨S8x64x128, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x512, .f32⟩
  | .local _ .vmem, ⟨22, _⟩ => ⟨S256x512, .f32⟩
  | .local _ .vmem, ⟨23, _⟩ => ⟨S8x256x128, .f32⟩
  | .local _ .vmem, ⟨24, _⟩ => ⟨S8x128x128, .f32⟩
  | .local _ .vmem, ⟨25, _⟩ => ⟨S8x128x64, .f32⟩
  | .local _ .vmem, ⟨26, _⟩ => ⟨S1x256, .f32⟩
  | .local _ .vmem, ⟨27, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_v44_2 : Ref sig .tc := ⟨.hbm, 72, rfl⟩
abbrev main_v44_3 : Ref sig .tc := ⟨.hbm, 73, rfl⟩
abbrev main_v44_4 : Ref sig .tc := ⟨.hbm, 74, rfl⟩
abbrev main_v44_5 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference21Ideal.lean ====
abbrev S4096x512 : Shape := ⟨2, ![4096, 512]⟩
abbrev S8x4096x96 : Shape := ⟨3, ![8, 4096, 96]⟩
abbrev S8x4096x64 : Shape := ⟨3, ![8, 4096, 64]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1x128 : Shape := ⟨2, ![1, 128]⟩
abbrev S8x96x4096 : Shape := ⟨3, ![8, 96, 4096]⟩
abbrev S8x64x4096 : Shape := ⟨3, ![8, 64, 4096]⟩
abbrev S8x4096x32 : Shape := ⟨3, ![8, 4096, 32]⟩
abbrev S16 : Shape := ⟨1, ![16]⟩
abbrev S1x16 : Shape := ⟨2, ![1, 16]⟩
abbrev S4096x16 : Shape := ⟨2, ![4096, 16]⟩
abbrev S8x4096x16 : Shape := ⟨3, ![8, 4096, 16]⟩
abbrev S1x4096x16 : Shape := ⟨3, ![1, 4096, 16]⟩
abbrev S8x64x128 : Shape := ⟨3, ![8, 64, 128]⟩
abbrev S8x96x256 : Shape := ⟨3, ![8, 96, 256]⟩
abbrev S8x256x96 : Shape := ⟨3, ![8, 256, 96]⟩
abbrev S8x256x32 : Shape := ⟨3, ![8, 256, 32]⟩
abbrev S8x256x128 : Shape := ⟨3, ![8, 256, 128]⟩
abbrev S128x8x32 : Shape := ⟨3, ![128, 8, 32]⟩
abbrev S8x128x32 : Shape := ⟨3, ![8, 128, 32]⟩
abbrev S8x128x64 : Shape := ⟨3, ![8, 128, 64]⟩
abbrev S8x128x128 : Shape := ⟨3, ![8, 128, 128]⟩

abbrev nBuf : Space → Nat
  | .hbm => 199
  | .vmem => 0
  | .smem => 0
  | _ => 0

abbrev hbmTy0_0 (i : Nat) : BufTy := match i % 128 with
  | 0 => ⟨S4096x512, .f32⟩
  | 1 => ⟨S8x4096x96, .f32⟩
  | 2 => ⟨S8x4096x96, .f32⟩
  | 3 => ⟨S8x4096x64, .f32⟩
  | 4 => ⟨S256, .f32⟩
  | 5 => ⟨S128, .f32⟩
  | 6 => ⟨S256x8x96, .f32⟩
  | 7 => ⟨S128x8x64, .f32⟩
  | 8 => ⟨S128x8x64, .f32⟩
  | 9 => ⟨S4096x256, .f32⟩
  | 10 => ⟨S4096x128, .f32⟩
  | 11 => ⟨S4096x32, .f32⟩
  | 12 => ⟨S4096x256, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x256, .f32⟩
  | 24 => ⟨S4096x256, .f32⟩
  | 25 => ⟨S1x256, .f32⟩
  | 26 => ⟨S4096x256, .f32⟩
  | 27 => ⟨S4096x256, .f32⟩
  | 28 => ⟨S4096x128, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x128, .f32⟩
  | 40 => ⟨S4096x128, .f32⟩
  | 41 => ⟨S1x128, .f32⟩
  | 42 => ⟨S4096x128, .f32⟩
  | 43 => ⟨S4096x128, .f32⟩
  | 44 => ⟨S8x96x4096, .f32⟩
  | 45 => ⟨S8x4096x96, .f32⟩
  | 46 => ⟨S8x64x4096, .f32⟩
  | 47 => ⟨S8x4096x64, .f32⟩
  | 48 => ⟨S8x64x4096, .f32⟩
  | 49 => ⟨S8x4096x64, .f32⟩
  | 50 => ⟨S8x4096x64, .f32⟩
  | 51 => ⟨S8x4096x32, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4096, .i32⟩
  | 61 => ⟨S4096, .f32⟩
  | 62 => ⟨S4096x1, .f32⟩
  | 63 => ⟨S1x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S8x4096x16, .f32⟩
  | 70 => ⟨S8x4096x16, .f32⟩
  | 71 => ⟨S1x4096x16, .f32⟩
  | 72 => ⟨S8x4096x16, .f32⟩
  | 73 => ⟨S8x4096x16, .f32⟩
  | 74 => ⟨S1x4096x16, .f32⟩
  | 75 => ⟨S8x4096x16, .f32⟩
  | 76 => ⟨S8x4096x16, .f32⟩
  | 77 => ⟨S8x4096x16, .f32⟩
  | 78 => ⟨S1x4096x16, .f32⟩
  | 79 => ⟨S8x4096x16, .f32⟩
  | 80 => ⟨S8x4096x16, .f32⟩
  | 81 => ⟨S1x4096x16, .f32⟩
  | 82 => ⟨S8x4096x16, .f32⟩
  | 83 => ⟨S8x4096x16, .f32⟩
  | 84 => ⟨S8x4096x16, .f32⟩
  | 85 => ⟨S8x4096x32, .f32⟩
  | 86 => ⟨S8x4096x96, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S4096, .i32⟩
  | 96 => ⟨S4096, .f32⟩
  | 97 => ⟨S4096x1, .f32⟩
  | 98 => ⟨S1x16, .f32⟩
  | 99 => ⟨S4096x16, .f32⟩
  | 100 => ⟨S4096x16, .f32⟩
  | 101 => ⟨S4096x16, .f32⟩
  | 102 => ⟨S4096x16, .f32⟩
  | 103 => ⟨S4096x16, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S4096x32, .f32⟩
  | 113 => ⟨S8x4096x32, .f32⟩
  | 114 => ⟨S8x4096x96, .f32⟩
  | 115 => ⟨S_, .f32⟩
  | 116 => ⟨S8x4096x32, .f32⟩
  | 117 => ⟨S8x4096x64, .f32⟩
  | 118 => ⟨S8x4096x32, .f32⟩
  | 119 => ⟨S8x4096x64, .f32⟩
  | 120 => ⟨S8x4096x32, .f32⟩
  | 121 => ⟨S8x4096x16, .f32⟩
  | 122 => ⟨S8x4096x16, .f32⟩
  | 123 => ⟨S8x4096x16, .f32⟩
  | 124 => ⟨S8x4096x16, .f32⟩
  | 125 => ⟨S8x4096x16, .f32⟩
  | 126 => ⟨S8x4096x16, .f32⟩
  | 127 => ⟨S8x4096x16, .f32⟩
  | _ => ⟨S4096x512, .f32⟩

abbrev hbmTy0_1 (i : Nat) : BufTy := match i % 128 with
  | 0 => ⟨S8x4096x16, .f32⟩
  | 1 => ⟨S8x4096x16, .f32⟩
  | 2 => ⟨S8x4096x16, .f32⟩
  | 3 => ⟨S8x4096x16, .f32⟩
  | 4 => ⟨S8x4096x16, .f32⟩
  | 5 => ⟨S8x4096x16, .f32⟩
  | 6 => ⟨S_, .f32⟩
  | 7 => ⟨S8x4096x32, .f32⟩
  | 8 => ⟨S_, .f32⟩
  | 9 => ⟨S8x4096x32, .f32⟩
  | 10 => ⟨S8x4096x32, .f32⟩
  | 11 => ⟨S_, .f32⟩
  | 12 => ⟨S8x4096x96, .f32⟩
  | 13 => ⟨S_, .f32⟩
  | 14 => ⟨S8x4096x96, .f32⟩
  | 15 => ⟨S8x4096x96, .f32⟩
  | 16 => ⟨S8x64x4096, .f32⟩
  | 17 => ⟨S4096x128, .f32⟩
  | 18 => ⟨S8x64x128, .f32⟩
  | 19 => ⟨S128x8x64, .f32⟩
  | 20 => ⟨S8x64x4096, .f32⟩
  | 21 => ⟨S4096x128, .f32⟩
  | 22 => ⟨S4096x128, .f32⟩
  | 23 => ⟨S8x64x128, .f32⟩
  | 24 => ⟨S128x8x64, .f32⟩
  | 25 => ⟨S8x96x4096, .f32⟩
  | 26 => ⟨S4096x256, .f32⟩
  | 27 => ⟨S8x96x256, .f32⟩
  | 28 => ⟨S256x8x96, .f32⟩
  | 29 => ⟨S4096x128, .f32⟩
  | 30 => ⟨S_, .f32⟩
  | 31 => ⟨S128, .f32⟩
  | 32 => ⟨S1x128, .f32⟩
  | 33 => ⟨S_, .f32⟩
  | 34 => ⟨S128, .f32⟩
  | 35 => ⟨S4096x256, .f32⟩
  | 36 => ⟨S_, .f32⟩
  | 37 => ⟨S256, .f32⟩
  | 38 => ⟨S1x256, .f32⟩
  | 39 => ⟨S_, .f32⟩
  | 40 => ⟨S256, .f32⟩
  | 41 => ⟨S8x256x96, .f32⟩
  | 42 => ⟨S_, .f32⟩
  | 43 => ⟨S8x256x32, .f32⟩
  | 44 => ⟨S8x256x128, .f32⟩
  | 45 => ⟨S8x4096x32, .f32⟩
  | 46 => ⟨S4096x128, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x128, .f32⟩
  | 58 => ⟨S4096x128, .f32⟩
  | 59 => ⟨S1x128, .f32⟩
  | 60 => ⟨S4096x128, .f32⟩
  | 61 => ⟨S4096x128, .f32⟩
  | 62 => ⟨S128x8x32, .f32⟩
  | 63 => ⟨S8x128x32, .f32⟩
  | 64 => ⟨S8x128x64, .f32⟩
  | 65 => ⟨S_, .f32⟩
  | 66 => ⟨S8x128x32, .f32⟩
  | 67 => ⟨S8x128x128, .f32⟩
  | 68 => ⟨S8x128x64, .f32⟩
  | 69 => ⟨S1x256, .f32⟩
  | 70 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_9 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_10 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_cst_13 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_14 : Ref sig .tc := ⟨.hbm, 158, rfl⟩
abbrev main_v134 : Ref sig .tc := ⟨.hbm, 159, rfl⟩
abbrev main_v135 : Ref sig .tc := ⟨.hbm, 160, rfl⟩
abbrev main_cst_15 : Ref sig .tc := ⟨.hbm, 161, rfl⟩
abbrev main_v136 : Ref sig .tc := ⟨.hbm, 162, rfl⟩
abbrev main_v137 : Ref sig .tc := ⟨.hbm, 163, rfl⟩
abbrev main_cst_16 : Ref sig .tc := ⟨.hbm, 164, rfl⟩
abbrev main_v138 : Ref sig .tc := ⟨.hbm, 165, rfl⟩
abbrev main_v139 : Ref sig .tc := ⟨.hbm, 166, rfl⟩
abbrev main_cst_17 : Ref sig .tc := ⟨.hbm, 167, rfl⟩
abbrev main_v140 : Ref sig .tc := ⟨.hbm, 168, rfl⟩
abbrev main_v141 : Ref sig .tc := ⟨.hbm, 169, rfl⟩
abbrev main_cst_18 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_19 : Ref sig .tc := ⟨.hbm, 175, rfl⟩
abbrev main_v146 : Ref sig .tc := ⟨.hbm, 176, rfl⟩
abbrev main_v147 : Ref sig .tc := ⟨.hbm, 177, rfl⟩
abbrev main_cst_20 : Ref sig .tc := ⟨.hbm, 178, rfl⟩
abbrev main_v148 : Ref sig .tc := ⟨.hbm, 179, rfl⟩
abbrev main_v149 : Ref sig .tc := ⟨.hbm, 180, rfl⟩
abbrev main_cst_21 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_22 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩

abbrev nD : Nat := 1
abbrev τ : Topo := Topo.v7x

variable {F : FTy → Type} [FloatOps F]
-- ==== Kernel22.lean ====
abbrev S4096x416 : Shape := ⟨2, ![4096, 416]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S8x256x96 : Shape := ⟨3, ![8, 256, 96]⟩
abbrev S_ : Shape := ⟨0, ![]⟩
abbrev S8x256x128 : Shape := ⟨3, ![8, 256, 128]⟩
abbrev S8x128x64 : Shape := ⟨3, ![8, 128, 64]⟩
abbrev S8x128x128 : Shape := ⟨3, ![8, 128, 128]⟩
abbrev S4096x384 : Shape := ⟨2, ![4096, 384]⟩
abbrev S4096x64 : Shape := ⟨2, ![4096, 64]⟩
abbrev S4096x32 : Shape := ⟨2, ![4096, 32]⟩
abbrev S4096x512 : Shape := ⟨2, ![4096, 512]⟩
abbrev S1x256 : Shape := ⟨2, ![1, 256]⟩
abbrev S1x128 : Shape := ⟨2, ![1, 128]⟩
abbrev S8x64x128 : Shape := ⟨3, ![8, 64, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S4096x80 : Shape := ⟨2, ![4096, 80]⟩
abbrev S4096x48 : Shape := ⟨2, ![4096, 48]⟩
abbrev S8x4096x128 : Shape := ⟨3, ![8, 4096, 128]⟩
abbrev S8x4096x64 : Shape := ⟨3, ![8, 4096, 64]⟩
abbrev S8x64x4096 : Shape := ⟨3, ![8, 64, 4096]⟩
abbrev S256x512 : Shape := ⟨2, ![256, 512]⟩
abbrev S256x128 : Shape := ⟨2, ![256, 128]⟩
abbrev S8x256x64 : Shape := ⟨3, ![8, 256, 64]⟩
abbrev S8x64x256 : Shape := ⟨3, ![8, 64, 256]⟩
abbrev S256x256 : Shape := ⟨2, ![256, 256]⟩
abbrev S256x1 : Shape := ⟨2, ![256, 1]⟩
abbrev S1x256x128 : Shape := ⟨3, ![1, 256, 128]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S256x64 : Shape := ⟨2, ![256, 64]⟩
abbrev S1x256x64 : Shape := ⟨3, ![1, 256, 64]⟩
abbrev S1x64x128 : Shape := ⟨3, ![1, 64, 128]⟩
abbrev S64x128 : Shape := ⟨2, ![64, 128]⟩
abbrev S64x256 : Shape := ⟨2, ![64, 256]⟩
abbrev S1x64x256 : Shape := ⟨3, ![1, 64, 256]⟩

abbrev nBuf : Space → Nat
  | .hbm => 72
  | .vmem => 22
  | .smem => 0
  | _ => 0

abbrev bufTy : (tb : Table) → Fin (tcTables nBuf tb) → BufTy
  | .hbm, ⟨0, _⟩ => ⟨S4096x416, .f32⟩
  | .hbm, ⟨1, _⟩ => ⟨S256, .f32⟩
  | .hbm, ⟨2, _⟩ => ⟨S128, .f32⟩
  | .hbm, ⟨3, _⟩ => ⟨S256x8x96, .f32⟩
  | .hbm, ⟨4, _⟩ => ⟨S128x8x64, .f32⟩
  | .hbm, ⟨5, _⟩ => ⟨S128x8x64, .f32⟩
  | .hbm, ⟨6, _⟩ => ⟨S256x8x96, .bf16⟩
  | .hbm, ⟨7, _⟩ => ⟨S8x256x96, .bf16⟩
  | .hbm, ⟨8, _⟩ => ⟨S_, .i32⟩
  | .hbm, ⟨9, _⟩ => ⟨S_, .bf16⟩
  | .hbm, ⟨10, _⟩ => ⟨S8x256x128, .bf16⟩
  | .hbm, ⟨11, _⟩ => ⟨S128x8x64, .bf16⟩
  | .hbm, ⟨12, _⟩ => ⟨S8x128x64, .bf16⟩
  | .hbm, ⟨13, _⟩ => ⟨S_, .i32⟩
  | .hbm, ⟨14, _⟩ => ⟨S_, .bf16⟩
  | .hbm, ⟨15, _⟩ => ⟨S8x128x128, .bf16⟩
  | .hbm, ⟨16, _⟩ => ⟨S128x8x64, .bf16⟩
  | .hbm, ⟨17, _⟩ => ⟨S8x128x64, .bf16⟩
  | .hbm, ⟨18, _⟩ => ⟨S4096x384, .f32⟩
  | .hbm, ⟨19, _⟩ => ⟨S_, .f32⟩
  | .hbm, ⟨20, _⟩ => ⟨S4096x64, .f32⟩
  | .hbm, ⟨21, _⟩ => ⟨S4096x32, .f32⟩
  | .hbm, ⟨22, _⟩ => ⟨S_, .f32⟩
  | .hbm, ⟨23, _⟩ => ⟨S4096x32, .f32⟩
  | .hbm, ⟨24, _⟩ => ⟨S4096x512, .f32⟩
  | .hbm, ⟨25, _⟩ => ⟨S1x256, .f32⟩
  | .hbm, ⟨26, _⟩ => ⟨S1x128, .f32⟩
  | .hbm, ⟨27, _⟩ => ⟨S8x64x128, .bf16⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S4096, .i32⟩
  | .hbm, ⟨37, _⟩ => ⟨S4096, .f32⟩
  | .hbm, ⟨38, _⟩ => ⟨S4096x1, .f32⟩
  | .hbm, ⟨39, _⟩ => ⟨S1x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S_, .f32⟩
  | .hbm, ⟨46, _⟩ => ⟨S4096x64, .f32⟩
  | .hbm, ⟨47, _⟩ => ⟨S_, .f32⟩
  | .hbm, ⟨48, _⟩ => ⟨S4096x32, .f32⟩
  | .hbm, ⟨49, _⟩ => ⟨S4096x128, .f32⟩
  | .hbm, ⟨50, _⟩ => ⟨S_, .f32⟩
  | .hbm, ⟨51, _⟩ => ⟨S4096x80, .f32⟩
  | .hbm, ⟨52, _⟩ => ⟨S_, .f32⟩
  | .hbm, ⟨53, _⟩ => ⟨S4096x32, .f32⟩
  | .hbm, ⟨54, _⟩ => ⟨S4096x128, .f32⟩
  | .hbm, ⟨55, _⟩ => ⟨S_, .f32⟩
  | .hbm, ⟨56, _⟩ => ⟨S4096x64, .f32⟩
  | .hbm, ⟨57, _⟩ => ⟨S4096x16, .f32⟩
  | .hbm, ⟨58, _⟩ => ⟨S_, .f32⟩
  | .hbm, ⟨59, _⟩ => ⟨S4096x48, .f32⟩
  | .hbm, ⟨60, _⟩ => ⟨S4096x128, .f32⟩
  | .hbm, ⟨61, _⟩ => ⟨S_, .f32⟩
  | .hbm, ⟨62, _⟩ => ⟨S4096x64, .f32⟩
  | .hbm, ⟨63, _⟩ => ⟨S_, .f32⟩
  | .hbm, ⟨64, _⟩ => ⟨S4096x32, .f32⟩
  | .hbm, ⟨65, _⟩ => ⟨S_, .f32⟩
  | .hbm, ⟨66, _⟩ => ⟨S4096x32, .f32⟩
  | .hbm, ⟨67, _⟩ => ⟨S4096x128, .f32⟩
  | .hbm, ⟨68, _⟩ => ⟨S8x4096x128, .bf16⟩
  | .hbm, ⟨69, _⟩ => ⟨S8x4096x128, .bf16⟩
  | .hbm, ⟨70, _⟩ => ⟨S8x4096x64, .bf16⟩
  | .hbm, ⟨71, _⟩ => ⟨S8x64x4096, .bf16⟩
  | .local _ .vmem, ⟨0, _⟩ => ⟨S256x512, .f32⟩
  | .local _ .vmem, ⟨1, _⟩ => ⟨S256x512, .f32⟩
  | .local _ .vmem, ⟨2, _⟩ => ⟨S1x256, .f32⟩
  | .local _ .vmem, ⟨3, _⟩ => ⟨S1x128, .f32⟩
  | .local _ .vmem, ⟨4, _⟩ => ⟨S8x256x128, .bf16⟩
  | .local _ .vmem, ⟨5, _⟩ => ⟨S8x128x128, .bf16⟩
  | .local _ .vmem, ⟨6, _⟩ => ⟨S8x128x64, .bf16⟩
  | .local _ .vmem, ⟨7, _⟩ => ⟨S8x64x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S8x256x128, .bf16⟩
  | .local _ .vmem, ⟨15, _⟩ => ⟨S8x256x128, .bf16⟩
  | .local _ .vmem, ⟨16, _⟩ => ⟨S8x256x128, .bf16⟩
  | .local _ .vmem, ⟨17, _⟩ => ⟨S8x256x128, .bf16⟩
  | .local _ .vmem, ⟨18, _⟩ => ⟨S8x256x64, .bf16⟩
  | .local _ .vmem, ⟨19, _⟩ => ⟨S8x256x64, .bf16⟩
  | .local _ .vmem, ⟨20, _⟩ => ⟨S8x64x256, .bf16⟩
  | .local _ .vmem, ⟨21, _⟩ => ⟨S8x64x256, .bf16⟩
  | _, _ => ⟨S4096x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev main_v45_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference22Ideal.lean ====
abbrev S4096x416 : Shape := ⟨2, ![4096, 416]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1x128 : Shape := ⟨2, ![1, 128]⟩
abbrev S8x96x4096 : Shape := ⟨3, ![8, 96, 4096]⟩
abbrev S8x4096x96 : Shape := ⟨3, ![8, 4096, 96]⟩
abbrev S8x64x4096 : Shape := ⟨3, ![8, 64, 4096]⟩
abbrev S8x4096x64 : Shape := ⟨3, ![8, 4096, 64]⟩
abbrev S8x4096x32 : Shape := ⟨3, ![8, 4096, 32]⟩
abbrev S16 : Shape := ⟨1, ![16]⟩
abbrev S1x16 : Shape := ⟨2, ![1, 16]⟩
abbrev S4096x16 : Shape := ⟨2, ![4096, 16]⟩
abbrev S8x4096x16 : Shape := ⟨3, ![8, 4096, 16]⟩
abbrev S1x4096x16 : Shape := ⟨3, ![1, 4096, 16]⟩
abbrev S8x4096x128 : Shape := ⟨3, ![8, 4096, 128]⟩

abbrev nBuf : Space → Nat
  | .hbm => 119
  | .vmem => 0
  | .smem => 0
  | _ => 0

abbrev bufTy : (tb : Table) → Fin (tcTables nBuf tb) → BufTy
  | .hbm, ⟨0, _⟩ => ⟨S4096x416, .f32⟩
  | .hbm, ⟨1, _⟩ => ⟨S256, .f32⟩
  | .hbm, ⟨2, _⟩ => ⟨S128, .f32⟩
  | .hbm, ⟨3, _⟩ => ⟨S256x8x96, .f32⟩
  | .hbm, ⟨4, _⟩ => ⟨S128x8x64, .f32⟩
  | .hbm, ⟨5, _⟩ => ⟨S128x8x64, .f32⟩
  | .hbm, ⟨6, _⟩ => ⟨S4096x256, .f32⟩
  | .hbm, ⟨7, _⟩ => ⟨S4096x128, .f32⟩
  | .hbm, ⟨8, _⟩ => ⟨S4096x32, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x128, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x128, .f32⟩
  | .hbm, ⟨37, _⟩ => ⟨S4096x128, .f32⟩
  | .hbm, ⟨38, _⟩ => ⟨S1x128, .f32⟩
  | .hbm, ⟨39, _⟩ => ⟨S4096x128, .f32⟩
  | .hbm, ⟨40, _⟩ => ⟨S4096x128, .f32⟩
  | .hbm, ⟨41, _⟩ => ⟨S8x96x4096, .f32⟩
  | .hbm, ⟨42, _⟩ => ⟨S8x4096x96, .f32⟩
  | .hbm, ⟨43, _⟩ => ⟨S8x64x4096, .f32⟩
  | .hbm, ⟨44, _⟩ => ⟨S8x4096x64, .f32⟩
  | .hbm, ⟨45, _⟩ => ⟨S8x64x4096, .f32⟩
  | .hbm, ⟨46, _⟩ => ⟨S8x4096x64, .f32⟩
  | .hbm, ⟨47, _⟩ => ⟨S_, .f32⟩
  | .hbm, ⟨48, _⟩ => ⟨S8x4096x32, .f32⟩
  | .hbm, ⟨49, _⟩ => ⟨S8x4096x64, .f32⟩
  | .hbm, ⟨50, _⟩ => ⟨S8x4096x32, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S4096, .i32⟩
  | .hbm, ⟨60, _⟩ => ⟨S4096, .f32⟩
  | .hbm, ⟨61, _⟩ => ⟨S4096x1, .f32⟩
  | .hbm, ⟨62, _⟩ => ⟨S1x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S8x4096x16, .f32⟩
  | .hbm, ⟨69, _⟩ => ⟨S8x4096x16, .f32⟩
  | .hbm, ⟨70, _⟩ => ⟨S1x4096x16, .f32⟩
  | .hbm, ⟨71, _⟩ => ⟨S8x4096x16, .f32⟩
  | .hbm, ⟨72, _⟩ => ⟨S8x4096x16, .f32⟩
  | .hbm, ⟨73, _⟩ => ⟨S1x4096x16, .f32⟩
  | .hbm, ⟨74, _⟩ => ⟨S8x4096x16, .f32⟩
  | .hbm, ⟨75, _⟩ => ⟨S8x4096x16, .f32⟩
  | .hbm, ⟨76, _⟩ => ⟨S8x4096x16, .f32⟩
  | .hbm, ⟨77, _⟩ => ⟨S1x4096x16, .f32⟩
  | .hbm, ⟨78, _⟩ => ⟨S8x4096x16, .f32⟩
  | .hbm, ⟨79, _⟩ => ⟨S8x4096x16, .f32⟩
  | .hbm, ⟨80, _⟩ => ⟨S1x4096x16, .f32⟩
  | .hbm, ⟨81, _⟩ => ⟨S8x4096x16, .f32⟩
  | .hbm, ⟨82, _⟩ => ⟨S8x4096x16, .f32⟩
  | .hbm, ⟨83, _⟩ => ⟨S8x4096x16, .f32⟩
  | .hbm, ⟨84, _⟩ => ⟨S8x4096x32, .f32⟩
  | .hbm, ⟨85, _⟩ => ⟨S8x4096x128, .f32⟩
  | .hbm, ⟨86, _⟩ => ⟨S16, .f32⟩
  | .hbm, ⟨87, _⟩ => ⟨S16, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S4096, .i32⟩
  | .hbm, ⟨95, _⟩ => ⟨S4096, .f32⟩
  | .hbm, ⟨96, _⟩ => ⟨S4096x1, .f32⟩
  | .hbm, ⟨97, _⟩ => ⟨S1x16, .f32⟩
  | .hbm, ⟨98, _⟩ => ⟨S4096x16, .f32⟩
  | .hbm, ⟨99, _⟩ => ⟨S4096x16, .f32⟩
  | .hbm, ⟨100, _⟩ => ⟨S4096x16, .f32⟩
  | .hbm, ⟨101, _⟩ => ⟨S4096x16, .f32⟩
  | .hbm, ⟨102, _⟩ => ⟨S4096x16, .f32⟩
  | .hbm, ⟨103, _⟩ => ⟨S4096x16, .f32⟩
  | .hbm, ⟨104, _⟩ => ⟨S4096x16, .f32⟩
  | .hbm, ⟨105, _⟩ => ⟨S4096x16, .f32⟩
  | .hbm, ⟨106, _⟩ => ⟨S4096x16, .f32⟩
  | .hbm, ⟨107, _⟩ => ⟨S4096x16, .f32⟩
  | .hbm, ⟨108, _⟩ => ⟨S4096x16, .f32⟩
  | .hbm, ⟨109, _⟩ => ⟨S4096x16, .f32⟩
  | .hbm, ⟨110, _⟩ => ⟨S4096x16, .f32⟩
  | .hbm, ⟨111, _⟩ => ⟨S4096x32, .f32⟩
  | .hbm, ⟨112, _⟩ => ⟨S8x4096x32, .f32⟩
  | .hbm, ⟨113, _⟩ => ⟨S8x4096x128, .f32⟩
  | .hbm, ⟨114, _⟩ => ⟨S8x4096x128, .bf16⟩
  | .hbm, ⟨115, _⟩ => ⟨S8x4096x128, .bf16⟩
  | .hbm, ⟨116, _⟩ => ⟨S8x4096x64, .bf16⟩
  | .hbm, ⟨117, _⟩ => ⟨S8x64x4096, .f32⟩
  | .hbm, ⟨118, _⟩ => ⟨S8x64x4096, .bf16⟩
  | _, _ => ⟨S4096x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩

abbrev nD : Nat := 1
abbrev τ : Topo := Topo.v7x

variable {F : FTy → Type} [FloatOps F]
-- ==== Proof.Reals.lean ====
/- Real arithmetic that the value proofs share: sums of reals among the extended reals, the quotient by a nonzero real, and the algebra of one row of
   the gradient of a layer norm. -/
module

public import Idealize.ShloMosaic.Lib.Pointwise

@[expose] public section

noncomputable section

open Idealize.ShloMosaic

namespace Cert.Reals

/-- The extended real is a real number. -/
def IsReal (x : EReal) : Prop := ∃ r : ℝ, x = (r : EReal)

/-- A sum of reals, taken among the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- An absolute value below infinity is that of a real number. -/
theorem isReal_of_abs_lt {x : EReal} (h : max x (-x) < ⊤) : IsReal x := by
  induction x with
  | bot => simp at h
  | top => simp at h
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem div_coe {y : ℝ} (h : y ≠ 0) (x : ℝ) : Ideal.div (x : EReal) (y : EReal) = ((x / y : ℝ) : EReal) := by
  rw [Ideal.div_coe h, ← EReal.coe_mul]; congr 1; field_simp

theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- One row of the gradient of a layer norm: the closed form of the kernel is the chain rule through the mean and the variance. `d` is the centred row,
    `a` the row's cotangent times the gain, `s` the variance with its offset. -/
theorem ln_row {n : ℕ} (hn : (n : ℝ) ≠ 0) (d a : Fin n → ℝ) (s : ℝ) (hs : 0 < s) (hd : ∑ l, d l = 0) (l : Fin n) :
    (Real.sqrt s)⁻¹ * (a l - (∑ k, a k) / n - d l * (Real.sqrt s)⁻¹ * ((∑ k, a k * (d k * (Real.sqrt s)⁻¹)) / n))
    = a l * (Real.sqrt s)⁻¹ + (∑ k, d k * a k) * (-(1 / 2) * ((Real.sqrt s)⁻¹ / s)) / n * (2 * d l)
      + ((∑ k, -(a k * (Real.sqrt s)⁻¹)) + ∑ k, -((∑ k, d k * a k) * (-(1 / 2) * ((Real.sqrt s)⁻¹ / s)) / n * (2 * d k))) / n := by
  have e1 : ∑ k, a k * (d k * (Real.sqrt s)⁻¹) = (∑ k, d k * a k) * (Real.sqrt s)⁻¹ := by
    rw [Finset.sum_mul]; exact Finset.sum_congr rfl fun k _ => by ring
  have e2 : ∑ k, -(a k * (Real.sqrt s)⁻¹) = -((∑ k, a k) * (Real.sqrt s)⁻¹) := by
    rw [Finset.sum_neg_distrib, Finset.sum_mul]
  have e3 : ∑ k, -((∑ k, d k * a k) * (-(1 / 2) * ((Real.sqrt s)⁻¹ / s)) / n * (2 * d k)) = 0 := by
    rw [Finset.sum_neg_distrib, ← Finset.mul_sum, ← Finset.mul_sum, hd]; ring
  rw [e1, e2, e3]
  have hq : Real.sqrt s ≠ 0 := (Real.sqrt_pos.mpr hs).ne'
  have hss : Real.sqrt s * Real.sqrt s = s := Real.mul_self_sqrt hs.le
  generalize Real.sqrt s = q at *
  generalize (∑ k, a k) = A
  generalize (∑ k, d k * a k) = B
  subst hss
  field_simp
  ring

/-- The infinity that the preconditions compare with. -/
theorem inf_eq : Ideal.ofBits .f32 0x7F800000#32 = ⊤ := by simp [Ideal.ofBits, Ideal.ieee]

/-- A precondition's comparison, true at an index, says that the element there is a real number. -/
theorem isReal_of_cmp {s : Shape} (a b : FVec Ideal s .f32) (hb : ∀ i, b i = Ideal.ofBits .f32 0x7F800000#32)
    (h : cmpf .olt (Host.absf a) b = fun _ => 1#1) (i : s.Idx) : IsReal (a i) := by
  have h1 := congrFun h i
  refine isReal_of_abs_lt ?_
  have h2 : Ideal.cmp .olt (max (a i) (-(a i))) (b i) = 1#1 := h1
  rw [hb, inf_eq] at h2
  by_contra hn
  simp [Ideal.cmp, hn] at h2

end Cert.Reals

end
-- ==== Proof.UpBwdRef.lean ====
/- The reference of the call up_bwd_ln1 read at an index: its three results as expressions of the argument arrays' elements. -/
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Row

open Cert.ReferenceIdeal Cert.ReferenceIdeal.Gen

/-- The row length, as the programs write it. -/
abbrev cN : EReal := Ideal.ofBits .f32 0x44800000#32
/-- The offset of the variance. -/
abbrev cE : EReal := Ideal.ofBits .f32 0x3727C5AC#32
/-- The scale of the residual. -/
abbrev cA : EReal := Ideal.ofBits .f32 0x3F9837F0#32

variable (z : Vec Ideal S4096x1024 .f32) (w : Vec Ideal S1024x5632 .f32) (g : Vec Ideal S1024 .f32) (du : Vec Ideal S4096x5632 .f32) (dz : Vec Ideal S4096x1024 .f32)

/-- The mean of a row. -/
def mu (r : Fin 4096) : EReal := Ideal.div (∑ k : Fin 1024, z (ix2 r k)) cN
/-- The variance of a row, with its offset. -/
def vs (r : Fin 4096) : EReal := Ideal.div (∑ k : Fin 1024, (z (ix2 r k) - mu z r) * (z (ix2 r k) - mu z r)) cN + cE
/-- The reciprocal deviation of a row. -/
def rs (r : Fin 4096) : EReal := Ideal.rsqrt (vs z r)
/-- The normalised row. -/
def xh (r : Fin 4096) (l : Fin 1024) : EReal := (z (ix2 r l) - mu z r) * rs z r
/-- The cotangent of the norm's result. -/
def dx (r : Fin 4096) (l : Fin 1024) : EReal := (∑ k : Fin 5632, du (ix2 r k) * w (ix2 l k)) + cA * dz (ix2 r l)
/-- The cotangent times the gain. -/
def da (r : Fin 4096) (l : Fin 1024) : EReal := dx w du dz r l * g (ix1 l)
/-- The factor of the centred row that the variance's chain rule gives. -/
def fv (r : Fin 4096) : EReal :=
  Ideal.div ((∑ k : Fin 1024, (z (ix2 r k) - mu z r) * da w g du dz r k) * (Ideal.ofBits .f32 0xBF000000#32 * Ideal.div (rs z r) (vs z r))) cN

/-- The gradient in `z`, by the chain rule through the mean and the variance. -/
def dzR (r : Fin 4096) (l : Fin 1024) : EReal :=
  da w g du dz r l * rs z r + fv z w g du dz r * (Ideal.ofBits .f32 0x40000000#32 * (z (ix2 r l) - mu z r))
    + Ideal.div ((∑ k : Fin 1024, -(da w g du dz r k * rs z r))
        + ∑ k : Fin 1024, -(fv z w g du dz r * (Ideal.ofBits .f32 0x40000000#32 * (z (ix2 r k) - mu z r)))) cN

variable (m : (ℓ : Loc nD τ sig) → Buf (Elt Ideal) ℓ) (c : Dev nD)

theorem res_dz (r : Fin 4096) (l : Fin 1024) : Value.res_main_v68 (F := Ideal) m c (ix2 r l)
    = dzR (m ((c : Thread nD τ).loc main_arg0)) (m ((c : Thread nD τ).loc main_arg1)) (m ((c : Thread nD τ).loc main_arg2))
        (m ((c : Thread nD τ).loc main_arg4)) (m ((c : Thread nD τ).loc main_arg5)) r l := by
  pointwise! [Value.res_main_v68]
  simp only [Finset.univ_unique, Finset.sum_singleton]
  rfl

/-- The gradient in the gain, as the reference's term. -/
abbrev DG (z : Vec Ideal S4096x1024 .f32) (w : Vec Ideal S1024x5632 .f32) (du : Vec Ideal S4096x5632 .f32) (dz : Vec Ideal S4096x1024 .f32) : FVec Ideal S1x1024 .f32 :=
  broadcastInDim S1x1024 ![1] bcast_S1024_S1x1024_1 (Host.reduceAdd (shapeCast S1x1024 (Host.reduceAdd (mulf (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (addf (Host.dotGeneral (F := Ideal) (φ₁ := .f32) (φ₂ := .f32) dot_S4096x5632_S1024x5632_S4096x1024_1_1_0_0_n_n none du w) (mulf (broadcastInDim S4096x1024 ![] bcast_S_S4096x1024 (constant S_ .f32 0x3F9837F0#32)) dz))) (constant S_ .f32 0x00000000#32) reducesTo_S4096x1024_S1024_d0 h_S_) shapeCasts_S1024_S1x1024) (constant S_ .f32 0x00000000#32) reducesTo_S1x1024_S1024_d0 h_S_)

/-- The gradient in the offset, as the reference's term. -/
abbrev DB (w : Vec Ideal S1024x5632 .f32) (du : Vec Ideal S4096x5632 .f32) (dz : Vec Ideal S4096x1024 .f32) : FVec Ideal S1x1024 .f32 :=
  broadcastInDim S1x1024 ![1] bcast_S1024_S1x1024_1 (Host.reduceAdd (shapeCast S1x1024 (Host.reduceAdd (addf (Host.dotGeneral (F := Ideal) (φ₁ := .f32) (φ₂ := .f32) dot_S4096x5632_S1024x5632_S4096x1024_1_1_0_0_n_n none du w) (mulf (broadcastInDim S4096x1024 ![] bcast_S_S4096x1024 (constant S_ .f32 0x3F9837F0#32)) dz)) (constant S_ .f32 0x00000000#32) reducesTo_S4096x1024_S1024_d0 h_S_) shapeCasts_S1024_S1x1024) (constant S_ .f32 0x00000000#32) reducesTo_S1x1024_S1024_d0 h_S_)

theorem DG_apply (u : Fin 1) (l : Fin 1024) : DG z w du dz (ix2 u l) = ∑ r : Fin 4096, xh z r l * dx w du dz r l := by
  pointwise! [DG]
  simp only [Finset.univ_unique, Finset.sum_singleton]
  rfl

theorem DB_apply (u : Fin 1) (l : Fin 1024) : DB w du dz (ix2 u l) = ∑ r : Fin 4096, dx w du dz r l := by
  pointwise! [DB]
  simp only [Finset.univ_unique, Finset.sum_singleton]
  rfl

end Cert.ReferenceIdeal.Row

end
-- ==== Proof.UpBwdRow.lean ====
/- The gradient of the first layer norm in its operand: the kernel's closed form of a row and the reference's chain rule are one real number. -/
module

public import proofs.«01_k».proof.Proof.Reals
public import proofs.«01_k».proof.Proof.UpBwdRef

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.Reals

theorem cN_eq : cN = ((1024 : ℝ) : EReal) := by
  simp [cN, Ideal.ofBits, Ideal.ieee, -EReal.coe_mul]; norm_num
theorem cE_pos : ∃ e : ℝ, 0 < e ∧ cE = (e : EReal) := by
  refine ⟨_, ?_, by simp [cE, Ideal.ofBits, Ideal.ieee, -EReal.coe_mul]; rfl⟩
  norm_num
theorem cA_real : IsReal cA := ⟨_, by simp [cA, Ideal.ofBits, Ideal.ieee, -EReal.coe_mul]; rfl⟩
theorem half_eq : Ideal.ofBits .f32 0xBF000000#32 = ((-(1 / 2) : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

variable (z : Vec Ideal S4096x1024 .f32) (w : Vec Ideal S1024x5632 .f32) (g : Vec Ideal S1024 .f32) (du : Vec Ideal S4096x5632 .f32) (dz : Vec Ideal S4096x1024 .f32)

/-- The kernel's closed form of the gradient in `z`. -/
def dzK (r : Fin 4096) (l : Fin 1024) : EReal :=
  rs z r * (da w g du dz r l - Ideal.div (∑ k : Fin 1024, da w g du dz r k) cN
    - xh z r l * Ideal.div (∑ k : Fin 1024, da w g du dz r k * xh z r k) cN)

theorem da_real (hw : ∀ i, IsReal (w i)) (hg : ∀ i, IsReal (g i)) (hdu : ∀ i, IsReal (du i)) (hdz : ∀ i, IsReal (dz i)) (r : Fin 4096) (l : Fin 1024) :
    IsReal (da w g du dz r l) :=
  ((IsReal.sum _ _ fun k => (hdu _).mul (hw _)).add (cA_real.mul (hdz _))).mul (hg _)

/-- On real numbers the two forms agree. -/
theorem dzK_eq (hz : ∀ i, IsReal (z i)) (hw : ∀ i, IsReal (w i)) (hg : ∀ i, IsReal (g i)) (hdu : ∀ i, IsReal (du i)) (hdz : ∀ i, IsReal (dz i))
    (r : Fin 4096) (l : Fin 1024) : dzK z w g du dz r l = dzR z w g du dz r l := by
  choose a ha using da_real w g du dz hw hg hdu hdz r
  choose x hx using fun k : Fin 1024 => hz (ix2 r k)
  obtain ⟨e, he, hE⟩ := cE_pos
  have h0 : (1024 : ℝ) ≠ 0 := by norm_num
  have hmu : mu z r = (((∑ k, x k) / 1024 : ℝ) : EReal) := by
    unfold mu; rw [cN_eq]; simp only [hx]; rw [coe_sum, div_coe h0]
  have hd : ∀ k, z (ix2 r k) - mu z r = ((x k - (∑ k, x k) / 1024 : ℝ) : EReal) := fun k => by
    rw [hx, hmu, EReal.coe_sub]
  have hsum : ∑ k, (x k - (∑ k, x k) / 1024) = 0 := by
    rw [Finset.sum_sub_distrib, Finset.sum_const, Finset.card_univ, Fintype.card_fin, nsmul_eq_mul]; push_cast; ring
  generalize hD : (fun k => x k - (∑ k, x k) / 1024) = d at *
  have hd' : ∀ k, z (ix2 r k) - mu z r = (d k : EReal) := fun k => by rw [hd, ← hD]
  have hsum' : ∑ k, d k = 0 := hsum
  have hvs : vs z r = (((∑ k, d k * d k) / 1024 + e : ℝ) : EReal) := by
    unfold vs; rw [cN_eq, hE]; simp only [hd', ← EReal.coe_mul]; rw [coe_sum, div_coe h0, EReal.coe_add]
  have hs : 0 < (∑ k, d k * d k) / 1024 + e :=
    add_pos_of_nonneg_of_pos (div_nonneg (Finset.sum_nonneg fun k _ => mul_self_nonneg _) (by norm_num)) he
  generalize (∑ k, d k * d k) / 1024 + e = s at *
  have hrs : rs z r = (((Real.sqrt s)⁻¹ : ℝ) : EReal) := by unfold rs; rw [hvs, rsqrt_coe hs]
  have key := ln_row (n := 1024) (by norm_num) d a s hs hsum' l
  unfold dzK dzR fv xh
  simp only [ha, hd', hrs, hvs, cN_eq, half_eq, two_eq, ← EReal.coe_mul, ← EReal.coe_neg, coe_sum, div_coe h0, div_coe hs.ne', ← EReal.coe_add, ← EReal.coe_sub]
  exact congrArg _ (by simpa using key)

end Cert.ReferenceIdeal.Row

end
-- ==== Proof.UpBwd.lean ====
/- The values of the call up_bwd_ln1: what each of its three result arrays holds after the run, as an expression of the argument arrays' elements. -/
module

public import proofs.«01_k».proof.Defs
public import proofs.«01_k».proof.Proof.Gen.KernelIdeal.Frame
public import proofs.«01_k».proof.Proof.Gen.KernelIdeal
public import proofs.«01_k».proof.Proof.UpBwdRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.UpBwd

open Cert.KernelIdeal Cert.KernelIdeal.Gen
open Cert.ReferenceIdeal.Row (mu vs rs xh dx da cN cA DG DB DG_apply DB_apply dzK)

variable (m : (ℓ : Loc nD τ sig) → Buf (Elt Ideal) ℓ) (c : Dev nD)

/-- The argument arrays, at their shapes. -/
abbrev aZ : FVec Ideal S4096x1024 .f32 := m ((c : Thread nD τ).loc main_arg0)
abbrev aW : FVec Ideal S1024x5632 .f32 := m ((c : Thread nD τ).loc main_arg1)
abbrev aG : FVec Ideal S1024 .f32 := m ((c : Thread nD τ).loc main_arg2)
abbrev aDu : FVec Ideal S4096x5632 .f32 := m ((c : Thread nD τ).loc main_arg4)
abbrev aDz : FVec Ideal S4096x1024 .f32 := m ((c : Thread nD τ).loc main_arg5)

theorem idx_val : ∀ t : Fin cfg0.N, win0_0.index t = ![t.val, 0] ∧ win0_1.index t = ![t.val, 0] ∧ win0_2.index t = ![0, 0] ∧ win0_3.index t = ![1, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![0, 0] ∧ win0_10.index t = ![0, 0] :=
  (by decide +kernel : ∀ t : Fin grid0.N, _)

/-! ## The operands that the host computes, at an index -/

theorem V_xh (r : Fin 4096) (l : Fin 1024) : V m c main_v17 (ix2 r l) = xh (aZ m c) r l := by
  let z := aZ m c
  have e : V m c main_v17 = (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))) : FVec Ideal S4096x1024 .f32) := by entry_read; rfl
  rw [e]; pointwise!

theorem V_rs (r : Fin 4096) (l : Fin 1) : V m c main_v13 (ix2 r l) = rs (aZ m c) r := by
  let z := aZ m c
  have e : V m c main_v13 = ((Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) : FVec Ideal S4096x1 .f32) := by entry_read; rfl
  rw [e]; pointwise!

theorem V_du0 (r : Fin 4096) (k : Fin 2816) : V m c main_v19 (ix2 r k) = aDu m c (ix2 r ⟨k.val, by omega⟩) := by
  have e : V m c main_v19 = (truncf .bf16 (extractStridedSlice S4096x2816 ![0, 0] (aDu m c) slices_S4096x5632_S4096x2816_0_0) bitsLt_bf16_f32 : FVec Ideal S4096x2816 .bf16) := by entry_read; rfl
  rw [e]; pointwise!

theorem V_du1 (r : Fin 4096) (k : Fin 2816) : V m c main_v21 (ix2 r k) = aDu m c (ix2 r ⟨2816 + k.val, by omega⟩) := by
  have e : V m c main_v21 = (truncf .bf16 (extractStridedSlice S4096x2816 ![0, 2816] (aDu m c) slices_S4096x5632_S4096x2816_0_2816) bitsLt_bf16_f32 : FVec Ideal S4096x2816 .bf16) := by entry_read; rfl
  rw [e]; pointwise!

theorem V_w (k : Fin 5632) (l : Fin 1024) : V m c main_v23 (ix2 k l) = aW m c (ix2 l k) := by
  have e : V m c main_v23 = (transpose S5632x1024 [1, 0] (truncf .bf16 (aW m c) bitsLt_bf16_f32 : FVec Ideal S1024x5632 .bf16) transposes_S1024x5632_S5632x1024_1_0 : FVec Ideal S5632x1024 .bf16) := by entry_read; rfl
  rw [e]; pointwise!

theorem V_g (u : Fin 1) (l : Fin 1024) : V m c main_v24 (ix2 u l) = aG m c (ix1 l) := by
  have e : V m c main_v24 = (shapeCast S1x1024 (aG m c) shapeCasts_S1024_S1x1024 : FVec Ideal S1x1024 .f32) := by entry_read; rfl
  rw [e]; pointwise!

/-! ## The blocks of a grid point, at an index -/

theorem blk_xh (t : Fin cfg0.N) (r : Fin 256) (l : Fin 1024) (R : Fin 4096) (hR : R.val = t.val * 256 + r.val) :
    iblk m c 5 t (ix2 r l) = xh (aZ m c) R l := by
  rw [← V_xh]; blk_point [iblk, idx_val t]

theorem blk_rs (t : Fin cfg0.N) (r : Fin 256) (l : Fin 1) (R : Fin 4096) (hR : R.val = t.val * 256 + r.val) :
    iblk m c 6 t (ix2 r l) = rs (aZ m c) R := by
  rw [← V_rs _ _ _ l]; blk_point [iblk, idx_val t]

theorem blk_g (t : Fin cfg0.N) (u : Fin 1) (l : Fin 1024) : iblk m c 7 t (ix2 u l) = aG m c (ix1 l) := by
  rw [← V_g _ _ u]; blk_point [iblk, idx_val t]

theorem pay4_apply (v3 : Vec Ideal S256x1024 .f32) (v6 : Vec Ideal S256x2816 .bf16) (v8 : Vec Ideal S2816x1024 .bf16) (v11 : Vec Ideal S256x2816 .bf16) (v13 : Vec Ideal S2816x1024 .bf16)
    (r : Fin 256) (l : Fin 1024) : k0_pay4 (F := Ideal) v3 v6 v8 v11 v13 (ix2 r l)
    = cA * v3 (ix2 r l) + ((∑ k : Fin 2816, v6 (ix2 r k) * v8 (ix2 k l)) + ∑ k : Fin 2816, v11 (ix2 r k) * v13 (ix2 k l)) := by
  pointwise! [k0_pay4]

/-- The cotangent of the norm's result that a grid point computes. -/
theorem blk_dx (t : Fin cfg0.N) (r : Fin 256) (l : Fin 1024) (R : Fin 4096) (hR : R.val = t.val * 256 + r.val) :
    k0_pay4 (F := Ideal) (iblk m c 4 t) (iblk m c 0 t) (iblk m c 2 t) (iblk m c 1 t) (iblk m c 3 t) (ix2 r l)
    = dx (aW m c) (aDu m c) (aDz m c) R l := by
  rw [pay4_apply, add_comm]
  refine congrArg₂ (· + ·) ?_ (congrArg₂ (· * ·) rfl ?_)
  · refine Eq.trans ?_ (Fin.sum_univ_add (a := 2816) (b := 2816) fun k : Fin 5632 => aDu m c (ix2 R k) * aW m c (ix2 l k)).symm
    refine congrArg₂ (· + ·) (Fin.sum_fin_congr fun k => congrArg₂ (· * ·) ?_ ?_) (Fin.sum_fin_congr fun k => congrArg₂ (· * ·) ?_ ?_)
    · refine Eq.trans ?_ (V_du0 m c R k); blk_point [iblk, idx_val t]
    · refine Eq.trans ?_ (V_w m c ⟨k.val, by omega⟩ l); blk_point [iblk, idx_val t]
    · refine Eq.trans ?_ (V_du1 m c R k); blk_point [iblk, idx_val t]
    · refine Eq.trans ?_ (V_w m c ⟨2816 + k.val, by omega⟩ l); blk_point [iblk, idx_val t]
  · have e1 : V m c main_arg5 = aDz m c := by entry_read; rfl
    rw [← e1]; blk_point [iblk, idx_val t]

/-! ## The two sums over the rows -/

theorem zero9 (j : S1x1024.Idx) : k0_pay2 (F := Ideal) j = 0 := by pointwise! [k0_pay2]
theorem zero10 (j : S1x1024.Idx) : k0_pay3 (F := Ideal) j = 0 := by pointwise! [k0_pay3]

theorem pay6_apply (v3 : Vec Ideal S256x1024 .f32) (v6 : Vec Ideal S256x2816 .bf16) (v8 : Vec Ideal S2816x1024 .bf16) (v11 : Vec Ideal S256x2816 .bf16) (v13 : Vec Ideal S2816x1024 .bf16)
    (v18 : Vec Ideal S256x1024 .f32) (v20 : Vec Ideal S1x1024 .f32) (j : S1x1024.Idx) : k0_pay6 (F := Ideal) v3 v6 v8 v11 v13 v18 v20 j
    = v20 j + ∑ r : Fin 256, k0_pay4 (F := Ideal) v3 v6 v8 v11 v13 (ix2 r (j 1)) * v18 (ix2 r (j 1)) := by
  unfold k0_pay6 k0_pay5
  generalize k0_pay4 (F := Ideal) v3 v6 v8 v11 v13 = p
  pointwise!

theorem pay7_apply (v3 : Vec Ideal S256x1024 .f32) (v6 : Vec Ideal S256x2816 .bf16) (v8 : Vec Ideal S2816x1024 .bf16) (v11 : Vec Ideal S256x2816 .bf16) (v13 : Vec Ideal S2816x1024 .bf16)
    (v20 : Vec Ideal S1x1024 .f32) (j : S1x1024.Idx) : k0_pay7 (F := Ideal) v3 v6 v8 v11 v13 v20 j
    = v20 j + ∑ r : Fin 256, k0_pay4 (F := Ideal) v3 v6 v8 v11 v13 (ix2 r (j 1)) := by
  unfold k0_pay7
  generalize k0_pay4 (F := Ideal) v3 v6 v8 v11 v13 = p
  pointwise!

/-- The gradient in the gain after the run. -/
theorem final9 : (dats m 0 c).arrAt 9 (cfgs 0).N = DG (aZ m c) (aW m c) (aDu m c) (aDz m c) := by
  refine (dats m 0 c).arrAt_eq_of_covers 9 _ (by decide +kernel) fun t hf y => ?_
  blk_simp
  rw [after0_9, Pipeline.eq_sum_fin_of_reset_step_apply_of_flush (fun n h => (outsAt0 m c n h).2.1) 16 (fun _ => 0)
    (fun t j => ∑ r : Fin 256, k0_pay4 (F := Ideal) (iblk m c 4 t) (iblk m c 0 t) (iblk m c 2 t) (iblk m c 1 t) (iblk m c 3 t) (ix2 r (j 1)) * iblk m c 5 t (ix2 r (j 1)))
    (fun t h j => by rw [outsAt0_A m c t h]; frame_out; rw [pay6_apply, zero9])
    (fun t h j => by rw [outsAt0_B m c t h]; frame_out; rw [pay6_apply])
    t ((flush0_9 t).mp hf) _, zero_add]
  have hy : (win0_9.blk t).view.emb y = ix2 (0 : Fin 1) (y 1) := by blk_point [idx_val t]
  have h16 : t.val < 16 := t.isLt
  have ht : 16 * (t.val / 16) = 0 := by omega
  rw [hy]
  refine Eq.trans ?_ (DG_apply ..).symm
  refine Fin.sum_mul_add_congr fun s k hl => ?_
  rw [mul_comm (G := EReal)]
  exact congrArg₂ (· * ·) (blk_xh m c _ k _ _ (by simp only; omega)) (blk_dx m c _ k _ _ (by simp only; omega))

/-- The gradient in the offset after the run. -/
theorem final10 : (dats m 0 c).arrAt 10 (cfgs 0).N = DB (aW m c) (aDu m c) (aDz m c) := by
  refine (dats m 0 c).arrAt_eq_of_covers 10 _ (by decide +kernel) fun t hf y => ?_
  blk_simp
  rw [after0_10, Pipeline.eq_sum_fin_of_reset_step_apply_of_flush (fun n h => (outsAt0 m c n h).2.2) 16 (fun _ => 0)
    (fun t j => ∑ r : Fin 256, k0_pay4 (F := Ideal) (iblk m c 4 t) (iblk m c 0 t) (iblk m c 2 t) (iblk m c 1 t) (iblk m c 3 t) (ix2 r (j 1)))
    (fun t h j => by rw [outsAt0_A m c t h]; frame_out; rw [pay7_apply, zero10])
    (fun t h j => by rw [outsAt0_B m c t h]; frame_out; rw [pay7_apply])
    t ((flush0_10 t).mp hf) _, zero_add]
  have hy : (win0_10.blk t).view.emb y = ix2 (0 : Fin 1) (y 1) := by blk_point [idx_val t]
  have h16 : t.val < 16 := t.isLt
  have ht : 16 * (t.val / 16) = 0 := by omega
  rw [hy]
  refine Eq.trans ?_ (DB_apply ..).symm
  refine Fin.sum_mul_add_congr fun s k hl => ?_
  exact blk_dx m c _ k _ _ (by simp only; omega)

/-! ## The gradient in the norm's operand -/

theorem pay1_apply (v17 v19 : Vec Ideal S256x1024 .f32) (v33 : Vec Ideal S256x1 .f32) (v35 : Vec Ideal S1x1024 .f32) (r : Fin 256) (l : Fin 1024) :
    k0_pay1 (F := Ideal) v17 v19 v33 v35 (ix2 r l)
    = v33 (ix2 r 0) * (v17 (ix2 r l) * v35 (ix2 0 l) - Ideal.div (∑ k : Fin 1024, v17 (ix2 r k) * v35 (ix2 0 k)) cN
      - v19 (ix2 r l) * Ideal.div (∑ k : Fin 1024, v17 (ix2 r k) * v35 (ix2 0 k) * v19 (ix2 r k)) cN) := by
  pointwise! [k0_pay1]

theorem blk_dz (t : Fin cfg0.N) (r : Fin 256) (l : Fin 1024) (R : Fin 4096) (hR : R.val = t.val * 256 + r.val) :
    k0_pay1 (F := Ideal) (k0_pay4 (F := Ideal) (iblk m c 4 t) (iblk m c 0 t) (iblk m c 2 t) (iblk m c 1 t) (iblk m c 3 t)) (k0_pay5 (F := Ideal) (iblk m c 5 t)) (iblk m c 6 t) (iblk m c 7 t) (ix2 r l)
    = dzK (aZ m c) (aW m c) (aG m c) (aDu m c) (aDz m c) R l := by
  have h5 : k0_pay5 (F := Ideal) (iblk m c 5 t) = iblk m c 5 t := by funext j; pointwise! [k0_pay5]
  rw [pay1_apply, h5]
  unfold dzK da
  simp only [blk_dx m c t r _ R hR, blk_xh m c t r _ R hR, blk_rs m c t r _ R hR, blk_g]

/-- The gradient in the norm's operand after the run: the closed form. -/
theorem final8 : (dats m 0 c).arrAt 8 (cfgs 0).N = fun j : S4096x1024.Idx => dzK (aZ m c) (aW m c) (aG m c) (aDu m c) (aDz m c) (j 0) (j 1) := by
  refine (dats m 0 c).arrAt_eq_of_covers 8 _ (by decide +kernel) fun t hf y => ?_
  blk_simp
  rw [after0_8]
  have hlt : t.val * 256 + (y 0).val < 4096 := by
    have h1 : t.val < 16 := t.isLt
    have h2 : (y 0).val < 256 := (y 0).isLt
    omega
  have hy : (win0_8.blk t).view.emb y = ix2 (⟨t.val * 256 + (y 0).val, hlt⟩ : Fin 4096) (y 1) := by blk_point [idx_val t]
  have fin := (congrArg _ (eq_ix2 (n0 := 256) (n1 := 1024) y)).trans ((blk_dz m c t (y 0) (y 1) _ (congrArg Fin.val (congrFun hy 0))).trans
    (congrArg (dzK (aZ m c) (aW m c) (aG m c) (aDu m c) (aDz m c) _) (congrFun hy 1).symm))
  by_cases h : t.val % 16 = 0
  · rw [outsAt0_A m c t h]; frame_out; exact fin
  · rw [outsAt0_B m c t h]; frame_out; exact fin

end Cert.KernelIdeal.UpBwd

end
-- ==== Proof.Claim1.lean ====
/- The claims about the programs of Kernel and Reference. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.UpBwd
public import Idealize.ShloMosaic.Lib.Claim
public import Idealize.ShloMosaic.Lib.Quiescent
public import proofs.«01_k».proof.Proof.Gen.Pre_finite

@[expose] public section

set_option maxRecDepth 16384

noncomputable section

open Idealize.ShloMosaic Idealize.ShloMosaic.TcCoe Idealize.SL.Sem

namespace Cert.Proof.C1

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_pi_pre : Cert.quiescent_KernelIdeal_pre_finite := fun m ρ _ => Cert.KernelIdeal.Gen.frame m ρ
theorem frame_ri_pre : Cert.quiescent_ReferenceIdeal_pre_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem preserves : Cert.preserves_Kernel_KernelIdeal := trivial

section

open Cert.KernelIdeal Cert.KernelIdeal.UpBwd Cert.Reals

variable (m : (ℓ : Loc nD τ sig) → Buf (Elt Ideal) ℓ)

/-- What the precondition says of the argument arrays. -/
theorem reals (h : Cert.Pre_KernelIdeal_finite m) (c : Dev nD) :
    (∀ i, IsReal (aZ m c i)) ∧ (∀ i, IsReal (aW m c i)) ∧ (∀ i, IsReal (aG m c i)) ∧ (∀ i, IsReal (aDu m c i)) ∧ (∀ i, IsReal (aDz m c i)) := by
  obtain ⟨h0, h1, h2, h3, h4⟩ := h c
  exact ⟨isReal_of_cmp _ _ (fun _ => rfl) h0, isReal_of_cmp _ _ (fun _ => rfl) h1, isReal_of_cmp _ _ (fun _ => rfl) h2, isReal_of_cmp _ _ (fun _ => rfl) h3,
    isReal_of_cmp _ _ (fun _ => rfl) h4⟩

end

set_option maxHeartbeats 4000000 in
/-- Both programs end with the same three result arrays. -/
theorem algebraic : Cert.algebraic_KernelIdeal_ReferenceIdeal_pre_finite := by
  pair_intro
  · run_from Cert.KernelIdeal.Gen.run_main m g
  · refine θ_run_mono (Cert.ReferenceIdeal.Value.run m' g') ?_
    intro r hr c
    obtain ⟨h0, h1, h2, hargs⟩ := hr c
    obtain ⟨a0, a1, a2, _, a4, a5⟩ := hagree c
    obtain ⟨rz, rw', rg, rdu, rdz⟩ := reals m hpre c
    refine ⟨h0.trans ?_, h1.trans ?_, h2.trans ?_, hargs⟩
    · rw [Cert.KernelIdeal.UpBwd.final8]
      funext j
      refine (congrArg (Cert.ReferenceIdeal.Value.res_main_v68 m' c) (eq_ix2 (n0 := 4096) (n1 := 1024) j)).trans ?_
      refine (Cert.ReferenceIdeal.Row.res_dz m' c (j 0) (j 1)).trans ?_
      rw [a0, a1, a2, a4, a5]
      exact (Cert.ReferenceIdeal.Row.dzK_eq _ _ _ _ _ rz rw' rg rdu rdz (j 0) (j 1)).symm
    · rw [Cert.KernelIdeal.UpBwd.final9, a0, a1, a4, a5]
    · rw [Cert.KernelIdeal.UpBwd.final10, a1, a4, a5]

end Cert.Proof.C1

end
-- ==== Proof.Prod2.lean ====
/- The value of the call dw_down: its result array is the product of the transposed first operand by the second. -/
module

public import proofs.«01_k».proof.Defs
public import proofs.«01_k».proof.Proof.Gen.Kernel2Ideal.Frame
public import proofs.«01_k».proof.Proof.Gen.Kernel2Ideal
public import proofs.«01_k».proof.Proof.Gen.Reference2Ideal
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Prod

open Cert.Kernel2Ideal Cert.Kernel2Ideal.Gen

variable (m : (ℓ : Loc nD τ sig) → Buf (Elt Ideal) ℓ)

/-- The reference's result, as a term of the two arrays that it reads. -/
abbrev REF (a : Vec Ideal Cert.Reference2Ideal.S4096x2816 .f32) (ct : Vec Ideal Cert.Reference2Ideal.S4096x1024 .f32) :=
  transpose Cert.Reference2Ideal.S2816x1024 [1, 0] (Host.dotGeneral (F := Ideal) (φ₁ := .f32) (φ₂ := .f32) Cert.Reference2Ideal.dot_S4096x1024_S4096x2816_S1024x2816_0_0_1_1_n_n none ct a) Cert.Reference2Ideal.Gen.transposes_S1024x2816_S2816x1024_1_0

theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

theorem hzero (j : S1408x1024.Idx) : k0_pay1 (F := Ideal) j = 0 := by pointwise! [k0_pay1]

/-- One step adds the product of the two blocks. -/
theorem hpay (acc : Vec Ideal S1408x1024 .f32) (x0 : Vec Ideal S2048x1408 .bf16) (x1 : Vec Ideal S2048x1024 .f32) (j : S1408x1024.Idx) :
    k0_pay2 (F := Ideal) acc x0 x1 j = acc j + ∑ k : Fin 2048, x0 (ix2 k (j 0)) * x1 (ix2 k (j 1)) := by
  pointwise! [k0_pay2]

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have e : (outsAt0 m c t.val t.isLt).1 = (outsAt0 m c t.val t.isLt).2 := by
    rw [outsAt0_B m c t (by omega) h1]; frame_out
  rw [after0_2, e, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole cc0_scratch0).read_unread])
    t ((flush0_2 t).mp hf) _, zero_add]
  pointwise! [REF]
  refine Fin.sum_mul_add_congr fun s k hl => ?_
  have h2 := idx_val ⟨_, Pipeline.run_point_lt_of_flush t ((flush0_2 t).mp hf) s⟩
  have e0 : V m c main_v0 = (truncf .bf16 (show FVec Ideal S4096x2816 .f32 from m ((c : Thread nD τ).loc main_arg0)) bitsLt_bf16_f32 : FVec Ideal S4096x2816 .bf16) := by entry_read; rfl
  have e1 : V m c main_arg2 = m ((c : Thread nD τ).loc main_arg2) := by entry_read; rfl
  rw [mul_comm (G := EReal)]
  blk_simp [iblk, idx_val t, h2]
  rw [e0, e1]
  pointwise
  blk_point [idx_val t, h2]

end Cert.Kernel2Ideal.Prod

end
-- ==== Proof.Claim2.lean ====
/- The claims about the programs of Kernel2 and Reference2. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Prod2
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C2

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves : Cert.preserves_Kernel2_Kernel2Ideal := trivial

/-- Both programs end with one result array. -/
theorem algebraic : Cert.algebraic_Kernel2Ideal_Reference2Ideal := by
  pair_intro
  · run_from Cert.Kernel2Ideal.Gen.run_main m g
  · run_from Cert.Reference2Ideal.Value.run m' g'
    exact (Cert.Kernel2Ideal.Prod.final m c).symm

end Cert.Proof.C2

end
-- ==== Proof.Prod3.lean ====
/- The value of the call dw_up: its result array is the product of the transposed first operand by the second. -/
module

public import proofs.«01_k».proof.Defs
public import proofs.«01_k».proof.Proof.Gen.Kernel3Ideal.Frame
public import proofs.«01_k».proof.Proof.Gen.Kernel3Ideal
public import proofs.«01_k».proof.Proof.Gen.Reference3Ideal
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Prod

open Cert.Kernel3Ideal Cert.Kernel3Ideal.Gen

variable (m : (ℓ : Loc nD τ sig) → Buf (Elt Ideal) ℓ)

/-- The reference's result, as a term of the two arrays that it reads. -/
abbrev REF (a : Vec Ideal Cert.Reference3Ideal.S4096x1024 .f32) (ct : Vec Ideal Cert.Reference3Ideal.S4096x2816 .f32) :=
  transpose Cert.Reference3Ideal.S1024x2816 [1, 0] (Host.dotGeneral (F := Ideal) (φ₁ := .f32) (φ₂ := .f32) Cert.Reference3Ideal.dot_S4096x2816_S4096x1024_S2816x1024_0_0_1_1_n_n none ct a) Cert.Reference3Ideal.Gen.transposes_S2816x1024_S1024x2816_1_0

theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

theorem hzero (j : S1024x1408.Idx) : k0_pay1 (F := Ideal) j = 0 := by pointwise! [k0_pay1]

/-- One step adds the product of the two blocks. -/
theorem hpay (acc : Vec Ideal S1024x1408 .f32) (x0 : Vec Ideal S2048x1024 .bf16) (x1 : Vec Ideal S2048x1408 .bf16) (j : S1024x1408.Idx) :
    k0_pay2 (F := Ideal) acc x0 x1 j = acc j + ∑ k : Fin 2048, x0 (ix2 k (j 0)) * x1 (ix2 k (j 1)) := by
  pointwise! [k0_pay2]

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have e : (outsAt0 m c t.val t.isLt).1 = (outsAt0 m c t.val t.isLt).2 := by
    rw [outsAt0_B m c t (by omega) h1]; frame_out
  rw [after0_2, e, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole cc0_scratch0).read_unread])
    t ((flush0_2 t).mp hf) _, zero_add]
  pointwise! [REF]
  refine Fin.sum_mul_add_congr fun s k hl => ?_
  have h2 := idx_val ⟨_, Pipeline.run_point_lt_of_flush t ((flush0_2 t).mp hf) s⟩
  have e0 : V m c main_v0 = (truncf .bf16 (show FVec Ideal S4096x1024 .f32 from m ((c : Thread nD τ).loc main_arg0)) bitsLt_bf16_f32 : FVec Ideal S4096x1024 .bf16) := by entry_read; rfl
  have e1 : V m c main_v1 = (truncf .bf16 (show FVec Ideal S4096x2816 .f32 from m ((c : Thread nD τ).loc main_arg2)) bitsLt_bf16_f32 : FVec Ideal S4096x2816 .bf16) := by entry_read; rfl
  rw [mul_comm (G := EReal)]
  blk_simp [iblk, idx_val t, h2]
  rw [e0, e1]
  pointwise
  blk_point [idx_val t, h2]

end Cert.Kernel3Ideal.Prod

end
-- ==== Proof.Claim3.lean ====
/- The claims about the programs of Kernel3 and Reference3. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Prod3
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C3

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves : Cert.preserves_Kernel3_Kernel3Ideal := trivial

/-- Both programs end with one result array. -/
theorem algebraic : Cert.algebraic_Kernel3Ideal_Reference3Ideal := by
  pair_intro
  · run_from Cert.Kernel3Ideal.Gen.run_main m g
  · run_from Cert.Reference3Ideal.Value.run m' g'
    exact (Cert.Kernel3Ideal.Prod.final m c).symm

end Cert.Proof.C3

end
-- ==== Proof.MlaPay.lean ====
/- One step of the attention's backward kernel, index by index: the probabilities of a block of keys and a block of queries, the gradient of their scores, and what the
   step adds to the three accumulators. -/
module

public import proofs.«01_k».proof.Defs
public import proofs.«01_k».proof.Proof.Gen.Kernel4Ideal
public import proofs.«01_k».proof.Proof.Gen.Kernel4Ideal.Skeleton
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.Kernel4Ideal.Mla

open Cert.Kernel4Ideal Cert.Kernel4Ideal.Gen

/-- The scale of the scores. -/
def cS : EReal := Ideal.ofBits .f32 0x3DD105EC#32

/-- The causal mask compares the row's and the column's number as words. -/
theorem select_causal {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (w := 32) ha hb, WordCmp.select_ofBool]
  simp

section Block

variable (x0 x1 : Vec Ideal S4x512x128 .bf16) (x2 x3 : Vec Ideal S4x512x64 .bf16) (x4 x5 : Vec Ideal S4x1x512 .f32)

/-- The scaled score of key `k` and query `q` of head `b`, within the blocks. -/
def bS (b : Fin 4) (k q : Fin 512) : EReal := (∑ e : Fin 128, x1 (ix3 b k e) * x0 (ix3 b q e)) * cS

/-- The probability, every key visible. -/
def bP (b : Fin 4) (k q : Fin 512) : EReal := Ideal.exp (bS x0 x1 b k q - x4 (ix3 b 0 q))

/-- The probability on the diagonal block, the later keys not visible. -/
def bM (b : Fin 4) (k q : Fin 512) : EReal := Ideal.exp ((if k.val ≤ q.val then bS x0 x1 b k q else ⊥) - x4 (ix3 b 0 q))

/-- The gradient of the probability. -/
def bDP (b : Fin 4) (k q : Fin 512) : EReal := ∑ d : Fin 64, x2 (ix3 b k d) * x3 (ix3 b q d)

theorem pay16 (b : Fin 4) (k q : Fin 512) : k0_pay16 (F := Ideal) x0 x1 x4 (ix3 b k q) = bM x0 x1 x4 b k q := by
  pointwise! [k0_pay16, k0_pay14, k0_pay13]
  rw [IdealRules.named_const.ideal_named_scalar (κ := κ) (name := "mask") (φ := .f32) _ ⊥ rfl, select_causal q k (by omega) (by omega)]
  rfl

theorem pay22 (b : Fin 4) (k q : Fin 512) : k0_pay22 (F := Ideal) x0 x1 x4 (ix3 b k q) = bP x0 x1 x4 b k q := by
  pointwise! [k0_pay22, k0_pay20, k0_pay19]

theorem pay18 (b : Fin 4) (k q : Fin 512) : k0_pay18 (F := Ideal) x3 x2 (ix3 b k q) = bDP x2 x3 b k q := by
  pointwise! [k0_pay18, k0_pay15]

theorem pay24 (b : Fin 4) (k q : Fin 512) : k0_pay24 (F := Ideal) x0 x1 x3 x4 x2 x5 (ix3 b k q) = bP x0 x1 x4 b k q * (bDP x2 x3 b k q - x5 (ix3 b 0 q)) := by
  pointwise! [k0_pay24, k0_pay22, k0_pay20, k0_pay19, k0_pay21]

theorem pay4 (p d : FVec Ideal S4x512x512 .f32) (b : Fin 4) (k q : Fin 512) : k0_pay4 (F := Ideal) p d x5 (ix3 b k q)
    = p (ix3 b k q) * (d (ix3 b k q) - x5 (ix3 b 0 q)) * cS := by
  pointwise! [k0_pay4]

theorem pay5 (p d : FVec Ideal S4x512x512 .f32) (acc : Vec Ideal S4x512x128 .f32) (b : Fin 4) (k : Fin 512) (e : Fin 128) :
    k0_pay5 (F := Ideal) (k0_pay13 (F := Ideal) x0) p d x5 acc (ix3 b k e) = acc (ix3 b k e) + ∑ q : Fin 512, k0_pay4 (F := Ideal) p d x5 (ix3 b k q) * x0 (ix3 b q e) := by
  pointwise! [k0_pay5, k0_pay13]

theorem pay6 (p d : FVec Ideal S4x512x512 .f32) (acc : Vec Ideal S1x4x512x128 .f32) (b : Fin 4) (q : Fin 512) (e : Fin 128) :
    k0_pay6 (F := Ideal) (k0_pay14 (F := Ideal) x1) p d x5 acc (ix4 0 b q e) = acc (ix4 0 b q e) + ∑ k : Fin 512, k0_pay4 (F := Ideal) p d x5 (ix3 b k q) * x1 (ix3 b k e) := by
  pointwise! [k0_pay6, k0_pay14]

theorem pay17 (acc : Vec Ideal S4x512x64 .f32) (b : Fin 4) (k : Fin 512) (d : Fin 64) :
    k0_pay17 (F := Ideal) x0 x1 x3 x4 acc (ix3 b k d) = acc (ix3 b k d) + ∑ q : Fin 512, k0_pay16 (F := Ideal) x0 x1 x4 (ix3 b k q) * x3 (ix3 b q d) := by
  pointwise! [k0_pay17, k0_pay15]

theorem pay23 (acc : Vec Ideal S4x512x64 .f32) (b : Fin 4) (k : Fin 512) (d : Fin 64) :
    k0_pay23 (F := Ideal) x0 x1 x3 x4 acc (ix3 b k d) = acc (ix3 b k d) + ∑ q : Fin 512, k0_pay22 (F := Ideal) x0 x1 x4 (ix3 b k q) * x3 (ix3 b q d) := by
  pointwise! [k0_pay23, k0_pay21]

theorem pay7 (p s : FVec Ideal S4x512x512 .f32) (b : Fin 4) (k q : Fin 512) : k0_pay7 (F := Ideal) p s (ix3 b k q) = p (ix3 b k q) * s (ix3 b k q) := by
  pointwise! [k0_pay7]

theorem pay8 (p s : FVec Ideal S4x512x512 .f32) (acc : Vec Ideal S4x512x128 .f32) (b : Fin 4) (k : Fin 512) (e : Fin 128) :
    k0_pay8 (F := Ideal) (k0_pay19 (F := Ideal) x0) p s acc (ix3 b k e) = acc (ix3 b k e) + ∑ q : Fin 512, k0_pay7 (F := Ideal) p s (ix3 b k q) * x0 (ix3 b q e) := by
  pointwise! [k0_pay8, k0_pay19]

theorem pay9 (p s : FVec Ideal S4x512x512 .f32) (acc : Vec Ideal S1x4x512x128 .f32) (b : Fin 4) (q : Fin 512) (e : Fin 128) :
    k0_pay9 (F := Ideal) (k0_pay20 (F := Ideal) x1) p s acc (ix4 0 b q e) = acc (ix4 0 b q e) + ∑ k : Fin 512, k0_pay7 (F := Ideal) p s (ix3 b k q) * x1 (ix3 b k e) := by
  pointwise! [k0_pay9, k0_pay20]

end Block

end Cert.Kernel4Ideal.Mla

end
-- ==== Proof.MlaReal.lean ====
module

public import proofs.«01_k».proof.Proof.Reals

/-!
# One row of a masked softmax, over the real numbers

A row of scores is masked to −∞ where it may not be seen. The kernel keeps the maximum plus the
logarithm of the sum of the exponentials; the plain text divides the exponentials by their sum.
For real scores with at least one seen entry the two are the same, and so are the gradients.
-/

@[expose] public section

open Idealize Idealize.ShloMosaic
open scoped BigOperators

namespace Cert.Softmax

open Cert.Reals

/-- The masked score. -/
noncomputable def wv {n : ℕ} (vis : Fin n → Prop) [DecidablePred vis] (S : Fin n → EReal) (k : Fin n) : EReal :=
  if vis k then S k else ⊥

/-- The largest masked score. -/
noncomputable def mx {n : ℕ} (w : Fin n → EReal) : EReal := Finset.univ.fold max ⊥ w

theorem mx_real {n : ℕ} (vis : Fin n → Prop) [DecidablePred vis] (s : Fin n → ℝ) (k0 : Fin n) (h0 : vis k0) :
    IsReal (mx (wv vis fun k => (s k : EReal))) := by
  have hlt : mx (wv vis fun k => (s k : EReal)) < ⊤ := by
    refine (Finset.fold_max_lt _).mpr ⟨bot_lt_top, fun k _ => ?_⟩
    unfold wv
    split
    · exact EReal.coe_lt_top _
    · exact bot_lt_top
  have hge : (s k0 : EReal) ≤ mx (wv vis fun k => (s k : EReal)) := by
    refine (Finset.le_fold_max _).mpr (Or.inr ⟨k0, Finset.mem_univ _, ?_⟩)
    unfold wv
    rw [if_pos h0]
  have hb : mx (wv vis fun k => (s k : EReal)) ≠ ⊥ := fun h => by
    rw [h] at hge
    exact absurd hge (not_le.mpr (EReal.bot_lt_coe _))
  exact ⟨_, (EReal.coe_toReal hlt.ne hb).symm⟩

/-- The exponential of a masked score less a real number. -/
theorem exp_wv {n : ℕ} (vis : Fin n → Prop) [DecidablePred vis] (s : Fin n → ℝ) (μ : ℝ) (k : Fin n) :
    Ideal.exp (wv vis (fun k => (s k : EReal)) k - (μ : EReal))
      = ((if vis k then Real.exp (s k - μ) else 0 : ℝ) : EReal) := by
  unfold wv
  split
  · rw [← EReal.coe_sub, Ideal.exp_coe]
  · rw [EReal.bot_sub, Ideal.exp_bot, EReal.coe_zero]

/-- The row's weights, its sum, and what the two programs make of them, as real numbers. -/
theorem row {n : ℕ} (vis : Fin n → Prop) [DecidablePred vis] (S : Fin n → EReal) (hS : ∀ k, IsReal (S k))
    (k0 : Fin n) (h0 : vis k0) :
    ∃ (e : Fin n → ℝ) (l : ℝ), 0 < l ∧
      (∀ k, Ideal.exp (wv vis S k - mx (wv vis S)) = (e k : EReal)) ∧
      (∑ k, Ideal.exp (wv vis S k - mx (wv vis S)) = (l : EReal)) ∧
      (∀ k, Ideal.exp (wv vis S k
        - (mx (wv vis S) + Ideal.log (∑ k, Ideal.exp (wv vis S k - mx (wv vis S))))) = ((e k / l : ℝ) : EReal)) ∧
      (∀ k, ¬ vis k → e k = 0) := by
  choose s hs using hS
  obtain rfl : S = fun k => (s k : EReal) := funext hs
  obtain ⟨μ, hμ⟩ := mx_real vis s k0 h0
  have hl : 0 < ∑ k, (if vis k then Real.exp (s k - μ) else 0 : ℝ) := by
    refine Finset.sum_pos' (fun k _ => ?_) ⟨k0, Finset.mem_univ _, ?_⟩
    · split
      · exact (Real.exp_pos _).le
      · exact le_rfl
    · rw [if_pos h0]
      exact Real.exp_pos _
  have hsum : ∑ k, Ideal.exp (wv vis (fun k => (s k : EReal)) k - mx (wv vis fun k => (s k : EReal)))
      = ((∑ k, (if vis k then Real.exp (s k - μ) else 0 : ℝ) : ℝ) : EReal) := by
    rw [hμ, ← coe_sum]
    exact Finset.sum_congr rfl fun k _ => exp_wv vis s μ k
  refine ⟨fun k => if vis k then Real.exp (s k - μ) else 0, _, hl, fun k => ?_, hsum, fun k => ?_, fun k hk => if_neg hk⟩
  · rw [hμ, exp_wv]
  · rw [hsum, hμ, Ideal.log_coe, if_neg (not_le.mpr hl), ← EReal.coe_add, exp_wv]
    refine congrArg (fun r : ℝ => (r : EReal)) ?_
    dsimp only
    split
    · rw [← sub_sub, Real.exp_sub (s k - μ), Real.exp_log hl]
    · rw [zero_div]

/-- The gradient of the softmax row as the plain text has it is the kernel's: the weight times the difference of the product of
    the value row with the cotangent and the product of the output with the cotangent. -/
theorem row_grad {n d : ℕ} (e : Fin n → ℝ) (l : ℝ) (hl : 0 < l) (v : Fin n → Fin d → ℝ) (c : Fin d → ℝ) (k : Fin n) :
    (Ideal.div (∑ x, (c x : EReal) * (v k x : EReal)) (l : EReal)
        + (0 + -(∑ k', ((∑ x, (c x : EReal) * (v k' x : EReal)) * Ideal.div ((1 : ℝ) : EReal) ((l : EReal) * (l : EReal))) * (e k' : EReal))))
        * (e k : EReal)
      = ((e k / l : ℝ) : EReal) * ((∑ x, (v k x : EReal) * (c x : EReal))
          - ∑ x, (c x : EReal) * ∑ k', (v k' x : EReal) * ((e k' / l : ℝ) : EReal)) := by
  have hl0 : l ≠ 0 := hl.ne'
  have hll : l * l ≠ 0 := mul_ne_zero hl0 hl0
  simp only [← EReal.coe_mul, coe_sum, div_coe hl0, div_coe hll]
  rw [zero_add, ← EReal.coe_neg, ← EReal.coe_add, ← EReal.coe_mul, ← EReal.coe_sub, ← EReal.coe_mul]
  refine congrArg (fun r : ℝ => (r : EReal)) ?_
  have h1 : ∑ x, c x * ∑ k', v k' x * (e k' / l) = (∑ k', (∑ x, c x * v k' x) * e k') / l := by
    simp only [Finset.mul_sum, Finset.sum_mul, Finset.sum_div]
    rw [Finset.sum_comm]
    refine Finset.sum_congr rfl fun k' _ => Finset.sum_congr rfl fun x _ => by ring
  have h2 : ∑ k', (∑ x, c x * v k' x) * (1 / (l * l)) * e k' = (∑ k', (∑ x, c x * v k' x) * e k') / (l * l) := by
    rw [Finset.sum_div]
    exact Finset.sum_congr rfl fun k' _ => by ring
  have h3 : ∑ x, v k x * c x = ∑ x, c x * v k x := Finset.sum_congr rfl fun x _ => mul_comm _ _
  rw [h1, h2, h3]
  field_simp
  ring

end Cert.Softmax
-- ==== Proof.MlaHost.lean ====
/- The arrays that the region of mla_attn_bwd enters with, in terms of the program's arguments. -/
module

public import proofs.«01_k».proof.Proof.MlaPay
public import proofs.«01_k».proof.Proof.MlaReal
public import proofs.«01_k».proof.Proof.Gen.Kernel4Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section
set_option maxRecDepth 16384
noncomputable section
open Idealize.ShloMosaic Idealize.ShloMosaic.TcCoe Idealize.SL.Sem
namespace Cert.Kernel4Ideal.Mla
open Cert.Kernel4Ideal Cert.Kernel4Ideal.Gen
variable (m : (ℓ : Loc nD τ sig) → Buf (Elt Ideal) ℓ) (c : Dev nD)
variable (q k : FVec Ideal S4096x8x96 .f32) (v ct : FVec Ideal S4096x8x64 .f32)

def h10 : FVec Ideal S8x4096x4096 .f32 :=
  select (broadcastInDim S8x4096x4096 ![0, 1, 2] bcast_S1x4096x4096_S8x4096x4096_0_1_2
      (broadcastInDim S1x4096x4096 ![1, 2] bcast_S4096x4096_S1x4096x4096_1_2
        (cmpi .sge (broadcastInDim S4096x4096 ![0, 1] bcast_S4096x1_S4096x4096_0_1 (broadcastInDim S4096x1 ![0] bcast_S4096_S4096x1_0 (iotaInDim S4096 32 0)))
          (broadcastInDim S4096x4096 ![0, 1] bcast_S1x4096_S4096x4096_0_1 (broadcastInDim S1x4096 ![1] bcast_S4096_S1x4096_1 (iotaInDim S4096 32 0))))))
    (mulf (Host.dotGeneral (F := Ideal) (φ₁ := .f32) (φ₂ := .f32) dot_S4096x8x96_S4096x8x96_S8x4096x4096_2_2_0_0_1_1 none q k) (broadcastInDim S8x4096x4096 ![] bcast_S_S8x4096x4096 (constant S_ .f32 0x3DD105EC#32)))
    (broadcastInDim S8x4096x4096 ![] bcast_S_S8x4096x4096 (constant S_ .f32 0xFF800000#32))

def h12' (s10 : FVec Ideal S8x4096x4096 .f32) : FVec Ideal S8x4096x1 .f32 :=
  broadcastInDim S8x4096x1 ![0, 1] bcast_S8x4096_S8x4096x1_0_1 (Host.reduce FloatOps.maximumf s10 (constant (F := Ideal) S_ .f32 0xFF800000#32) reducesTo_S8x4096x4096_S8x4096_d2 h_S_)

def h15' (s10 : FVec Ideal S8x4096x4096 .f32) (s12 : FVec Ideal S8x4096x1 .f32) : FVec Ideal S8x4096x4096 .f32 :=
  Host.exp (subf s10 (broadcastInDim S8x4096x4096 ![0, 1, 2] bcast_S8x4096x1_S8x4096x4096_0_1_2 s12))

def h19' (s12 : FVec Ideal S8x4096x1 .f32) (s15 : FVec Ideal S8x4096x4096 .f32) : FVec Ideal S8x4096x1 .f32 :=
  addf s12 (Host.log (broadcastInDim S8x4096x1 ![0, 1] bcast_S8x4096_S8x4096x1_0_1 (Host.reduceAdd s15 (constant (F := Ideal) S_ .f32 0x00000000#32) reducesTo_S8x4096x4096_S8x4096_d2 h_S_)))

def h22' (s10 : FVec Ideal S8x4096x4096 .f32) (s19 : FVec Ideal S8x4096x1 .f32) : FVec Ideal S8x4096x4096 .f32 :=
  Host.exp (subf s10 (broadcastInDim S8x4096x4096 ![0, 1, 2] bcast_S8x4096x1_S8x4096x4096_0_1_2 s19))

def h26' (s22 : FVec Ideal S8x4096x4096 .f32) : FVec Ideal S4096x8 .f32 :=
  Host.reduceAdd (mulf ct (transpose S4096x8x64 [2, 0, 1] (Host.dotGeneral (F := Ideal) (φ₁ := .f32) (φ₂ := .f32) dot_S4096x8x64_S8x4096x4096_S8x64x4096_0_2_2_1_1_0 none v s22) transposes_S8x64x4096_S4096x8x64_2_0_1))
    (constant (F := Ideal) S_ .f32 0x00000000#32) reducesTo_S4096x8x64_S4096x8_d2 h_S_

def h12 : FVec Ideal S8x4096x1 .f32 := h12' (h10 q k)
def h15 : FVec Ideal S8x4096x4096 .f32 := h15' (h10 q k) (h12 q k)
def h19 : FVec Ideal S8x4096x1 .f32 := h19' (h12 q k) (h15 q k)
def h22 : FVec Ideal S8x4096x4096 .f32 := h22' (h10 q k) (h19 q k)
def h26 : FVec Ideal S4096x8 .f32 := h26' v ct (h22 q k)

theorem V37 : V m c main_v37 = (shapeCast S8x1x4096 (h19 (m ((c : Thread nD τ).loc main_arg0)) (m ((c : Thread nD τ).loc main_arg1))) shapeCasts_S8x4096x1_S8x1x4096 : FVec Ideal S8x1x4096 .f32) := by
  unfold V
  simp only [hostOps0, hostOps0_1, hostOps0_2, hostOps0_3, hostOps0_4, hostOps0_5, hostOps0_6, List.flatten_cons, List.flatten_nil, List.append_nil, List.cons_append, List.nil_append]
  after_reads_simp
  rfl
theorem V39 : V m c main_v39 = (shapeCast S8x1x4096 (transpose S8x4096 [1, 0] (h26 (m ((c : Thread nD τ).loc main_arg0)) (m ((c : Thread nD τ).loc main_arg1)) (m ((c : Thread nD τ).loc main_arg2)) (m ((c : Thread nD τ).loc main_arg3))) transposes_S4096x8_S8x4096_1_0) shapeCasts_S8x4096_S8x1x4096 : FVec Ideal S8x1x4096 .f32) := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V29 : V m c main_v29 = (pad S8x4096x128 ![0, 0, 0] ![0, 0, 32] ![0, 0, 0] (truncf .bf16 (transpose S8x4096x96 [1, 0, 2] (show FVec Ideal S4096x8x96 .f32 from m ((c : Thread nD τ).loc main_arg0)) transposes_S4096x8x96_S8x4096x96_1_0_2 : FVec Ideal S8x4096x96 .f32) bitsLt_bf16_f32)
    (sitofp .bf16 (constantI S_ 32 0#32)) pads_S8x4096x96_S8x4096x128_000_000_0320 h_S_ : FVec Ideal S8x4096x128 .bf16) := by
  unfold V
  simp only [hostOps0, hostOps0_1, hostOps0_2, hostOps0_3, hostOps0_4, hostOps0_5, hostOps0_6, List.flatten_cons, List.flatten_nil, List.append_nil, List.cons_append, List.nil_append]
  after_reads_simp
  rfl
theorem V32 : V m c main_v32 = (pad S8x4096x128 ![0, 0, 0] ![0, 0, 32] ![0, 0, 0] (truncf .bf16 (transpose S8x4096x96 [1, 0, 2] (show FVec Ideal S4096x8x96 .f32 from m ((c : Thread nD τ).loc main_arg1)) transposes_S4096x8x96_S8x4096x96_1_0_2 : FVec Ideal S8x4096x96 .f32) bitsLt_bf16_f32)
    (sitofp .bf16 (constantI S_ 32 0#32)) pads_S8x4096x96_S8x4096x128_000_000_0320 h_S_ : FVec Ideal S8x4096x128 .bf16) := by
  unfold V
  simp only [hostOps0, hostOps0_1, hostOps0_2, hostOps0_3, hostOps0_4, hostOps0_5, hostOps0_6, List.flatten_cons, List.flatten_nil, List.append_nil, List.cons_append, List.nil_append]
  after_reads_simp
  rfl
theorem V34 : V m c main_v34 = (truncf .bf16 (transpose S8x4096x64 [1, 0, 2] (show FVec Ideal S4096x8x64 .f32 from m ((c : Thread nD τ).loc main_arg2)) transposes_S4096x8x64_S8x4096x64_1_0_2 : FVec Ideal S8x4096x64 .f32) bitsLt_bf16_f32 : FVec Ideal S8x4096x64 .bf16) := by
  unfold V
  simp only [hostOps0, hostOps0_1, hostOps0_2, hostOps0_3, hostOps0_4, hostOps0_5, hostOps0_6, List.flatten_cons, List.flatten_nil, List.append_nil, List.cons_append, List.nil_append]
  after_reads_simp
theorem V36 : V m c main_v36 = (truncf .bf16 (transpose S8x4096x64 [1, 0, 2] (show FVec Ideal S4096x8x64 .f32 from m ((c : Thread nD τ).loc main_arg3)) transposes_S4096x8x64_S8x4096x64_1_0_2 : FVec Ideal S8x4096x64 .f32) bitsLt_bf16_f32 : FVec Ideal S8x4096x64 .bf16) := by
  unfold V
  simp only [hostOps0, hostOps0_1, hostOps0_2, hostOps0_3, hostOps0_4, hostOps0_5, hostOps0_6, List.flatten_cons, List.flatten_nil, List.append_nil, List.cons_append, List.nil_append]
  after_reads_simp

/-- The scaled score of a query and a key, and the row of the masked ones. -/
def sc (h : Fin 8) (Q K : Fin 4096) : EReal := (∑ e : Fin 96, q (ix3 Q h e) * k (ix3 K h e)) * cS
def wr (h : Fin 8) (Q : Fin 4096) : Fin 4096 → EReal := Softmax.wv (fun K : Fin 4096 => K.val ≤ Q.val) (sc q k h Q)

theorem ninf : Ideal.ofBits .f32 0xFF800000#32 = ⊥ := by
  simp [Ideal.ofBits, Ideal.ieee]

theorem h10_at (h : Fin 8) (Q K : Fin 4096) : h10 q k (ix3 h Q K) = wr q k h Q K := by
  pointwise! [h10]
  rw [select_causal Q K (by omega) (by omega), ninf]
  rfl

section Raw

variable (s10 s15 s22 : FVec Ideal S8x4096x4096 .f32) (s12 s19 : FVec Ideal S8x4096x1 .f32)

theorem h12_raw (h : Fin 8) (Q : Fin 4096) (u : Fin 1) : h12' s10 (ix3 h Q u) = Finset.fold max (Ideal.ofBits .f32 0xFF800000#32) (fun K => s10 (ix3 h Q K)) Finset.univ := by
  pointwise! [h12']

theorem h15_raw (h : Fin 8) (Q K : Fin 4096) : h15' s10 s12 (ix3 h Q K) = Ideal.exp (s10 (ix3 h Q K) - s12 (ix3 h Q 0)) := by
  pointwise! [h15']

theorem h19_raw (h : Fin 8) (Q : Fin 4096) (u : Fin 1) : h19' s12 s15 (ix3 h Q u) = s12 (ix3 h Q u) + Ideal.log (∑ K : Fin 4096, s15 (ix3 h Q K)) := by
  pointwise! [h19']

theorem h22_raw (h : Fin 8) (Q K : Fin 4096) : h22' s10 s19 (ix3 h Q K) = Ideal.exp (s10 (ix3 h Q K) - s19 (ix3 h Q 0)) := by
  pointwise! [h22']

theorem h26_raw (h : Fin 8) (Q : Fin 4096) : h26' v ct s22 (ix2 Q h) = ∑ d : Fin 64, ct (ix3 Q h d) * ∑ K : Fin 4096, v (ix3 K h d) * s22 (ix3 h Q K) := by
  pointwise! [h26']

end Raw

theorem h12_at (h : Fin 8) (Q : Fin 4096) (u : Fin 1) : h12 q k (ix3 h Q u) = Softmax.mx (wr q k h Q) := by
  unfold h12
  rw [h12_raw, ninf]
  exact congrArg (fun f => Finset.fold max ⊥ f Finset.univ) (funext fun K => h10_at q k h Q K)

theorem h15_at (h : Fin 8) (Q K : Fin 4096) : h15 q k (ix3 h Q K) = Ideal.exp (wr q k h Q K - Softmax.mx (wr q k h Q)) := by
  unfold h15
  rw [h15_raw, h10_at, h12_at]

theorem h19_at (h : Fin 8) (Q : Fin 4096) (u : Fin 1) : h19 q k (ix3 h Q u) = Softmax.mx (wr q k h Q) + Ideal.log (∑ K, Ideal.exp (wr q k h Q K - Softmax.mx (wr q k h Q))) := by
  unfold h19
  rw [h19_raw, h12_at]
  exact congrArg (fun x => _ + Ideal.log x) (Finset.sum_congr rfl fun K _ => h15_at q k h Q K)

theorem h22_at (h : Fin 8) (Q K : Fin 4096) : h22 q k (ix3 h Q K) = Ideal.exp (wr q k h Q K - h19 q k (ix3 h Q 0)) := by
  unfold h22
  rw [h22_raw, h10_at]

theorem h26_at (h : Fin 8) (Q : Fin 4096) : h26 q k v ct (ix2 Q h) = ∑ d : Fin 64, ct (ix3 Q h d) * ∑ K : Fin 4096, v (ix3 K h d) * h22 q k (ix3 h Q K) :=
  h26_raw v ct (h22 q k) h Q

/-- The entry arrays at an index. -/
theorem V37_at (h : Fin 8) (Q : Fin 4096) : (V m c main_v37 : FVec Ideal S8x1x4096 .f32) (ix3 h 0 Q) = h19 (m ((c : Thread nD τ).loc main_arg0)) (m ((c : Thread nD τ).loc main_arg1)) (ix3 h Q 0) := by
  rw [V37]
  generalize h19 (m ((c : Thread nD τ).loc main_arg0)) (m ((c : Thread nD τ).loc main_arg1)) = X
  pointwise!

theorem V39_at (h : Fin 8) (Q : Fin 4096) : (V m c main_v39 : FVec Ideal S8x1x4096 .f32) (ix3 h 0 Q) = h26 (m ((c : Thread nD τ).loc main_arg0)) (m ((c : Thread nD τ).loc main_arg1)) (m ((c : Thread nD τ).loc main_arg2)) (m ((c : Thread nD τ).loc main_arg3)) (ix2 Q h) := by
  rw [V39]
  generalize h26 (m ((c : Thread nD τ).loc main_arg0)) (m ((c : Thread nD τ).loc main_arg1)) (m ((c : Thread nD τ).loc main_arg2)) (m ((c : Thread nD τ).loc main_arg3)) = X
  pointwise!

/-- The padding's value is zero. -/
theorem padz : FloatOps.sitofp (F := Ideal) .bf16 (0#32) = (0 : EReal) := by
  show ((((0#32 : BitVec 32).toInt : ℤ) : ℝ) : EReal) = 0
  simp

/-- The queries or keys with thirty-two zero columns behind. -/
def padded (x : FVec Ideal S4096x8x96 .f32) (h : Fin 8) (Q : Fin 4096) (e : Fin 128) : EReal :=
  if he : e.val < 96 then x (ix3 Q h ⟨e.val, he⟩) else 0

theorem V29_at (h : Fin 8) (Q : Fin 4096) (e : Fin 128) : (V m c main_v29 : FVec Ideal S8x4096x128 .bf16) (ix3 h Q e) = padded (m ((c : Thread nD τ).loc main_arg0)) h Q e := by
  rw [V29]
  generalize m ((c : Thread nD τ).loc main_arg0) = X
  pointwise!
  rw [padz]
  rfl

theorem V32_at (h : Fin 8) (Q : Fin 4096) (e : Fin 128) : (V m c main_v32 : FVec Ideal S8x4096x128 .bf16) (ix3 h Q e) = padded (m ((c : Thread nD τ).loc main_arg1)) h Q e := by
  rw [V32]
  generalize m ((c : Thread nD τ).loc main_arg1) = X
  pointwise!
  rw [padz]
  rfl

theorem V34_at (h : Fin 8) (Q : Fin 4096) (e : Fin 64) : (V m c main_v34 : FVec Ideal S8x4096x64 .bf16) (ix3 h Q e)
    = (m ((c : Thread nD τ).loc main_arg2) : FVec Ideal S4096x8x64 .f32) (ix3 Q h e) := by
  rw [V34]
  pointwise!

theorem V36_at (h : Fin 8) (Q : Fin 4096) (e : Fin 64) : (V m c main_v36 : FVec Ideal S8x4096x64 .bf16) (ix3 h Q e)
    = (m ((c : Thread nD τ).loc main_arg3) : FVec Ideal S4096x8x64 .f32) (ix3 Q h e) := by
  rw [V36]
  pointwise!

end Cert.Kernel4Ideal.Mla

end
-- ==== Proof.MlaRef.lean ====
/- The reference of mla_attn_bwd entry by entry. -/
module

public import proofs.«01_k».proof.Proof.MlaHost
public import proofs.«01_k».proof.Proof.Gen.Reference4Ideal.Run

@[expose] public section
set_option maxRecDepth 16384
noncomputable section
open Idealize.ShloMosaic Idealize.ShloMosaic.TcCoe Idealize.SL.Sem
namespace Cert.Reference4Ideal.Mla
open Cert.Reference4Ideal Cert.Reference4Ideal.Gen Cert.Reference4Ideal.Value
open Cert.Kernel4Ideal.Mla (cS wr sc padded)
variable (m : (ℓ : Loc nD τ sig) → Buf (Elt Ideal) ℓ) (c : Dev nD)
variable (q k : FVec Ideal S4096x8x96 .f32) (v ct : FVec Ideal S4096x8x64 .f32)

/-- Which keys a query sees. -/
def msk : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))

/-- The masked scores. -/
def t10 (mask : IVec S8x4096x4096 1) : FVec Ideal S8x4096x4096 .f32 :=
  select mask (mulf (Host.dotGeneral (F := Ideal) (φ₁ := .f32) (φ₂ := .f32) dot_S4096x8x96_S4096x8x96_S8x4096x4096_2_2_0_0_1_1 none q k) (broadcastInDim S8x4096x4096 ![] bcast_S_S8x4096x4096 (constant (F := Ideal) S_ .f32 0x3DD105EC#32))) (broadcastInDim S8x4096x4096 ![] bcast_S_S8x4096x4096 (id (constant (F := Ideal) S_ .f32 0xFF800000#32)))

/-- Their rows' maxima. -/
def tr (s10 : FVec Ideal S8x4096x4096 .f32) : FVec Ideal S8x4096 .f32 :=
  Host.reduce FloatOps.maximumf s10 (constant (F := Ideal) S_ .f32 0xFF800000#32) reducesTo_S8x4096x4096_S8x4096_d2 h_S_

def t12 (r : FVec Ideal S8x4096 .f32) : FVec Ideal S8x4096x1 .f32 :=
  broadcastInDim S8x4096x1 ![0, 1] bcast_S8x4096_S8x4096x1_0_1 (maximumf (broadcastInDim S8x4096 ![] bcast_S_S8x4096 (constant (F := Ideal) S_ .f32 0xFF800000#32)) r)

/-- The exponentials. -/
def t15 (s10 : FVec Ideal S8x4096x4096 .f32) (s12 : FVec Ideal S8x4096x1 .f32) : FVec Ideal S8x4096x4096 .f32 :=
  Host.exp (subf s10 (broadcastInDim S8x4096x4096 ![0, 1, 2] bcast_S8x4096x1_S8x4096x4096_0_1_2 s12))

/-- Their rows' sums. -/
def tL (E : FVec Ideal S8x4096x4096 .f32) : FVec Ideal S8x4096x1 .f32 :=
  broadcastInDim S8x4096x1 ![0, 1] bcast_S8x4096_S8x4096x1_0_1 (Host.reduceAdd E (constant (F := Ideal) S_ .f32 0x00000000#32) reducesTo_S8x4096x4096_S8x4096_d2 h_S_)

/-- The gradient of the attention weights. -/
def tP : FVec Ideal S8x4096x4096 .f32 :=
  Host.dotGeneral (F := Ideal) (φ₁ := .f32) (φ₂ := .f32) dot_S8x64x4096_S4096x8x64_S8x4096x4096_1_2_2_0_0_1 none (transpose S8x64x4096 [1, 2, 0] ct transposes_S4096x8x64_S8x64x4096_1_2_0) v

/-- The gradient of the masked scores. -/
def tG (E dp : FVec Ideal S8x4096x4096 .f32) (l : FVec Ideal S8x4096x1 .f32) : FVec Ideal S8x4096x4096 .f32 :=
  mulf (addf (Host.divf dp (broadcastInDim S8x4096x4096 ![0, 1, 2] bcast_S8x4096x1_S8x4096x4096_0_1_2 l)) (broadcastInDim S8x4096x4096 ![0, 1] bcast_S8x4096_S8x4096x4096_0_1 (Host.reduceAdd (Host.negf (shapeCast S8x4096x1 (Host.reduceAdd (mulf (mulf dp (broadcastInDim S8x4096x4096 ![0, 1, 2] bcast_S8x4096x1_S8x4096x4096_0_1_2 (Host.divf (broadcastInDim S8x4096x1 ![] bcast_S_S8x4096x1 (constant (F := Ideal) S_ .f32 0x3F800000#32)) (mulf l l)))) E) (constant (F := Ideal) S_ .f32 0x00000000#32) reducesTo_S8x4096x4096_S8x4096_d2 h_S_) shapeCasts_S8x4096_S8x4096x1)) (constant (F := Ideal) S_ .f32 0x00000000#32) reducesTo_S8x4096x1_S8x4096_d2 h_S_))) E

/-- The gradient of the products of queries and keys. -/
def tDS (mask : IVec S8x4096x4096 1) (g : FVec Ideal S8x4096x4096 .f32) : FVec Ideal S8x4096x4096 .f32 :=
  mulf (select mask g (broadcastInDim S8x4096x4096 ![] bcast_S_S8x4096x4096 (constant (F := Ideal) S_ .f32 0x00000000#32))) (broadcastInDim S8x4096x4096 ![] bcast_S_S8x4096x4096 (constant (F := Ideal) S_ .f32 0x3DD105EC#32))

/-- The attention weights. -/
def tW (E : FVec Ideal S8x4096x4096 .f32) (l : FVec Ideal S8x4096x1 .f32) : FVec Ideal S8x4096x4096 .f32 :=
  Host.divf E (broadcastInDim S8x4096x4096 ![0, 1, 2] bcast_S8x4096x1_S8x4096x4096_0_1_2 l)

def tQ (ds : FVec Ideal S8x4096x4096 .f32) : FVec Ideal S8x4096x128 .f32 :=
  pad S8x4096x128 ![0, 0, 0] ![0, 0, 32] ![0, 0, 0] (transpose S8x4096x96 [1, 0, 2] (transpose S4096x8x96 [1, 0, 2] (Host.dotGeneral (F := Ideal) (φ₁ := .f32) (φ₂ := .f32) dot_S8x4096x4096_S4096x8x96_S8x4096x96_2_0_1_2_0_1 none ds k) transposes_S8x4096x96_S4096x8x96_1_0_2) transposes_S4096x8x96_S8x4096x96_1_0_2) (sitofp .f32 (constantI S_ 32 0#32)) pads_S8x4096x96_S8x4096x128_000_000_0320 h_S_

def tK (ds : FVec Ideal S8x4096x4096 .f32) : FVec Ideal S8x4096x128 .f32 :=
  pad S8x4096x128 ![0, 0, 0] ![0, 0, 32] ![0, 0, 0] (transpose S8x4096x96 [1, 0, 2] (transpose S4096x8x96 [1, 0, 2] (Host.dotGeneral (F := Ideal) (φ₁ := .f32) (φ₂ := .f32) dot_S8x4096x4096_S4096x8x96_S8x4096x96_1_0_2_2_0_1 none ds q) transposes_S8x4096x96_S4096x8x96_1_0_2) transposes_S4096x8x96_S8x4096x96_1_0_2) (sitofp .f32 (constantI S_ 32 0#32)) pads_S8x4096x96_S8x4096x128_000_000_0320 h_S_

def tV (p : FVec Ideal S8x4096x4096 .f32) : FVec Ideal S8x4096x64 .f32 :=
  transpose S8x4096x64 [1, 0, 2] (transpose S4096x8x64 [2, 0, 1] (Host.dotGeneral (F := Ideal) (φ₁ := .f32) (φ₂ := .f32) dot_S8x64x4096_S8x4096x4096_S8x64x4096_2_1_1_2_0_0 none (transpose S8x64x4096 [1, 2, 0] ct transposes_S4096x8x64_S8x64x4096_1_2_0) p) transposes_S8x64x4096_S4096x8x64_2_0_1) transposes_S4096x8x64_S8x4096x64_1_0_2

/-- The padding's value is zero. -/
theorem padz32 : FloatOps.sitofp (F := Ideal) .f32 (0#32) = (0 : EReal) := by
  show ((((0#32 : BitVec 32).toInt : ℤ) : ℝ) : EReal) = 0
  simp

section Raw
variable (E dp g ds p s10 : FVec Ideal S8x4096x4096 .f32) (l s12 : FVec Ideal S8x4096x1 .f32) (mask : IVec S8x4096x4096 1)

theorem tr_raw (h : Fin 8) (Q : Fin 4096) : tr s10 (ix2 h Q) = Finset.fold max (Ideal.ofBits .f32 0xFF800000#32) (fun K => s10 (ix3 h Q K)) Finset.univ := by
  pointwise! [tr]

theorem t12_raw (r : FVec Ideal S8x4096 .f32) (h : Fin 8) (Q : Fin 4096) (u : Fin 1) : t12 r (ix3 h Q u) = max (Ideal.ofBits .f32 0xFF800000#32) (r (ix2 h Q)) := by
  pointwise! [t12]

theorem t15_raw (h : Fin 8) (Q K : Fin 4096) : t15 s10 s12 (ix3 h Q K) = Ideal.exp (s10 (ix3 h Q K) - s12 (ix3 h Q 0)) := by
  pointwise! [t15]

theorem tL_raw (h : Fin 8) (Q : Fin 4096) (u : Fin 1) : tL E (ix3 h Q u) = ∑ K : Fin 4096, E (ix3 h Q K) := by
  pointwise! [tL]

theorem tP_raw (h : Fin 8) (Q K : Fin 4096) : tP v ct (ix3 h Q K) = ∑ d : Fin 64, ct (ix3 Q h d) * v (ix3 K h d) := by
  pointwise! [tP]

theorem tG_raw (h : Fin 8) (Q K : Fin 4096) : tG E dp l (ix3 h Q K)
    = (Ideal.div (dp (ix3 h Q K)) (l (ix3 h Q 0)) + (0 + -(∑ K' : Fin 4096, (dp (ix3 h Q K') * Ideal.div ((1 : ℝ) : EReal) (l (ix3 h Q 0) * l (ix3 h Q 0))) * E (ix3 h Q K')))) * E (ix3 h Q K) := by
  pointwise! [tG]
  simp

theorem tDS_raw (h : Fin 8) (Q K : Fin 4096) : tDS mask g (ix3 h Q K) = Scalar.select (mask (ix3 h Q K)) (g (ix3 h Q K) * cS) 0 := by
  pointwise! [tDS]

theorem tW_raw (h : Fin 8) (Q K : Fin 4096) : tW E l (ix3 h Q K) = Ideal.div (E (ix3 h Q K)) (l (ix3 h Q 0)) := by
  pointwise! [tW]

theorem tQ_raw (h : Fin 8) (Q : Fin 4096) (e : Fin 128) : tQ k ds (ix3 h Q e) = if he : e.val < 96 then ∑ K : Fin 4096, ds (ix3 h Q K) * k (ix3 K h ⟨e.val, he⟩) else (0 : EReal) := by
  pointwise! [tQ]
  rw [padz32]

theorem tK_raw (h : Fin 8) (K : Fin 4096) (e : Fin 128) : tK q ds (ix3 h K e) = if he : e.val < 96 then ∑ Q : Fin 4096, ds (ix3 h Q K) * q (ix3 Q h ⟨e.val, he⟩) else (0 : EReal) := by
  pointwise! [tK]
  rw [padz32]

theorem tV_raw (h : Fin 8) (K : Fin 4096) (d : Fin 64) : tV ct p (ix3 h K d) = ∑ Q : Fin 4096, ct (ix3 Q h d) * p (ix3 h Q K) := by
  pointwise! [tV]

end Raw

/-- The reference's arrays of a device. -/
def rS : FVec Ideal S8x4096x4096 .f32 := t10 q k msk
def rM : FVec Ideal S8x4096x1 .f32 := t12 (tr (rS q k))
def rE : FVec Ideal S8x4096x4096 .f32 := t15 (rS q k) (rM q k)
def rL : FVec Ideal S8x4096x1 .f32 := tL (rE q k)
def rP : FVec Ideal S8x4096x4096 .f32 := tP v ct
def rDS : FVec Ideal S8x4096x4096 .f32 := tDS msk (tG (rE q k) (rP v ct) (rL q k))
def rW : FVec Ideal S8x4096x4096 .f32 := tW (rE q k) (rL q k)

theorem res65 : res_main_v65 m c = tQ (m ((c : Thread nD τ).loc main_arg1)) (rDS (m ((c : Thread nD τ).loc main_arg0)) (m ((c : Thread nD τ).loc main_arg1)) (m ((c : Thread nD τ).loc main_arg2)) (m ((c : Thread nD τ).loc main_arg3))) := by
  unfold res_main_v65; rfl
theorem res67 : res_main_v67 m c = tK (m ((c : Thread nD τ).loc main_arg0)) (rDS (m ((c : Thread nD τ).loc main_arg0)) (m ((c : Thread nD τ).loc main_arg1)) (m ((c : Thread nD τ).loc main_arg2)) (m ((c : Thread nD τ).loc main_arg3))) := by
  unfold res_main_v67; rfl
theorem res68 : res_main_v68 m c = tV (m ((c : Thread nD τ).loc main_arg3)) (rW (m ((c : Thread nD τ).loc main_arg0)) (m ((c : Thread nD τ).loc main_arg1))) := by
  unfold res_main_v68; rfl

theorem rS_at (h : Fin 8) (Q K : Fin 4096) : rS q k (ix3 h Q K) = wr q k h Q K := by
  pointwise! [rS, t10, msk]
  rw [Cert.Kernel4Ideal.Mla.select_causal Q K (by omega) (by omega)]
  change (if K.val ≤ Q.val then _ else Ideal.ofBits .f32 0xFF800000#32) = _
  rw [Cert.Kernel4Ideal.Mla.ninf]
  rfl

theorem rM_at (h : Fin 8) (Q : Fin 4096) (u : Fin 1) : rM q k (ix3 h Q u) = Cert.Softmax.mx (wr q k h Q) := by
  unfold rM
  rw [t12_raw, tr_raw, Cert.Kernel4Ideal.Mla.ninf, max_eq_right bot_le]
  exact congrArg (fun f => Finset.fold max ⊥ f Finset.univ) (funext fun K => rS_at q k h Q K)

theorem rE_at (h : Fin 8) (Q K : Fin 4096) : rE q k (ix3 h Q K) = Ideal.exp (wr q k h Q K - Cert.Softmax.mx (wr q k h Q)) := by
  unfold rE
  rw [t15_raw, rS_at, rM_at]

theorem rL_at (h : Fin 8) (Q : Fin 4096) (u : Fin 1) : rL q k (ix3 h Q u) = ∑ K, Ideal.exp (wr q k h Q K - Cert.Softmax.mx (wr q k h Q)) := by
  unfold rL
  rw [tL_raw]
  exact Finset.sum_congr rfl fun K _ => rE_at q k h Q K

theorem rDS_sel (G : FVec Ideal S8x4096x4096 .f32) (h : Fin 8) (Q K : Fin 4096) : tDS msk G (ix3 h Q K) = if K.val ≤ Q.val then G (ix3 h Q K) * cS else 0 := by
  rw [tDS_raw]
  pointwise! [msk]
  rw [Cert.Kernel4Ideal.Mla.select_causal Q K (by omega) (by omega)]

end Cert.Reference4Ideal.Mla

end
-- ==== Proof.MlaDef.lean ====
/- The values of the call mla_attn_bwd over the arrays that its region enters with: the masked probabilities, the gradient of the scores, and the
   blocks of a grid point as pieces of the arrays. -/
module

public import proofs.«01_k».proof.Proof.MlaPay
public import proofs.«01_k».proof.Proof.Gen.Kernel4Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Mla

open Cert.Kernel4Ideal Cert.Kernel4Ideal.Gen

section Rows

variable (Q K : Vec Ideal S8x4096x128 .bf16) (W C : Vec Ideal S8x4096x64 .bf16) (L D : Vec Ideal S8x1x4096 .f32)

/-- The scaled score of a key and a query. -/
def gS (h : Fin 8) (k q : Fin 4096) : EReal := (∑ e : Fin 128, K (ix3 h k e) * Q (ix3 h q e)) * cS

/-- The probability, a later key not visible. -/
def gP (h : Fin 8) (k q : Fin 4096) : EReal := Ideal.exp ((if k.val ≤ q.val then gS Q K h k q else ⊥) - L (ix3 h 0 q))

/-- The gradient of the probability. -/
def gDP (h : Fin 8) (k q : Fin 4096) : EReal := ∑ d : Fin 64, W (ix3 h k d) * C (ix3 h q d)

/-- The gradient of the score. -/
def gDS (h : Fin 8) (k q : Fin 4096) : EReal := gP Q K L h k q * (gDP W C h k q - D (ix3 h 0 q)) * cS

theorem gP_zero (h : Fin 8) (k q : Fin 4096) (hk : q.val < k.val) : gP Q K L h k q = 0 := by
  unfold gP
  rw [if_neg (by omega), EReal.bot_sub, Ideal.exp_bot]

theorem gDS_zero (h : Fin 8) (k q : Fin 4096) (hk : q.val < k.val) : gDS Q K W C L D h k q = 0 := by
  unfold gDS
  rw [gP_zero Q K L h k q hk, zero_mul (M₀ := EReal), zero_mul (M₀ := EReal)]

end Rows

variable (m : (ℓ : Loc nD τ sig) → Buf (Elt Ideal) ℓ) (c : Dev nD)

abbrev aQ : Vec Ideal S8x4096x128 .bf16 := V m c (Pipeline.arrRef spec0 0)
abbrev aK : Vec Ideal S8x4096x128 .bf16 := V m c (Pipeline.arrRef spec0 1)
abbrev aV : Vec Ideal S8x4096x64 .bf16 := V m c (Pipeline.arrRef spec0 2)
abbrev aC : Vec Ideal S8x4096x64 .bf16 := V m c (Pipeline.arrRef spec0 3)
abbrev aL : Vec Ideal S8x1x4096 .f32 := V m c (Pipeline.arrRef spec0 4)
abbrev aD : Vec Ideal S8x1x4096 .f32 := V m c (Pipeline.arrRef spec0 5)

theorem idx_val : ∀ t : Fin cfg0.N, win0_0.index t = ![t.val / 64, max (t.val % 8) (t.val / 8 % 8), 0] ∧ win0_1.index t = ![t.val / 64, t.val / 8 % 8, 0]
    ∧ win0_2.index t = ![t.val / 64, t.val / 8 % 8, 0] ∧ win0_3.index t = ![t.val / 64, max (t.val % 8) (t.val / 8 % 8), 0]
    ∧ win0_4.index t = ![t.val / 64, 0, max (t.val % 8) (t.val / 8 % 8)] ∧ win0_5.index t = ![t.val / 64, 0, max (t.val % 8) (t.val / 8 % 8)]
    ∧ win0_6.index t = ![t.val / 64, 0, 0] ∧ win0_7.index t = ![t.val / 64, t.val / 8 % 8, 0] ∧ win0_8.index t = ![t.val / 64, t.val / 8 % 8, 0] :=
  (by decide +kernel : ∀ t : Fin grid0.N, _)

theorem off_val : ∀ t : Fin cfg0.N, k0_off1 (grid0.coords t) = ![t.val % 8, 0, 0, 0] ∧ k0_off2 (grid0.coords t) = ![t.val % 8, 0, 0, 0] :=
  (by decide +kernel : ∀ t : Fin grid0.N, _)

section Blocks

variable (t : Fin cfg0.N) (b : Fin 4) (h : Fin 8) (hh : h.val = t.val / 64 * 4 + b.val)

include hh

theorem rd0 (X : Vec Ideal S8x4096x128 .bf16) (r : Fin 512) (e : Fin 128) (R : Fin 4096) (hR : R.val = max (t.val % 8) (t.val / 8 % 8) * 512 + r.val) : (win0_0.blk t).view.read (Elt Ideal) X (ix3 b r e) = X (ix3 h R e) := by
  blk_point [idx_val t]

theorem blk0 (r : Fin 512) (e : Fin 128) (R : Fin 4096) (hR : R.val = max (t.val % 8) (t.val / 8 % 8) * 512 + r.val) : iblk m c 0 t (ix3 b r e) = aQ m c (ix3 h R e) :=
  rd0 t b h hh (V m c (Pipeline.arrRef spec0 0)) r e R hR

theorem rd1 (X : Vec Ideal S8x4096x128 .bf16) (r : Fin 512) (e : Fin 128) (R : Fin 4096) (hR : R.val = t.val / 8 % 8 * 512 + r.val) : (win0_1.blk t).view.read (Elt Ideal) X (ix3 b r e) = X (ix3 h R e) := by
  blk_point [idx_val t]

theorem blk1 (r : Fin 512) (e : Fin 128) (R : Fin 4096) (hR : R.val = t.val / 8 % 8 * 512 + r.val) : iblk m c 1 t (ix3 b r e) = aK m c (ix3 h R e) :=
  rd1 t b h hh (V m c (Pipeline.arrRef spec0 1)) r e R hR

theorem rd2 (X : Vec Ideal S8x4096x64 .bf16) (r : Fin 512) (e : Fin 64) (R : Fin 4096) (hR : R.val = t.val / 8 % 8 * 512 + r.val) : (win0_2.blk t).view.read (Elt Ideal) X (ix3 b r e) = X (ix3 h R e) := by
  blk_point [idx_val t]

theorem blk2 (r : Fin 512) (e : Fin 64) (R : Fin 4096) (hR : R.val = t.val / 8 % 8 * 512 + r.val) : iblk m c 2 t (ix3 b r e) = aV m c (ix3 h R e) :=
  rd2 t b h hh (V m c (Pipeline.arrRef spec0 2)) r e R hR

theorem rd3 (X : Vec Ideal S8x4096x64 .bf16) (r : Fin 512) (e : Fin 64) (R : Fin 4096) (hR : R.val = max (t.val % 8) (t.val / 8 % 8) * 512 + r.val) : (win0_3.blk t).view.read (Elt Ideal) X (ix3 b r e) = X (ix3 h R e) := by
  blk_point [idx_val t]

theorem blk3 (r : Fin 512) (e : Fin 64) (R : Fin 4096) (hR : R.val = max (t.val % 8) (t.val / 8 % 8) * 512 + r.val) : iblk m c 3 t (ix3 b r e) = aC m c (ix3 h R e) :=
  rd3 t b h hh (V m c (Pipeline.arrRef spec0 3)) r e R hR

theorem rd4 (X : Vec Ideal S8x1x4096 .f32) (r : Fin 512) (R : Fin 4096) (hR : R.val = max (t.val % 8) (t.val / 8 % 8) * 512 + r.val) : (win0_4.blk t).view.read (Elt Ideal) X (ix3 b 0 r) = X (ix3 h 0 R) := by
  blk_point [idx_val t]

theorem blk4 (r : Fin 512) (R : Fin 4096) (hR : R.val = max (t.val % 8) (t.val / 8 % 8) * 512 + r.val) : iblk m c 4 t (ix3 b 0 r) = aL m c (ix3 h 0 R) :=
  rd4 t b h hh (V m c (Pipeline.arrRef spec0 4)) r R hR

theorem rd5 (X : Vec Ideal S8x1x4096 .f32) (r : Fin 512) (R : Fin 4096) (hR : R.val = max (t.val % 8) (t.val / 8 % 8) * 512 + r.val) : (win0_5.blk t).view.read (Elt Ideal) X (ix3 b 0 r) = X (ix3 h 0 R) := by
  blk_point [idx_val t]

theorem blk5 (r : Fin 512) (R : Fin 4096) (hR : R.val = max (t.val % 8) (t.val / 8 % 8) * 512 + r.val) : iblk m c 5 t (ix3 b 0 r) = aD m c (ix3 h 0 R) :=
  rd5 t b h hh (V m c (Pipeline.arrRef spec0 5)) r R hR

end Blocks

end Cert.Kernel4Ideal.Mla

end
-- ==== Proof.MlaStep.lean ====
/- What one grid point of the call mla_attn_bwd adds to the two running sums over the queries, and their values when the last query block is done. -/
module

public import proofs.«01_k».proof.Proof.MlaDef

@[expose] public section

set_option maxRecDepth 16384

noncomputable section

open Idealize.ShloMosaic Idealize.ShloMosaic.TcCoe Idealize.SL.Sem

namespace Cert.Kernel4Ideal.Mla

open Cert.Kernel4Ideal Cert.Kernel4Ideal.Gen

variable (m : (ℓ : Loc nD τ sig) → Buf (Elt Ideal) ℓ) (c : Dev nD)

theorem lt128 (t : Fin cfg0.N) : t.val < 128 := t.isLt

/-- The head, the key and the query that a grid point's block holds. -/
def hd (t : Fin cfg0.N) (b : Fin 4) : Fin 8 := ⟨t.val / 64 * 4 + b.val, by have := lt128 t; omega⟩
def kx (t : Fin cfg0.N) (r : Fin 512) : Fin 4096 := ⟨t.val / 8 % 8 * 512 + r.val, by omega⟩
def qx (t : Fin cfg0.N) (r : Fin 512) : Fin 4096 := ⟨t.val % 8 * 512 + r.val, by omega⟩

abbrev P := gP (aQ m c) (aK m c) (aL m c)
abbrev DP := gDP (aV m c) (aC m c)
abbrev DS := gDS (aQ m c) (aK m c) (aV m c) (aC m c) (aL m c) (aD m c)

section Point

variable (t : Fin cfg0.N)

theorem bS_eq (hq : t.val / 8 % 8 ≤ t.val % 8) (b : Fin 4) (k q : Fin 512) :
    bS (iblk m c 0 t) (iblk m c 1 t) b k q = gS (aQ m c) (aK m c) (hd t b) (kx t k) (qx t q) := by
  unfold bS gS
  refine congrArg (· * cS) (Finset.sum_congr rfl fun e _ => congrArg₂ (· * ·) (blk1 m c t b _ rfl _ _ _ rfl) (blk0 m c t b _ rfl _ _ _ ?_))
  rw [max_eq_left hq]; rfl

theorem bDP_eq (hq : t.val / 8 % 8 ≤ t.val % 8) (b : Fin 4) (k q : Fin 512) :
    bDP (iblk m c 2 t) (iblk m c 3 t) b k q = DP m c (hd t b) (kx t k) (qx t q) := by
  unfold bDP DP gDP
  refine Finset.sum_congr rfl fun e _ => congrArg₂ (· * ·) (blk2 m c t b _ rfl _ _ _ rfl) (blk3 m c t b _ rfl _ _ _ ?_)
  rw [max_eq_left hq]; rfl

theorem bL_eq (hq : t.val / 8 % 8 ≤ t.val % 8) (b : Fin 4) (q : Fin 512) : iblk m c 4 t (ix3 b 0 q) = aL m c (ix3 (hd t b) 0 (qx t q)) :=
  blk4 m c t b _ rfl _ _ (by rw [max_eq_left hq]; rfl)

theorem bD_eq (hq : t.val / 8 % 8 ≤ t.val % 8) (b : Fin 4) (q : Fin 512) : iblk m c 5 t (ix3 b 0 q) = aD m c (ix3 (hd t b) 0 (qx t q)) :=
  blk5 m c t b _ rfl _ _ (by rw [max_eq_left hq]; rfl)

theorem bM_eq (h2 : t.val / 8 % 8 = t.val % 8) (b : Fin 4) (k q : Fin 512) :
    bM (iblk m c 0 t) (iblk m c 1 t) (iblk m c 4 t) b k q = P m c (hd t b) (kx t k) (qx t q) := by
  unfold bM P gP
  rw [bS_eq m c t h2.le, bL_eq m c t h2.le]
  refine congrArg (fun x => Ideal.exp (x - _)) (if_congr ?_ rfl rfl)
  show k.val ≤ q.val ↔ t.val / 8 % 8 * 512 + k.val ≤ t.val % 8 * 512 + q.val
  omega

theorem bP_eq (h3 : t.val / 8 % 8 + 1 ≤ t.val % 8) (b : Fin 4) (k q : Fin 512) :
    bP (iblk m c 0 t) (iblk m c 1 t) (iblk m c 4 t) b k q = P m c (hd t b) (kx t k) (qx t q) := by
  unfold bP P gP
  rw [bS_eq m c t (by omega), bL_eq m c t (by omega), if_pos]
  show t.val / 8 % 8 * 512 + k.val ≤ t.val % 8 * 512 + q.val
  omega

/-- The gradient of the score in the diagonal block, as the kernel has it. -/
theorem ds_masked (h2 : t.val / 8 % 8 = t.val % 8) (b : Fin 4) (k q : Fin 512) :
    k0_pay4 (F := Ideal) (k0_pay16 (F := Ideal) (iblk m c 0 t) (iblk m c 1 t) (iblk m c 4 t)) (k0_pay18 (F := Ideal) (iblk m c 3 t) (iblk m c 2 t)) (iblk m c 5 t) (ix3 b k q)
      = DS m c (hd t b) (kx t k) (qx t q) := by
  rw [pay4, pay16, pay18, bM_eq m c t h2, bDP_eq m c t h2.le, bD_eq m c t h2.le]
  rfl

/-- The gradient of the score off the diagonal block. -/
theorem ds_plain (h3 : t.val / 8 % 8 + 1 ≤ t.val % 8) (b : Fin 4) (k q : Fin 512) :
    k0_pay7 (F := Ideal) (k0_pay24 (F := Ideal) (iblk m c 0 t) (iblk m c 1 t) (iblk m c 3 t) (iblk m c 4 t) (iblk m c 2 t) (iblk m c 5 t)) (k0_pay25 (F := Ideal)) (ix3 b k q)
      = DS m c (hd t b) (kx t k) (qx t q) := by
  have h25 : k0_pay25 (F := Ideal) (ix3 b k q) = cS := by pointwise! [k0_pay25]
  rw [pay7, pay24, bP_eq m c t h3, bDP_eq m c t (by omega), bD_eq m c t (by omega), h25]
  rfl

/-- What a grid point adds to the gradient of the values. -/
def termV (j : S4x512x64.Idx) : EReal := ∑ q : Fin 512, P m c (hd t (j 0)) (kx t (j 1)) (qx t q) * aC m c (ix3 (hd t (j 0)) (qx t q) (j 2))

/-- What a grid point adds to the gradient of the keys. -/
def termK (j : S4x512x128.Idx) : EReal := ∑ q : Fin 512, DS m c (hd t (j 0)) (kx t (j 1)) (qx t q) * aQ m c (ix3 (hd t (j 0)) (qx t q) (j 2))

theorem termV_zero (h : t.val % 8 < t.val / 8 % 8) (j : S4x512x64.Idx) : termV m c t j = 0 := by
  refine Finset.sum_eq_zero fun q _ => ?_
  rw [P, gP_zero _ _ _ _ _ _ (by show t.val % 8 * 512 + q.val < t.val / 8 % 8 * 512 + (j 1).val; have := q.isLt; omega), zero_mul (M₀ := EReal)]

theorem termK_zero (h : t.val % 8 < t.val / 8 % 8) (j : S4x512x128.Idx) : termK m c t j = 0 := by
  refine Finset.sum_eq_zero fun q _ => ?_
  rw [DS, gDS_zero _ _ _ _ _ _ _ _ _ (by show t.val % 8 * 512 + q.val < t.val / 8 % 8 * 512 + (j 1).val; have := q.isLt; omega), zero_mul (M₀ := EReal)]

theorem bC_eq (hq : t.val / 8 % 8 ≤ t.val % 8) (b : Fin 4) (q : Fin 512) (d : Fin 64) : iblk m c 3 t (ix3 b q d) = aC m c (ix3 (hd t b) (qx t q) d) :=
  blk3 m c t b _ rfl _ _ _ (by rw [max_eq_left hq]; rfl)

theorem bQ_eq (hq : t.val / 8 % 8 ≤ t.val % 8) (b : Fin 4) (q : Fin 512) (d : Fin 128) : iblk m c 0 t (ix3 b q d) = aQ m c (ix3 (hd t b) (qx t q) d) :=
  blk0 m c t b _ rfl _ _ _ (by rw [max_eq_left hq]; rfl)

theorem stepV_masked (h2 : t.val / 8 % 8 = t.val % 8) (acc : Vec Ideal S4x512x64 .f32) (j : S4x512x64.Idx) :
    k0_pay17 (F := Ideal) (iblk m c 0 t) (iblk m c 1 t) (iblk m c 3 t) (iblk m c 4 t) acc j = acc j + termV m c t j := by
  obtain ⟨b, k, d, rfl⟩ : ∃ b k d, j = ix3 b k d := ⟨j 0, j 1, j 2, eq_ix3 (n0 := 4) (n1 := 512) (n2 := 64) j⟩
  rw [pay17]
  refine congrArg (_ + ·) (Finset.sum_congr rfl fun q _ => congrArg₂ (· * ·) ?_ (bC_eq m c t h2.le _ _ _))
  rw [pay16, bM_eq m c t h2]; rfl

theorem stepV_plain (h3 : t.val / 8 % 8 + 1 ≤ t.val % 8) (acc : Vec Ideal S4x512x64 .f32) (j : S4x512x64.Idx) :
    k0_pay23 (F := Ideal) (iblk m c 0 t) (iblk m c 1 t) (iblk m c 3 t) (iblk m c 4 t) acc j = acc j + termV m c t j := by
  obtain ⟨b, k, d, rfl⟩ : ∃ b k d, j = ix3 b k d := ⟨j 0, j 1, j 2, eq_ix3 (n0 := 4) (n1 := 512) (n2 := 64) j⟩
  rw [pay23]
  refine congrArg (_ + ·) (Finset.sum_congr rfl fun q _ => congrArg₂ (· * ·) ?_ (bC_eq m c t (by omega) _ _ _))
  rw [pay22, bP_eq m c t h3]; rfl

theorem stepK_masked (h2 : t.val / 8 % 8 = t.val % 8) (acc : Vec Ideal S4x512x128 .f32) (j : S4x512x128.Idx) :
    k0_pay5 (F := Ideal) (k0_pay13 (F := Ideal) (iblk m c 0 t)) (k0_pay16 (F := Ideal) (iblk m c 0 t) (iblk m c 1 t) (iblk m c 4 t)) (k0_pay18 (F := Ideal) (iblk m c 3 t) (iblk m c 2 t)) (iblk m c 5 t) acc j
      = acc j + termK m c t j := by
  obtain ⟨b, k, d, rfl⟩ : ∃ b k d, j = ix3 b k d := ⟨j 0, j 1, j 2, eq_ix3 (n0 := 4) (n1 := 512) (n2 := 128) j⟩
  rw [pay5]
  refine congrArg (_ + ·) (Finset.sum_congr rfl fun q _ => congrArg₂ (· * ·) ?_ (bQ_eq m c t h2.le _ _ _))
  rw [ds_masked m c t h2]; rfl

theorem stepK_plain (h3 : t.val / 8 % 8 + 1 ≤ t.val % 8) (acc : Vec Ideal S4x512x128 .f32) (j : S4x512x128.Idx) :
    k0_pay8 (F := Ideal) (k0_pay19 (F := Ideal) (iblk m c 0 t)) (k0_pay24 (F := Ideal) (iblk m c 0 t) (iblk m c 1 t) (iblk m c 3 t) (iblk m c 4 t) (iblk m c 2 t) (iblk m c 5 t)) (k0_pay25 (F := Ideal)) acc j
      = acc j + termK m c t j := by
  obtain ⟨b, k, d, rfl⟩ : ∃ b k d, j = ix3 b k d := ⟨j 0, j 1, j 2, eq_ix3 (n0 := 4) (n1 := 512) (n2 := 128) j⟩
  rw [pay8]
  refine congrArg (_ + ·) (Finset.sum_congr rfl fun q _ => congrArg₂ (· * ·) ?_ (bQ_eq m c t (by omega) _ _ _))
  rw [ds_plain m c t h3]; rfl

theorem zero2 (j : S4x512x128.Idx) : k0_pay2 (F := Ideal) j = 0 := by pointwise! [k0_pay2]
theorem zero3 (j : S4x512x64.Idx) : k0_pay3 (F := Ideal) j = 0 := by pointwise! [k0_pay3]

end Point

/-- The sum of the keys' gradient starts again at a key block's first query block, -/
theorem resetK (t : Fin cfg0.N) (h : t.val % 8 = 0) (j : S4x512x128.Idx) :
    (outsAt0 m c t.val t.isLt).2.2.2.2.1 j = 0 + termK m c t j := by
  have := lt128 t
  by_cases h0 : t.val % 64 = 0
  · rw [outsAt0_A m c t h0 h (by omega) (by omega) (by omega) (by omega)]
    frame_out
    rw [stepK_masked m c t (by omega), zero2]
  · rw [outsAt0_D m c t h0 h (by omega) (by omega) (by omega) (by omega)]
    frame_out
    rw [zero2, termK_zero m c t (by omega), add_zero]

/-- and every further grid point adds its term. -/
theorem stepK (t : Fin cfg0.N) (h : ¬t.val % 8 = 0) (j : S4x512x128.Idx) :
    (outsAt0 m c t.val t.isLt).2.2.2.2.1 j
      = (outsAt0 m c (t.val - 1) (Nat.lt_of_le_of_lt (Nat.sub_le _ _) t.isLt)).2.2.2.2.1 j + termK m c t j := by
  have := lt128 t
  by_cases h2 : t.val / 8 % 8 = t.val % 8
  · by_cases h5 : t.val % 64 = 63
    · rw [outsAt0_G m c t (by omega) h h2 (by omega) (by omega) h5]
      frame_out
      rw [stepK_masked m c t h2, (Memref.isWhole_whole cc0_scratch1).read_unread]
    · rw [outsAt0_E m c t (by omega) h h2 (by omega) (by omega) h5]
      frame_out
      rw [stepK_masked m c t h2, (Memref.isWhole_whole cc0_scratch1).read_unread]
  · by_cases h3 : t.val / 8 % 8 + 1 ≤ t.val % 8
    · by_cases h4 : t.val % 8 = 7
      · rw [outsAt0_C m c t (by omega) h h2 h3 h4 (by omega)]
        frame_out
        rw [stepK_plain m c t h3, (Memref.isWhole_whole cc0_scratch1).read_unread]
      · rw [outsAt0_B m c t (by omega) h h2 h3 h4 (by omega)]
        frame_out
        rw [stepK_plain m c t h3, (Memref.isWhole_whole cc0_scratch1).read_unread]
    · rw [outsAt0_F m c t (by omega) h h2 h3 (by omega) (by omega)]
      frame_out
      rw [termK_zero m c t (by omega), add_zero]
      unfold sout0_F_1
      rfl

/-- The same for the values' gradient. -/
theorem resetV (t : Fin cfg0.N) (h : t.val % 8 = 0) (j : S4x512x64.Idx) :
    (outsAt0 m c t.val t.isLt).2.2.2.2.2 j = 0 + termV m c t j := by
  have := lt128 t
  by_cases h0 : t.val % 64 = 0
  · rw [outsAt0_A m c t h0 h (by omega) (by omega) (by omega) (by omega)]
    frame_out
    rw [stepV_masked m c t (by omega), zero3]
  · rw [outsAt0_D m c t h0 h (by omega) (by omega) (by omega) (by omega)]
    frame_out
    rw [zero3, termV_zero m c t (by omega), add_zero]

theorem stepV (t : Fin cfg0.N) (h : ¬t.val % 8 = 0) (j : S4x512x64.Idx) :
    (outsAt0 m c t.val t.isLt).2.2.2.2.2 j
      = (outsAt0 m c (t.val - 1) (Nat.lt_of_le_of_lt (Nat.sub_le _ _) t.isLt)).2.2.2.2.2 j + termV m c t j := by
  have := lt128 t
  by_cases h2 : t.val / 8 % 8 = t.val % 8
  · by_cases h5 : t.val % 64 = 63
    · rw [outsAt0_G m c t (by omega) h h2 (by omega) (by omega) h5]
      frame_out
      rw [stepV_masked m c t h2, (Memref.isWhole_whole cc0_scratch2).read_unread]
    · rw [outsAt0_E m c t (by omega) h h2 (by omega) (by omega) h5]
      frame_out
      rw [stepV_masked m c t h2, (Memref.isWhole_whole cc0_scratch2).read_unread]
  · by_cases h3 : t.val / 8 % 8 + 1 ≤ t.val % 8
    · by_cases h4 : t.val % 8 = 7
      · rw [outsAt0_C m c t (by omega) h h2 h3 h4 (by omega)]
        frame_out
        rw [stepV_plain m c t h3, (Memref.isWhole_whole cc0_scratch2).read_unread]
      · rw [outsAt0_B m c t (by omega) h h2 h3 h4 (by omega)]
        frame_out
        rw [stepV_plain m c t h3, (Memref.isWhole_whole cc0_scratch2).read_unread]
    · rw [outsAt0_F m c t (by omega) h h2 h3 (by omega) (by omega)]
      frame_out
      rw [termV_zero m c t (by omega), add_zero]
      unfold sout0_F_2
      rfl

end Cert.Kernel4Ideal.Mla

end
-- ==== Proof.MlaStepQ.lean ====
/- What one grid point of the call mla_attn_bwd adds to the running sums over the keys: only the slice of its own query block changes. -/
module

public import proofs.«01_k».proof.Proof.MlaStep
public import Idealize.ShloMosaic.Lib.WritesUnit

@[expose] public section

set_option maxRecDepth 16384

noncomputable section

open Idealize.ShloMosaic Idealize.ShloMosaic.TcCoe Idealize.SL.Sem

namespace Cert.Kernel4Ideal.Mla

open Cert.Kernel4Ideal Cert.Kernel4Ideal.Gen

variable (m : (ℓ : Loc nD τ sig) → Buf (Elt Ideal) ℓ) (c : Dev nD)

/-- A read after a store to one slice: the slice's new contents, elsewhere the old ones. -/
theorem slice_read (X : Vec Ideal S8x4x512x128 .f32) {off : Fin 4 → ℕ} {n : ℕ} (hoff : off = ![n, 0, 0, 0]) (inb) (w : Vec Ideal S1x4x512x128 .f32)
    (j : S8x4x512x128.Idx) :
    View.read (Elt Ideal) (View.whole cc0_scratch0) ((View.whole cc0_scratch0).writes (Elt Ideal) ((Memref.isWhole_whole cc0_scratch0).unread X)
      [⟨Rect.unit (s := S8x4x512x128) off ![1, 4, 512, 128] inb, w⟩]) j
    = if (j 0).val = n then w (ix4 0 (j 1) (j 2) (j 3)) else X j := by
  by_cases hj : (j 0).val = n
  · rw [if_pos hj]
    refine View.read_writes_cons_unit_of_mem _ _ inb w [] j (ix4 0 (j 1) (j 2) (j 3)) hoff fun a => ?_
    fin_cases a
    · exact hj
    · exact (Nat.zero_add _).symm
    · exact (Nat.zero_add _).symm
    · exact (Nat.zero_add _).symm
  · rw [if_neg hj, View.read_writes_cons_unit_of_not_mem _ _ inb w [] j hoff 0 (by
      show (j 0).val < n ∨ n + 1 ≤ (j 0).val
      omega)]
    exact congrFun ((Memref.isWhole_whole cc0_scratch0).read_unread X) j

/-- The same where the whole was stored first. -/
theorem slice_canon (X : Vec Ideal S8x4x512x128 .f32) {off : Fin 4 → ℕ} {n : ℕ} (hoff : off = ![n, 0, 0, 0]) (inb) (w : Vec Ideal S1x4x512x128 .f32)
    (inb') (j : S8x4x512x128.Idx) :
    View.canon (Val := Elt Ideal) (s := S8x4x512x128) (e := .f32) [⟨Rect.unit (s := S8x4x512x128) off ![1, 4, 512, 128] inb, w⟩, ⟨Rect.unit (s := S8x4x512x128) ![0, 0, 0, 0] ![8, 4, 512, 128] inb', X⟩] j
    = if (j 0).val = n then w (ix4 0 (j 1) (j 2) (j 3)) else X j := by
  have hb : (∃ p ∈ ([⟨Rect.unit (s := S8x4x512x128) off ![1, 4, 512, 128] inb, w⟩, ⟨Rect.unit (s := S8x4x512x128) ![0, 0, 0, 0] ![8, 4, 512, 128] inb', X⟩] : List (View.Piece (Elt Ideal) S8x4x512x128 .f32)), j ∈ p.1.set) := by
    refine ⟨_, List.mem_cons_of_mem _ (List.mem_singleton.mpr rfl), ?_⟩
    rw [Rect.mem_set_unit]
    intro a
    refine ⟨?_, ?_⟩
    · fin_cases a <;> exact Nat.zero_le _
    · fin_cases a <;> exact lt_of_lt_of_eq (j _).isLt (Nat.zero_add _).symm
  rw [← View.read_writes_apply_eq_canon (View.whole cc0_scratch0) ((Memref.isWhole_whole cc0_scratch0).unread X) j _ hb]
  by_cases hj : (j 0).val = n
  · rw [if_pos hj]
    refine View.read_writes_cons_unit_of_mem _ _ inb w _ j (ix4 0 (j 1) (j 2) (j 3)) hoff fun a => ?_
    fin_cases a
    · exact hj
    · exact (Nat.zero_add _).symm
    · exact (Nat.zero_add _).symm
    · exact (Nat.zero_add _).symm
  · rw [if_neg hj, View.read_writes_cons_unit_of_not_mem _ _ inb w _ j hoff 0 (by
      show (j 0).val < n ∨ n + 1 ≤ (j 0).val
      omega)]
    refine View.read_writes_cons_unit_of_mem _ _ inb' X [] j j rfl fun a => ?_
    fin_cases a <;> exact (Nat.zero_add _).symm

/-- A load of one slice. -/
theorem slice_load (X : Vec Ideal S8x4x512x128 .f32) {off : Fin 4 → ℕ} {n : ℕ} (hoff : off = ![n, 0, 0, 0]) (inb)
    (j : S8x4x512x128.Idx) (hj : (j 0).val = n) :
    View.ld (Val := Elt Ideal) (e' := .f32) X (Rect.unit (s := S8x4x512x128) off ![1, 4, 512, 128] inb) (ix4 0 (j 1) (j 2) (j 3)) = X j := by
  subst hoff
  refine View.ld_unit_apply_of X _ _ inb _ j fun a => ?_
  fin_cases a
  · exact hj
  · exact (Nat.zero_add _).symm
  · exact (Nat.zero_add _).symm
  · exact (Nat.zero_add _).symm

/-- What a grid point adds to the gradient of the queries. -/
def termQ (t : Fin cfg0.N) (j : S8x4x512x128.Idx) : EReal :=
  if (j 0).val = t.val % 8 then ∑ k : Fin 512, DS m c (hd t (j 1)) (kx t k) (qx t (j 2)) * aK m c (ix3 (hd t (j 1)) (kx t k) (j 3)) else 0

theorem termQ_zero (t : Fin cfg0.N) (h : t.val % 8 < t.val / 8 % 8) (j : S8x4x512x128.Idx) : termQ m c t j = 0 := by
  unfold termQ
  split
  · refine Finset.sum_eq_zero fun k _ => ?_
    rw [DS, gDS_zero _ _ _ _ _ _ _ _ _ (by show t.val % 8 * 512 + (j 2).val < t.val / 8 % 8 * 512 + k.val; have := (j 2).isLt; have h5 : S8x4x512x128.size 2 = 512 := rfl; omega), zero_mul (M₀ := EReal)]
  · rfl

theorem bK_eq (t : Fin cfg0.N) (b : Fin 4) (k : Fin 512) (d : Fin 128) : iblk m c 1 t (ix3 b k d) = aK m c (ix3 (hd t b) (kx t k) d) :=
  blk1 m c t b _ rfl _ _ _ rfl

theorem stepQ_masked (t : Fin cfg0.N) (h2 : t.val / 8 % 8 = t.val % 8) (acc : Vec Ideal S1x4x512x128 .f32) (j : S8x4x512x128.Idx) (hj : (j 0).val = t.val % 8) :
    k0_pay6 (F := Ideal) (k0_pay14 (F := Ideal) (iblk m c 1 t)) (k0_pay16 (F := Ideal) (iblk m c 0 t) (iblk m c 1 t) (iblk m c 4 t)) (k0_pay18 (F := Ideal) (iblk m c 3 t) (iblk m c 2 t)) (iblk m c 5 t) acc (ix4 0 (j 1) (j 2) (j 3))
      = acc (ix4 0 (j 1) (j 2) (j 3)) + termQ m c t j := by
  unfold termQ
  rw [pay6 (b := j 1) (q := j 2) (e := j 3), if_pos hj]
  refine congrArg (_ + ·) (Finset.sum_congr rfl fun k _ => congrArg₂ (· * ·) ?_ (bK_eq m c t _ _ _))
  exact ds_masked m c t h2 _ _ _

theorem stepQ_plain (t : Fin cfg0.N) (h3 : t.val / 8 % 8 + 1 ≤ t.val % 8) (acc : Vec Ideal S1x4x512x128 .f32) (j : S8x4x512x128.Idx) (hj : (j 0).val = t.val % 8) :
    k0_pay9 (F := Ideal) (k0_pay20 (F := Ideal) (iblk m c 1 t)) (k0_pay24 (F := Ideal) (iblk m c 0 t) (iblk m c 1 t) (iblk m c 3 t) (iblk m c 4 t) (iblk m c 2 t) (iblk m c 5 t)) (k0_pay25 (F := Ideal)) acc (ix4 0 (j 1) (j 2) (j 3))
      = acc (ix4 0 (j 1) (j 2) (j 3)) + termQ m c t j := by
  unfold termQ
  rw [pay9 (b := j 1) (q := j 2) (e := j 3), if_pos hj]
  refine congrArg (_ + ·) (Finset.sum_congr rfl fun k _ => congrArg₂ (· * ·) ?_ (bK_eq m c t _ _ _))
  exact ds_plain m c t h3 _ _ _

theorem zero1 (j : S8x4x512x128.Idx) : k0_pay1 (F := Ideal) j = 0 := by pointwise! [k0_pay1]

theorem termQ_ne (t : Fin cfg0.N) (j : S8x4x512x128.Idx) (hj : ¬(j 0).val = t.val % 8) : termQ m c t j = 0 := if_neg hj

theorem resetQ (t : Fin cfg0.N) (h0 : t.val % 64 = 0) (j : S8x4x512x128.Idx) :
    (outsAt0 m c t.val t.isLt).2.2.2.1 j = 0 + termQ m c t j := by
  have := lt128 t
  rw [outsAt0_A m c t h0 (by omega) (by omega) (by omega) (by omega) (by omega)]
  frame_out
  rw [slice_canon _ (off_val t).1]
  by_cases hj : (j 0).val = t.val % 8
  · rw [if_pos hj, stepQ_masked m c t (by omega) _ j hj, slice_load _ (off_val t).1 _ j hj, zero1]
  · rw [if_neg hj, termQ_ne m c t j hj, zero1, add_zero]

theorem stepQ (t : Fin cfg0.N) (h0 : ¬t.val % 64 = 0) (j : S8x4x512x128.Idx) :
    (outsAt0 m c t.val t.isLt).2.2.2.1 j
      = (outsAt0 m c (t.val - 1) (Nat.lt_of_le_of_lt (Nat.sub_le _ _) t.isLt)).2.2.2.1 j + termQ m c t j := by
  have := lt128 t
  by_cases h2 : t.val / 8 % 8 = t.val % 8
  · by_cases h5 : t.val % 64 = 63
    · rw [outsAt0_G m c t h0 (by omega) h2 (by omega) (by omega) h5]
      frame_out
      rw [slice_read _ (off_val t).1]
      by_cases hj : (j 0).val = t.val % 8
      · rw [if_pos hj, stepQ_masked m c t h2 _ j hj, (Memref.isWhole_whole cc0_scratch0).read_unread, slice_load _ (off_val t).1 _ j hj]
      · rw [if_neg hj, termQ_ne m c t j hj, add_zero]
    · rw [outsAt0_E m c t h0 (by omega) h2 (by omega) (by omega) h5]
      frame_out
      rw [slice_read _ (off_val t).1]
      by_cases hj : (j 0).val = t.val % 8
      · rw [if_pos hj, stepQ_masked m c t h2 _ j hj, (Memref.isWhole_whole cc0_scratch0).read_unread, slice_load _ (off_val t).1 _ j hj]
      · rw [if_neg hj, termQ_ne m c t j hj, add_zero]
  · by_cases h3 : t.val / 8 % 8 + 1 ≤ t.val % 8
    · by_cases h4 : t.val % 8 = 7
      · rw [outsAt0_C m c t h0 (by omega) h2 h3 h4 (by omega)]
        frame_out
        rw [slice_read _ (off_val t).2]
        by_cases hj : (j 0).val = t.val % 8
        · rw [if_pos hj, stepQ_plain m c t h3 _ j hj, (Memref.isWhole_whole cc0_scratch0).read_unread, slice_load _ (off_val t).2 _ j hj]
        · rw [if_neg hj, termQ_ne m c t j hj, add_zero]
      · rw [outsAt0_B m c t h0 (by omega) h2 h3 h4 (by omega)]
        frame_out
        rw [slice_read _ (off_val t).2]
        by_cases hj : (j 0).val = t.val % 8
        · rw [if_pos hj, stepQ_plain m c t h3 _ j hj, (Memref.isWhole_whole cc0_scratch0).read_unread, slice_load _ (off_val t).2 _ j hj]
        · rw [if_neg hj, termQ_ne m c t j hj, add_zero]
    · rw [termQ_zero m c t (by omega), add_zero]
      by_cases h1 : t.val % 8 = 0
      · rw [outsAt0_D m c t h0 h1 (by omega) (by omega) (by omega) (by omega)]
        dsimp only
        unfold sout0_D_0
        rfl
      · rw [outsAt0_F m c t h0 h1 h2 h3 (by omega) (by omega)]
        dsimp only
        unfold sout0_F_0
        rfl

end Cert.Kernel4Ideal.Mla

end
-- ==== Proof.MlaFinal.lean ====
/- The three result arrays of the call mla_attn_bwd over the arrays that its region enters with. -/
module

public import proofs.«01_k».proof.Proof.MlaStepQ

@[expose] public section

set_option maxRecDepth 16384

noncomputable section

open Idealize.ShloMosaic Idealize.ShloMosaic.TcCoe Idealize.SL.Sem

namespace Cert.Kernel4Ideal.Mla

open Cert.Kernel4Ideal Cert.Kernel4Ideal.Gen

section Tiles

variable (G : Vec Ideal S8x4x512x128 .f32)

/-- The slices laid end to end. -/
def laid (y : S4x4096x128.Idx) : EReal :=
  G (ix4 ⟨(y 1).val / 512, by have h : (y 1).val < 4096 := (y 1).isLt; omega⟩ (y 0) ⟨(y 1).val % 512, Nat.mod_lt _ (by decide)⟩ (y 2))

theorem tile (n : ℕ) (hn : n < 8) (inb) (inb') (pay : Vec Ideal S1x4x512x128 .f32 → FVec Ideal S4x512x128 .f32)
    (hpay : ∀ acc b r e, pay acc (ix3 b r e) = acc (ix4 0 b r e)) (x : S4x512x128.Idx) :
    pay (View.ld (Val := Elt Ideal) (e' := .f32) G (Rect.unit (s := S8x4x512x128) ![n, 0, 0, 0] ![1, 4, 512, 128] inb)) x
      = laid G ((Rect.unit (s := S4x4096x128) ![0, n * 512, 0] ![4, 512, 128] inb').emb x) := by
  obtain ⟨b, r, e, rfl⟩ : ∃ b r e, x = ix3 b r e := ⟨x 0, x 1, x 2, eq_ix3 (n0 := 4) (n1 := 512) (n2 := 128) x⟩
  rw [hpay]
  unfold laid
  refine View.ld_unit_apply_of G _ _ inb _ _ fun a => ?_
  have hr := r.isLt
  fin_cases a
  · show (n * 512 + 1 * r.val) / 512 = n + 0
    omega
  · show 0 + 1 * b.val = 0 + b.val
    omega
  · show (n * 512 + 1 * r.val) % 512 = 0 + r.val
    omega
  · show 0 + 1 * e.val = 0 + e.val
    omega

theorem tile_mem (n : ℕ) (inb') (y : S4x4096x128.Idx) (h0 : n * 512 ≤ (y 1).val) (h1 : (y 1).val < n * 512 + 512) :
    y ∈ (Rect.unit (s := S4x4096x128) ![0, n * 512, 0] ![4, 512, 128] inb').set := by
  rw [Rect.mem_set_unit]
  intro a
  fin_cases a
  · exact ⟨Nat.zero_le _, lt_of_lt_of_eq (y 0).isLt (Nat.zero_add _).symm⟩
  · exact ⟨h0, h1⟩
  · exact ⟨Nat.zero_le _, lt_of_lt_of_eq (y 2).isLt (Nat.zero_add _).symm⟩

theorem pay12 (acc : Vec Ideal S1x4x512x128 .f32) (b : Fin 4) (r : Fin 512) (e : Fin 128) : k0_pay12 (F := Ideal) acc (ix3 b r e) = acc (ix4 0 b r e) := by pointwise! [k0_pay12]
theorem pay11 (acc : Vec Ideal S1x4x512x128 .f32) (b : Fin 4) (r : Fin 512) (e : Fin 128) : k0_pay11 (F := Ideal) acc (ix3 b r e) = acc (ix4 0 b r e) := by pointwise! [k0_pay11]
theorem pay10 (acc : Vec Ideal S1x4x512x128 .f32) (b : Fin 4) (r : Fin 512) (e : Fin 128) : k0_pay10 (F := Ideal) acc (ix3 b r e) = acc (ix4 0 b r e) := by pointwise! [k0_pay10]
theorem pay30 (acc : Vec Ideal S1x4x512x128 .f32) (b : Fin 4) (r : Fin 512) (e : Fin 128) : k0_pay30 (F := Ideal) acc (ix3 b r e) = acc (ix4 0 b r e) := by pointwise! [k0_pay30]
theorem pay29 (acc : Vec Ideal S1x4x512x128 .f32) (b : Fin 4) (r : Fin 512) (e : Fin 128) : k0_pay29 (F := Ideal) acc (ix3 b r e) = acc (ix4 0 b r e) := by pointwise! [k0_pay29]
theorem pay28 (acc : Vec Ideal S1x4x512x128 .f32) (b : Fin 4) (r : Fin 512) (e : Fin 128) : k0_pay28 (F := Ideal) acc (ix3 b r e) = acc (ix4 0 b r e) := by pointwise! [k0_pay28]
theorem pay27 (acc : Vec Ideal S1x4x512x128 .f32) (b : Fin 4) (r : Fin 512) (e : Fin 128) : k0_pay27 (F := Ideal) acc (ix3 b r e) = acc (ix4 0 b r e) := by pointwise! [k0_pay27]
theorem pay26 (acc : Vec Ideal S1x4x512x128 .f32) (b : Fin 4) (r : Fin 512) (e : Fin 128) : k0_pay26 (F := Ideal) acc (ix3 b r e) = acc (ix4 0 b r e) := by pointwise! [k0_pay26]

theorem gather (y : S4x4096x128.Idx) : View.canon (Val := Elt Ideal) (s := S4x4096x128) (e := .f32)
     [⟨Rect.unit (s := S4x4096x128) ![0, 3584, 0] ![4, 512, 128] inb_S4x4096x128_S4x512x128_0_3584_0, k0_pay12 (F := Ideal) (View.ld (Val := Elt Ideal) (e' := .f32) G (Rect.unit (s := S8x4x512x128) ![7, 0, 0, 0] ![1, 4, 512, 128] inb_S8x4x512x128_S1x4x512x128_7_0_0_0))⟩,
      ⟨Rect.unit (s := S4x4096x128) ![0, 3072, 0] ![4, 512, 128] inb_S4x4096x128_S4x512x128_0_3072_0, k0_pay11 (F := Ideal) (View.ld (Val := Elt Ideal) (e' := .f32) G (Rect.unit (s := S8x4x512x128) ![6, 0, 0, 0] ![1, 4, 512, 128] inb_S8x4x512x128_S1x4x512x128_6_0_0_0))⟩,
      ⟨Rect.unit (s := S4x4096x128) ![0, 2560, 0] ![4, 512, 128] inb_S4x4096x128_S4x512x128_0_2560_0, k0_pay10 (F := Ideal) (View.ld (Val := Elt Ideal) (e' := .f32) G (Rect.unit (s := S8x4x512x128) ![5, 0, 0, 0] ![1, 4, 512, 128] inb_S8x4x512x128_S1x4x512x128_5_0_0_0))⟩,
      ⟨Rect.unit (s := S4x4096x128) ![0, 2048, 0] ![4, 512, 128] inb_S4x4096x128_S4x512x128_0_2048_0, k0_pay30 (F := Ideal) (View.ld (Val := Elt Ideal) (e' := .f32) G (Rect.unit (s := S8x4x512x128) ![4, 0, 0, 0] ![1, 4, 512, 128] inb_S8x4x512x128_S1x4x512x128_4_0_0_0))⟩,
      ⟨Rect.unit (s := S4x4096x128) ![0, 1536, 0] ![4, 512, 128] inb_S4x4096x128_S4x512x128_0_1536_0, k0_pay29 (F := Ideal) (View.ld (Val := Elt Ideal) (e' := .f32) G (Rect.unit (s := S8x4x512x128) ![3, 0, 0, 0] ![1, 4, 512, 128] inb_S8x4x512x128_S1x4x512x128_3_0_0_0))⟩,
      ⟨Rect.unit (s := S4x4096x128) ![0, 1024, 0] ![4, 512, 128] inb_S4x4096x128_S4x512x128_0_1024_0, k0_pay28 (F := Ideal) (View.ld (Val := Elt Ideal) (e' := .f32) G (Rect.unit (s := S8x4x512x128) ![2, 0, 0, 0] ![1, 4, 512, 128] inb_S8x4x512x128_S1x4x512x128_2_0_0_0))⟩,
      ⟨Rect.unit (s := S4x4096x128) ![0, 512, 0] ![4, 512, 128] inb_S4x4096x128_S4x512x128_0_512_0, k0_pay27 (F := Ideal) (View.ld (Val := Elt Ideal) (e' := .f32) G (Rect.unit (s := S8x4x512x128) ![1, 0, 0, 0] ![1, 4, 512, 128] inb_S8x4x512x128_S1x4x512x128_1_0_0_0))⟩,
      ⟨Rect.unit (s := S4x4096x128) ![0, 0, 0] ![4, 512, 128] inb_S4x4096x128_S4x512x128_0_0_0, k0_pay26 (F := Ideal) (View.ld (Val := Elt Ideal) (e' := .f32) G (Rect.unit (s := S8x4x512x128) ![0, 0, 0, 0] ![1, 4, 512, 128] inb_S8x4x512x128_S1x4x512x128_0_0_0_0))⟩] y
    = laid G y := by
  refine View.canon_apply_of_pieces (Val := Elt Ideal) (e := .f32) (laid G) _ ?_ y ?_
  · simp only [List.forall_mem_cons]
    refine ⟨?_, ?_, ?_, ?_, ?_, ?_, ?_, ?_, fun p hp => absurd hp List.not_mem_nil⟩
    · exact fun x => tile G 7 (by decide) _ _ _ pay12 x
    · exact fun x => tile G 6 (by decide) _ _ _ pay11 x
    · exact fun x => tile G 5 (by decide) _ _ _ pay10 x
    · exact fun x => tile G 4 (by decide) _ _ _ pay30 x
    · exact fun x => tile G 3 (by decide) _ _ _ pay29 x
    · exact fun x => tile G 2 (by decide) _ _ _ pay28 x
    · exact fun x => tile G 1 (by decide) _ _ _ pay27 x
    · exact fun x => tile G 0 (by decide) _ _ _ pay26 x
  · have hy : (y 1).val < 4096 := (y 1).isLt
    have hc : (7 * 512 ≤ (y 1).val ∧ (y 1).val < 7 * 512 + 512) ∨ (6 * 512 ≤ (y 1).val ∧ (y 1).val < 6 * 512 + 512) ∨ (5 * 512 ≤ (y 1).val ∧ (y 1).val < 5 * 512 + 512) ∨ (4 * 512 ≤ (y 1).val ∧ (y 1).val < 4 * 512 + 512) ∨ (3 * 512 ≤ (y 1).val ∧ (y 1).val < 3 * 512 + 512) ∨ (2 * 512 ≤ (y 1).val ∧ (y 1).val < 2 * 512 + 512) ∨ (1 * 512 ≤ (y 1).val ∧ (y 1).val < 1 * 512 + 512) ∨ (0 * 512 ≤ (y 1).val ∧ (y 1).val < 0 * 512 + 512) := by omega
    rcases hc with ⟨h0, h1⟩ | ⟨h0, h1⟩ | ⟨h0, h1⟩ | ⟨h0, h1⟩ | ⟨h0, h1⟩ | ⟨h0, h1⟩ | ⟨h0, h1⟩ | ⟨h0, h1⟩
    · exact ⟨_, List.mem_cons_self, tile_mem 7 inb_S4x4096x128_S4x512x128_0_3584_0 y (by omega) (by omega)⟩
    · exact ⟨_, (List.mem_cons_of_mem _ List.mem_cons_self), tile_mem 6 inb_S4x4096x128_S4x512x128_0_3072_0 y (by omega) (by omega)⟩
    · exact ⟨_, (List.mem_cons_of_mem _ (List.mem_cons_of_mem _ List.mem_cons_self)), tile_mem 5 inb_S4x4096x128_S4x512x128_0_2560_0 y (by omega) (by omega)⟩
    · exact ⟨_, (List.mem_cons_of_mem _ (List.mem_cons_of_mem _ (List.mem_cons_of_mem _ List.mem_cons_self))), tile_mem 4 inb_S4x4096x128_S4x512x128_0_2048_0 y (by omega) (by omega)⟩
    · exact ⟨_, (List.mem_cons_of_mem _ (List.mem_cons_of_mem _ (List.mem_cons_of_mem _ (List.mem_cons_of_mem _ List.mem_cons_self)))), tile_mem 3 inb_S4x4096x128_S4x512x128_0_1536_0 y (by omega) (by omega)⟩
    · exact ⟨_, (List.mem_cons_of_mem _ (List.mem_cons_of_mem _ (List.mem_cons_of_mem _ (List.mem_cons_of_mem _ (List.mem_cons_of_mem _ List.mem_cons_self))))), tile_mem 2 inb_S4x4096x128_S4x512x128_0_1024_0 y (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), tile_mem 1 inb_S4x4096x128_S4x512x128_0_512_0 y (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), tile_mem 0 inb_S4x4096x128_S4x512x128_0_0_0 y (by omega) (by omega)⟩

end Tiles

variable (m : (ℓ : Loc nD τ sig) → Buf (Elt Ideal) ℓ) (c : Dev nD)

/-- The gradient of the values, of the keys and of the queries. -/
def FV (i : S8x4096x64.Idx) : EReal := ∑ q : Fin 4096, P m c (i 0) (i 1) q * aC m c (ix3 (i 0) q (i 2))
def FK (i : S8x4096x128.Idx) : EReal := ∑ q : Fin 4096, DS m c (i 0) (i 1) q * aQ m c (ix3 (i 0) q (i 2))
def FQ (i : S8x4096x128.Idx) : EReal := ∑ k : Fin 4096, DS m c (i 0) k (i 1) * aK m c (ix3 (i 0) k (i 2))

/-- A sum over the query blocks of a key block's run is the sum over the queries. -/
theorem sum_run (t : Fin cfg0.N) (h7 : t.val % 8 = 7) (f : Fin 8 → Fin 4096 → Fin 4096 → EReal) (b : Fin 4) (k : Fin 512) :
    (∑ s : Fin 8, ∑ q : Fin 512, f (hd ⟨8 * (t.val / 8) + s.val, Pipeline.run_point_lt_of_flush t h7 s⟩ b)
        (kx ⟨8 * (t.val / 8) + s.val, Pipeline.run_point_lt_of_flush t h7 s⟩ k) (qx ⟨8 * (t.val / 8) + s.val, Pipeline.run_point_lt_of_flush t h7 s⟩ q))
      = ∑ q : Fin 4096, f (hd t b) (kx t k) q := by
  refine Fin.sum_mul_add_congr fun s q hl => ?_
  have e0 : hd ⟨8 * (t.val / 8) + s.val, Pipeline.run_point_lt_of_flush t h7 s⟩ b = hd t b := Fin.ext (by
    show (8 * (t.val / 8) + s.val) / 64 * 4 + b.val = t.val / 64 * 4 + b.val
    omega)
  have e1 : kx ⟨8 * (t.val / 8) + s.val, Pipeline.run_point_lt_of_flush t h7 s⟩ k = kx t k := Fin.ext (by
    show (8 * (t.val / 8) + s.val) / 8 % 8 * 512 + k.val = t.val / 8 % 8 * 512 + k.val
    omega)
  have e2 : qx ⟨8 * (t.val / 8) + s.val, Pipeline.run_point_lt_of_flush t h7 s⟩ q = ⟨s.val * 512 + q.val, hl⟩ := Fin.ext (by
    show (8 * (t.val / 8) + s.val) % 8 * 512 + q.val = s.val * 512 + q.val
    omega)
  rw [e0, e1, e2]

theorem finalV : (dats m 0 c).arrAt 8 (cfgs 0).N = FV m c := by
  refine (dats m 0 c).arrAt_eq_of_covers 8 _ (by decide +kernel) fun t hf y => ?_
  blk_simp
  have h7 : t.val % 8 = 7 := (flush0_8 t).mp hf
  have hlt := lt128 t
  have e : (outsAt0 m c t.val t.isLt).2.2.1 = (outsAt0 m c t.val t.isLt).2.2.2.2.2 := by
    by_cases h5 : t.val % 64 = 63
    · rw [outsAt0_G m c t (by omega) (by omega) (by omega) (by omega) (by omega) h5]; frame_out
    · rw [outsAt0_C m c t (by omega) (by omega) (by omega) (by omega) (by omega) (by omega)]; frame_out
  rw [after0_8, e, Pipeline.eq_sum_fin_of_reset_step_apply_of_flush (fun n h => (outsAt0 m c n h).2.2.2.2.2) 8 (fun _ => 0) (termV m c) (resetV m c) (stepV m c) t h7 _, zero_add]
  have i0 : ((win0_8.blk t).view.emb y 0) = hd t (y 0) := Fin.ext (by show _ = t.val / 64 * 4 + (y 0).val; blk_point [idx_val t])
  have i1 : ((win0_8.blk t).view.emb y 1) = kx t (y 1) := Fin.ext (by show _ = t.val / 8 % 8 * 512 + (y 1).val; blk_point [idx_val t])
  have i2 : ((win0_8.blk t).view.emb y 2) = y 2 := Fin.ext (by blk_point [idx_val t])
  unfold FV
  rw [i0, i1, i2]
  exact sum_run t h7 (fun h k q => P m c h k q * aC m c (ix3 h q (y 2))) (y 0) (y 1)

theorem finalK : (dats m 0 c).arrAt 7 (cfgs 0).N = FK m c := by
  refine (dats m 0 c).arrAt_eq_of_covers 7 _ (by decide +kernel) fun t hf y => ?_
  blk_simp
  have h7 : t.val % 8 = 7 := (flush0_7 t).mp hf
  have hlt := lt128 t
  have e : (outsAt0 m c t.val t.isLt).2.1 = (outsAt0 m c t.val t.isLt).2.2.2.2.1 := by
    by_cases h5 : t.val % 64 = 63
    · rw [outsAt0_G m c t (by omega) (by omega) (by omega) (by omega) (by omega) h5]; frame_out
    · rw [outsAt0_C m c t (by omega) (by omega) (by omega) (by omega) (by omega) (by omega)]; frame_out
  rw [after0_7, e, Pipeline.eq_sum_fin_of_reset_step_apply_of_flush (fun n h => (outsAt0 m c n h).2.2.2.2.1) 8 (fun _ => 0) (termK m c) (resetK m c) (stepK m c) t h7 _, zero_add]
  have i0 : ((win0_7.blk t).view.emb y 0) = hd t (y 0) := Fin.ext (by show _ = t.val / 64 * 4 + (y 0).val; blk_point [idx_val t])
  have i1 : ((win0_7.blk t).view.emb y 1) = kx t (y 1) := Fin.ext (by show _ = t.val / 8 % 8 * 512 + (y 1).val; blk_point [idx_val t])
  have i2 : ((win0_7.blk t).view.emb y 2) = y 2 := Fin.ext (by blk_point [idx_val t])
  unfold FK
  rw [i0, i1, i2]
  exact sum_run t h7 (fun h k q => DS m c h k q * aQ m c (ix3 h q (y 2))) (y 0) (y 1)

/-- A sum over a run of sixty-four points, of which only those of one query block count, is the sum over the keys. -/
theorem sum_run_q (t : Fin cfg0.N) (h5 : t.val % 64 = 63) (f : Fin 8 → Fin 4096 → Fin 4096 → EReal) (n : Fin 8) (b : Fin 4) (r : Fin 512)
    (q : Fin 4096) (hq : q.val = n.val * 512 + r.val) :
    (∑ s : Fin 64, if n.val = (64 * (t.val / 64) + s.val) % 8 then ∑ k : Fin 512, f (hd ⟨64 * (t.val / 64) + s.val, Pipeline.run_point_lt_of_flush t h5 s⟩ b)
        (kx ⟨64 * (t.val / 64) + s.val, Pipeline.run_point_lt_of_flush t h5 s⟩ k) (qx ⟨64 * (t.val / 64) + s.val, Pipeline.run_point_lt_of_flush t h5 s⟩ r) else 0)
      = ∑ k : Fin 4096, f (hd t b) k q := by
  have h2 : ∀ (g : Fin 8 → EReal), (∑ s : Fin 64, if n.val = s.val % 8 then g ⟨s.val / 8, by omega⟩ else 0) = ∑ s : Fin 8, g s := fun g => by
    refine (Fin.sum_mul_add_congr (S := 8) (n := 8) (F := fun s k => if n.val = k.val then g s else 0) (fun s k hl => ?_)).symm.trans ?_
    · have e1 : (s.val * 8 + k.val) % 8 = k.val := by omega
      have e2 : (⟨(s.val * 8 + k.val) / 8, by omega⟩ : Fin 8) = s := Fin.ext (by show (s.val * 8 + k.val) / 8 = s.val; omega)
      dsimp only
      rw [e1, e2]
    · refine Finset.sum_congr rfl fun s _ => ?_
      rw [Finset.sum_eq_single n (fun k _ hk => if_neg fun h => hk (Fin.ext h.symm)) (fun h => absurd (Finset.mem_univ _) h), if_pos rfl]
  refine Eq.trans ?_ ((h2 fun s => ∑ k : Fin 512, f (hd t b) ⟨s.val * 512 + k.val, by omega⟩ q).trans ?_)
  · refine Finset.sum_congr rfl fun s _ => ?_
    refine ite_congr (by rw [show (64 * (t.val / 64) + s.val) % 8 = s.val % 8 by omega]) (fun hs => Finset.sum_congr rfl fun k _ => ?_) fun _ => rfl
    have e0 : hd ⟨64 * (t.val / 64) + s.val, Pipeline.run_point_lt_of_flush t h5 s⟩ b = hd t b := Fin.ext (by
      show (64 * (t.val / 64) + s.val) / 64 * 4 + b.val = t.val / 64 * 4 + b.val
      omega)
    have e1 : kx ⟨64 * (t.val / 64) + s.val, Pipeline.run_point_lt_of_flush t h5 s⟩ k = ⟨s.val / 8 * 512 + k.val, by omega⟩ := Fin.ext (by
      show (64 * (t.val / 64) + s.val) / 8 % 8 * 512 + k.val = s.val / 8 * 512 + k.val
      omega)
    have e2 : qx ⟨64 * (t.val / 64) + s.val, Pipeline.run_point_lt_of_flush t h5 s⟩ r = q := Fin.ext (by
      show (64 * (t.val / 64) + s.val) % 8 * 512 + r.val = q.val
      omega)
    rw [e0, e1, e2]
  · exact Fin.sum_mul_add_congr fun s k hl => rfl

theorem finalQ : (dats m 0 c).arrAt 6 (cfgs 0).N = FQ m c := by
  refine (dats m 0 c).arrAt_eq_of_covers 6 _ (by decide +kernel) fun t hf y => ?_
  blk_simp
  have h5 : t.val % 64 = 63 := (flush0_6 t).mp hf
  have hlt := lt128 t
  have e : (outsAt0 m c t.val t.isLt).1 y = laid (outsAt0 m c t.val t.isLt).2.2.2.1 y := by
    rw [outsAt0_G m c t (by omega) (by omega) (by omega) (by omega) (by omega) h5]
    frame_out
    exact gather _ y
  rw [after0_6, e]
  unfold laid
  rw [Pipeline.eq_sum_fin_of_reset_step_apply_of_flush (fun n h => (outsAt0 m c n h).2.2.2.1) 64 (fun _ => 0) (termQ m c) (resetQ m c) (stepQ m c) t h5 _, zero_add]
  have i0 : ((win0_6.blk t).view.emb y 0) = hd t (y 0) := Fin.ext (by show _ = t.val / 64 * 4 + (y 0).val; blk_point [idx_val t])
  have i1 : ((win0_6.blk t).view.emb y 1) = y 1 := Fin.ext (by blk_point [idx_val t])
  have i2 : ((win0_6.blk t).view.emb y 2) = y 2 := Fin.ext (by blk_point [idx_val t])
  unfold FQ
  rw [i0, i1, i2]
  exact sum_run_q t h5 (fun h k q => DS m c h k q * aK m c (ix3 h k (y 2))) ⟨(y 1).val / 512, by have h : (y 1).val < 4096 := (y 1).isLt; omega⟩ (y 0) ⟨(y 1).val % 512, Nat.mod_lt _ (by decide)⟩ (y 1)
    (by show (y 1).val = (y 1).val / 512 * 512 + (y 1).val % 512; omega)

end Cert.Kernel4Ideal.Mla

end
-- ==== Proof.MlaEq.lean ====
/- The kernel's gradients of the attention and the reference's are the same numbers. -/
module

public import proofs.«01_k».proof.Proof.MlaRef
public import proofs.«01_k».proof.Proof.MlaFinal

@[expose] public section
set_option maxRecDepth 16384
noncomputable section
open Idealize.ShloMosaic Idealize.ShloMosaic.TcCoe Idealize.SL.Sem
namespace Cert.Mla
open Cert.Kernel4Ideal (S8x4096x4096 S4096x8x96 S4096x8x64 S8x4096x128 S8x4096x64)
open Cert.Kernel4Ideal.Mla Cert.Reference4Ideal.Mla Cert.Reals

variable (q k : FVec Ideal S4096x8x96 .f32) (v ct : FVec Ideal S4096x8x64 .f32)

theorem cS_real : IsReal cS := by
  refine ⟨_, (?_ : cS = ((13698540 / 2 ^ 27 : ℝ) : EReal))⟩
  unfold cS
  simp [Ideal.ofBits, Ideal.ieee, -EReal.coe_mul]
  norm_num

/-- A query's weights of the keys, real numbers of sum one up to the common divisor. -/
theorem weights (hq : ∀ i, IsReal (q i)) (hk : ∀ i, IsReal (k i)) (h : Fin 8) (Q : Fin 4096) :
    ∃ (e : Fin 4096 → ℝ) (l : ℝ), 0 < l ∧ (∀ K, rE q k (ix3 h Q K) = (e K : EReal)) ∧ (rL q k (ix3 h Q 0) = (l : EReal))
      ∧ (∀ K, h22 q k (ix3 h Q K) = ((e K / l : ℝ) : EReal)) ∧ (∀ K : Fin 4096, ¬ K.val ≤ Q.val → e K = 0) := by
  obtain ⟨e, l, hl, h1, h2, h3, h4⟩ := Softmax.row (fun K : Fin 4096 => K.val ≤ Q.val) (sc q k h Q)
    (fun K => (IsReal.sum _ _ fun x => (hq _).mul (hk _)).mul cS_real) Q le_rfl
  refine ⟨e, l, hl, fun K => (rE_at q k h Q K).trans (h1 K), (rL_at q k h Q 0).trans h2, fun K => ?_, h4⟩
  rw [h22_at, h19_at]
  exact h3 K

theorem W_eq (hq : ∀ i, IsReal (q i)) (hk : ∀ i, IsReal (k i)) (h : Fin 8) (Q K : Fin 4096) :
    rW q k (ix3 h Q K) = h22 q k (ix3 h Q K) := by
  obtain ⟨e, l, hl, h1, h2, h3, _⟩ := weights q k hq hk h Q
  unfold rW
  rw [tW_raw, h1, h2, h3, div_coe hl.ne']

theorem DS_eq (hq : ∀ i, IsReal (q i)) (hk : ∀ i, IsReal (k i)) (hv : ∀ i, IsReal (v i)) (hc : ∀ i, IsReal (ct i)) (h : Fin 8) (Q K : Fin 4096) :
    rDS q k v ct (ix3 h Q K) = h22 q k (ix3 h Q K) * ((∑ d : Fin 64, v (ix3 K h d) * ct (ix3 Q h d)) - h26 q k v ct (ix2 Q h)) * cS := by
  obtain ⟨e, l, hl, h1, h2, h3, h4⟩ := weights q k hq hk h Q
  choose v' hv' using hv
  choose c' hc' using hc
  unfold rDS
  rw [rDS_sel, h26_at]
  simp only [h3]
  split
  next hK =>
    rw [tG_raw]
    unfold rP
    simp only [tP_raw, h1, h2, hv', hc']
    rw [Softmax.row_grad e l hl (fun K d => v' (ix3 K h d)) (fun d => c' (ix3 Q h d)) K]
  next hK =>
    rw [h4 K hK, zero_div, EReal.coe_zero, zero_mul (M₀ := EReal), zero_mul (M₀ := EReal)]

theorem padded_sum (h : Fin 8) (K Q : Fin 4096) : ∑ e : Fin 128, padded k h K e * padded q h Q e = ∑ e : Fin 96, q (ix3 Q h e) * k (ix3 K h e) := by
  refine (Fin.sum_univ_add (a := 96) (b := 32) fun e => padded k h K e * padded q h Q e).trans ?_
  have h0 : ∑ e : Fin 32, padded k h K (Fin.natAdd 96 e) * padded q h Q (Fin.natAdd 96 e) = 0 := by
    refine Finset.sum_eq_zero fun e _ => ?_
    unfold padded
    rw [dif_neg (by simp), zero_mul (M₀ := EReal)]
  refine (congrArg (_ + ·) h0).trans ?_
  rw [add_zero (M := EReal)]
  refine Finset.sum_congr rfl fun e _ => ?_
  unfold padded
  rw [dif_pos (by simp), dif_pos (by simp), mul_comm (G := EReal)]
  rfl

section Kernel

open Cert.Kernel4Ideal Cert.Kernel4Ideal.Gen

variable (m : (ℓ : Loc nD τ sig) → Buf (Elt Ideal) ℓ) (c : Dev nD)

/-- The kernel's four arguments. -/
abbrev xQ : FVec Ideal S4096x8x96 .f32 := m ((c : Thread nD τ).loc main_arg0)
abbrev xK : FVec Ideal S4096x8x96 .f32 := m ((c : Thread nD τ).loc main_arg1)
abbrev xV : FVec Ideal S4096x8x64 .f32 := m ((c : Thread nD τ).loc main_arg2)
abbrev xC : FVec Ideal S4096x8x64 .f32 := m ((c : Thread nD τ).loc main_arg3)

theorem aQ_at (h : Fin 8) (Q : Fin 4096) (e : Fin 128) : aQ m c (ix3 h Q e) = padded (xQ m c) h Q e := V29_at m c h Q e
theorem aK_at (h : Fin 8) (Q : Fin 4096) (e : Fin 128) : aK m c (ix3 h Q e) = padded (xK m c) h Q e := V32_at m c h Q e
theorem aV_at (h : Fin 8) (Q : Fin 4096) (e : Fin 64) : aV m c (ix3 h Q e) = xV m c (ix3 Q h e) := V34_at m c h Q e
theorem aC_at (h : Fin 8) (Q : Fin 4096) (e : Fin 64) : aC m c (ix3 h Q e) = xC m c (ix3 Q h e) := V36_at m c h Q e
theorem aL_at (h : Fin 8) (Q : Fin 4096) : aL m c (ix3 h 0 Q) = h19 (xQ m c) (xK m c) (ix3 h Q 0) := V37_at m c h Q
theorem aD_at (h : Fin 8) (Q : Fin 4096) : aD m c (ix3 h 0 Q) = h26 (xQ m c) (xK m c) (xV m c) (xC m c) (ix2 Q h) := V39_at m c h Q

theorem gS_at (h : Fin 8) (K Q : Fin 4096) : gS (aQ m c) (aK m c) h K Q = sc (xQ m c) (xK m c) h Q K := by
  unfold gS sc
  refine congrArg (· * cS) ((Finset.sum_congr rfl fun e _ => ?_).trans (padded_sum (xQ m c) (xK m c) h K Q))
  exact congrArg₂ (· * ·) (aK_at m c h K e) (aQ_at m c h Q e)

theorem P_at (h : Fin 8) (K Q : Fin 4096) : P m c h K Q = h22 (xQ m c) (xK m c) (ix3 h Q K) := by
  unfold P gP
  rw [gS_at, aL_at, h22_at]
  rfl

theorem DS_at (h : Fin 8) (K Q : Fin 4096) : DS m c h K Q
    = h22 (xQ m c) (xK m c) (ix3 h Q K) * ((∑ d : Fin 64, xV m c (ix3 K h d) * xC m c (ix3 Q h d)) - h26 (xQ m c) (xK m c) (xV m c) (xC m c) (ix2 Q h)) * cS := by
  show P m c h K Q * (gDP (aV m c) (aC m c) h K Q - aD m c (ix3 h 0 Q)) * cS = _
  have hs : ∑ d : Fin 64, aV m c (ix3 h K d) * aC m c (ix3 h Q d) = ∑ d : Fin 64, xV m c (ix3 K h d) * xC m c (ix3 Q h d) :=
    Finset.sum_congr rfl fun d _ => congrArg₂ (· * ·) (aV_at m c h K d) (aC_at m c h Q d)
  exact congrArg₂ (fun p y => p * y * cS) (P_at m c h K Q) (congrArg₂ (· - ·) hs (aD_at m c h Q))

variable (hq : ∀ i, IsReal (xQ m c i)) (hk : ∀ i, IsReal (xK m c i)) (hv : ∀ i, IsReal (xV m c i)) (hc : ∀ i, IsReal (xC m c i))
include hq hk hv hc

theorem FQ_eq : FQ m c = tQ (xK m c) (rDS (xQ m c) (xK m c) (xV m c) (xC m c)) := by
  funext j
  obtain ⟨h, Q, e, rfl⟩ : ∃ h Q e, j = ix3 h Q e := ⟨_, _, _, eq_ix3 (n0 := 8) (n1 := 4096) (n2 := 128) j⟩
  rw [tQ_raw]
  have hs : ∑ K : Fin 4096, DS m c h K Q * aK m c (ix3 h K e) = ∑ K : Fin 4096, rDS (xQ m c) (xK m c) (xV m c) (xC m c) (ix3 h Q K) * padded (xK m c) h K e :=
    Finset.sum_congr rfl fun K _ => congrArg₂ (· * ·) ((DS_at m c h K Q).trans (DS_eq _ _ _ _ hq hk hv hc h Q K).symm) (aK_at m c h K e)
  refine hs.trans ?_
  unfold padded
  split
  next he => rfl
  next he => exact Finset.sum_eq_zero fun K _ => mul_zero (M₀ := EReal) _

theorem FK_eq : FK m c = tK (xQ m c) (rDS (xQ m c) (xK m c) (xV m c) (xC m c)) := by
  funext j
  obtain ⟨h, K, e, rfl⟩ : ∃ h Q e, j = ix3 h Q e := ⟨_, _, _, eq_ix3 (n0 := 8) (n1 := 4096) (n2 := 128) j⟩
  rw [tK_raw]
  have hs : ∑ Q : Fin 4096, DS m c h K Q * aQ m c (ix3 h Q e) = ∑ Q : Fin 4096, rDS (xQ m c) (xK m c) (xV m c) (xC m c) (ix3 h Q K) * padded (xQ m c) h Q e :=
    Finset.sum_congr rfl fun Q _ => congrArg₂ (· * ·) ((DS_at m c h K Q).trans (DS_eq _ _ _ _ hq hk hv hc h Q K).symm) (aQ_at m c h Q e)
  refine hs.trans ?_
  unfold padded
  split
  next he => rfl
  next he => exact Finset.sum_eq_zero fun Q _ => mul_zero (M₀ := EReal) _

omit hv hc in
theorem FV_eq : FV m c = tV (xC m c) (rW (xQ m c) (xK m c)) := by
  funext j
  obtain ⟨h, K, d, rfl⟩ : ∃ h Q e, j = ix3 h Q e := ⟨_, _, _, eq_ix3 (n0 := 8) (n1 := 4096) (n2 := 64) j⟩
  rw [tV_raw]
  refine Finset.sum_congr rfl fun Q _ => ?_
  refine (congrArg₂ (· * ·) ((P_at m c h K Q).trans (W_eq _ _ hq hk h Q K).symm) (aC_at m c h Q d)).trans ?_
  exact mul_comm (G := EReal) _ _

end Kernel

end Cert.Mla

end
-- ==== Proof.Claim4.lean ====
/- The claims about the programs of Kernel4 and Reference4. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite4
public import proofs.«01_k».proof.Proof.MlaEq
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C4

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem frame_pi_pre : Cert.quiescent_Kernel4Ideal_pre_finite4 := fun m ρ _ => Cert.Kernel4Ideal.Gen.frame m ρ
theorem frame_ri_pre : Cert.quiescent_Reference4Ideal_pre_finite4 := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem preserves : Cert.preserves_Kernel4_Kernel4Ideal :=
  IdealRules.named_const.statement Cert.Kernel4Ideal.κ "mask" .f32 0xF149F2CA#32 ⊥ rfl

section

open Cert.Kernel4Ideal Cert.Mla Cert.Reals

variable (m : (ℓ : Loc nD τ sig) → Buf (Elt Ideal) ℓ)

/-- What the precondition says of the argument arrays. -/
theorem reals (h : Cert.Pre_Kernel4Ideal_finite4 m) (c : Dev nD) :
    (∀ i, IsReal (xQ m c i)) ∧ (∀ i, IsReal (xK m c i)) ∧ (∀ i, IsReal (xV m c i)) ∧ (∀ i, IsReal (xC m c i)) := by
  obtain ⟨h0, h1, h2, h3⟩ := h c
  exact ⟨isReal_of_cmp _ _ (fun _ => rfl) h0, isReal_of_cmp _ _ (fun _ => rfl) h1, isReal_of_cmp _ _ (fun _ => rfl) h2, isReal_of_cmp _ _ (fun _ => rfl) h3⟩

end

set_option maxHeartbeats 4000000 in
/-- Both programs end with the same three gradients. -/
theorem algebraic : Cert.algebraic_Kernel4Ideal_Reference4Ideal_pre_finite4 := by
  pair_intro
  · run_from Cert.Kernel4Ideal.Gen.run_main m g
    all_goals
      simp only [Cert.Kernel4Ideal.Gen.hostOps0, Cert.Kernel4Ideal.Gen.hostOps0_1, Cert.Kernel4Ideal.Gen.hostOps0_2, Cert.Kernel4Ideal.Gen.hostOps0_3, Cert.Kernel4Ideal.Gen.hostOps0_4, Cert.Kernel4Ideal.Gen.hostOps0_5, Cert.Kernel4Ideal.Gen.hostOps0_6, List.flatten_cons, List.flatten_nil, List.append_nil, List.cons_append, List.nil_append]
      after_reads_simp
  · refine θ_run_mono (Cert.Reference4Ideal.Value.run m' g') ?_
    intro r hr c
    obtain ⟨h0, h1, h2, hargs⟩ := hr c
    obtain ⟨a0, a1, a2, a3⟩ := hagree c
    obtain ⟨rq, rk, rv, rc⟩ := reals m hpre c
    refine ⟨h0.trans ?_, h1.trans ?_, h2.trans ?_, hargs⟩
    · rw [Cert.Reference4Ideal.Mla.res65, a0, a1, a2, a3]
      exact ((Cert.Kernel4Ideal.Mla.finalQ m c).trans (Cert.Mla.FQ_eq m c rq rk rv rc)).symm
    · rw [Cert.Reference4Ideal.Mla.res67, a0, a1, a2, a3]
      exact ((Cert.Kernel4Ideal.Mla.finalK m c).trans (Cert.Mla.FK_eq m c rq rk rv rc)).symm
    · rw [Cert.Reference4Ideal.Mla.res68, a0, a1, a3]
      exact ((Cert.Kernel4Ideal.Mla.finalV m c).trans (Cert.Mla.FV_eq m c rq rk)).symm

end Cert.Proof.C4

end
-- ==== Proof.Prod5.lean ====
/- The value of the call dw_in_mla: its result array is the product of the transposed first operand by the second. -/
module

public import proofs.«01_k».proof.Defs
public import proofs.«01_k».proof.Proof.Gen.Kernel5Ideal.Frame
public import proofs.«01_k».proof.Proof.Gen.Kernel5Ideal
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Prod

open Cert.Kernel5Ideal Cert.Kernel5Ideal.Gen

variable (m : (ℓ : Loc nD τ sig) → Buf (Elt Ideal) ℓ)

/-- The reference's result, as a term of the two arrays that it reads. -/
abbrev REF (a : Vec Ideal Cert.Reference5Ideal.S4096x1024 .f32) (ct : Vec Ideal Cert.Reference5Ideal.S4096x512 .f32) :=
  transpose Cert.Reference5Ideal.S1024x512 [1, 0] (Host.dotGeneral (F := Ideal) (φ₁ := .f32) (φ₂ := .f32) Cert.Reference5Ideal.dot_S4096x512_S4096x1024_S512x1024_0_0_1_1_n_n none ct a) Cert.Reference5Ideal.Gen.transposes_S512x1024_S1024x512_1_0

theorem idx_val : ∀ t : Fin cfg0.N, win0_0.index t = ![t.val % 2, 0] ∧ win0_1.index t = ![t.val % 2, 0] ∧ win0_2.index t = ![0, 0] :=
  (by decide +kernel : ∀ t : Fin grid0.N, _)

theorem hzero (j : S1024x512.Idx) : k0_pay1 (F := Ideal) j = 0 := by pointwise! [k0_pay1]

/-- One step adds the product of the two blocks. -/
theorem hpay (acc : Vec Ideal S1024x512 .f32) (x0 : Vec Ideal S2048x1024 .f32) (x1 : Vec Ideal S2048x512 .f32) (j : S1024x512.Idx) :
    k0_pay2 (F := Ideal) acc x0 x1 j = acc j + ∑ k : Fin 2048, x0 (ix2 k (j 0)) * x1 (ix2 k (j 1)) := by
  pointwise! [k0_pay2]

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have e : (outsAt0 m c t.val t.isLt).1 = (outsAt0 m c t.val t.isLt).2 := by
    rw [outsAt0_B m c t (by omega) h1]; frame_out
  rw [after0_2, e, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole cc0_scratch0).read_unread])
    t ((flush0_2 t).mp hf) _, zero_add]
  pointwise! [REF]
  refine Fin.sum_mul_add_congr fun s k hl => ?_
  have h2 := idx_val ⟨_, Pipeline.run_point_lt_of_flush t ((flush0_2 t).mp hf) s⟩
  have e0 : V m c main_arg0 = m ((c : Thread nD τ).loc main_arg0) := by entry_read; rfl
  have e1 : V m c main_arg2 = m ((c : Thread nD τ).loc main_arg2) := by entry_read; rfl
  rw [mul_comm (G := EReal)]
  blk_simp [iblk, idx_val t, h2]
  rw [e0, e1]
  pointwise
  blk_point [idx_val t, h2]

end Cert.Kernel5Ideal.Prod

end
-- ==== Proof.Claim5.lean ====
/- The claims about the programs of Kernel5 and Reference5. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Prod5
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C5

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem preserves : Cert.preserves_Kernel5_Kernel5Ideal := trivial

set_option maxHeartbeats 4000000 in
/-- Both programs end with the same result arrays. -/
theorem algebraic : Cert.algebraic_Kernel5Ideal_Reference5Ideal := by
  pair_intro
  · run_from Cert.Kernel5Ideal.Gen.run_main m g
  · run_from Cert.Reference5Ideal.Value.run m' g'
    exact (Cert.Kernel5Ideal.Prod.final m c).symm

end Cert.Proof.C5

end
-- ==== Proof.Prod6.lean ====
/- The value of the call dw_in_dil: its result array is the product of the transposed first operand by the second. -/
module

public import proofs.«01_k».proof.Defs
public import proofs.«01_k».proof.Proof.Gen.Kernel6Ideal.Frame
public import proofs.«01_k».proof.Proof.Gen.Kernel6Ideal
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Prod

open Cert.Kernel6Ideal Cert.Kernel6Ideal.Gen

variable (m : (ℓ : Loc nD τ sig) → Buf (Elt Ideal) ℓ)

/-- The reference's result, as a term of the two arrays that it reads. -/
abbrev REF (a : Vec Ideal Cert.Reference6Ideal.S4096x1024 .f32) (ct : Vec Ideal Cert.Reference6Ideal.S4096x1536 .f32) :=
  transpose Cert.Reference6Ideal.S1024x1536 [1, 0] (Host.dotGeneral (F := Ideal) (φ₁ := .f32) (φ₂ := .f32) Cert.Reference6Ideal.dot_S4096x1536_S4096x1024_S1536x1024_0_0_1_1_n_n none ct a) Cert.Reference6Ideal.Gen.transposes_S1536x1024_S1024x1536_1_0

theorem idx_val : ∀ t : Fin cfg0.N, win0_0.index t = ![t.val % 2, 0] ∧ win0_1.index t = ![t.val % 2, 0] ∧ win0_2.index t = ![0, 0] :=
  (by decide +kernel : ∀ t : Fin grid0.N, _)

theorem hzero (j : S1024x1536.Idx) : k0_pay1 (F := Ideal) j = 0 := by pointwise! [k0_pay1]

/-- One step adds the product of the two blocks. -/
theorem hpay (acc : Vec Ideal S1024x1536 .f32) (x0 : Vec Ideal S2048x1024 .f32) (x1 : Vec Ideal S2048x1536 .bf16) (j : S1024x1536.Idx) :
    k0_pay2 (F := Ideal) acc x0 x1 j = acc j + ∑ k : Fin 2048, x0 (ix2 k (j 0)) * x1 (ix2 k (j 1)) := by
  pointwise! [k0_pay2]

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have e : (outsAt0 m c t.val t.isLt).1 = (outsAt0 m c t.val t.isLt).2 := by
    rw [outsAt0_B m c t (by omega) h1]; frame_out
  rw [after0_2, e, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole cc0_scratch0).read_unread])
    t ((flush0_2 t).mp hf) _, zero_add]
  pointwise! [REF]
  refine Fin.sum_mul_add_congr fun s k hl => ?_
  have h2 := idx_val ⟨_, Pipeline.run_point_lt_of_flush t ((flush0_2 t).mp hf) s⟩
  have e0 : V m c main_arg0 = m ((c : Thread nD τ).loc main_arg0) := by entry_read; rfl
  have e1 : V m c main_v0 = (truncf .bf16 (show FVec Ideal S4096x1536 .f32 from m ((c : Thread nD τ).loc main_arg2)) bitsLt_bf16_f32 : FVec Ideal S4096x1536 .bf16) := by entry_read; rfl
  rw [mul_comm (G := EReal)]
  blk_simp [iblk, idx_val t, h2]
  rw [e0, e1]
  pointwise
  blk_point [idx_val t, h2]

end Cert.Kernel6Ideal.Prod

end
-- ==== Proof.Claim6.lean ====
/- The claims about the programs of Kernel6 and Reference6. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Prod6
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C6

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

set_option maxHeartbeats 4000000 in
/-- Both programs end with the same result arrays. -/
theorem algebraic : Cert.algebraic_Kernel6Ideal_Reference6Ideal := by
  pair_intro
  · run_from Cert.Kernel6Ideal.Gen.run_main m g
  · run_from Cert.Reference6Ideal.Value.run m' g'
    exact (Cert.Kernel6Ideal.Prod.final m c).symm

end Cert.Proof.C6

end
-- ==== Proof.Prod7.lean ====
/- The value of the call dw_o_mla: its result array is the product of the transposed first operand by the second. -/
module

public import proofs.«01_k».proof.Defs
public import proofs.«01_k».proof.Proof.Gen.Kernel7Ideal.Frame
public import proofs.«01_k».proof.Proof.Gen.Kernel7Ideal
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Prod

open Cert.Kernel7Ideal Cert.Kernel7Ideal.Gen

variable (m : (ℓ : Loc nD τ sig) → Buf (Elt Ideal) ℓ)

/-- The reference's result, as a term of the two arrays that it reads. -/
abbrev REF (a : Vec Ideal Cert.Reference7Ideal.S4096x512 .f32) (ct : Vec Ideal Cert.Reference7Ideal.S4096x1024 .f32) :=
  transpose Cert.Reference7Ideal.S512x1024 [1, 0] (Host.dotGeneral (F := Ideal) (φ₁ := .f32) (φ₂ := .f32) Cert.Reference7Ideal.dot_S4096x1024_S4096x512_S1024x512_0_0_1_1_n_n none ct a) Cert.Reference7Ideal.Gen.transposes_S1024x512_S512x1024_1_0

theorem idx_val : ∀ t : Fin cfg0.N, win0_0.index t = ![t.val % 2, 0] ∧ win0_1.index t = ![t.val % 2, 0] ∧ win0_2.index t = ![0, 0] :=
  (by decide +kernel : ∀ t : Fin grid0.N, _)

theorem hzero (j : S512x1024.Idx) : k0_pay1 (F := Ideal) j = 0 := by pointwise! [k0_pay1]

/-- One step adds the product of the two blocks. -/
theorem hpay (acc : Vec Ideal S512x1024 .f32) (x0 : Vec Ideal S2048x512 .f32) (x1 : Vec Ideal S2048x1024 .f32) (j : S512x1024.Idx) :
    k0_pay2 (F := Ideal) acc x0 x1 j = acc j + ∑ k : Fin 2048, x0 (ix2 k (j 0)) * x1 (ix2 k (j 1)) := by
  pointwise! [k0_pay2]

/-- The result array after the run. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have e : (outsAt0 m c t.val t.isLt).1 = (outsAt0 m c t.val t.isLt).2 := by
    rw [outsAt0_B m c t (by omega) h1]; frame_out
  rw [after0_2, e, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, (Memref.isWhole_whole cc0_scratch0).read_unread])
    t ((flush0_2 t).mp hf) _, zero_add]
  pointwise! [REF]
  refine Fin.sum_mul_add_congr fun s k hl => ?_
  have h2 := idx_val ⟨_, Pipeline.run_point_lt_of_flush t ((flush0_2 t).mp hf) s⟩
  have e0 : V m c main_arg0 = m ((c : Thread nD τ).loc main_arg0) := by entry_read; rfl
  have e1 : V m c main_arg2 = m ((c : Thread nD τ).loc main_arg2) := by entry_read; rfl
  rw [mul_comm (G := EReal)]
  blk_simp [iblk, idx_val t, h2]
  rw [e0, e1]
  pointwise
  blk_point [idx_val t, h2]

end Cert.Kernel7Ideal.Prod

end
-- ==== Proof.Claim7.lean ====
/- The claims about the programs of Kernel7 and Reference7. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Prod7
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C7

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves : Cert.preserves_Kernel7_Kernel7Ideal := trivial

set_option maxHeartbeats 4000000 in
/-- Both programs end with the same result arrays. -/
theorem algebraic : Cert.algebraic_Kernel7Ideal_Reference7Ideal := by
  pair_intro
  · run_from Cert.Kernel7Ideal.Gen.run_main m g
  · run_from Cert.Reference7Ideal.Value.run m' g'
    exact (Cert.Kernel7Ideal.Prod.final m c).symm

end Cert.Proof.C7

end
-- ==== Proof.Prod8.lean ====
/- The value of the call in_bwd_mla: the product of the two operands with the scaled third one added. -/
module

public import proofs.«01_k».proof.Defs
public import proofs.«01_k».proof.Proof.Gen.Kernel8Ideal.Frame
public import proofs.«01_k».proof.Proof.Gen.Kernel8Ideal
public import proofs.«01_k».proof.Proof.Gen.Reference8Ideal
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Prod

open Cert.Kernel8Ideal Cert.Kernel8Ideal.Gen

variable (m : (ℓ : Loc nD τ sig) → Buf (Elt Ideal) ℓ)

/-- The reference's result, as a term of the arrays that it reads. -/
abbrev REF (w : Vec Ideal Cert.Reference8Ideal.S1024x512 .f32) (ct : Vec Ideal Cert.Reference8Ideal.S4096x512 .f32) (ct_x : Vec Ideal Cert.Reference8Ideal.S4096x1024 .f32) :=
  addf (mulf (broadcastInDim Cert.Reference8Ideal.S4096x1024 ![] Cert.Reference8Ideal.Gen.bcast_S_S4096x1024 (constant Cert.Reference8Ideal.S_ .f32 0x3F9837F0#32)) ct_x) (Host.dotGeneral (F := Ideal) (φ₁ := .f32) (φ₂ := .f32) Cert.Reference8Ideal.dot_S4096x512_S1024x512_S4096x1024_1_1_0_0_n_n none ct w)

theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What one step writes: the product of the two blocks with the third block added. -/
theorem hpay (x0 : Vec Ideal S512x512 .f32) (x1 : Vec Ideal S512x1024 .bf16) (x2 : Vec Ideal S512x1024 .f32) (j : S512x1024.Idx) :
    k0_pay3 (F := Ideal) (k0_pay2 (F := Ideal) (k0_pay1 (F := Ideal)) x0 x1) x2 j = Ideal.ofBits .f32 0x3F9837F0#32 * x2 j + ∑ k : Fin 512, x0 (ix2 (j 0) k) * x1 (ix2 k (j 1)) := by
  pointwise! [k0_pay1, k0_pay2, k0_pay3]

set_option maxHeartbeats 2000000 in
/-- The result array after the run. -/
theorem final (c : Dev nD) : (dats m 0 c).arrAt 3 (cfgs 0).N
    = REF (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  unfold outsAt0
  frame_out
  rw [hpay]
  pointwise! [REF]
  have e0 : V m c main_arg2 = m ((c : Thread nD τ).loc main_arg2) := by entry_read; rfl
  have e1 : V m c main_v1 = (transpose S512x1024 [1, 0] (truncf .bf16 (show FVec Ideal S1024x512 .f32 from m ((c : Thread nD τ).loc main_arg1)) bitsLt_bf16_f32 : FVec Ideal S1024x512 .bf16) transposes_S1024x512_S512x1024_1_0 : FVec Ideal S512x1024 .bf16) := by entry_read; rfl
  have e2 : V m c main_arg3 = m ((c : Thread nD τ).loc main_arg3) := by entry_read; rfl
  refine congrArg₂ (· + ·) (congrArg (Ideal.ofBits .f32 1066940400#32 * ·) ?_) (Finset.sum_congr rfl fun k _ => congrArg₂ (· * ·) ?_ ?_)
  · blk_simp [iblk, idx_val t]
    rw [e2]
    blk_point [idx_val t]
  · blk_simp [iblk, idx_val t]
    rw [e0]
    blk_point [idx_val t]
  · blk_simp [iblk, idx_val t]
    rw [e1]
    pointwise
    blk_point [idx_val t]

end Cert.Kernel8Ideal.Prod

end
-- ==== Proof.Claim8.lean ====
/- The claims about the programs of Kernel8 and Reference8. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Prod8
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C8

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

set_option maxHeartbeats 4000000 in
/-- Both programs end with the same result arrays. -/
theorem algebraic : Cert.algebraic_Kernel8Ideal_Reference8Ideal := by
  pair_intro
  · run_from Cert.Kernel8Ideal.Gen.run_main m g
  · run_from Cert.Reference8Ideal.Value.run m' g'
    exact (Cert.Kernel8Ideal.Prod.final m c).symm

end Cert.Proof.C8

end
-- ==== Proof.Prod9.lean ====
/- The value of the call in_bwd_dil: the product of the two operands with the scaled third one added. -/
module

public import proofs.«01_k».proof.Defs
public import proofs.«01_k».proof.Proof.Gen.Kernel9Ideal.Frame
public import proofs.«01_k».proof.Proof.Gen.Kernel9Ideal
public import proofs.«01_k».proof.Proof.Gen.Reference9Ideal
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Prod

open Cert.Kernel9Ideal Cert.Kernel9Ideal.Gen

variable (m : (ℓ : Loc nD τ sig) → Buf (Elt Ideal) ℓ)

/-- The reference's result, as a term of the arrays that it reads. -/
abbrev REF (w : Vec Ideal Cert.Reference9Ideal.S1024x1536 .f32) (ct : Vec Ideal Cert.Reference9Ideal.S4096x1536 .f32) (ct_x : Vec Ideal Cert.Reference9Ideal.S4096x1024 .f32) :=
  addf ct_x (Host.dotGeneral (F := Ideal) (φ₁ := .f32) (φ₂ := .f32) Cert.Reference9Ideal.dot_S4096x1536_S1024x1536_S4096x1024_1_1_0_0_n_n none ct w)

theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What one step writes: the product of the two blocks with the third block added. -/
theorem hpay (x0 : Vec Ideal S512x1536 .bf16) (x1 : Vec Ideal S1536x1024 .bf16) (x2 : Vec Ideal S512x1024 .f32) (j : S512x1024.Idx) :
    k0_pay3 (F := Ideal) (k0_pay2 (F := Ideal) (k0_pay1 (F := Ideal)) x0 x1) x2 j = x2 j + ∑ k : Fin 1536, x0 (ix2 (j 0) k) * x1 (ix2 k (j 1)) := by
  pointwise! [k0_pay1, k0_pay2, k0_pay3]

set_option maxHeartbeats 2000000 in
/-- The result array after the run. -/
theorem final (c : Dev nD) : (dats m 0 c).arrAt 3 (cfgs 0).N
    = REF (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  unfold outsAt0
  frame_out
  rw [hpay]
  pointwise! [REF]
  have e0 : V m c main_v0 = (truncf .bf16 (show FVec Ideal S4096x1536 .f32 from m ((c : Thread nD τ).loc main_arg2)) bitsLt_bf16_f32 : FVec Ideal S4096x1536 .bf16) := by entry_read; rfl
  have e1 : V m c main_v2 = (transpose S1536x1024 [1, 0] (truncf .bf16 (show FVec Ideal S1024x1536 .f32 from m ((c : Thread nD τ).loc main_arg1)) bitsLt_bf16_f32 : FVec Ideal S1024x1536 .bf16) transposes_S1024x1536_S1536x1024_1_0 : FVec Ideal S1536x1024 .bf16) := by entry_read; rfl
  have e2 : V m c main_arg3 = m ((c : Thread nD τ).loc main_arg3) := by entry_read; rfl
  refine congrArg₂ (· + ·) ?_ (Finset.sum_congr rfl fun k _ => congrArg₂ (· * ·) ?_ ?_)
  · blk_simp [iblk, idx_val t]
    rw [e2]
    blk_point [idx_val t]
  · blk_simp [iblk, idx_val t]
    rw [e0]
    pointwise
    blk_point [idx_val t]
  · blk_simp [iblk, idx_val t]
    rw [e1]
    pointwise
    blk_point [idx_val t]

end Cert.Kernel9Ideal.Prod

end
-- ==== Proof.Claim9.lean ====
/- The claims about the programs of Kernel9 and Reference9. -/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Prod9
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C9

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem preserves : Cert.preserves_Kernel9_Kernel9Ideal := trivial

set_option maxHeartbeats 4000000 in
/-- Both programs end with the same result arrays. -/
theorem algebraic : Cert.algebraic_Kernel9Ideal_Reference9Ideal := by
  pair_intro
  · run_from Cert.Kernel9Ideal.Gen.run_main m g
  · run_from Cert.Reference9Ideal.Value.run m' g'
    exact (Cert.Kernel9Ideal.Prod.final m c).symm

end Cert.Proof.C9

end
-- ==== Proof.DownRef.lean ====
/- The reference of the call down_ln2_loss in stages, each at an index. -/
module

public import proofs.«01_k».proof.Defs
public import proofs.«01_k».proof.Proof.Gen.Reference10Ideal.Run
public import proofs.«01_k».proof.Proof.UpBwdRow
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference10Ideal.Down

open Cert.Reference10Ideal Cert.Reference10Ideal.Gen
open Cert.ReferenceIdeal.Row (mu vs rs xh cN cE cA)

/-- The norm's operand. -/
def zT (a : Vec Ideal S4096x2816 .f32) (wd : Vec Ideal S2816x1024 .f32) (x1 : Vec Ideal S4096x1024 .f32) : FVec Ideal S4096x1024 .f32 :=
  addf (mulf (broadcastInDim S4096x1024 ![] bcast_S_S4096x1024 (constant S_ .f32 0x3F9837F0#32)) x1) (Host.dotGeneral (F := Ideal) (φ₁ := .f32) (φ₂ := .f32) dot_S4096x2816_S2816x1024_S4096x1024_1_0_0_1_n_n none a wd)

/-- The distance of the norm's result to the target. -/
def eT (z : Vec Ideal S4096x1024 .f32) (g : Vec Ideal S1024 .f32) (b : Vec Ideal S1024 .f32) (t : Vec Ideal S4096x1024 .f32) : FVec Ideal S4096x1024 .f32 :=
  subf (addf (mulf (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 g))) (broadcastInDim S4096x1024 ![0, 1] bcast_S1x1024_S4096x1024_0_1 (broadcastInDim S1x1024 ![1] bcast_S1024_S1x1024_1 b))) t

/-- The cotangent of the norm's result. -/
def dyT (e : Vec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e)

/-- The loss along a row. -/
def lossT (e : Vec Ideal S4096x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- The gradient in the offset. -/
def dbT (dy : Vec Ideal S4096x1024 .f32) : FVec Ideal S1x1024 .f32 :=
  broadcastInDim S1x1024 ![1] bcast_S1024_S1x1024_1 (Host.reduceAdd (shapeCast S1x1024 (Host.reduceAdd dy (constant S_ .f32 0x00000000#32) reducesTo_S4096x1024_S1024_d0 h_S_) shapeCasts_S1024_S1x1024) (constant S_ .f32 0x00000000#32) reducesTo_S1x1024_S1024_d0 h_S_)

/-- The gradient in the gain. -/
def dgT (z : Vec Ideal S4096x1024 .f32) (dy : Vec Ideal S4096x1024 .f32) : FVec Ideal S1x1024 .f32 :=
  broadcastInDim S1x1024 ![1] bcast_S1024_S1x1024_1 (Host.reduceAdd (shapeCast S1x1024 (Host.reduceAdd (mulf (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) dy) (constant S_ .f32 0x00000000#32) reducesTo_S4096x1024_S1024_d0 h_S_) shapeCasts_S1024_S1x1024) (constant S_ .f32 0x00000000#32) reducesTo_S1x1024_S1024_d0 h_S_)

/-- The gradient in the norm's operand. -/
def dzT (z : Vec Ideal S4096x1024 .f32) (g : Vec Ideal S1024 .f32) (dy : Vec Ideal S4096x1024 .f32) : FVec Ideal S4096x1024 .f32 :=
  addf (addf (mulf (mulf dy (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (mulf (broadcastInDim S4096x1024 ![0] bcast_S4096_S4096x1024_0 (Host.reduceAdd (Host.divf (mulf (shapeCast S4096x1 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (mulf dy (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))))) (broadcastInDim S4096x1024 ![0] bcast_S4096_S4096x1024_0 (Host.reduceAdd (Host.divf (addf (shapeCast S4096x1 (Host.reduceAdd (Host.negf (mulf (mulf dy (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))))) (constant S_ .f32 0x00000000#32) reducesTo_S4096x1024_S4096_d1 h_S_) shapeCasts_S4096_S4096x1) (shapeCast S4096x1 (Host.reduceAdd (Host.negf (mulf (broadcastInDim S4096x1024 ![0] bcast_S4096_S4096x1024_0 (Host.reduceAdd (Host.divf (mulf (shapeCast S4096x1 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (mulf dy (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))) (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))))) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

variable (a : Vec Ideal S4096x2816 .f32) (wd : Vec Ideal S2816x1024 .f32) (x1 z t e dy : Vec Ideal S4096x1024 .f32) (g b : Vec Ideal S1024 .f32)

theorem zT_at (r : Fin 4096) (l : Fin 1024) : zT a wd x1 (ix2 r l) = cA * x1 (ix2 r l) + ∑ k : Fin 2816, a (ix2 r k) * wd (ix2 k l) := by
  pointwise! [zT]

theorem eT_at (r : Fin 4096) (l : Fin 1024) : eT z g b t (ix2 r l) = xh z r l * g (ix1 l) + b (ix1 l) - t (ix2 r l) := by
  pointwise! [eT]

/-- The loss's share of an element, as the chain rule writes it. -/
abbrev cL : EReal := Ideal.div (Ideal.ofBits .f32 0x3F000000#32) cN

theorem dyT_at (r : Fin 4096) (l : Fin 1024) : dyT e (ix2 r l) = cL * (Ideal.ofBits .f32 0x40000000#32 * e (ix2 r l)) := by
  pointwise! [dyT]

theorem lossT_at (u : Fin 1) (l : Fin 128) : lossT e (ix2 u l)
    = Ideal.ofBits .f32 0x3F000000#32 * ∑ r : Fin 4096, Ideal.div (∑ k : Fin 1024, e (ix2 r k) * e (ix2 r k)) cN := by
  pointwise! [lossT]

theorem dbT_at (u : Fin 1) (l : Fin 1024) : dbT dy (ix2 u l) = ∑ r : Fin 4096, dy (ix2 r l) := by
  pointwise! [dbT]
  simp only [Finset.univ_unique, Finset.sum_singleton]

theorem dgT_at (u : Fin 1) (l : Fin 1024) : dgT z dy (ix2 u l) = ∑ r : Fin 4096, xh z r l * dy (ix2 r l) := by
  pointwise! [dgT]
  simp only [Finset.univ_unique, Finset.sum_singleton]
  rfl

/-- The factor of the centred row that the variance's chain rule gives. -/
def fv (q : Fin 1024 → EReal) (r : Fin 4096) : EReal :=
  Ideal.div ((∑ k : Fin 1024, (z (ix2 r k) - mu z r) * q k) * (Ideal.ofBits .f32 0xBF000000#32 * Ideal.div (rs z r) (vs z r))) cN

/-- The gradient in the norm's operand, by the chain rule through the mean and the variance. -/
def dzR (q : Fin 1024 → EReal) (r : Fin 4096) (l : Fin 1024) : EReal :=
  q l * rs z r + fv z q r * (Ideal.ofBits .f32 0x40000000#32 * (z (ix2 r l) - mu z r))
    + Ideal.div ((∑ k : Fin 1024, -(q k * rs z r))
        + ∑ k : Fin 1024, -(fv z q r * (Ideal.ofBits .f32 0x40000000#32 * (z (ix2 r k) - mu z r)))) cN

theorem dzT_at (r : Fin 4096) (l : Fin 1024) : dzT z g dy (ix2 r l) = dzR z (fun k => dy (ix2 r k) * g (ix1 k)) r l := by
  pointwise! [dzT]
  simp only [Finset.univ_unique, Finset.sum_singleton]
  rfl

variable (m : (ℓ : Loc nD τ sig) → Buf (Elt Ideal) ℓ) (c : Dev nD)

/-- The reference's operand, distance and cotangent at its arguments. -/
abbrev Z : FVec Ideal S4096x1024 .f32 := zT (m ((c : Thread nD τ).loc main_arg0)) (m ((c : Thread nD τ).loc main_arg1)) (m ((c : Thread nD τ).loc main_arg2))
abbrev E : FVec Ideal S4096x1024 .f32 := eT (Z m c) (m ((c : Thread nD τ).loc main_arg3)) (m ((c : Thread nD τ).loc main_arg4)) (m ((c : Thread nD τ).loc main_arg5))

theorem res0 : Value.res_main_v80 (F := Ideal) m c = dzT (Z m c) (m ((c : Thread nD τ).loc main_arg3)) (dyT (E m c)) := rfl
theorem res1 : Value.res_main_v81 (F := Ideal) m c = lossT (E m c) := rfl
theorem res2 : Value.res_main_v82 (F := Ideal) m c = dgT (Z m c) (dyT (E m c)) := rfl
theorem res3 : Value.res_main_v83 (F := Ideal) m c = dbT (dyT (E m c)) := rfl

end Cert.Reference10Ideal.Down

end
-- ==== Proof.DownLn.lean ====
/- The values of the call down_ln2_loss: what each of its four result arrays holds after the run, as an expression of the argument arrays' elements. -/
module

public import proofs.«01_k».proof.Defs
public import proofs.«01_k».proof.Proof.Gen.Kernel10Ideal.Frame
public import proofs.«01_k».proof.Proof.Gen.Kernel10Ideal
public import proofs.«01_k».proof.Proof.DownRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Down

open Cert.Kernel10Ideal Cert.Kernel10Ideal.Gen
open Cert.ReferenceIdeal.Row (mu vs rs xh cN cE cA)
open Cert.Reference10Ideal.Down (zT eT zT_at eT_at)
open Cert.Reals

variable (m : (ℓ : Loc nD τ sig) → Buf (Elt Ideal) ℓ) (c : Dev nD)

/-- The argument arrays, at their shapes. -/
abbrev aA : FVec Ideal S4096x2816 .f32 := m ((c : Thread nD τ).loc main_arg0)
abbrev aW : FVec Ideal S2816x1024 .f32 := m ((c : Thread nD τ).loc main_arg1)
abbrev aX : FVec Ideal S4096x1024 .f32 := m ((c : Thread nD τ).loc main_arg2)
abbrev aG : FVec Ideal S1024 .f32 := m ((c : Thread nD τ).loc main_arg3)
abbrev aB : FVec Ideal S1024 .f32 := m ((c : Thread nD τ).loc main_arg4)
abbrev aT : FVec Ideal S4096x1024 .f32 := m ((c : Thread nD τ).loc main_arg5)
/-- The norm's operand, and the distance of its result to the target. -/
abbrev Z : FVec Ideal S4096x1024 .f32 := zT (aA m c) (aW m c) (aX m c)
abbrev E : FVec Ideal S4096x1024 .f32 := eT (Z m c) (aG m c) (aB m c) (aT m c)

/-- One half, and the loss's share of an element. -/
abbrev cH : EReal := Ideal.ofBits .f32 0x3F000000#32
abbrev cM : EReal := Ideal.ofBits .f32 0x3A800000#32

theorem idx_val : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

/-! ## The operands that the host computes, at an index -/

theorem V_a (r : Fin 4096) (k : Fin 2816) : V m c main_v0 (ix2 r k) = aA m c (ix2 r k) := by
  have e : V m c main_v0 = (truncf .bf16 (aA m c) bitsLt_bf16_f32 : FVec Ideal S4096x2816 .bf16) := by entry_read; rfl
  rw [e]; pointwise!

theorem V_w (k : Fin 2816) (l : Fin 1024) : V m c main_v1 (ix2 k l) = aW m c (ix2 k l) := by
  have e : V m c main_v1 = (truncf .bf16 (aW m c) bitsLt_bf16_f32 : FVec Ideal S2816x1024 .bf16) := by entry_read; rfl
  rw [e]; pointwise!

theorem V_g (u : Fin 1) (l : Fin 1024) : V m c main_v2 (ix2 u l) = aG m c (ix1 l) := by
  have e : V m c main_v2 = (shapeCast S1x1024 (aG m c) shapeCasts_S1024_S1x1024 : FVec Ideal S1x1024 .f32) := by entry_read; rfl
  rw [e]; pointwise!

theorem V_b (u : Fin 1) (l : Fin 1024) : V m c main_v3 (ix2 u l) = aB m c (ix1 l) := by
  have e : V m c main_v3 = (shapeCast S1x1024 (aB m c) shapeCasts_S1024_S1x1024 : FVec Ideal S1x1024 .f32) := by entry_read; rfl
  rw [e]; pointwise!

theorem V_x : V m c main_arg2 = aX m c := by entry_read; rfl
theorem V_t : V m c main_arg5 = aT m c := by entry_read; rfl

/-! ## The blocks of a grid point, at an index -/

theorem blk_a (t : Fin cfg0.N) (r : Fin 512) (k : Fin 2816) (R : Fin 4096) (hR : R.val = t.val * 512 + r.val) : iblk m c 0 t (ix2 r k) = aA m c (ix2 R k) := by
  rw [← V_a]; blk_point [iblk, idx_val t]
theorem blk_w (t : Fin cfg0.N) (k : Fin 2816) (l : Fin 1024) : iblk m c 1 t (ix2 k l) = aW m c (ix2 k l) := by
  rw [← V_w]; blk_point [iblk, idx_val t]
theorem blk_x (t : Fin cfg0.N) (r : Fin 512) (l : Fin 1024) (R : Fin 4096) (hR : R.val = t.val * 512 + r.val) : iblk m c 2 t (ix2 r l) = aX m c (ix2 R l) := by
  rw [← V_x]; blk_point [iblk, idx_val t]
theorem blk_g (t : Fin cfg0.N) (u : Fin 1) (l : Fin 1024) : iblk m c 3 t (ix2 u l) = aG m c (ix1 l) := by
  rw [← V_g _ _ u]; blk_point [iblk, idx_val t]
theorem blk_b (t : Fin cfg0.N) (u : Fin 1) (l : Fin 1024) : iblk m c 4 t (ix2 u l) = aB m c (ix1 l) := by
  rw [← V_b _ _ u]; blk_point [iblk, idx_val t]
theorem blk_t (t : Fin cfg0.N) (r : Fin 512) (l : Fin 1024) (R : Fin 4096) (hR : R.val = t.val * 512 + r.val) : iblk m c 5 t (ix2 r l) = aT m c (ix2 R l) := by
  rw [← V_t]; blk_point [iblk, idx_val t]

/-! ## The stored terms, at an index -/

variable (v3 v14 : Vec Ideal S1x1024 .f32) (v5 v36 : Vec Ideal S512x1024 .f32) (v8 : Vec Ideal S512x2816 .bf16) (v10 : Vec Ideal S2816x1024 .bf16) (v31 v35 v69 : FVec Ideal S512x1024 .f32)
  (v29 v71 v72 : FVec Ideal S512x1 .f32)

/-- The norm's operand in a block. -/
def zB (r : Fin 512) (l : Fin 1024) : EReal := cA * v5 (ix2 r l) + ∑ k : Fin 2816, v8 (ix2 r k) * v10 (ix2 k l)

theorem pay6_at (r : Fin 512) (l : Fin 1024) : k0_pay6 (F := Ideal) v5 v8 v10 (ix2 r l)
    = zB v5 v8 v10 r l - Ideal.div (∑ k : Fin 1024, zB v5 v8 v10 r k) cN := by
  pointwise! [k0_pay6]

theorem pay7_at (r : Fin 512) (u : Fin 1) : k0_pay7 (F := Ideal) v5 v8 v10 (ix2 r u)
    = Ideal.rsqrt (Ideal.div (∑ k : Fin 1024, k0_pay6 (F := Ideal) v5 v8 v10 (ix2 r k) * k0_pay6 (F := Ideal) v5 v8 v10 (ix2 r k)) cN + cE) := by
  unfold k0_pay7
  generalize k0_pay6 (F := Ideal) v5 v8 v10 = p
  pointwise!

theorem pay8_at (r : Fin 512) (l : Fin 1024) : k0_pay8 (F := Ideal) v5 v8 v10 (ix2 r l)
    = k0_pay6 (F := Ideal) v5 v8 v10 (ix2 r l) * k0_pay7 (F := Ideal) v5 v8 v10 (ix2 r 0) := by
  unfold k0_pay8
  generalize k0_pay6 (F := Ideal) v5 v8 v10 = p
  generalize k0_pay7 (F := Ideal) v5 v8 v10 = q
  pointwise!

theorem pay9_at (r : Fin 512) (l : Fin 1024) : k0_pay9 (F := Ideal) v3 v5 v8 v10 v14 (ix2 r l)
    = k0_pay8 (F := Ideal) v5 v8 v10 (ix2 r l) * v3 (ix2 0 l) + v14 (ix2 0 l) := by
  unfold k0_pay9 k0_pay5
  generalize k0_pay8 (F := Ideal) v5 v8 v10 = p
  pointwise!

theorem pay10_at (r : Fin 512) (l : Fin 1024) : k0_pay10 (F := Ideal) v35 v36 (ix2 r l) = v35 (ix2 r l) - v36 (ix2 r l) := by
  pointwise! [k0_pay10]

theorem pay12_at (r : Fin 512) (l : Fin 1024) : k0_pay12 (F := Ideal) v35 v36 (ix2 r l) = k0_pay10 (F := Ideal) v35 v36 (ix2 r l) * cM := by
  unfold k0_pay12
  generalize k0_pay10 (F := Ideal) v35 v36 = p
  pointwise!

theorem pay11_at (v38 : Vec Ideal S1x128 .f32) (j : S1x128.Idx) : k0_pay11 (F := Ideal) v35 v36 v38 j
    = v38 j + cH * ∑ r : Fin 512, Ideal.div (∑ k : Fin 1024, k0_pay10 (F := Ideal) v35 v36 (ix2 r k) * k0_pay10 (F := Ideal) v35 v36 (ix2 r k)) cN := by
  unfold k0_pay11
  generalize k0_pay10 (F := Ideal) v35 v36 = p
  pointwise!
  simp only [Finset.univ_unique, Finset.sum_singleton]

theorem pay13_at (v55 : Vec Ideal S1x1024 .f32) (j : S1x1024.Idx) : k0_pay13 (F := Ideal) v31 v35 v36 v55 j
    = v55 j + ∑ r : Fin 512, k0_pay12 (F := Ideal) v35 v36 (ix2 r (j 1)) * v31 (ix2 r (j 1)) := by
  unfold k0_pay13
  generalize k0_pay12 (F := Ideal) v35 v36 = p
  pointwise!

theorem pay14_at (v62 : Vec Ideal S1x1024 .f32) (j : S1x1024.Idx) : k0_pay14 (F := Ideal) v35 v36 v62 j
    = v62 j + ∑ r : Fin 512, k0_pay12 (F := Ideal) v35 v36 (ix2 r (j 1)) := by
  unfold k0_pay14
  generalize k0_pay12 (F := Ideal) v35 v36 = p
  pointwise!

theorem pay15_at (r : Fin 512) (l : Fin 1024) : k0_pay15 (F := Ideal) (k0_pay5 v3) v35 v36 (ix2 r l) = k0_pay12 (F := Ideal) v35 v36 (ix2 r l) * v3 (ix2 0 l) := by
  unfold k0_pay15 k0_pay5
  generalize k0_pay12 (F := Ideal) v35 v36 = p
  pointwise!

theorem pay16_at (v4 : FVec Ideal S1x1024 .f32) (r : Fin 512) (u : Fin 1) : k0_pay16 (F := Ideal) v4 v35 v36 (ix2 r u) = ∑ l : Fin 1024, k0_pay15 (F := Ideal) v4 v35 v36 (ix2 r l) := by
  unfold k0_pay16
  generalize k0_pay15 (F := Ideal) v4 v35 v36 = p
  pointwise!

theorem pay1_at (r : Fin 512) (l : Fin 1024) : k0_pay1 (F := Ideal) v29 v31 v69 v71 k0_pay17 (ix2 r l)
    = v29 (ix2 r 0) * (v69 (ix2 r l) - Ideal.div (v71 (ix2 r 0)) cN - v31 (ix2 r l) * Ideal.div (∑ k : Fin 1024, v69 (ix2 r k) * v31 (ix2 r k)) cN) := by
  pointwise! [k0_pay1, k0_pay17]

theorem zero7 (j : S1x128.Idx) : k0_pay2 (F := Ideal) j = 0 := by pointwise! [k0_pay2]
theorem zero8 (j : S1x1024.Idx) : k0_pay3 (F := Ideal) j = 0 := by pointwise! [k0_pay3]
theorem zero9 (j : S1x1024.Idx) : k0_pay4 (F := Ideal) j = 0 := by pointwise! [k0_pay4]

/-! ## The stored terms of a grid point -/

/-- A grid point's reciprocal deviations, normalised rows and results of the norm. -/
abbrev p7 (t : Fin cfg0.N) : FVec Ideal S512x1 .f32 := k0_pay7 (F := Ideal) (iblk m c 2 t) (iblk m c 0 t) (iblk m c 1 t)
abbrev p8 (t : Fin cfg0.N) : FVec Ideal S512x1024 .f32 := k0_pay8 (F := Ideal) (iblk m c 2 t) (iblk m c 0 t) (iblk m c 1 t)
abbrev p9 (t : Fin cfg0.N) : FVec Ideal S512x1024 .f32 := k0_pay9 (F := Ideal) (iblk m c 3 t) (iblk m c 2 t) (iblk m c 0 t) (iblk m c 1 t) (iblk m c 4 t)

section

variable (t : Fin cfg0.N) (r : Fin 512) (R : Fin 4096) (hR : R.val = t.val * 512 + r.val)
include hR

theorem blk_z (l : Fin 1024) : zB (iblk m c 2 t) (iblk m c 0 t) (iblk m c 1 t) r l = Z m c (ix2 R l) := by
  refine Eq.trans ?_ (zT_at (aA m c) (aW m c) (aX m c) R l).symm
  exact congrArg₂ (· + ·) (congrArg (cA * ·) (blk_x m c t r l R hR)) (Finset.sum_congr rfl fun k _ => congrArg₂ (· * ·) (blk_a m c t r k R hR) (blk_w m c t k l))

theorem blk6 (l : Fin 1024) : k0_pay6 (F := Ideal) (iblk m c 2 t) (iblk m c 0 t) (iblk m c 1 t) (ix2 r l) = Z m c (ix2 R l) - mu (Z m c) R := by
  rw [pay6_at]
  exact congrArg₂ (· - ·) (blk_z m c t r R hR l) (congrArg (Ideal.div · cN) (Finset.sum_congr rfl fun k _ => blk_z m c t r R hR k))

theorem blk7 (u : Fin 1) : p7 m c t (ix2 r u) = rs (Z m c) R := by
  refine (pay7_at _ _ _ r u).trans (congrArg (fun x => Ideal.rsqrt (Ideal.div x cN + cE)) (Finset.sum_congr rfl fun k _ => ?_))
  rw [blk6 m c t r R hR]

theorem blk8 (l : Fin 1024) : p8 m c t (ix2 r l) = xh (Z m c) R l :=
  (pay8_at _ _ _ r l).trans (congrArg₂ (· * ·) (blk6 m c t r R hR l) (blk7 m c t r R hR 0))

theorem blk10 (l : Fin 1024) : k0_pay10 (F := Ideal) (p9 m c t) (iblk m c 5 t) (ix2 r l) = E m c (ix2 R l) := by
  refine Eq.trans ?_ (eT_at (Z m c) (aT m c) (aG m c) (aB m c) R l).symm
  refine (pay10_at _ _ r l).trans ?_
  refine congrArg₂ (· - ·) ((pay9_at _ _ _ _ _ r l).trans (congrArg₂ (· + ·) (congrArg₂ (· * ·) (blk8 m c t r R hR l) (blk_g m c t 0 l)) (blk_b m c t 0 l))) (blk_t m c t r l R hR)

theorem blk12 (l : Fin 1024) : k0_pay12 (F := Ideal) (p9 m c t) (iblk m c 5 t) (ix2 r l) = E m c (ix2 R l) * cM :=
  (pay12_at _ _ r l).trans (congrArg (· * cM) (blk10 m c t r R hR l))

/-- The cotangent times the gain. -/
theorem blk15 (l : Fin 1024) : k0_pay15 (F := Ideal) (k0_pay5 (iblk m c 3 t)) (p9 m c t) (iblk m c 5 t) (ix2 r l) = E m c (ix2 R l) * cM * aG m c (ix1 l) :=
  (pay15_at _ _ _ r l).trans (congrArg₂ (· * ·) (blk12 m c t r R hR l) (blk_g m c t 0 l))

end

end Cert.Kernel10Ideal.Down

end
-- ==== Proof.DownEq.lean ====
/- The four result arrays of the call down_ln2_loss are the reference's, on real arguments. -/
module

public import proofs.«01_k».proof.Defs
public import proofs.«01_k».proof.Proof.Gen.Kernel10Ideal.Frame
public import proofs.«01_k».proof.Proof.Gen.Kernel10Ideal
public import proofs.«01_k».proof.Proof.DownLn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Down

open Cert.Kernel10Ideal Cert.Kernel10Ideal.Gen
open Cert.ReferenceIdeal.Row (mu vs rs xh cN cE cA cN_eq cE_pos half_eq two_eq cA_real)
open Cert.Reference10Ideal.Down (zT eT dyT lossT dbT dgT dzT zT_at eT_at dyT_at lossT_at dbT_at dgT_at dzT_at dzR fv cL)
open Cert.Reals

theorem cH_eq : cH = ((1 / 2 : ℝ) : EReal) := by
  simp [cH, Ideal.ofBits, Ideal.ieee, -EReal.coe_mul]; norm_num
theorem cM_eq : cM = ((1 / 1024 : ℝ) : EReal) := by
  simp [cM, Ideal.ofBits, Ideal.ieee, -EReal.coe_mul]; norm_num

/-- A real factor goes into a sum of real numbers. -/
theorem mul_sum_real {ι : Type*} (s : Finset ι) {a : EReal} (ha : IsReal a) {x : ι → EReal} (hx : ∀ i, IsReal (x i)) : a * ∑ i ∈ s, x i = ∑ i ∈ s, a * x i := by
  obtain ⟨a, rfl⟩ := ha
  choose y hy using hx
  simp only [hy, coe_sum, ← EReal.coe_mul, Finset.mul_sum]

/-- The two ways of writing the loss's share agree on a real number. -/
theorem dy_eq {e : EReal} (he : IsReal e) : e * cM = cL * (Ideal.ofBits .f32 0x40000000#32 * e) := by
  obtain ⟨e, rfl⟩ := he
  rw [cM_eq, show cL = Ideal.div cH cN from rfl, cH_eq, cN_eq, two_eq, div_coe (by norm_num), ← EReal.coe_mul, ← EReal.coe_mul, ← EReal.coe_mul]
  congr 1; ring

/-- A row of real numbers, with its mean, its centred row and its variance. -/
theorem row_real (z : Vec Ideal Cert.ReferenceIdeal.S4096x1024 .f32) (hz : ∀ i, IsReal (z i)) (r : Fin 4096) : ∃ (d : Fin 1024 → ℝ) (s : ℝ), 0 < s ∧ ∑ k, d k = 0
    ∧ (∀ k, z (ix2 r k) - mu z r = (d k : EReal)) ∧ vs z r = (s : EReal) ∧ rs z r = (((Real.sqrt s)⁻¹ : ℝ) : EReal) := by
  choose x hx using fun k : Fin 1024 => hz (ix2 r k)
  obtain ⟨e, he, hE⟩ := cE_pos
  have h0 : (1024 : ℝ) ≠ 0 := by norm_num
  have hmu : mu z r = (((∑ k, x k) / 1024 : ℝ) : EReal) := by
    unfold mu; rw [cN_eq]; simp only [hx]; rw [coe_sum, div_coe h0]
  have hd : ∀ k, z (ix2 r k) - mu z r = ((x k - (∑ k, x k) / 1024 : ℝ) : EReal) := fun k => by
    rw [hx, hmu, EReal.coe_sub]
  have hsum : ∑ k, (x k - (∑ k, x k) / 1024) = 0 := by
    rw [Finset.sum_sub_distrib, Finset.sum_const, Finset.card_univ, Fintype.card_fin, nsmul_eq_mul]; push_cast; ring
  have hvs : vs z r = (((∑ k, (x k - (∑ k, x k) / 1024) * (x k - (∑ k, x k) / 1024)) / 1024 + e : ℝ) : EReal) := by
    unfold vs; rw [cN_eq, hE]; simp only [hd, ← EReal.coe_mul]; rw [coe_sum, div_coe h0, EReal.coe_add]
  have hs : 0 < (∑ k, (x k - (∑ k, x k) / 1024) * (x k - (∑ k, x k) / 1024)) / 1024 + e :=
    add_pos_of_nonneg_of_pos (div_nonneg (Finset.sum_nonneg fun k _ => mul_self_nonneg _) (by norm_num)) he
  exact ⟨_, _, hs, hsum, hd, hvs, by unfold rs; rw [hvs, rsqrt_coe hs]⟩

/-- The kernel's closed form of the gradient in the norm's operand, for a cotangent times gain `q`. -/
def dzK (z : Vec Ideal Cert.ReferenceIdeal.S4096x1024 .f32) (q : Fin 1024 → EReal) (r : Fin 4096) (l : Fin 1024) : EReal :=
  rs z r * (q l - Ideal.div (∑ k : Fin 1024, q k) cN - xh z r l * Ideal.div (∑ k : Fin 1024, q k * xh z r k) cN)

/-- On real numbers the closed form is the chain rule's. -/
theorem dzK_eq (z : Vec Ideal Cert.ReferenceIdeal.S4096x1024 .f32) (hz : ∀ i, IsReal (z i)) (q : Fin 1024 → EReal) (hq : ∀ k, IsReal (q k)) (r : Fin 4096) (l : Fin 1024) :
    dzK z q r l = dzR z q r l := by
  choose a ha using hq
  obtain ⟨d, s, hs, hsum, hd, hvs, hrs⟩ := row_real z hz r
  have key := ln_row (n := 1024) (by norm_num) d a s hs hsum l
  unfold dzK dzR fv xh
  simp only [ha, hd, hrs, hvs, cN_eq, half_eq, two_eq, ← EReal.coe_mul, ← EReal.coe_neg, coe_sum, div_coe (show (1024 : ℝ) ≠ 0 by norm_num), div_coe hs.ne', ← EReal.coe_add, ← EReal.coe_sub]
  exact congrArg _ (by simpa using key)

/-! ## The operand and the distance are real -/

theorem sub_real {x y : EReal} (hx : IsReal x) (hy : IsReal y) : IsReal (x - y) := by
  obtain ⟨x, rfl⟩ := hx
  obtain ⟨y, rfl⟩ := hy
  exact ⟨x - y, (EReal.coe_sub x y).symm⟩

theorem xh_real (z : Vec Ideal Cert.ReferenceIdeal.S4096x1024 .f32) (hz : ∀ i, IsReal (z i)) (r : Fin 4096) (l : Fin 1024) : IsReal (xh z r l) := by
  obtain ⟨d, s, hs, hsum, hd, hvs, hrs⟩ := row_real z hz r
  unfold xh
  rw [hd, hrs, ← EReal.coe_mul]
  exact ⟨_, rfl⟩

section

variable {a : Vec Ideal S4096x2816 .f32} {wd : Vec Ideal S2816x1024 .f32} {x1 z t : Vec Ideal S4096x1024 .f32} {g b : Vec Ideal S1024 .f32}

theorem zT_real (ha : ∀ i, IsReal (a i)) (hw : ∀ i, IsReal (wd i)) (hx : ∀ i, IsReal (x1 i)) (i : S4096x1024.Idx) : IsReal (zT a wd x1 i) := by
  refine (congrArg (fun j => IsReal (zT a wd x1 j)) (eq_ix2 (n0 := 4096) (n1 := 1024) i)).mpr ?_
  refine (congrArg IsReal (zT_at a wd x1 (i 0) (i 1))).mpr ?_
  exact (cA_real.mul (hx _)).add (IsReal.sum _ _ fun k => (ha _).mul (hw _))

theorem eT_real (hz : ∀ i, IsReal (z i)) (hg : ∀ i, IsReal (g i)) (hb : ∀ i, IsReal (b i)) (ht : ∀ i, IsReal (t i)) (i : S4096x1024.Idx) : IsReal (eT z g b t i) := by
  refine (congrArg (fun j => IsReal (eT z g b t j)) (eq_ix2 (n0 := 4096) (n1 := 1024) i)).mpr ?_
  refine (congrArg IsReal (eT_at z t g b (i 0) (i 1))).mpr ?_
  exact sub_real (((xh_real z hz (i 0) (i 1)).mul (hg _)).add (hb _)) (ht _)

end

variable (m : (ℓ : Loc nD τ sig) → Buf (Elt Ideal) ℓ) (c : Dev nD)

/-! ## The results -/

section

variable (hE : ∀ i, IsReal (E m c i))
include hE

theorem sq_real (R : Fin 4096) : IsReal (Ideal.div (∑ k : Fin 1024, E m c (ix2 R k) * E m c (ix2 R k)) cN) := by
  obtain ⟨x, hx⟩ := IsReal.sum Finset.univ (fun k : Fin 1024 => E m c (ix2 R k) * E m c (ix2 R k)) fun k => (hE _).mul (hE _)
  exact ⟨x / 1024, by rw [hx, cN_eq, div_coe (by norm_num)]⟩

theorem step7 (t : Fin cfg0.N) (v : Vec Ideal S1x128 .f32) (j : S1x128.Idx) : k0_pay11 (F := Ideal) (p9 m c t) (iblk m c 5 t) v j
    = v j + ∑ r : Fin 512, cH * Ideal.div (∑ k : Fin 1024, k0_pay10 (F := Ideal) (p9 m c t) (iblk m c 5 t) (ix2 r k) * k0_pay10 (F := Ideal) (p9 m c t) (iblk m c 5 t) (ix2 r k)) cN := by
  refine (pay11_at _ _ v j).trans (congrArg (v j + ·) (mul_sum_real _ ⟨_, cH_eq⟩ fun r => ?_))
  have hlt : t.val * 512 + r.val < 4096 := by
    have h1 : t.val < 8 := t.isLt
    omega
  refine (congrArg IsReal (congrArg (Ideal.div · cN) (Finset.sum_congr rfl fun k _ => ?_))).mpr (sq_real m c hE ⟨t.val * 512 + r.val, hlt⟩)
  exact congrArg₂ (· * ·) (blk10 m c t r ⟨t.val * 512 + r.val, hlt⟩ rfl k) (blk10 m c t r ⟨t.val * 512 + r.val, hlt⟩ rfl k)

/-- The loss after the run. -/
theorem final7 : (dats m 0 c).arrAt 7 (cfgs 0).N = lossT (E m c) := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0)
    (fun t j => ∑ r : Fin 512, cH * Ideal.div (∑ k : Fin 1024, k0_pay10 (F := Ideal) (p9 m c t) (iblk m c 5 t) (ix2 r k) * k0_pay10 (F := Ideal) (p9 m c t) (iblk m c 5 t) (ix2 r k)) cN)
    (fun t h j => by rw [outsAt0_A m c t h]; frame_out; rw [step7 m c hE t, zero7])
    (fun t h j => by rw [outsAt0_B m c t h]; frame_out; rw [step7 m c hE t])
    t ((flush0_7 t).mp hf) _, zero_add]
  have hy : (win0_7.blk t).view.emb y = ix2 (0 : Fin 1) (y 1) := by blk_point [idx_val t]
  have h8 : t.val < 8 := t.isLt
  have ht : 8 * (t.val / 8) = 0 := by omega
  rw [hy]
  refine Eq.trans ?_ (lossT_at ..).symm
  refine Eq.trans ?_ (mul_sum_real _ ⟨_, cH_eq⟩ fun R => sq_real m c hE R).symm
  refine Fin.sum_mul_add_congr fun s k hl => ?_
  refine congrArg (cH * ·) (congrArg (Ideal.div · cN) (Finset.sum_congr rfl fun l _ => ?_))
  exact congrArg₂ (· * ·) (blk10 m c _ k _ (by simp only; omega) l) (blk10 m c _ k _ (by simp only; omega) l)

/-- The gradient in the gain after the run. -/
theorem final8 : (dats m 0 c).arrAt 8 (cfgs 0).N = dgT (Z m c) (dyT (E m c)) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0)
    (fun t j => ∑ r : Fin 512, k0_pay12 (F := Ideal) (p9 m c t) (iblk m c 5 t) (ix2 r (j 1)) * p8 m c t (ix2 r (j 1)))
    (fun t h j => by rw [outsAt0_A m c t h]; frame_out; rw [pay13_at, zero8])
    (fun t h j => by rw [outsAt0_B m c t h]; frame_out; rw [pay13_at])
    t ((flush0_8 t).mp hf) _, zero_add]
  have hy : (win0_8.blk t).view.emb y = ix2 (0 : Fin 1) (y 1) := by blk_point [idx_val t]
  have h8 : t.val < 8 := t.isLt
  have ht : 8 * (t.val / 8) = 0 := by omega
  rw [hy]
  refine Eq.trans ?_ (dgT_at ..).symm
  refine Fin.sum_mul_add_congr fun s k hl => ?_
  rw [mul_comm (G := EReal)]
  exact congrArg₂ (· * ·) (blk8 m c _ k _ (by simp only; omega) _)
    ((blk12 m c _ k _ (by simp only; omega) _).trans ((dy_eq (hE _)).trans (dyT_at (E m c) _ _).symm))

/-- The gradient in the offset after the run. -/
theorem final9 : (dats m 0 c).arrAt 9 (cfgs 0).N = dbT (dyT (E m c)) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0)
    (fun t j => ∑ r : Fin 512, k0_pay12 (F := Ideal) (p9 m c t) (iblk m c 5 t) (ix2 r (j 1)))
    (fun t h j => by rw [outsAt0_A m c t h]; frame_out; rw [pay14_at, zero9])
    (fun t h j => by rw [outsAt0_B m c t h]; frame_out; rw [pay14_at])
    t ((flush0_9 t).mp hf) _, zero_add]
  have hy : (win0_9.blk t).view.emb y = ix2 (0 : Fin 1) (y 1) := by blk_point [idx_val t]
  have h8 : t.val < 8 := t.isLt
  have ht : 8 * (t.val / 8) = 0 := by omega
  rw [hy]
  refine Eq.trans ?_ (dbT_at ..).symm
  refine Fin.sum_mul_add_congr fun s k hl => ?_
  exact (blk12 m c _ k _ (by simp only; omega) _).trans ((dy_eq (hE _)).trans (dyT_at (E m c) _ _).symm)

end

theorem blk_dz (t : Fin cfg0.N) (r : Fin 512) (l : Fin 1024) (R : Fin 4096) (hR : R.val = t.val * 512 + r.val) :
    k0_pay1 (F := Ideal) (p7 m c t) (p8 m c t) (k0_pay15 (F := Ideal) (k0_pay5 (iblk m c 3 t)) (p9 m c t) (iblk m c 5 t))
      (k0_pay16 (F := Ideal) (k0_pay5 (iblk m c 3 t)) (p9 m c t) (iblk m c 5 t)) k0_pay17 (ix2 r l)
    = dzK (Z m c) (fun k => E m c (ix2 R k) * cM * aG m c (ix1 k)) R l := by
  refine (pay1_at _ _ _ _ r l).trans ?_
  unfold dzK
  refine congrArg₂ (· * ·) (blk7 m c t r R hR 0) (congrArg₂ (· - ·) (congrArg₂ (· - ·) (blk15 m c t r R hR l) (congrArg (Ideal.div · cN) ?_))
    (congrArg₂ (· * ·) (blk8 m c t r R hR l) (congrArg (Ideal.div · cN) ?_)))
  · exact (pay16_at _ _ _ r 0).trans (Finset.sum_congr rfl fun k _ => blk15 m c t r R hR k)
  · exact Finset.sum_congr rfl fun k _ => congrArg₂ (· * ·) (blk15 m c t r R hR k) (blk8 m c t r R hR k)

/-- The gradient in the norm's operand after the run. -/
theorem final6 (hZ : ∀ i, IsReal (Z m c i)) (hE : ∀ i, IsReal (E m c i)) (hG : ∀ i, IsReal (aG m c i)) :
    (dats m 0 c).arrAt 6 (cfgs 0).N = dzT (Z m c) (aG m c) (dyT (E m c)) := by
  refine (dats m 0 c).arrAt_eq_of_covers 6 _ (by decide +kernel) fun t hf y => ?_
  blk_simp
  rw [after0_6]
  have hlt : t.val * 512 + (y 0).val < 4096 := by
    have h1 : t.val < 8 := t.isLt
    have h2 : (y 0).val < 512 := (y 0).isLt
    omega
  have hy : (win0_6.blk t).view.emb y = ix2 (⟨t.val * 512 + (y 0).val, hlt⟩ : Fin 4096) (y 1) := by blk_point [idx_val t]
  have fin := (congrArg (k0_pay1 (F := Ideal) (p7 m c t) (p8 m c t) (k0_pay15 (F := Ideal) (k0_pay5 (iblk m c 3 t)) (p9 m c t) (iblk m c 5 t))
      (k0_pay16 (F := Ideal) (k0_pay5 (iblk m c 3 t)) (p9 m c t) (iblk m c 5 t)) k0_pay17) (eq_ix2 (n0 := 512) (n1 := 1024) y)).trans
    ((blk_dz m c t (y 0) (y 1) ⟨t.val * 512 + (y 0).val, hlt⟩ rfl).trans ((dzK_eq _ hZ _ (fun k => ((hE _).mul ⟨_, cM_eq⟩).mul (hG _)) _ _).trans
      ((congrArg (fun q => dzR (Z m c) q _ _) (funext fun k => congrArg (· * aG m c (ix1 k)) ((dy_eq (hE _)).trans (dyT_at (E m c) _ _).symm))).trans
        ((dzT_at (Z m c) (dyT (E m c)) (aG m c) _ _).symm.trans (congrArg (dzT (Z m c) (aG m c) (dyT (E m c))) hy.symm)))))
  by_cases h : t.val % 8 = 0
  · rw [outsAt0_A m c t h]; frame_out; exact fin
  · rw [outsAt0_B m c t h]; frame_out; exact fin

end Cert.Kernel10Ideal.Down

end
-- ==== Proof.Claim10.lean ====
/- The claims about the programs of Kernel10 and Reference10. -/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Pre_finite10
public import proofs.«01_k».proof.Proof.DownEq
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C10

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)
theorem frame_pi_pre : Cert.quiescent_Kernel10Ideal_pre_finite10 := fun m ρ _ => Cert.Kernel10Ideal.Gen.frame m ρ
theorem frame_ri_pre : Cert.quiescent_Reference10Ideal_pre_finite10 := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)
theorem preserves : Cert.preserves_Kernel10_Kernel10Ideal := trivial

section

open Cert.Kernel10Ideal Cert.Kernel10Ideal.Down Cert.Reals

variable (m : (ℓ : Loc nD τ sig) → Buf (Elt Ideal) ℓ)

/-- What the precondition says of the argument arrays. -/
theorem reals (h : Cert.Pre_Kernel10Ideal_finite10 m) (c : Dev nD) :
    (∀ i, IsReal (aA m c i)) ∧ (∀ i, IsReal (aW m c i)) ∧ (∀ i, IsReal (aX m c i)) ∧ (∀ i, IsReal (aG m c i)) ∧ (∀ i, IsReal (aB m c i)) ∧ (∀ i, IsReal (aT m c i)) := by
  obtain ⟨h0, h1, h2, h3, h4, h5⟩ := h c
  exact ⟨isReal_of_cmp _ _ (fun _ => rfl) h0, isReal_of_cmp _ _ (fun _ => rfl) h1, isReal_of_cmp _ _ (fun _ => rfl) h2, isReal_of_cmp _ _ (fun _ => rfl) h3,
    isReal_of_cmp _ _ (fun _ => rfl) h4, isReal_of_cmp _ _ (fun _ => rfl) h5⟩

end

set_option maxHeartbeats 4000000 in
/-- Both programs end with the same four result arrays. -/
theorem algebraic : Cert.algebraic_Kernel10Ideal_Reference10Ideal_pre_finite10 := by
  pair_intro
  · run_from Cert.Kernel10Ideal.Gen.run_main m g
  · refine θ_run_mono (Cert.Reference10Ideal.Value.run m' g') ?_
    intro r hr c
    obtain ⟨h0, h1, h2, h3, hargs⟩ := hr c
    obtain ⟨a0, a1, a2, a3, a4, a5⟩ := hagree c
    obtain ⟨ra, rw', rx, rg, rb, rt⟩ := reals m hpre c
    have hZ := Cert.Kernel10Ideal.Down.zT_real ra rw' rx
    have hE := Cert.Kernel10Ideal.Down.eT_real hZ rg rb rt
    have eZ : Cert.Reference10Ideal.Down.Z m' c = Cert.Kernel10Ideal.Down.Z m c := by
      rw [Cert.Reference10Ideal.Down.Z, a0, a1, a2]
    have eE : Cert.Reference10Ideal.Down.E m' c = Cert.Kernel10Ideal.Down.E m c := by
      rw [Cert.Reference10Ideal.Down.E, eZ, a3, a4, a5]
    refine ⟨h0.trans ?_, h1.trans ?_, h2.trans ?_, h3.trans ?_, hargs⟩
    · refine (Cert.Reference10Ideal.Down.res0 m' c).trans (Eq.trans ?_ (Cert.Kernel10Ideal.Down.final6 m c hZ hE rg).symm)
      rw [eZ, eE, a3]
    · refine (Cert.Reference10Ideal.Down.res1 m' c).trans (Eq.trans ?_ (Cert.Kernel10Ideal.Down.final7 m c hE).symm)
      rw [eE]
    · refine (Cert.Reference10Ideal.Down.res2 m' c).trans (Eq.trans ?_ (Cert.Kernel10Ideal.Down.final8 m c hE).symm)
      rw [eZ, eE]
    · refine (Cert.Reference10Ideal.Down.res3 m' c).trans (Eq.trans ?_ (Cert.Kernel10Ideal.Down.final9 m c hE).symm)
      rw [eE]

end Cert.Proof.C10

end
-- ==== Proof.UpGateRef.lean ====
/- The reference of the call up_gate_fwd in stages, each at an index. -/
module

public import proofs.«01_k».proof.Defs
public import proofs.«01_k».proof.Proof.Gen.Reference11Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference11Ideal.UpGate

open Cert.Reference11Ideal Cert.Reference11Ideal.Gen

/-- The up-projection. -/
def uT (x : Vec Ideal S4096x1024 .f32) (w : Vec Ideal S1024x5632 .f32) : FVec Ideal S4096x5632 .f32 :=
  Host.dotGeneral (F := Ideal) (φ₁ := .f32) (φ₂ := .f32) dot_S4096x1024_S1024x5632_S4096x5632_1_0_0_1_n_n none x w

/-- The causal convolution. -/
def yT (u : Vec Ideal S4096x5632 .f32) (cw : Vec Ideal S3x5632 .f32) (b : Vec Ideal S5632 .f32) : FVec Ideal S4096x5632 .f32 :=
  addf (addf (addf (broadcastInDim S4096x5632 ![0, 1] bcast_S1x5632_S4096x5632_0_1 (broadcastInDim S1x5632 ![1] bcast_S5632_S1x5632_1 b)) (mulf (broadcastInDim S4096x5632 ![0, 1] bcast_S1x5632_S4096x5632_0_1 (broadcastInDim S1x5632 ![1] bcast_S5632_S1x5632_1 (shapeCast S5632 (extractStridedSlice S1x5632 ![0, 0] cw slices_S3x5632_S1x5632_0_0) shapeCasts_S1x5632_S5632))) (extractStridedSlice S4096x5632 ![0, 0] (pad S4098x5632 ![2, 0] ![0, 0] ![0, 0] u (sitofp .f32 (constantI S_ 32 0#32)) pads_S4096x5632_S4098x5632_200_000 h_S_) slices_S4098x5632_S4096x5632_0_0))) (mulf (broadcastInDim S4096x5632 ![0, 1] bcast_S1x5632_S4096x5632_0_1 (broadcastInDim S1x5632 ![1] bcast_S5632_S1x5632_1 (shapeCast S5632 (extractStridedSlice S1x5632 ![1, 0] cw slices_S3x5632_S1x5632_1_0) shapeCasts_S1x5632_S5632))) (extractStridedSlice S4096x5632 ![0, 0] (pad S4097x5632 ![1, 0] ![0, 0] ![0, 0] u (sitofp .f32 (constantI S_ 32 0#32)) pads_S4096x5632_S4097x5632_100_000 h_S_) slices_S4097x5632_S4096x5632_0_0))) (mulf (broadcastInDim S4096x5632 ![0, 1] bcast_S1x5632_S4096x5632_0_1 (broadcastInDim S1x5632 ![1] bcast_S5632_S1x5632_1 (shapeCast S5632 (extractStridedSlice S1x5632 ![2, 0] cw slices_S3x5632_S1x5632_2_0) shapeCasts_S1x5632_S5632))) u)

/-- gelu. -/
def geT (g : Vec Ideal S4096x2816 .f32) : FVec Ideal S4096x2816 .f32 :=
  mulf g (mulf (broadcastInDim S4096x2816 ![] bcast_S_S4096x2816 (constant S_ .f32 0x3F000000#32)) (addf (broadcastInDim S4096x2816 ![] bcast_S_S4096x2816 (constant S_ .f32 0x3F800000#32)) (Host.tanh (mulf (broadcastInDim S4096x2816 ![] bcast_S_S4096x2816 (constant S_ .f32 0x3F4C422A#32)) (addf g (mulf (broadcastInDim S4096x2816 ![] bcast_S_S4096x2816 (constant S_ .f32 0x3D372713#32)) (mulf (mulf g g) g)))))))

/-- The two halves of an array of 5632 columns. -/
def loT (u : Vec Ideal S4096x5632 .f32) : FVec Ideal S4096x2816 .f32 := extractStridedSlice S4096x2816 ![0, 0] u slices_S4096x5632_S4096x2816_0_0
/-- The second half. -/
def hiT (u : Vec Ideal S4096x5632 .f32) : FVec Ideal S4096x2816 .f32 := extractStridedSlice S4096x2816 ![0, 2816] u slices_S4096x5632_S4096x2816_0_2816
/-- The gated activation, rounded. -/
def actT (ge a : Vec Ideal S4096x2816 .f32) : FVec Ideal S4096x2816 .bf16 := truncf .bf16 (mulf (F := Ideal) (φ := .f32) ge a) bitsLt_bf16_f32

variable (x : Vec Ideal S4096x1024 .f32) (w : Vec Ideal S1024x5632 .f32) (u : Vec Ideal S4096x5632 .f32) (cw : Vec Ideal S3x5632 .f32) (b : Vec Ideal S5632 .f32)
  (g a : Vec Ideal S4096x2816 .f32)

theorem uT_at (R : Fin 4096) (L : Fin 5632) : uT x w (ix2 R L) = ∑ k : Fin 1024, x (ix2 R k) * w (ix2 k L) := by
  pointwise! [uT]

/-- The row `k` above, zero before the first row. -/
def sh (k : ℕ) (R : Fin 4096) (L : Fin 5632) : EReal := if hr : R.val < k then 0 else u (ix2 ⟨R.val - k, by omega⟩ L)

theorem zero_word : (FloatOps.sitofp (F := Ideal) .f32 (0#32) : EReal) = 0 := by
  show ((((0#32 : BitVec 32).toInt : ℤ) : ℝ) : EReal) = 0
  simp

theorem row_congr {n l : ℕ} (u : (⟨2, ![n, l]⟩ : Shape).Idx → EReal) {a b : Fin n} (c : Fin l) (h : a.val = b.val) : u (ix2 a c) = u (ix2 b c) := by
  rw [Fin.ext h]

theorem yT_at (R : Fin 4096) (L : Fin 5632) : yT u cw b (ix2 R L)
    = ((b (ix1 L) + cw (ix2 0 L) * sh u 2 R L) + cw (ix2 1 L) * sh u 1 R L) + cw (ix2 2 L) * u (ix2 R L) := by
  have hR := R.isLt
  have hs : ∀ k : ℕ, k ≤ 2 → (if h : k ≤ R.val ∧ R.val - k < 4096 then u (ix2 (⟨R.val - k, h.2⟩ : Fin 4096) L) else (FloatOps.sitofp (F := Ideal) .f32 (0#32) : EReal))
      = sh u k R L := fun k hk => by
    unfold sh
    by_cases h : R.val < k
    · rw [dif_pos h, dif_neg (by omega)]
      exact zero_word
    · rw [dif_neg h, dif_pos (by omega)]
  pointwise [yT]
  exact congrArg₂ (· + ·) (congrArg₂ (· + ·) (congrArg₂ (· + ·) rfl (congrArg (cw (ix2 0 L) * ·) (hs 2 (by omega)))) (congrArg (cw (ix2 1 L) * ·) (hs 1 (by omega)))) rfl

/-- gelu's constants. -/
abbrev g3 : EReal := Ideal.ofBits FTy.f32 0x3D372713#32
abbrev gS : EReal := Ideal.ofBits FTy.f32 0x3F4C422A#32
abbrev gH : EReal := Ideal.ofBits FTy.f32 0x3F000000#32

/-- gelu of a number. -/
def gelu (v : EReal) : EReal := v * (gH * (1 + Ideal.tanh (gS * (v + g3 * (v * v * v)))))

theorem geT_at (R : Fin 4096) (L : Fin 2816) : geT g (ix2 R L) = gelu (g (ix2 R L)) := by
  pointwise! [geT, gelu]

theorem loT_at (R : Fin 4096) (L : Fin 2816) : loT u (ix2 R L) = u (ix2 R (⟨L.val, by omega⟩ : Fin 5632)) := by
  pointwise! [loT]

theorem hiT_at (R : Fin 4096) (L : Fin 2816) : hiT u (ix2 R L) = u (ix2 R (⟨2816 + L.val, by omega⟩ : Fin 5632)) := by
  pointwise! [hiT]

theorem actT_at (R : Fin 4096) (L : Fin 2816) : actT g a (ix2 R L) = g (ix2 R L) * a (ix2 R L) := by
  pointwise! [actT]

variable (m : (ℓ : Loc nD τ sig) → Buf (Elt Ideal) ℓ) (c : Dev nD)

/-- The reference's up-projection at its arguments. -/
abbrev U : FVec Ideal S4096x5632 .f32 := uT (m ((c : Thread nD τ).loc main_arg0)) (m ((c : Thread nD τ).loc main_arg1))
/-- The reference's convolution at its arguments. -/
abbrev Y : FVec Ideal S4096x5632 .f32 := yT (U m c) (m ((c : Thread nD τ).loc main_arg2)) (m ((c : Thread nD τ).loc main_arg3))

theorem res4 : Value.res_main_v39 (F := Ideal) m c = geT (hiT (Y m c)) := rfl
theorem res2 : Value.res_main_v43 (F := Ideal) m c = actT (geT (hiT (Y m c))) (loT (Y m c)) := rfl

end Cert.Reference11Ideal.UpGate

end
-- ==== Proof.UpGatePay.lean ====
/- What one tile of the call up_gate_fwd computes, read at a row and a lane: the products, the rows shifted in from the tile before, the causal convolution and gelu. -/
module

public import proofs.«01_k».proof.Defs
public import proofs.«01_k».proof.Proof.Gen.Kernel11Ideal.Frame
public import proofs.«01_k».proof.Proof.Gen.Kernel11Ideal
public import Idealize.ShloMosaic.Lib.WordCmp
public import proofs.«01_k».proof.Proof.UpGateRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.UpGate

open Cert.Kernel11Ideal Cert.Kernel11Ideal.Gen
open Cert.Reference11Ideal.UpGate (row_congr gelu)

/-- A choice on the equality of two small numbers kept as words. -/
theorem sel_eq {α : Type} (n k : ℕ) (hn : n < 2 ^ 32) (hk : k < 2 ^ 32) (a b : α) :
    Scalar.select (IntOp.cmpi CmpIPredicate.eq (BitVec.ofNat 32 n) (BitVec.ofNat 32 k)) a b = if n = k then a else b := by
  by_cases h : n = k
  · rw [Scalar.select_of_eq_one ((WordCmp.cmpi_eq_ofNat_eq_one_iff hn hk).2 h), if_pos h]
  · rw [Scalar.select_of_eq_zero ((WordCmp.cmpi_eq_ofNat_eq_zero_iff hn hk).2 h), if_neg h]

/-- The row `k` above: of the tile, or of the last of the eight rows before it. -/
def downB (u : FVec Ideal S256x1408 .f32) (h : FVec Ideal S8x1408 .f32) (k : ℕ) (hk : k ≤ 2) (r : Fin 256) (l : Fin 1408) : EReal :=
  if hr : r.val < k then h (ix2 ⟨8 - k + r.val, by omega⟩ l) else u (ix2 ⟨r.val - k, by omega⟩ l)

/-- The convolution at a row of the tile. -/
def convB (u : FVec Ideal S256x1408 .f32) (h : FVec Ideal S8x1408 .f32) (w : Vec Ideal S3x1408 .f32) (b : Vec Ideal S1x1408 .f32) (r : Fin 256) (l : Fin 1408) : EReal :=
  ((b (ix2 0 l) + w (ix2 0 l) * downB u h 2 (by omega) r l) + w (ix2 1 l) * downB u h 1 (by omega) r l) + w (ix2 2 l) * u (ix2 r l)

variable (v1 : Vec Ideal S256x1024 .bf16) (v3 : Vec Ideal S8x1024 .f32) (v5 : Vec Ideal S1024x1408 .bf16) (w : Vec Ideal S3x1408 .f32) (b : Vec Ideal S1x1408 .f32)

theorem pay6_at (r : Fin 256) (l : Fin 1408) : k0_pay6 (F := Ideal) v1 v5 (ix2 r l) = ∑ k : Fin 1024, v1 (ix2 r k) * v5 (ix2 k l) := by
  pointwise! [k0_pay6, k0_pay2, k0_pay4]

theorem pay7_at (r : Fin 256) (l : Fin 1408) : k0_pay7 (F := Ideal) v1 v5 (ix2 r l) = ∑ k : Fin 1024, v1 (ix2 r k) * v5 (ix2 k l) := by
  pointwise! [k0_pay7, k0_pay2, k0_pay5]

theorem pay8_at (i : grid0.Coords) (r : Fin 8) (l : Fin 1408) :
    k0_pay8 (F := Ideal) i v3 v5 (ix2 r l) = if 0 < (i 1).val then ∑ k : Fin 1024, v3 (ix2 r k) * v5 (ix2 k l) else 0 := by
  have hi : (i 1).val < 16 := (i 1).isLt
  pointwise [k0_pay8, k0_pay3, k0_pay4]
  by_cases h0 : 0 < (i 1).val
  · rw [if_pos h0, Scalar.select_of_eq_one]
    exact (WordCmp.cmpi_sgt_ofNat_eq_one_iff (by omega) (by omega)).2 h0
  · rw [if_neg h0, Scalar.select_of_eq_zero]
    exact (WordCmp.cmpi_sgt_ofNat_eq_zero_iff (by omega) (by omega)).2 (by omega)

theorem pay9_at (i : grid0.Coords) (r : Fin 8) (l : Fin 1408) :
    k0_pay9 (F := Ideal) i v3 v5 (ix2 r l) = if 0 < (i 1).val then ∑ k : Fin 1024, v3 (ix2 r k) * v5 (ix2 k l) else 0 := by
  have hi : (i 1).val < 16 := (i 1).isLt
  pointwise [k0_pay9, k0_pay3, k0_pay5]
  by_cases h0 : 0 < (i 1).val
  · rw [if_pos h0, Scalar.select_of_eq_one]
    exact (WordCmp.cmpi_sgt_ofNat_eq_one_iff (by omega) (by omega)).2 h0
  · rw [if_neg h0, Scalar.select_of_eq_zero]
    exact (WordCmp.cmpi_sgt_ofNat_eq_zero_iff (by omega) (by omega)).2 (by omega)

/-- The convolution of the first half, as the tile computes it. -/
abbrev payA (i : grid0.Coords) : FVec Ideal S256x1408 .f32 :=
  k0_pay16 (F := Ideal) (k0_pay6 v1 v5) (k0_pay10 v1 v5) (k0_pay11 v1 v5) (iota .tc S8x1408 32 [0] iota_S8x1408_d0_w32) (k0_pay12 i v3 v5) (k0_pay13 i v3 v5) (k0_pay14 i v1 v3 v5) k0_pay15 1#32 w b

theorem payA_at (i : grid0.Coords) (r : Fin 256) (l : Fin 1408) : payA v1 v3 v5 w b i (ix2 r l) = convB (k0_pay6 (F := Ideal) v1 v5) (k0_pay8 (F := Ideal) i v3 v5) w b r l := by
  have hr' := r.isLt
  unfold payA k0_pay14 k0_pay10 k0_pay11 k0_pay12 k0_pay13
  generalize k0_pay6 (F := Ideal) v1 v5 = u
  generalize k0_pay8 (F := Ideal) i v3 v5 = h
  unfold convB downB
  pointwise [k0_pay16, k0_pay15]
  refine congrArg₂ (· + ·) (congrArg₂ (· + ·) (congrArg₂ (· + ·) rfl (congrArg _ ?_)) (congrArg _ ?_)) rfl
  · by_cases h8 : r.val < 8
    · simp only [dif_pos h8]
      simp (disch := omega) only [sel_eq]
      by_cases h0 : r.val = 0
      · rw [if_pos h0, dif_pos (by omega)]
        exact row_congr _ _ (by simp <;> omega)
      · rw [if_neg h0]
        by_cases h1 : r.val = 1
        · rw [if_pos h1, dif_pos (by omega)]
          exact row_congr _ _ (by simp <;> omega)
        · rw [if_neg h1, dif_neg (by omega)]
          exact row_congr _ _ (by simp <;> omega)
    · simp only [dif_neg h8]
      rw [dif_neg (by omega)]
      exact row_congr _ _ (by simp <;> omega)
  · by_cases h8 : r.val < 8
    · simp only [dif_pos h8]
      simp (disch := omega) only [sel_eq]
      by_cases h0 : r.val = 0
      · rw [if_pos h0, dif_pos (by omega)]
        exact row_congr _ _ (by simp <;> omega)
      · rw [if_neg h0, dif_neg (by omega)]
        exact row_congr _ _ (by simp <;> omega)
    · simp only [dif_neg h8]
      rw [dif_neg (by omega)]
      exact row_congr _ _ (by simp <;> omega)

/-- The convolution of the second half, as the tile computes it. -/
abbrev payG (u : FVec Ideal S256x1408 .f32) (h : FVec Ideal S8x1408 .f32) : FVec Ideal S256x1408 .f32 :=
  k0_pay22 (F := Ideal) u (k0_pay17 u) (k0_pay18 u) (k0_pay20 u h) (k0_pay21 u h) w b

theorem payG_at (u : FVec Ideal S256x1408 .f32) (h : FVec Ideal S8x1408 .f32) (r : Fin 256) (l : Fin 1408) : payG w b u h (ix2 r l) = convB u h w b r l := by
  have hr' := r.isLt
  unfold payG convB downB
  pointwise [k0_pay22, k0_pay17, k0_pay18, k0_pay19, k0_pay20, k0_pay21]
  refine congrArg₂ (· + ·) (congrArg₂ (· + ·) (congrArg₂ (· + ·) rfl (congrArg _ ?_)) (congrArg _ ?_)) rfl
  · by_cases h8 : r.val < 8
    · simp only [dif_pos h8]
      simp (disch := omega) only [sel_eq]
      by_cases h0 : r.val = 0
      · rw [if_pos h0, dif_pos (by omega)]
        exact row_congr _ _ (by simp <;> omega)
      · rw [if_neg h0]
        by_cases h1 : r.val = 1
        · rw [if_pos h1, dif_pos (by omega)]
          exact row_congr _ _ (by simp <;> omega)
        · rw [if_neg h1, dif_neg (by omega)]
          exact row_congr _ _ (by simp <;> omega)
    · simp only [dif_neg h8]
      rw [dif_neg (by omega)]
      exact row_congr _ _ (by simp <;> omega)
  · by_cases h8 : r.val < 8
    · simp only [dif_pos h8]
      simp (disch := omega) only [sel_eq]
      by_cases h0 : r.val = 0
      · rw [if_pos h0, dif_pos (by omega)]
        exact row_congr _ _ (by simp <;> omega)
      · rw [if_neg h0, dif_neg (by omega)]
        exact row_congr _ _ (by simp <;> omega)
    · simp only [dif_neg h8]
      rw [dif_neg (by omega)]
      exact row_congr _ _ (by simp <;> omega)

theorem pay23_at (v10 v61 v62 : FVec Ideal S256x1408 .f32) (v71 v82 : FVec Ideal S8x1408 .f32) (r : Fin 256) (l : Fin 1408) :
    k0_pay23 (F := Ideal) v10 v61 v62 v71 v82 w b (ix2 r l) = gelu (k0_pay22 (F := Ideal) v10 v61 v62 v71 v82 w b (ix2 r l)) := by
  unfold k0_pay23
  generalize k0_pay22 (F := Ideal) v10 v61 v62 v71 v82 w b = p
  pointwise! [gelu]

theorem pay24_at (v10 v60 v61 v62 : FVec Ideal S256x1408 .f32) (v71 v82 : FVec Ideal S8x1408 .f32) (r : Fin 256) (l : Fin 1408) :
    k0_pay24 (F := Ideal) v10 v60 v61 v62 v71 v82 w b (ix2 r l) = k0_pay23 (F := Ideal) v10 v61 v62 v71 v82 w b (ix2 r l) * v60 (ix2 r l) := by
  unfold k0_pay24
  generalize k0_pay23 (F := Ideal) v10 v61 v62 v71 v82 w b = p
  pointwise!

end Cert.Kernel11Ideal.UpGate

end
-- ==== Proof.UpGate.lean ====
/- The values of the call up_gate_fwd: what each of its first five result arrays holds after the run, as an expression of the argument arrays' elements. -/
module

public import proofs.«01_k».proof.Defs
public import proofs.«01_k».proof.Proof.Gen.Kernel11Ideal.Frame
public import proofs.«01_k».proof.Proof.Gen.Kernel11Ideal
public import proofs.«01_k».proof.Proof.UpGatePay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.UpGate

open Cert.Kernel11Ideal Cert.Kernel11Ideal.Gen
open Cert.Reference11Ideal (S4096x5632)
open Cert.Reference11Ideal.UpGate (row_congr gelu uT yT geT loT hiT actT sh uT_at yT_at geT_at loT_at hiT_at actT_at)

variable (m : (ℓ : Loc nD τ sig) → Buf (Elt Ideal) ℓ) (c : Dev nD)

/-- The argument arrays, at their shapes. -/
abbrev aX : FVec Ideal S4096x1024 .f32 := m ((c : Thread nD τ).loc main_arg0)
abbrev aW : FVec Ideal S1024x5632 .f32 := m ((c : Thread nD τ).loc main_arg1)
abbrev aC : FVec Ideal S3x5632 .f32 := m ((c : Thread nD τ).loc main_arg2)
abbrev aB : FVec Ideal S5632 .f32 := m ((c : Thread nD τ).loc main_arg3)
/-- The up-projection and its convolution. -/
abbrev U : FVec Ideal S4096x5632 .f32 := uT (aX m c) (aW m c)
abbrev Y : FVec Ideal S4096x5632 .f32 := yT (U m c) (aC m c) (aB m c)

theorem idx_val : ∀ t : Fin cfg0.N, win0_0.index t = ![t.val % 16, 0] ∧ win0_1.index t = ![t.val % 16 * 32 - 1, 0] ∧ win0_2.index t = ![0, t.val / 16] ∧ win0_3.index t = ![0, 2 + t.val / 16]
    ∧ win0_4.index t = ![0, t.val / 16] ∧ win0_5.index t = ![0, 2 + t.val / 16] ∧ win0_6.index t = ![0, t.val / 16] ∧ win0_7.index t = ![0, 2 + t.val / 16]
    ∧ win0_8.index t = ![t.val % 16, t.val / 16] ∧ win0_9.index t = ![t.val % 16, t.val / 16] ∧ win0_10.index t = ![t.val % 16, t.val / 16]
    ∧ win0_11.index t = ![t.val % 16, t.val / 16] ∧ win0_12.index t = ![t.val % 16, t.val / 16] :=
  (by decide +kernel : ∀ t : Fin grid0.N, _)

theorem row_val : ∀ t : Fin cfg0.N, (grid0.coords t 1).val = t.val % 16 :=
  (by decide +kernel : ∀ t : Fin grid0.N, _)

/-! ## The operands that the host computes, at an index -/

theorem V_x (R : Fin 4096) (k : Fin 1024) : V m c main_v0 (ix2 R k) = aX m c (ix2 R k) := by
  have e : V m c main_v0 = (truncf .bf16 (aX m c) bitsLt_bf16_f32 : FVec Ideal S4096x1024 .bf16) := by entry_read; rfl
  rw [e]; pointwise!

theorem V_w (k : Fin 1024) (l : Fin 5632) : V m c main_v1 (ix2 k l) = aW m c (ix2 k l) := by
  have e : V m c main_v1 = (truncf .bf16 (aW m c) bitsLt_bf16_f32 : FVec Ideal S1024x5632 .bf16) := by entry_read; rfl
  rw [e]; pointwise!

theorem V_b (u : Fin 1) (l : Fin 5632) : V m c main_v2 (ix2 u l) = aB m c (ix1 l) := by
  have e : V m c main_v2 = (shapeCast S1x5632 (aB m c) shapeCasts_S5632_S1x5632 : FVec Ideal S1x5632 .f32) := by entry_read; rfl
  rw [e]; pointwise!

theorem V_h : V m c main_arg0 = aX m c := by entry_read; rfl
theorem V_c : V m c main_arg2 = aC m c := by entry_read; rfl

/-! ## The blocks of a grid point, at an index -/

variable (t : Fin cfg0.N)

theorem blk_x (r : Fin 256) (k : Fin 1024) (R : Fin 4096) (hR : R.val = t.val % 16 * 256 + r.val) : iblk m c 0 t (ix2 r k) = aX m c (ix2 R k) := by
  rw [← V_x]; blk_point [iblk, idx_val t]
theorem blk_h (r : Fin 8) (k : Fin 1024) (R : Fin 4096) (hR : R.val = (t.val % 16 * 32 - 1) * 8 + r.val) : iblk m c 1 t (ix2 r k) = aX m c (ix2 R k) := by
  rw [← V_h]; blk_point [iblk, idx_val t]
theorem blk_wa (k : Fin 1024) (l : Fin 1408) (L : Fin 5632) (hL : L.val = t.val / 16 * 1408 + l.val) : iblk m c 2 t (ix2 k l) = aW m c (ix2 k L) := by
  rw [← V_w]; blk_point [iblk, idx_val t]
theorem blk_wg (k : Fin 1024) (l : Fin 1408) (L : Fin 5632) (hL : L.val = (2 + t.val / 16) * 1408 + l.val) : iblk m c 3 t (ix2 k l) = aW m c (ix2 k L) := by
  rw [← V_w]; blk_point [iblk, idx_val t]
theorem blk_ca (k : Fin 3) (l : Fin 1408) (L : Fin 5632) (hL : L.val = t.val / 16 * 1408 + l.val) : iblk m c 4 t (ix2 k l) = aC m c (ix2 k L) := by
  rw [← V_c]; blk_point [iblk, idx_val t]
theorem blk_cg (k : Fin 3) (l : Fin 1408) (L : Fin 5632) (hL : L.val = (2 + t.val / 16) * 1408 + l.val) : iblk m c 5 t (ix2 k l) = aC m c (ix2 k L) := by
  rw [← V_c]; blk_point [iblk, idx_val t]
theorem blk_ba (u : Fin 1) (l : Fin 1408) (L : Fin 5632) (hL : L.val = t.val / 16 * 1408 + l.val) : iblk m c 6 t (ix2 u l) = aB m c (ix1 L) := by
  rw [← V_b _ _ u]; blk_point [iblk, idx_val t]
theorem blk_bg (u : Fin 1) (l : Fin 1408) (L : Fin 5632) (hL : L.val = (2 + t.val / 16) * 1408 + l.val) : iblk m c 7 t (ix2 u l) = aB m c (ix1 L) := by
  rw [← V_b _ _ u]; blk_point [iblk, idx_val t]

/-! ## The products of a grid point -/

theorem row_lt (r : Fin 256) : t.val % 16 * 256 + r.val < 4096 := by omega

/-- The row of the arrays that a row of the tile is. -/
abbrev gR (r : Fin 256) : Fin 4096 := ⟨t.val % 16 * 256 + r.val, row_lt t r⟩

theorem prod_a (r : Fin 256) (l : Fin 1408) (L : Fin 5632) (hL : L.val = t.val / 16 * 1408 + l.val) :
    k0_pay6 (F := Ideal) (iblk m c 0 t) (iblk m c 2 t) (ix2 r l) = U m c (ix2 (gR t r) L) :=
  (pay6_at _ _ r l).trans ((Finset.sum_congr rfl fun k _ => congrArg₂ (fun a b : EReal => a * b) (blk_x m c t r k _ rfl) (blk_wa m c t k l L hL)).trans
    (uT_at (aX m c) (aW m c) (gR t r) L).symm)

theorem prod_g (r : Fin 256) (l : Fin 1408) (L : Fin 5632) (hL : L.val = (2 + t.val / 16) * 1408 + l.val) :
    k0_pay7 (F := Ideal) (iblk m c 0 t) (iblk m c 3 t) (ix2 r l) = U m c (ix2 (gR t r) L) :=
  (pay7_at _ _ r l).trans ((Finset.sum_congr rfl fun k _ => congrArg₂ (fun a b : EReal => a * b) (blk_x m c t r k _ rfl) (blk_wg m c t k l L hL)).trans
    (uT_at (aX m c) (aW m c) (gR t r) L).symm)

theorem halo_a (r : Fin 8) (l : Fin 1408) (L : Fin 5632) (hL : L.val = t.val / 16 * 1408 + l.val) :
    k0_pay8 (F := Ideal) (grid0.coords t) (iblk m c 1 t) (iblk m c 2 t) (ix2 r l)
      = if h : 0 < t.val % 16 then U m c (ix2 (⟨t.val % 16 * 256 - 8 + r.val, by omega⟩ : Fin 4096) L) else 0 := by
  refine (pay8_at _ _ _ r l).trans ?_
  rw [row_val]
  by_cases h : 0 < t.val % 16
  · rw [if_pos h, dif_pos h]
    exact (Finset.sum_congr rfl fun k _ => congrArg₂ (fun a b : EReal => a * b) (blk_h m c t r k (⟨t.val % 16 * 256 - 8 + r.val, by omega⟩ : Fin 4096) (by show t.val % 16 * 256 - 8 + r.val = _; omega))
      (blk_wa m c t k l L hL)).trans (uT_at (aX m c) (aW m c) _ L).symm
  · rw [if_neg h, dif_neg h]

theorem halo_g (r : Fin 8) (l : Fin 1408) (L : Fin 5632) (hL : L.val = (2 + t.val / 16) * 1408 + l.val) :
    k0_pay9 (F := Ideal) (grid0.coords t) (iblk m c 1 t) (iblk m c 3 t) (ix2 r l)
      = if h : 0 < t.val % 16 then U m c (ix2 (⟨t.val % 16 * 256 - 8 + r.val, by omega⟩ : Fin 4096) L) else 0 := by
  refine (pay9_at _ _ _ r l).trans ?_
  rw [row_val]
  by_cases h : 0 < t.val % 16
  · rw [if_pos h, dif_pos h]
    exact (Finset.sum_congr rfl fun k _ => congrArg₂ (fun a b : EReal => a * b) (blk_h m c t r k (⟨t.val % 16 * 256 - 8 + r.val, by omega⟩ : Fin 4096) (by show t.val % 16 * 256 - 8 + r.val = _; omega))
      (blk_wg m c t k l L hL)).trans (uT_at (aX m c) (aW m c) _ L).symm
  · rw [if_neg h, dif_neg h]

/-- The rows shifted down in a tile are the shifted rows of the whole array, if the tile and the rows before it are the whole array's. -/
theorem down_eq (W : FVec Ideal S4096x5632 .f32) (u : FVec Ideal S256x1408 .f32) (h : FVec Ideal S8x1408 .f32) (r : Fin 256) (l : Fin 1408) (L : Fin 5632)
    (hu : ∀ a : Fin 256, u (ix2 a l) = W (ix2 (gR t a) L))
    (hh : ∀ a : Fin 8, h (ix2 a l) = if _ : 0 < t.val % 16 then W (ix2 (⟨t.val % 16 * 256 - 8 + a.val, by omega⟩ : Fin 4096) L) else 0)
    (k : ℕ) (hk : k ≤ 2) : downB u h k hk r l = sh W k (gR t r) L := by
  unfold downB sh
  by_cases hr : r.val < k
  · rw [dif_pos hr, hh]
    by_cases h0 : 0 < t.val % 16
    · rw [dif_pos h0, dif_neg (by show ¬ t.val % 16 * 256 + r.val < k; omega)]
      exact congrArg (fun a => W (ix2 a L)) (Fin.ext (by show t.val % 16 * 256 - 8 + (8 - k + r.val) = t.val % 16 * 256 + r.val - k; omega))
    · rw [dif_neg h0, dif_pos (by show t.val % 16 * 256 + r.val < k; omega)]
  · rw [dif_neg hr, hu, dif_neg (by show ¬ t.val % 16 * 256 + r.val < k; omega)]
    exact congrArg (fun a => W (ix2 a L)) (Fin.ext (by show t.val % 16 * 256 + (r.val - k) = t.val % 16 * 256 + r.val - k; omega))

theorem conv_a (r : Fin 256) (l : Fin 1408) (L : Fin 5632) (hL : L.val = t.val / 16 * 1408 + l.val) :
    payA (iblk m c 0 t) (iblk m c 1 t) (iblk m c 2 t) (iblk m c 4 t) (iblk m c 6 t) (grid0.coords t) (ix2 r l) = Y m c (ix2 (gR t r) L) := by
  refine (payA_at _ _ _ _ _ _ r l).trans (Eq.trans ?_ (yT_at (U m c) (aC m c) (aB m c) (gR t r) L).symm)
  have hd := down_eq t (U m c) _ _ r l L (fun a => prod_a m c t a l L hL) (fun a => halo_a m c t a l L hL)
  exact congrArg₂ (· + ·) (congrArg₂ (· + ·) (congrArg₂ (· + ·) (blk_ba m c t 0 l L hL) (congrArg₂ (· * ·) (blk_ca m c t 0 l L hL) (hd 2 (by omega))))
    (congrArg₂ (· * ·) (blk_ca m c t 1 l L hL) (hd 1 (by omega)))) (congrArg₂ (· * ·) (blk_ca m c t 2 l L hL) (prod_a m c t r l L hL))

/-- The tile's convolution of the second half. -/
abbrev gB : FVec Ideal S256x1408 .f32 := payG (iblk m c 5 t) (iblk m c 7 t) (k0_pay7 (F := Ideal) (iblk m c 0 t) (iblk m c 3 t)) (k0_pay9 (F := Ideal) (grid0.coords t) (iblk m c 1 t) (iblk m c 3 t))

theorem conv_g (r : Fin 256) (l : Fin 1408) (L : Fin 5632) (hL : L.val = (2 + t.val / 16) * 1408 + l.val) : gB m c t (ix2 r l) = Y m c (ix2 (gR t r) L) := by
  refine (payG_at _ _ _ _ r l).trans (Eq.trans ?_ (yT_at (U m c) (aC m c) (aB m c) (gR t r) L).symm)
  have hd := down_eq t (U m c) _ _ r l L (fun a => prod_g m c t a l L hL) (fun a => halo_g m c t a l L hL)
  exact congrArg₂ (· + ·) (congrArg₂ (· + ·) (congrArg₂ (· + ·) (blk_bg m c t 0 l L hL) (congrArg₂ (· * ·) (blk_cg m c t 0 l L hL) (hd 2 (by omega))))
    (congrArg₂ (· * ·) (blk_cg m c t 1 l L hL) (hd 1 (by omega)))) (congrArg₂ (· * ·) (blk_cg m c t 2 l L hL) (prod_g m c t r l L hL))

/-- gelu of the second half's convolution, as the tile computes it. -/
abbrev geB : FVec Ideal S256x1408 .f32 :=
  k0_pay23 (F := Ideal) (k0_pay7 (iblk m c 0 t) (iblk m c 3 t)) (k0_pay17 (k0_pay7 (iblk m c 0 t) (iblk m c 3 t))) (k0_pay18 (k0_pay7 (iblk m c 0 t) (iblk m c 3 t)))
    (k0_pay20 (k0_pay7 (iblk m c 0 t) (iblk m c 3 t)) (k0_pay9 (grid0.coords t) (iblk m c 1 t) (iblk m c 3 t)))
    (k0_pay21 (k0_pay7 (iblk m c 0 t) (iblk m c 3 t)) (k0_pay9 (grid0.coords t) (iblk m c 1 t) (iblk m c 3 t))) (iblk m c 5 t) (iblk m c 7 t)

/-- The gated activation, as the tile computes it. -/
abbrev actB : FVec Ideal S256x1408 .bf16 :=
  k0_pay24 (F := Ideal) (k0_pay7 (iblk m c 0 t) (iblk m c 3 t)) (payA (iblk m c 0 t) (iblk m c 1 t) (iblk m c 2 t) (iblk m c 4 t) (iblk m c 6 t) (grid0.coords t))
    (k0_pay17 (k0_pay7 (iblk m c 0 t) (iblk m c 3 t))) (k0_pay18 (k0_pay7 (iblk m c 0 t) (iblk m c 3 t)))
    (k0_pay20 (k0_pay7 (iblk m c 0 t) (iblk m c 3 t)) (k0_pay9 (grid0.coords t) (iblk m c 1 t) (iblk m c 3 t)))
    (k0_pay21 (k0_pay7 (iblk m c 0 t) (iblk m c 3 t)) (k0_pay9 (grid0.coords t) (iblk m c 1 t) (iblk m c 3 t))) (iblk m c 5 t) (iblk m c 7 t)

section

variable (r : Fin 256) (l : Fin 1408)

theorem col_lt : t.val / 16 * 1408 + l.val < 2816 := by
  have h1 : t.val < 32 := t.isLt
  omega

/-- The column of a half that a lane of the tile is. -/
abbrev gL : Fin 2816 := ⟨t.val / 16 * 1408 + l.val, col_lt t l⟩

theorem half_col : 2816 + (gL t l).val = (2 + t.val / 16) * 1408 + l.val := by
  show 2816 + (t.val / 16 * 1408 + l.val) = _
  omega

theorem ge_g : geB m c t (ix2 r l) = geT (hiT (Y m c)) (ix2 (gR t r) (gL t l)) :=
  (pay23_at _ _ _ _ _ _ _ r l).trans ((congrArg gelu (conv_g m c t r l (⟨2816 + (gL t l).val, by omega⟩ : Fin 5632) (half_col t l))).trans
    ((congrArg gelu (hiT_at (Y m c) (gR t r) (gL t l)).symm).trans (geT_at (hiT (Y m c)) (gR t r) (gL t l)).symm))

theorem a_a : payA (iblk m c 0 t) (iblk m c 1 t) (iblk m c 2 t) (iblk m c 4 t) (iblk m c 6 t) (grid0.coords t) (ix2 r l) = loT (Y m c) (ix2 (gR t r) (gL t l)) :=
  (conv_a m c t r l (⟨(gL t l).val, by omega⟩ : Fin 5632) rfl).trans (loT_at (Y m c) (gR t r) (gL t l)).symm

theorem act_at : actB m c t (ix2 r l) = actT (geT (hiT (Y m c))) (loT (Y m c)) (ix2 (gR t r) (gL t l)) :=
  (pay24_at _ _ _ _ _ _ _ _ r l).trans ((congrArg₂ (· * ·) (ge_g m c t r l) (a_a m c t r l)).trans (actT_at (geT (hiT (Y m c))) (loT (Y m c)) (gR t r) (gL t l)).symm)

end

/-! ## The results -/

/-- The first half of the up-projection after the run. -/
theorem final8 : (dats m 0 c).arrAt 8 (cfgs 0).N = loT (U m c) := by
  refine (dats m 0 c).arrAt_eq_of_covers 8 _ (by decide +kernel) fun t hf y => ?_
  blk_simp
  have hy : (win0_8.blk t).view.emb y = ix2 (gR t (y 0)) (gL t (y 1)) := by blk_point [idx_val t]
  have fin := (congrArg (k0_pay6 (F := Ideal) (iblk m c 0 t) (iblk m c 2 t)) (eq_ix2 (n0 := 256) (n1 := 1408) y)).trans
    (((prod_a m c t (y 0) (y 1) (⟨(gL t (y 1)).val, by omega⟩ : Fin 5632) rfl).trans (loT_at (U m c) (gR t (y 0)) (gL t (y 1))).symm).trans (congrArg (loT (U m c)) hy.symm))
  rw [after0_8]; unfold_out out0_8; frame_out; exact fin

/-- The second half of the up-projection after the run. -/
theorem final9 : (dats m 0 c).arrAt 9 (cfgs 0).N = hiT (U m c) := by
  refine (dats m 0 c).arrAt_eq_of_covers 9 _ (by decide +kernel) fun t hf y => ?_
  blk_simp
  have hy : (win0_9.blk t).view.emb y = ix2 (gR t (y 0)) (gL t (y 1)) := by blk_point [idx_val t]
  have fin := (congrArg (k0_pay7 (F := Ideal) (iblk m c 0 t) (iblk m c 3 t)) (eq_ix2 (n0 := 256) (n1 := 1408) y)).trans
    (((prod_g m c t (y 0) (y 1) (⟨2816 + (gL t (y 1)).val, by omega⟩ : Fin 5632) (half_col t (y 1))).trans (hiT_at (U m c) (gR t (y 0)) (gL t (y 1))).symm).trans (congrArg (hiT (U m c)) hy.symm))
  rw [after0_9]; unfold_out out0_9; frame_out; exact fin

/-- The gated activation after the run. -/
theorem final10 : (dats m 0 c).arrAt 10 (cfgs 0).N = actT (geT (hiT (Y m c))) (loT (Y m c)) := by
  refine (dats m 0 c).arrAt_eq_of_covers 10 _ (by decide +kernel) fun t hf y => ?_
  blk_simp
  have hy : (win0_10.blk t).view.emb y = ix2 (gR t (y 0)) (gL t (y 1)) := by blk_point [idx_val t]
  have fin := (congrArg (actB m c t) (eq_ix2 (n0 := 256) (n1 := 1408) y)).trans
    ((act_at m c t (y 0) (y 1)).trans (congrArg (actT (geT (hiT (Y m c))) (loT (Y m c))) hy.symm))
  rw [after0_10]; unfold_out out0_10; frame_out; exact fin

/-- The convolution's first half after the run. -/
theorem final11 : (dats m 0 c).arrAt 11 (cfgs 0).N = loT (Y m c) := by
  refine (dats m 0 c).arrAt_eq_of_covers 11 _ (by decide +kernel) fun t hf y => ?_
  blk_simp
  have hy : (win0_11.blk t).view.emb y = ix2 (gR t (y 0)) (gL t (y 1)) := by blk_point [idx_val t]
  have fin := (congrArg (payA (iblk m c 0 t) (iblk m c 1 t) (iblk m c 2 t) (iblk m c 4 t) (iblk m c 6 t) (grid0.coords t)) (eq_ix2 (n0 := 256) (n1 := 1408) y)).trans
    ((a_a m c t (y 0) (y 1)).trans (congrArg (loT (Y m c)) hy.symm))
  rw [after0_11]; unfold_out out0_11; frame_out; exact fin

/-- gelu of the convolution's second half after the run. -/
theorem final12 : (dats m 0 c).arrAt 12 (cfgs 0).N = geT (hiT (Y m c)) := by
  refine (dats m 0 c).arrAt_eq_of_covers 12 _ (by decide +kernel) fun t hf y => ?_
  blk_simp
  have hy : (win0_12.blk t).view.emb y = ix2 (gR t (y 0)) (gL t (y 1)) := by blk_point [idx_val t]
  have fin := (congrArg (geB m c t) (eq_ix2 (n0 := 256) (n1 := 1408) y)).trans
    ((ge_g m c t (y 0) (y 1)).trans (congrArg (geT (hiT (Y m c))) hy.symm))
  rw [after0_12]; unfold_out out0_12; frame_out; exact fin

end Cert.Kernel11Ideal.UpGate

end
-- ==== Proof.Claim11.lean ====
/- The claims about the programs of Kernel11 and Reference11. -/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.UpGate
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C11

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run (F := Ideal) m ρ)
theorem preserves : Cert.preserves_Kernel11_Kernel11Ideal := trivial

set_option maxHeartbeats 4000000 in
/-- Both programs end with the same five result arrays. -/
theorem algebraic : Cert.algebraic_Kernel11Ideal_Reference11Ideal := by
  pair_intro
  · run_from Cert.Kernel11Ideal.Gen.run_main m g
  · refine θ_run_mono (Cert.Reference11Ideal.Value.run m' g') ?_
    intro r hr c
    obtain ⟨h0, h1, h2, h3, h4, hargs⟩ := hr c
    obtain ⟨a0, a1, a2, a3⟩ := hagree c
    have eU : Cert.Reference11Ideal.UpGate.U m' c = Cert.Kernel11Ideal.UpGate.U m c := by
      rw [Cert.Reference11Ideal.UpGate.U, a0, a1]
    have eY : Cert.Reference11Ideal.UpGate.Y m' c = Cert.Kernel11Ideal.UpGate.Y m c := by
      rw [Cert.Reference11Ideal.UpGate.Y, eU, a2, a3]
    refine ⟨h0.trans ?_, h1.trans ?_, h2.trans ?_, h3.trans ?_, h4.trans ?_, hargs⟩
    · refine Eq.trans (b := Cert.Reference11Ideal.UpGate.loT (Cert.Reference11Ideal.UpGate.U m' c)) rfl (Eq.trans ?_ (Cert.Kernel11Ideal.UpGate.final8 m c).symm)
      rw [eU]
    · refine Eq.trans (b := Cert.Reference11Ideal.UpGate.hiT (Cert.Reference11Ideal.UpGate.U m' c)) rfl (Eq.trans ?_ (Cert.Kernel11Ideal.UpGate.final9 m c).symm)
      rw [eU]
    · refine (Cert.Reference11Ideal.UpGate.res2 m' c).trans (Eq.trans ?_ (Cert.Kernel11Ideal.UpGate.final10 m c).symm)
      rw [eY]
    · refine Eq.trans (b := Cert.Reference11Ideal.UpGate.loT (Cert.Reference11Ideal.UpGate.Y m' c)) rfl (Eq.trans ?_ (Cert.Kernel11Ideal.UpGate.final11 m c).symm)
      rw [eY]
    · refine (Cert.Reference11Ideal.UpGate.res4 m' c).trans (Eq.trans ?_ (Cert.Kernel11Ideal.UpGate.final12 m c).symm)
      rw [eY]

end Cert.Proof.C11

end
-- ==== Proof.OutRef.lean ====
/- The reference of the call out_ln1 in stages, each at an index. -/
module

public import proofs.«01_k».proof.Defs
public import proofs.«01_k».proof.Proof.Gen.Reference12Ideal.Run
public import proofs.«01_k».proof.Proof.UpBwdRow
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference12Ideal.Out

open Cert.Reference12Ideal Cert.Reference12Ideal.Gen
open Cert.ReferenceIdeal.Row (mu vs rs xh cN cE cA)

/-- The norm's operand. -/
def zT (o : Vec Ideal S4096x512 .f32) (d : Vec Ideal S4096x512 .f32) (w : Vec Ideal S1024x1024 .f32) (x : Vec Ideal S4096x1024 .f32) : FVec Ideal S4096x1024 .f32 :=
  addf (mulf (broadcastInDim S4096x1024 ![] bcast_S_S4096x1024 (constant S_ .f32 0x3F9837F0#32)) x) (Host.dotGeneral (F := Ideal) (φ₁ := .f32) (φ₂ := .f32) dot_S4096x1024_S1024x1024_S4096x1024_1_0_0_1_n_n none (Value.fn_main_v2 (F := Ideal) o d) w)

/-- The norm's result. -/
def yT (z : Vec Ideal S4096x1024 .f32) (g : Vec Ideal S1024 .f32) (b : Vec Ideal S1024 .f32) : FVec Ideal S4096x1024 .f32 :=
  addf (mulf (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 g))) (broadcastInDim S4096x1024 ![0, 1] bcast_S1x1024_S4096x1024_0_1 (broadcastInDim S1x1024 ![1] bcast_S1024_S1x1024_1 b))

/-- The normalised rows. -/
def xhT (z : Vec Ideal S4096x1024 .f32) : FVec Ideal S4096x1024 .f32 :=
  mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))

/-- The reciprocal deviations. -/
def rsT (z : Vec Ideal S4096x1024 .f32) : FVec Ideal S4096x1 .f32 :=
  Host.rsqrt (addf (Host.divf (broadcastInDim S4096x1 ![0] bcast_S4096_S4096x1_0 (Host.reduceAdd (mulf (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32))))) (subf z (broadcastInDim S4096x1024 ![0, 1] bcast_S4096x1_S4096x1024_0_1 (Host.divf (broadcastInDim S4096x1 ![0] bcast_S4096_S4096x1_0 (Host.reduceAdd z (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

variable (o d : Vec Ideal S4096x512 .f32) (w : Vec Ideal S1024x1024 .f32) (x z : Vec Ideal S4096x1024 .f32) (g b : Vec Ideal S1024 .f32)

theorem cat_lo (r : Fin 4096) (k : Fin 512) : Value.fn_main_v2 (F := Ideal) o d (ix2 r (⟨k.val, by omega⟩ : Fin 1024)) = o (ix2 r k) := by
  pointwise! [Value.fn_main_v2]

theorem cat_hi (r : Fin 4096) (k : Fin 512) : Value.fn_main_v2 (F := Ideal) o d (ix2 r (⟨512 + k.val, by omega⟩ : Fin 1024)) = d (ix2 r k) := by
  pointwise! [Value.fn_main_v2]

theorem zT_cat (r : Fin 4096) (l : Fin 1024) : zT o d w x (ix2 r l) = cA * x (ix2 r l) + ∑ k : Fin 1024, Value.fn_main_v2 (F := Ideal) o d (ix2 r k) * w (ix2 k l) := by
  unfold zT
  generalize Value.fn_main_v2 (F := Ideal) o d = p
  pointwise!

/-- The product over the concatenated columns is the sum of the two halves' products. -/
theorem zT_at (r : Fin 4096) (l : Fin 1024) : zT o d w x (ix2 r l) = cA * x (ix2 r l)
    + ((∑ k : Fin 512, o (ix2 r k) * w (ix2 (⟨k.val, by omega⟩ : Fin 1024) l)) + ∑ k : Fin 512, d (ix2 r k) * w (ix2 (⟨512 + k.val, by omega⟩ : Fin 1024) l)) := by
  refine (zT_cat o d w x r l).trans (congrArg (cA * x (ix2 r l) + ·) ?_)
  refine (Fin.sum_univ_add (a := 512) (b := 512) fun k : Fin 1024 => Value.fn_main_v2 (F := Ideal) o d (ix2 r k) * w (ix2 k l)).trans ?_
  exact congrArg₂ (· + ·) (Fin.sum_fin_congr fun k => congrArg (· * w _) (cat_lo o d r k)) (Fin.sum_fin_congr fun k => congrArg (· * w _) (cat_hi o d r k))

theorem yT_at (r : Fin 4096) (l : Fin 1024) : yT z g b (ix2 r l) = xh z r l * g (ix1 l) + b (ix1 l) := by
  pointwise! [yT]

theorem xhT_at (r : Fin 4096) (l : Fin 1024) : xhT z (ix2 r l) = xh z r l := by
  pointwise! [xhT]

theorem rsT_at (r : Fin 4096) (u : Fin 1) : rsT z (ix2 r u) = rs z r := by
  pointwise! [rsT]

variable (m : (ℓ : Loc nD τ sig) → Buf (Elt Ideal) ℓ) (c : Dev nD)

/-- The reference's operand at its arguments. -/
abbrev Z : FVec Ideal S4096x1024 .f32 := zT (m ((c : Thread nD τ).loc main_arg0)) (m ((c : Thread nD τ).loc main_arg1)) (m ((c : Thread nD τ).loc main_arg2)) (m ((c : Thread nD τ).loc main_arg3))

theorem res0 : Value.res_main_v28 (F := Ideal) m c = yT (Z m c) (m ((c : Thread nD τ).loc main_arg4)) (m ((c : Thread nD τ).loc main_arg5)) := rfl
theorem res3 : Value.res_main_v33 (F := Ideal) m c = truncf (F := Ideal) .bf16 (yT (Z m c) (m ((c : Thread nD τ).loc main_arg4)) (m ((c : Thread nD τ).loc main_arg5))) bitsLt_bf16_f32 := rfl

end Cert.Reference12Ideal.Out

end
-- ==== Proof.OutLn.lean ====
/- The values of the call out_ln1: what each of its four result arrays holds after the run, as an expression of the argument arrays' elements. -/
module

public import proofs.«01_k».proof.Defs
public import proofs.«01_k».proof.Proof.Gen.Kernel12Ideal.Frame
public import proofs.«01_k».proof.Proof.Gen.Kernel12Ideal
public import proofs.«01_k».proof.Proof.OutRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Out

open Cert.Kernel12Ideal Cert.Kernel12Ideal.Gen
open Cert.ReferenceIdeal.Row (mu vs rs xh cN cE cA)
open Cert.Reference12Ideal.Out (zT yT xhT rsT zT_at yT_at xhT_at rsT_at)

variable (m : (ℓ : Loc nD τ sig) → Buf (Elt Ideal) ℓ) (c : Dev nD)

/-- The argument arrays, at their shapes. -/
abbrev aO : FVec Ideal S4096x512 .f32 := m ((c : Thread nD τ).loc main_arg0)
abbrev aD : FVec Ideal S4096x512 .f32 := m ((c : Thread nD τ).loc main_arg1)
abbrev aW : FVec Ideal S1024x1024 .f32 := m ((c : Thread nD τ).loc main_arg2)
abbrev aX : FVec Ideal S4096x1024 .f32 := m ((c : Thread nD τ).loc main_arg3)
abbrev aG : FVec Ideal S1024 .f32 := m ((c : Thread nD τ).loc main_arg4)
abbrev aB : FVec Ideal S1024 .f32 := m ((c : Thread nD τ).loc main_arg5)
/-- The norm's operand. -/
abbrev Z : FVec Ideal S4096x1024 .f32 := zT (aO m c) (aD m c) (aW m c) (aX m c)

theorem idx_val : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] :=
  (by decide +kernel : ∀ t : Fin grid0.N, _)

/-! ## The operands that the host computes, at an index -/

theorem V_w (k : Fin 1024) (l : Fin 1024) : V m c main_v0 (ix2 k l) = aW m c (ix2 k l) := by
  have e : V m c main_v0 = (truncf .bf16 (aW m c) bitsLt_bf16_f32 : FVec Ideal S1024x1024 .bf16) := by entry_read; rfl
  rw [e]; pointwise!

theorem V_g (u : Fin 1) (l : Fin 1024) : V m c main_v1 (ix2 u l) = aG m c (ix1 l) := by
  have e : V m c main_v1 = (shapeCast S1x1024 (aG m c) shapeCasts_S1024_S1x1024 : FVec Ideal S1x1024 .f32) := by entry_read; rfl
  rw [e]; pointwise!

theorem V_b (u : Fin 1) (l : Fin 1024) : V m c main_v2 (ix2 u l) = aB m c (ix1 l) := by
  have e : V m c main_v2 = (shapeCast S1x1024 (aB m c) shapeCasts_S1024_S1x1024 : FVec Ideal S1x1024 .f32) := by entry_read; rfl
  rw [e]; pointwise!

theorem V_o : V m c main_arg0 = aO m c := by entry_read; rfl
theorem V_d : V m c main_arg1 = aD m c := by entry_read; rfl
theorem V_x : V m c main_arg3 = aX m c := by entry_read; rfl

/-! ## The blocks of a grid point, at an index -/

theorem blk_o (t : Fin cfg0.N) (r : Fin 512) (k : Fin 512) (R : Fin 4096) (hR : R.val = t.val * 512 + r.val) : iblk m c 0 t (ix2 r k) = aO m c (ix2 R k) := by
  rw [← V_o]; blk_point [iblk, idx_val t]
theorem blk_d (t : Fin cfg0.N) (r : Fin 512) (k : Fin 512) (R : Fin 4096) (hR : R.val = t.val * 512 + r.val) : iblk m c 1 t (ix2 r k) = aD m c (ix2 R k) := by
  rw [← V_d]; blk_point [iblk, idx_val t]
theorem blk_w (t : Fin cfg0.N) (k : Fin 1024) (l : Fin 1024) : iblk m c 2 t (ix2 k l) = aW m c (ix2 k l) := by
  rw [← V_w]; blk_point [iblk, idx_val t]
theorem blk_x (t : Fin cfg0.N) (r : Fin 512) (l : Fin 1024) (R : Fin 4096) (hR : R.val = t.val * 512 + r.val) : iblk m c 3 t (ix2 r l) = aX m c (ix2 R l) := by
  rw [← V_x]; blk_point [iblk, idx_val t]
theorem blk_g (t : Fin cfg0.N) (u : Fin 1) (l : Fin 1024) : iblk m c 4 t (ix2 u l) = aG m c (ix1 l) := by
  rw [← V_g _ _ u]; blk_point [iblk, idx_val t]
theorem blk_b (t : Fin cfg0.N) (u : Fin 1) (l : Fin 1024) : iblk m c 5 t (ix2 u l) = aB m c (ix1 l) := by
  rw [← V_b _ _ u]; blk_point [iblk, idx_val t]

/-! ## The stored terms, at an index -/

variable (v0 v5 : Vec Ideal S512x512 .f32) (v2 v7 : Vec Ideal S512x1024 .bf16) (v11 : Vec Ideal S512x1024 .f32) (v15 v17 : Vec Ideal S1x1024 .f32)

/-- The norm's operand in a block. -/
def zB (r : Fin 512) (l : Fin 1024) : EReal := cA * v11 (ix2 r l) + ((∑ k : Fin 512, v0 (ix2 r k) * v2 (ix2 k l)) + ∑ k : Fin 512, v5 (ix2 r k) * v7 (ix2 k l))

theorem pay4_at (r : Fin 512) (l : Fin 1024) : k0_pay4 (F := Ideal) v0 v2 v5 v7 v11 (ix2 r l)
    = zB v0 v5 v2 v7 v11 r l - Ideal.div (∑ k : Fin 1024, zB v0 v5 v2 v7 v11 r k) cN := by
  pointwise! [k0_pay4]

theorem pay5_at (r : Fin 512) (u : Fin 1) : k0_pay5 (F := Ideal) v0 v2 v5 v7 v11 (ix2 r u)
    = Ideal.rsqrt (Ideal.div (∑ k : Fin 1024, k0_pay4 (F := Ideal) v0 v2 v5 v7 v11 (ix2 r k) * k0_pay4 (F := Ideal) v0 v2 v5 v7 v11 (ix2 r k)) cN + cE) := by
  unfold k0_pay5
  generalize k0_pay4 (F := Ideal) v0 v2 v5 v7 v11 = p
  pointwise!

theorem pay6_at (r : Fin 512) (l : Fin 1024) : k0_pay6 (F := Ideal) v0 v2 v5 v7 v11 (ix2 r l)
    = k0_pay4 (F := Ideal) v0 v2 v5 v7 v11 (ix2 r l) * k0_pay5 (F := Ideal) v0 v2 v5 v7 v11 (ix2 r 0) := by
  unfold k0_pay6
  generalize k0_pay4 (F := Ideal) v0 v2 v5 v7 v11 = p
  generalize k0_pay5 (F := Ideal) v0 v2 v5 v7 v11 = q
  pointwise!

theorem pay1_at (r : Fin 512) (l : Fin 1024) : k0_pay1 (F := Ideal) (k0_pay3 v17) (k0_pay7 (F := Ideal) v0 v2 v5 v7 v11 v15) (ix2 r l)
    = k0_pay6 (F := Ideal) v0 v2 v5 v7 v11 (ix2 r l) * v15 (ix2 0 l) + v17 (ix2 0 l) := by
  unfold k0_pay1 k0_pay3 k0_pay7
  generalize k0_pay6 (F := Ideal) v0 v2 v5 v7 v11 = p
  pointwise!

theorem pay2_at (v18 : FVec Ideal S1x1024 .f32) (v36 : FVec Ideal S512x1024 .f32) (j : S512x1024.Idx) : k0_pay2 (F := Ideal) v18 v36 j = k0_pay1 (F := Ideal) v18 v36 j := by
  unfold k0_pay2
  generalize k0_pay1 (F := Ideal) v18 v36 = p
  pointwise!

/-! ## The stored terms of a grid point -/

/-- The two halves of the weight that a grid point reads. -/
abbrev w0 (t : Fin cfg0.N) : Vec Ideal S512x1024 .bf16 := View.ld (Val := Elt Ideal) (e' := .bf16) (iblk m c 2 t) r0_1
abbrev w1 (t : Fin cfg0.N) : Vec Ideal S512x1024 .bf16 := View.ld (Val := Elt Ideal) (e' := .bf16) (iblk m c 2 t) r0_2

theorem w0_at (t : Fin cfg0.N) (k : Fin 512) (l : Fin 1024) : w0 m c t (ix2 k l) = aW m c (ix2 (⟨k.val, by omega⟩ : Fin 1024) l) := by
  refine Eq.trans ?_ (blk_w m c t (⟨k.val, by omega⟩ : Fin 1024) l)
  pointwise! [w0, r0_1]

theorem w1_at (t : Fin cfg0.N) (k : Fin 512) (l : Fin 1024) : w1 m c t (ix2 k l) = aW m c (ix2 (⟨512 + k.val, by omega⟩ : Fin 1024) l) := by
  refine Eq.trans ?_ (blk_w m c t (⟨512 + k.val, by omega⟩ : Fin 1024) l)
  pointwise! [w1, r0_2]

section

variable (t : Fin cfg0.N) (r : Fin 512) (R : Fin 4096) (hR : R.val = t.val * 512 + r.val)
include hR

theorem blk_z (l : Fin 1024) : zB (iblk m c 0 t) (iblk m c 1 t) (w0 m c t) (w1 m c t) (iblk m c 3 t) r l = Z m c (ix2 R l) := by
  refine Eq.trans ?_ (zT_at (aO m c) (aD m c) (aW m c) (aX m c) R l).symm
  exact congrArg₂ (· + ·) (congrArg (cA * ·) (blk_x m c t r l R hR))
    (congrArg₂ (· + ·) (Finset.sum_congr rfl fun k _ => congrArg₂ (· * ·) (blk_o m c t r k R hR) (w0_at m c t k l))
      (Finset.sum_congr rfl fun k _ => congrArg₂ (· * ·) (blk_d m c t r k R hR) (w1_at m c t k l)))

theorem blk4 (l : Fin 1024) : k0_pay4 (F := Ideal) (iblk m c 0 t) (w0 m c t) (iblk m c 1 t) (w1 m c t) (iblk m c 3 t) (ix2 r l) = Z m c (ix2 R l) - mu (Z m c) R := by
  refine (pay4_at _ _ _ _ _ r l).trans ?_
  exact congrArg₂ (· - ·) (blk_z m c t r R hR l) (congrArg (Ideal.div · cN) (Finset.sum_congr rfl fun k _ => blk_z m c t r R hR k))

theorem blk5 (u : Fin 1) : k0_pay5 (F := Ideal) (iblk m c 0 t) (w0 m c t) (iblk m c 1 t) (w1 m c t) (iblk m c 3 t) (ix2 r u) = rs (Z m c) R :=
  (pay5_at _ _ _ _ _ r u).trans (congrArg (fun x => Ideal.rsqrt (Ideal.div x cN + cE)) (Finset.sum_congr rfl fun k _ =>
    congrArg₂ (· * ·) (blk4 m c t r R hR k) (blk4 m c t r R hR k)))

theorem blk6 (l : Fin 1024) : k0_pay6 (F := Ideal) (iblk m c 0 t) (w0 m c t) (iblk m c 1 t) (w1 m c t) (iblk m c 3 t) (ix2 r l) = xh (Z m c) R l :=
  (pay6_at _ _ _ _ _ r l).trans (congrArg₂ (· * ·) (blk4 m c t r R hR l) (blk5 m c t r R hR 0))

theorem blk1 (l : Fin 1024) : k0_pay1 (F := Ideal) (k0_pay3 (iblk m c 5 t)) (k0_pay7 (F := Ideal) (iblk m c 0 t) (w0 m c t) (iblk m c 1 t) (w1 m c t) (iblk m c 3 t) (iblk m c 4 t)) (ix2 r l)
    = yT (Z m c) (aG m c) (aB m c) (ix2 R l) :=
  (pay1_at _ _ _ _ _ _ _ r l).trans ((congrArg₂ (· + ·) (congrArg₂ (· * ·) (blk6 m c t r R hR l) (blk_g m c t 0 l)) (blk_b m c t 0 l)).trans
    (yT_at (Z m c) (aG m c) (aB m c) R l).symm)

end

/-! ## The results -/

theorem row_lt (t : Fin cfg0.N) (r : Fin 512) : t.val * 512 + r.val < 4096 := by
  have h1 : t.val < 8 := t.isLt
  omega

/-- The norm's result after the run. -/
theorem final6 : (dats m 0 c).arrAt 6 (cfgs 0).N = yT (Z m c) (aG m c) (aB m c) := by
  refine (dats m 0 c).arrAt_eq_of_covers 6 _ (by decide +kernel) fun t hf y => ?_
  blk_simp
  have hy : (win0_6.blk t).view.emb y = ix2 (⟨t.val * 512 + (y 0).val, row_lt t (y 0)⟩ : Fin 4096) (y 1) := by blk_point [idx_val t]
  have fin := (congrArg (k0_pay1 (F := Ideal) (k0_pay3 (iblk m c 5 t)) (k0_pay7 (F := Ideal) (iblk m c 0 t) (w0 m c t) (iblk m c 1 t) (w1 m c t) (iblk m c 3 t) (iblk m c 4 t))) (eq_ix2 (n0 := 512) (n1 := 1024) y)).trans
    ((blk1 m c t (y 0) _ rfl (y 1)).trans (congrArg (yT (Z m c) (aG m c) (aB m c)) hy.symm))
  rw [after0_6]; unfold_out out0_6; frame_out; exact fin

/-- The normalised rows after the run. -/
theorem final7 : (dats m 0 c).arrAt 7 (cfgs 0).N = xhT (Z m c) := by
  refine (dats m 0 c).arrAt_eq_of_covers 7 _ (by decide +kernel) fun t hf y => ?_
  blk_simp
  have hy : (win0_7.blk t).view.emb y = ix2 (⟨t.val * 512 + (y 0).val, row_lt t (y 0)⟩ : Fin 4096) (y 1) := by blk_point [idx_val t]
  have fin := (congrArg (k0_pay6 (F := Ideal) (iblk m c 0 t) (w0 m c t) (iblk m c 1 t) (w1 m c t) (iblk m c 3 t)) (eq_ix2 (n0 := 512) (n1 := 1024) y)).trans
    ((blk6 m c t (y 0) _ rfl (y 1)).trans ((xhT_at (Z m c) _ _).symm.trans (congrArg (xhT (Z m c)) hy.symm)))
  rw [after0_7]; unfold_out out0_7; frame_out; exact fin

/-- The reciprocal deviations after the run. -/
theorem final8 : (dats m 0 c).arrAt 8 (cfgs 0).N = rsT (Z m c) := by
  refine (dats m 0 c).arrAt_eq_of_covers 8 _ (by decide +kernel) fun t hf y => ?_
  blk_simp
  have hy : (win0_8.blk t).view.emb y = ix2 (⟨t.val * 512 + (y 0).val, row_lt t (y 0)⟩ : Fin 4096) (y 1) := by blk_point [idx_val t]
  have fin := (congrArg (k0_pay5 (F := Ideal) (iblk m c 0 t) (w0 m c t) (iblk m c 1 t) (w1 m c t) (iblk m c 3 t)) (eq_ix2 (n0 := 512) (n1 := 1) y)).trans
    ((blk5 m c t (y 0) _ rfl (y 1)).trans ((rsT_at (Z m c) _ _).symm.trans (congrArg (rsT (Z m c)) hy.symm)))
  rw [after0_8]; unfold_out out0_8; frame_out; exact fin

/-- The rounded result after the run. -/
theorem final9 : (dats m 0 c).arrAt 9 (cfgs 0).N = (truncf (F := Ideal) .bf16 (yT (Z m c) (aG m c) (aB m c)) bitsLt_bf16_f32 : FVec Ideal S4096x1024 .bf16) := by
  refine (dats m 0 c).arrAt_eq_of_covers 9 _ (by decide +kernel) fun t hf y => ?_
  blk_simp
  have hy : (win0_9.blk t).view.emb y = ix2 (⟨t.val * 512 + (y 0).val, row_lt t (y 0)⟩ : Fin 4096) (y 1) := by blk_point [idx_val t]
  have fin := (pay2_at (k0_pay3 (iblk m c 5 t)) (k0_pay7 (F := Ideal) (iblk m c 0 t) (w0 m c t) (iblk m c 1 t) (w1 m c t) (iblk m c 3 t) (iblk m c 4 t)) y).trans
    ((congrArg (k0_pay1 (F := Ideal) (k0_pay3 (iblk m c 5 t)) (k0_pay7 (F := Ideal) (iblk m c 0 t) (w0 m c t) (iblk m c 1 t) (w1 m c t) (iblk m c 3 t) (iblk m c 4 t))) (eq_ix2 (n0 := 512) (n1 := 1024) y)).trans
    ((blk1 m c t (y 0) _ rfl (y 1)).trans (congrArg (yT (Z m c) (aG m c) (aB m c)) hy.symm)))
  rw [after0_9]; unfold_out out0_9; frame_out; exact fin

end Cert.Kernel12Ideal.Out

end
-- ==== Proof.Claim12.lean ====
/- The claims about the programs of Kernel12 and Reference12. -/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.OutLn
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C12

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)
theorem preserves : Cert.preserves_Kernel12_Kernel12Ideal := trivial

set_option maxHeartbeats 4000000 in
/-- Both programs end with the same four result arrays. -/
theorem algebraic : Cert.algebraic_Kernel12Ideal_Reference12Ideal := by
  pair_intro
  · run_from Cert.Kernel12Ideal.Gen.run_main m g
  · refine θ_run_mono (Cert.Reference12Ideal.Value.run m' g') ?_
    intro r hr c
    obtain ⟨h0, h1, h2, h3, hargs⟩ := hr c
    obtain ⟨a0, a1, a2, a3, a4, a5⟩ := hagree c
    have eZ : Cert.Reference12Ideal.Out.Z m' c = Cert.Kernel12Ideal.Out.Z m c := by
      rw [Cert.Reference12Ideal.Out.Z, a0, a1, a2, a3]
    refine ⟨h0.trans ?_, h1.trans ?_, h2.trans ?_, h3.trans ?_, hargs⟩
    · refine (Cert.Reference12Ideal.Out.res0 m' c).trans (Eq.trans ?_ (Cert.Kernel12Ideal.Out.final6 m c).symm)
      rw [eZ, a4, a5]
    · refine Eq.trans (b := Cert.Reference12Ideal.Out.xhT (Cert.Reference12Ideal.Out.Z m' c)) rfl (Eq.trans ?_ (Cert.Kernel12Ideal.Out.final7 m c).symm)
      rw [eZ]
    · refine Eq.trans (b := Cert.Reference12Ideal.Out.rsT (Cert.Reference12Ideal.Out.Z m' c)) rfl (Eq.trans ?_ (Cert.Kernel12Ideal.Out.final8 m c).symm)
      rw [eZ]
    · refine (Cert.Reference12Ideal.Out.res3 m' c).trans (Eq.trans ?_ (Cert.Kernel12Ideal.Out.final9 m c).symm)
      rw [eZ, a4, a5]

end Cert.Proof.C12

end
-- ==== Proof.InProjPay.lean ====
/- The call in_proj: its payloads, its scratch of eight columns' slots, and what a grid point leaves in each output's block. -/
module

public import proofs.«01_k».proof.Proof.Gen.Kernel13Ideal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel13Ideal.Inp

open Cert.Kernel13Ideal Cert.Kernel13Ideal.Gen

variable (m : (ℓ : Loc nD τ sig) → Buf (Elt Ideal) ℓ) (c : Dev nD)

/-- A block's rows times 512 columns of the weight. -/
def A (X : S512x1024.Idx → EReal) (W : S1024x512.Idx → EReal) (i : S512x512.Idx) : EReal :=
  ∑ k : Fin 1024, X (ix2 (i 0) k) * W (ix2 k (i 1))

theorem ix3_ext {n0 n1 n2 : Nat} {a a' : Fin n0} {b b' : Fin n1} {e e' : Fin n2} (h : a.val = a'.val) (h' : b.val = b'.val) (h'' : e.val = e'.val) :
    ix3 a b e = ix3 a' b' e' := by
  rw [Fin.ext h, Fin.ext h', Fin.ext h'']

theorem ix2_ext {n0 n1 : Nat} {a a' : Fin n0} {b b' : Fin n1} (h : a.val = a'.val) (h' : b.val = b'.val) : ix2 a b = ix2 a' b' := by
  rw [Fin.ext h, Fin.ext h']

/-- The scratch at an index, as the one matrix that its eight slots hold the columns of. -/
def slotG (G : S512x512.Idx → EReal) (y : S8x512x64.Idx) : EReal :=
  G (ix2 (y 1) ⟨64 * (y 0).val + (y 2).val, by have h2 : (y 2).val < 64 := (y 2).isLt; have h0 : (y 0).val < 8 := (y 0).isLt; omega⟩)

/-- Eight columns' slots written one by one hold the matrix, whatever was written before. -/
theorem scr (G : S512x512.Idx → EReal) (p0 p1 p2 p3 p4 p5 p6 p7 : S1x512x64.Idx → EReal)
    (h0 : ∀ x : S1x512x64.Idx, p0 x = G (ix2 (x 1) ⟨0 + (x 2).val, by have h2 : (x 2).val < 64 := (x 2).isLt; omega⟩))
    (h1 : ∀ x : S1x512x64.Idx, p1 x = G (ix2 (x 1) ⟨64 + (x 2).val, by have h2 : (x 2).val < 64 := (x 2).isLt; omega⟩))
    (h2 : ∀ x : S1x512x64.Idx, p2 x = G (ix2 (x 1) ⟨128 + (x 2).val, by have h2 : (x 2).val < 64 := (x 2).isLt; omega⟩))
    (h3 : ∀ x : S1x512x64.Idx, p3 x = G (ix2 (x 1) ⟨192 + (x 2).val, by have h2 : (x 2).val < 64 := (x 2).isLt; omega⟩))
    (h4 : ∀ x : S1x512x64.Idx, p4 x = G (ix2 (x 1) ⟨256 + (x 2).val, by have h2 : (x 2).val < 64 := (x 2).isLt; omega⟩))
    (h5 : ∀ x : S1x512x64.Idx, p5 x = G (ix2 (x 1) ⟨320 + (x 2).val, by have h2 : (x 2).val < 64 := (x 2).isLt; omega⟩))
    (h6 : ∀ x : S1x512x64.Idx, p6 x = G (ix2 (x 1) ⟨384 + (x 2).val, by have h2 : (x 2).val < 64 := (x 2).isLt; omega⟩))
    (h7 : ∀ x : S1x512x64.Idx, p7 x = G (ix2 (x 1) ⟨448 + (x 2).val, by have h2 : (x 2).val < 64 := (x 2).isLt; omega⟩))
    (L : List (View.Piece (Elt Ideal) S8x512x64 .f32)) (y : S8x512x64.Idx) :
    View.canon (Val := Elt Ideal) (e := .f32) (
      (⟨Rect.unit ![7, 0, 0] ![1, 512, 64] inb_S8x512x64_S1x512x64_7_0_0, p7⟩ : View.Piece (Elt Ideal) S8x512x64 .f32) ::
      (⟨Rect.unit ![6, 0, 0] ![1, 512, 64] inb_S8x512x64_S1x512x64_6_0_0, p6⟩ : View.Piece (Elt Ideal) S8x512x64 .f32) ::
      (⟨Rect.unit ![5, 0, 0] ![1, 512, 64] inb_S8x512x64_S1x512x64_5_0_0, p5⟩ : View.Piece (Elt Ideal) S8x512x64 .f32) ::
      (⟨Rect.unit ![4, 0, 0] ![1, 512, 64] inb_S8x512x64_S1x512x64_4_0_0, p4⟩ : View.Piece (Elt Ideal) S8x512x64 .f32) ::
      (⟨Rect.unit ![3, 0, 0] ![1, 512, 64] inb_S8x512x64_S1x512x64_3_0_0, p3⟩ : View.Piece (Elt Ideal) S8x512x64 .f32) ::
      (⟨Rect.unit ![2, 0, 0] ![1, 512, 64] inb_S8x512x64_S1x512x64_2_0_0, p2⟩ : View.Piece (Elt Ideal) S8x512x64 .f32) ::
      (⟨Rect.unit ![1, 0, 0] ![1, 512, 64] inb_S8x512x64_S1x512x64_1_0_0, p1⟩ : View.Piece (Elt Ideal) S8x512x64 .f32) ::
      (⟨Rect.unit ![0, 0, 0] ![1, 512, 64] inb_S8x512x64_S1x512x64_0_0_0, p0⟩ : View.Piece (Elt Ideal) S8x512x64 .f32) :: L) y
      = slotG G y := by
  refine View.canon_append_of_piecesOf (slotG G) L [_, _, _, _, _, _, _, _] ⟨?_, ?_, ?_, ?_, ?_, ?_, ?_, ?_, trivial⟩ y
    (View.cover_of_tiledL (s := S8x512x64) _ ![1, 512, 64] (by sl_kernel_rfl) y)
  · intro x
    refine (h7 x).trans (congrArg G (ix2_ext ?_ ?_))
    · simp [Rect.emb, Rect.unit]
    · have h0 : (x 0).val < 1 := (x 0).isLt
      simp [Rect.emb, Rect.unit]
  · intro x
    refine (h6 x).trans (congrArg G (ix2_ext ?_ ?_))
    · simp [Rect.emb, Rect.unit]
    · have h0 : (x 0).val < 1 := (x 0).isLt
      simp [Rect.emb, Rect.unit]
  · intro x
    refine (h5 x).trans (congrArg G (ix2_ext ?_ ?_))
    · simp [Rect.emb, Rect.unit]
    · have h0 : (x 0).val < 1 := (x 0).isLt
      simp [Rect.emb, Rect.unit]
  · intro x
    refine (h4 x).trans (congrArg G (ix2_ext ?_ ?_))
    · simp [Rect.emb, Rect.unit]
    · have h0 : (x 0).val < 1 := (x 0).isLt
      simp [Rect.emb, Rect.unit]
  · intro x
    refine (h3 x).trans (congrArg G (ix2_ext ?_ ?_))
    · simp [Rect.emb, Rect.unit]
    · have h0 : (x 0).val < 1 := (x 0).isLt
      simp [Rect.emb, Rect.unit]
  · intro x
    refine (h2 x).trans (congrArg G (ix2_ext ?_ ?_))
    · simp [Rect.emb, Rect.unit]
    · have h0 : (x 0).val < 1 := (x 0).isLt
      simp [Rect.emb, Rect.unit]
  · intro x
    refine (h1 x).trans (congrArg G (ix2_ext ?_ ?_))
    · simp [Rect.emb, Rect.unit]
    · have h0 : (x 0).val < 1 := (x 0).isLt
      simp [Rect.emb, Rect.unit]
  · intro x
    refine (h0 x).trans (congrArg G (ix2_ext ?_ ?_))
    · simp [Rect.emb, Rect.unit]
    · have h0 : (x 0).val < 1 := (x 0).isLt
      simp [Rect.emb, Rect.unit]

theorem k0_pay14_at (a : Vec Ideal S8x512x64 .f32) (y : S8x512x64.Idx) : k0_pay14 (F := Ideal) a y = a y := rfl
theorem k0_pay48_at (a : Vec Ideal S8x512x64 .f32) (y : S8x512x64.Idx) : k0_pay48 (F := Ideal) a y = a y := rfl
theorem k0_pay81_at (a : Vec Ideal S8x512x64 .f32) (y : S8x512x64.Idx) : k0_pay81 (F := Ideal) a y = a y := rfl
theorem k0_pay1_at (a : Vec Ideal S8x32x64 .bf16) (y : S8x1x32x64.Idx) : k0_pay1 (F := Ideal) a y = a (ix3 (y 0) (y 2) (y 3)) := by pointwise! [k0_pay1]
theorem k0_pay2_at (a : Vec Ideal S8x32x64 .f32) (y : S8x1x32x64.Idx) : k0_pay2 (F := Ideal) a y = a (ix3 (y 0) (y 2) (y 3)) := by pointwise! [k0_pay2]
theorem k0_pay15_at (a : Vec Ideal S8x128x64 .f32) (y : S8x1x128x64.Idx) : k0_pay15 (F := Ideal) a y = a (ix3 (y 0) (y 2) (y 3)) := by pointwise! [k0_pay15]
theorem k0_pay16_at (a : Vec Ideal S8x128x64 .f32) (y : S8x1x128x64.Idx) : k0_pay16 (F := Ideal) a y = a (ix3 (y 0) (y 2) (y 3)) := by pointwise! [k0_pay16]
theorem k0_pay17_at (a : Vec Ideal S8x128x64 .f32) (y : S8x1x128x64.Idx) : k0_pay17 (F := Ideal) a y = a (ix3 (y 0) (y 2) (y 3)) := by pointwise! [k0_pay17]
theorem k0_pay18_at (a : Vec Ideal S8x128x64 .f32) (y : S8x1x128x64.Idx) : k0_pay18 (F := Ideal) a y = a (ix3 (y 0) (y 2) (y 3)) := by pointwise! [k0_pay18]
theorem k0_pay19_at (a : Vec Ideal S8x32x64 .f32) (y : S8x1x32x64.Idx) : k0_pay19 (F := Ideal) a y = a (ix3 (y 0) (y 2) (y 3)) := by pointwise! [k0_pay19]
theorem k0_pay20_at (a : Vec Ideal S8x32x64 .f32) (y : S8x1x32x64.Idx) : k0_pay20 (F := Ideal) a y = a (ix3 (y 0) (y 2) (y 3)) := by pointwise! [k0_pay20]
theorem k0_pay21_at (a : Vec Ideal S8x32x64 .f32) (y : S8x32x64.Idx) : k0_pay21 (F := Ideal) a y = a y := rfl
theorem k0_pay22_at (a : Vec Ideal S8x32x64 .bf16) (y : S8x1x32x64.Idx) : k0_pay22 (F := Ideal) a y = a (ix3 (y 0) (y 2) (y 3)) := by pointwise! [k0_pay22]
theorem k0_pay23_at (a : Vec Ideal S8x32x64 .f32) (y : S8x1x32x64.Idx) : k0_pay23 (F := Ideal) a y = a (ix3 (y 0) (y 2) (y 3)) := by pointwise! [k0_pay23]
theorem k0_pay24_at (a : Vec Ideal S8x32x64 .f32) (y : S8x1x32x64.Idx) : k0_pay24 (F := Ideal) a y = a (ix3 (y 0) (y 2) (y 3)) := by pointwise! [k0_pay24]
theorem k0_pay25_at (a : Vec Ideal S8x32x64 .f32) (y : S8x1x32x64.Idx) : k0_pay25 (F := Ideal) a y = a (ix3 (y 0) (y 2) (y 3)) := by pointwise! [k0_pay25]
theorem k0_pay26_at (a : Vec Ideal S8x32x64 .f32) (y : S8x1x32x64.Idx) : k0_pay26 (F := Ideal) a y = a (ix3 (y 0) (y 2) (y 3)) := by pointwise! [k0_pay26]
theorem k0_pay27_at (a : Vec Ideal S8x32x64 .f32) (y : S8x1x32x64.Idx) : k0_pay27 (F := Ideal) a y = a (ix3 (y 0) (y 2) (y 3)) := by pointwise! [k0_pay27]
theorem k0_pay28_at (a : Vec Ideal S8x32x64 .f32) (y : S8x1x32x64.Idx) : k0_pay28 (F := Ideal) a y = a (ix3 (y 0) (y 2) (y 3)) := by pointwise! [k0_pay28]
theorem k0_pay29_at (a : Vec Ideal S8x32x64 .f32) (y : S8x1x32x64.Idx) : k0_pay29 (F := Ideal) a y = a (ix3 (y 0) (y 2) (y 3)) := by pointwise! [k0_pay29]
theorem k0_pay30_at (a : Vec Ideal S8x32x64 .f32) (y : S8x1x32x64.Idx) : k0_pay30 (F := Ideal) a y = a (ix3 (y 0) (y 2) (y 3)) := by pointwise! [k0_pay30]
theorem k0_pay31_at (a : Vec Ideal S8x32x64 .f32) (y : S8x32x64.Idx) : k0_pay31 (F := Ideal) a y = a y := rfl
theorem k0_pay32_at (a : Vec Ideal S8x32x64 .bf16) (y : S8x1x32x64.Idx) : k0_pay32 (F := Ideal) a y = a (ix3 (y 0) (y 2) (y 3)) := by pointwise! [k0_pay32]
theorem k0_pay33_at (a : Vec Ideal S8x32x64 .f32) (y : S8x1x32x64.Idx) : k0_pay33 (F := Ideal) a y = a (ix3 (y 0) (y 2) (y 3)) := by pointwise! [k0_pay33]
theorem k0_pay34_at (a : Vec Ideal S8x32x64 .f32) (y : S8x1x32x64.Idx) : k0_pay34 (F := Ideal) a y = a (ix3 (y 0) (y 2) (y 3)) := by pointwise! [k0_pay34]
theorem k0_pay35_at (a : Vec Ideal S8x32x64 .f32) (y : S8x1x32x64.Idx) : k0_pay35 (F := Ideal) a y = a (ix3 (y 0) (y 2) (y 3)) := by pointwise! [k0_pay35]
theorem k0_pay36_at (a : Vec Ideal S8x32x64 .f32) (y : S8x1x32x64.Idx) : k0_pay36 (F := Ideal) a y = a (ix3 (y 0) (y 2) (y 3)) := by pointwise! [k0_pay36]
theorem k0_pay49_at (a : Vec Ideal S8x128x64 .f32) (y : S8x1x128x64.Idx) : k0_pay49 (F := Ideal) a y = a (ix3 (y 0) (y 2) (y 3)) := by pointwise! [k0_pay49]
theorem k0_pay50_at (a : Vec Ideal S8x128x64 .f32) (y : S8x1x128x64.Idx) : k0_pay50 (F := Ideal) a y = a (ix3 (y 0) (y 2) (y 3)) := by pointwise! [k0_pay50]
theorem k0_pay51_at (a : Vec Ideal S8x128x64 .f32) (y : S8x1x128x64.Idx) : k0_pay51 (F := Ideal) a y = a (ix3 (y 0) (y 2) (y 3)) := by pointwise! [k0_pay51]
theorem k0_pay52_at (a : Vec Ideal S8x128x64 .f32) (y : S8x128x64.Idx) : k0_pay52 (F := Ideal) a y = a y := rfl
theorem k0_pay53_at (a : Vec Ideal S8x128x64 .bf16) (y : S8x1x128x64.Idx) : k0_pay53 (F := Ideal) a y = a (ix3 (y 0) (y 2) (y 3)) := by pointwise! [k0_pay53]
theorem k0_pay54_at (a : Vec Ideal S8x32x64 .f32) (y : S8x1x32x64.Idx) : k0_pay54 (F := Ideal) a y = a (ix3 (y 0) (y 2) (y 3)) := by pointwise! [k0_pay54]
theorem k0_pay55_at (a : Vec Ideal S8x32x64 .f32) (y : S8x1x32x64.Idx) : k0_pay55 (F := Ideal) a y = a (ix3 (y 0) (y 2) (y 3)) := by pointwise! [k0_pay55]
theorem k0_pay56_at (a : Vec Ideal S8x32x64 .f32) (y : S8x1x32x64.Idx) : k0_pay56 (F := Ideal) a y = a (ix3 (y 0) (y 2) (y 3)) := by pointwise! [k0_pay56]
theorem k0_pay57_at (a : Vec Ideal S8x32x64 .f32) (y : S8x1x32x64.Idx) : k0_pay57 (F := Ideal) a y = a (ix3 (y 0) (y 2) (y 3)) := by pointwise! [k0_pay57]
theorem k0_pay58_at (a : Vec Ideal S8x32x64 .f32) (y : S8x1x32x64.Idx) : k0_pay58 (F := Ideal) a y = a (ix3 (y 0) (y 2) (y 3)) := by pointwise! [k0_pay58]
theorem k0_pay59_at (a : Vec Ideal S8x32x64 .f32) (y : S8x1x32x64.Idx) : k0_pay59 (F := Ideal) a y = a (ix3 (y 0) (y 2) (y 3)) := by pointwise! [k0_pay59]
theorem k0_pay60_at (a : Vec Ideal S8x32x64 .f32) (y : S8x1x32x64.Idx) : k0_pay60 (F := Ideal) a y = a (ix3 (y 0) (y 2) (y 3)) := by pointwise! [k0_pay60]
theorem k0_pay61_at (a : Vec Ideal S8x32x64 .f32) (y : S8x1x32x64.Idx) : k0_pay61 (F := Ideal) a y = a (ix3 (y 0) (y 2) (y 3)) := by pointwise! [k0_pay61]
theorem k0_pay62_at (a : Vec Ideal S8x32x64 .f32) (y : S8x32x64.Idx) : k0_pay62 (F := Ideal) a y = a y := rfl
theorem k0_pay63_at (a : Vec Ideal S8x32x64 .bf16) (y : S8x1x32x64.Idx) : k0_pay63 (F := Ideal) a y = a (ix3 (y 0) (y 2) (y 3)) := by pointwise! [k0_pay63]
theorem k0_pay64_at (a : Vec Ideal S8x32x64 .f32) (y : S8x1x32x64.Idx) : k0_pay64 (F := Ideal) a y = a (ix3 (y 0) (y 2) (y 3)) := by pointwise! [k0_pay64]
theorem k0_pay65_at (a : Vec Ideal S8x32x64 .f32) (y : S8x1x32x64.Idx) : k0_pay65 (F := Ideal) a y = a (ix3 (y 0) (y 2) (y 3)) := by pointwise! [k0_pay65]
theorem k0_pay66_at (a : Vec Ideal S8x32x64 .f32) (y : S8x1x32x64.Idx) : k0_pay66 (F := Ideal) a y = a (ix3 (y 0) (y 2) (y 3)) := by pointwise! [k0_pay66]
theorem k0_pay67_at (a : Vec Ideal S8x32x64 .f32) (y : S8x1x32x64.Idx) : k0_pay67 (F := Ideal) a y = a (ix3 (y 0) (y 2) (y 3)) := by pointwise! [k0_pay67]
theorem k0_pay68_at (a : Vec Ideal S8x32x64 .f32) (y : S8x1x32x64.Idx) : k0_pay68 (F := Ideal) a y = a (ix3 (y 0) (y 2) (y 3)) := by pointwise! [k0_pay68]
theorem k0_pay69_at (a : Vec Ideal S8x32x64 .f32) (y : S8x1x32x64.Idx) : k0_pay69 (F := Ideal) a y = a (ix3 (y 0) (y 2) (y 3)) := by pointwise! [k0_pay69]
theorem k0_pay70_at (a : Vec Ideal S8x32x64 .f32) (y : S8x1x32x64.Idx) : k0_pay70 (F := Ideal) a y = a (ix3 (y 0) (y 2) (y 3)) := by pointwise! [k0_pay70]
theorem k0_pay82_at (a : Vec Ideal S8x128x64 .f32) (y : S8x128x64.Idx) : k0_pay82 (F := Ideal) a y = a y := rfl
theorem k0_pay83_at (a : Vec Ideal S8x128x64 .bf16) (y : S8x1x128x64.Idx) : k0_pay83 (F := Ideal) a y = a (ix3 (y 0) (y 2) (y 3)) := by pointwise! [k0_pay83]
theorem k0_pay84_at (a : Vec Ideal S8x128x64 .f32) (y : S8x1x128x64.Idx) : k0_pay84 (F := Ideal) a y = a (ix3 (y 0) (y 2) (y 3)) := by pointwise! [k0_pay84]
theorem k0_pay85_at (a : Vec Ideal S8x128x64 .f32) (y : S8x1x128x64.Idx) : k0_pay85 (F := Ideal) a y = a (ix3 (y 0) (y 2) (y 3)) := by pointwise! [k0_pay85]
theorem k0_pay86_at (a : Vec Ideal S8x128x64 .f32) (y : S8x1x128x64.Idx) : k0_pay86 (F := Ideal) a y = a (ix3 (y 0) (y 2) (y 3)) := by pointwise! [k0_pay86]
theorem k0_pay87_at (a : Vec Ideal S8x32x64 .f32) (y : S8x1x32x64.Idx) : k0_pay87 (F := Ideal) a y = a (ix3 (y 0) (y 2) (y 3)) := by pointwise! [k0_pay87]
theorem k0_pay88_at (a : Vec Ideal S8x32x64 .f32) (y : S8x1x32x64.Idx) : k0_pay88 (F := Ideal) a y = a (ix3 (y 0) (y 2) (y 3)) := by pointwise! [k0_pay88]
theorem k0_pay89_at (a : Vec Ideal S8x32x64 .f32) (y : S8x1x32x64.Idx) : k0_pay89 (F := Ideal) a y = a (ix3 (y 0) (y 2) (y 3)) := by pointwise! [k0_pay89]
theorem k0_pay90_at (a : Vec Ideal S8x32x64 .f32) (y : S8x1x32x64.Idx) : k0_pay90 (F := Ideal) a y = a (ix3 (y 0) (y 2) (y 3)) := by pointwise! [k0_pay90]
theorem k0_pay91_at (a : Vec Ideal S8x32x64 .f32) (y : S8x1x32x64.Idx) : k0_pay91 (F := Ideal) a y = a (ix3 (y 0) (y 2) (y 3)) := by pointwise! [k0_pay91]
theorem k0_pay92_at (a : Vec Ideal S8x32x64 .f32) (y : S8x32x64.Idx) : k0_pay92 (F := Ideal) a y = a y := rfl
theorem k0_pay93_at (a : Vec Ideal S8x32x64 .bf16) (y : S8x1x32x64.Idx) : k0_pay93 (F := Ideal) a y = a (ix3 (y 0) (y 2) (y 3)) := by pointwise! [k0_pay93]
theorem k0_pay94_at (a : Vec Ideal S8x32x64 .f32) (y : S8x1x32x64.Idx) : k0_pay94 (F := Ideal) a y = a (ix3 (y 0) (y 2) (y 3)) := by pointwise! [k0_pay94]
theorem k0_pay95_at (a : Vec Ideal S8x32x64 .f32) (y : S8x1x32x64.Idx) : k0_pay95 (F := Ideal) a y = a (ix3 (y 0) (y 2) (y 3)) := by pointwise! [k0_pay95]
theorem k0_pay96_at (a : Vec Ideal S8x32x64 .f32) (y : S8x1x32x64.Idx) : k0_pay96 (F := Ideal) a y = a (ix3 (y 0) (y 2) (y 3)) := by pointwise! [k0_pay96]
theorem k0_pay97_at (a : Vec Ideal S8x32x64 .f32) (y : S8x1x32x64.Idx) : k0_pay97 (F := Ideal) a y = a (ix3 (y 0) (y 2) (y 3)) := by pointwise! [k0_pay97]
theorem k0_pay98_at (a : Vec Ideal S8x32x64 .f32) (y : S8x1x32x64.Idx) : k0_pay98 (F := Ideal) a y = a (ix3 (y 0) (y 2) (y 3)) := by pointwise! [k0_pay98]
theorem k0_pay99_at (a : Vec Ideal S8x32x64 .f32) (y : S8x1x32x64.Idx) : k0_pay99 (F := Ideal) a y = a (ix3 (y 0) (y 2) (y 3)) := by pointwise! [k0_pay99]
theorem k0_pay100_at (a : Vec Ideal S8x32x64 .f32) (y : S8x1x32x64.Idx) : k0_pay100 (F := Ideal) a y = a (ix3 (y 0) (y 2) (y 3)) := by pointwise! [k0_pay100]
theorem k0_pay101_at (a : Vec Ideal S8x32x64 .f32) (y : S8x1x32x64.Idx) : k0_pay101 (F := Ideal) a y = a (ix3 (y 0) (y 2) (y 3)) := by pointwise! [k0_pay101]
theorem k0_pay102_at (a : Vec Ideal S8x32x64 .f32) (y : S8x32x64.Idx) : k0_pay102 (F := Ideal) a y = a y := rfl

variable (X : Vec Ideal S512x1024 .f32) (W : Vec Ideal S1024x512 .bf16)

theorem k0_pay4_at (y : S512x512.Idx) : k0_pay4 X W y = A X W y := by
  unfold A; pointwise! [k0_pay4, k0_pay3]

theorem pay_q0 (x : S1x512x64.Idx) : (k0_pay6 X W) x = A X W (ix2 (x 1) ⟨0 + (x 2).val, by have h2 : (x 2).val < 64 := (x 2).isLt; omega⟩) := by
  unfold A; pointwise! [k0_pay3, k0_pay5, k0_pay6]
theorem pay_q1 (x : S1x512x64.Idx) : (k0_pay7 X W) x = A X W (ix2 (x 1) ⟨64 + (x 2).val, by have h2 : (x 2).val < 64 := (x 2).isLt; omega⟩) := by
  unfold A; pointwise! [k0_pay3, k0_pay5, k0_pay7]
theorem pay_q2 (x : S1x512x64.Idx) : (k0_pay8 X W) x = A X W (ix2 (x 1) ⟨128 + (x 2).val, by have h2 : (x 2).val < 64 := (x 2).isLt; omega⟩) := by
  unfold A; pointwise! [k0_pay3, k0_pay5, k0_pay8]
theorem pay_q3 (x : S1x512x64.Idx) : (k0_pay9 X W) x = A X W (ix2 (x 1) ⟨192 + (x 2).val, by have h2 : (x 2).val < 64 := (x 2).isLt; omega⟩) := by
  unfold A; pointwise! [k0_pay3, k0_pay5, k0_pay9]
theorem pay_q4 (x : S1x512x64.Idx) : (k0_pay10 X W) x = A X W (ix2 (x 1) ⟨256 + (x 2).val, by have h2 : (x 2).val < 64 := (x 2).isLt; omega⟩) := by
  unfold A; pointwise! [k0_pay10, k0_pay3, k0_pay5]
theorem pay_q5 (x : S1x512x64.Idx) : (k0_pay11 (k0_pay5 X W)) x = A X W (ix2 (x 1) ⟨320 + (x 2).val, by have h2 : (x 2).val < 64 := (x 2).isLt; omega⟩) := by
  unfold A; pointwise! [k0_pay11, k0_pay3, k0_pay5]
theorem pay_q6 (x : S1x512x64.Idx) : (k0_pay12 (k0_pay5 X W)) x = A X W (ix2 (x 1) ⟨384 + (x 2).val, by have h2 : (x 2).val < 64 := (x 2).isLt; omega⟩) := by
  unfold A; pointwise! [k0_pay12, k0_pay3, k0_pay5]
theorem pay_q7 (x : S1x512x64.Idx) : (k0_pay13 (k0_pay5 X W)) x = A X W (ix2 (x 1) ⟨448 + (x 2).val, by have h2 : (x 2).val < 64 := (x 2).isLt; omega⟩) := by
  unfold A; pointwise! [k0_pay13, k0_pay3, k0_pay5]
theorem pay_k0 (x : S1x512x64.Idx) : (k0_pay39 (k0_pay3 X) (k0_pay37 W) (constant S512x512 .f32 0#32)) x = A X W (ix2 (x 1) ⟨0 + (x 2).val, by have h2 : (x 2).val < 64 := (x 2).isLt; omega⟩) := by
  unfold A; pointwise! [k0_pay3, k0_pay37, k0_pay38, k0_pay39]
theorem pay_k1 (x : S1x512x64.Idx) : (k0_pay40 (k0_pay3 X) (k0_pay37 W) (constant S512x512 .f32 0#32)) x = A X W (ix2 (x 1) ⟨64 + (x 2).val, by have h2 : (x 2).val < 64 := (x 2).isLt; omega⟩) := by
  unfold A; pointwise! [k0_pay3, k0_pay37, k0_pay38, k0_pay40]
theorem pay_k2 (x : S1x512x64.Idx) : (k0_pay41 (k0_pay3 X) (k0_pay37 W) (constant S512x512 .f32 0#32)) x = A X W (ix2 (x 1) ⟨128 + (x 2).val, by have h2 : (x 2).val < 64 := (x 2).isLt; omega⟩) := by
  unfold A; pointwise! [k0_pay3, k0_pay37, k0_pay38, k0_pay41]
theorem pay_k3 (x : S1x512x64.Idx) : (k0_pay42 (k0_pay3 X) (k0_pay37 W) (constant S512x512 .f32 0#32)) x = A X W (ix2 (x 1) ⟨192 + (x 2).val, by have h2 : (x 2).val < 64 := (x 2).isLt; omega⟩) := by
  unfold A; pointwise! [k0_pay3, k0_pay37, k0_pay38, k0_pay42]
theorem pay_k4 (x : S1x512x64.Idx) : (k0_pay43 (k0_pay3 X) (k0_pay37 W) (constant S512x512 .f32 0#32)) x = A X W (ix2 (x 1) ⟨256 + (x 2).val, by have h2 : (x 2).val < 64 := (x 2).isLt; omega⟩) := by
  unfold A; pointwise! [k0_pay3, k0_pay37, k0_pay38, k0_pay43]
theorem pay_k5 (x : S1x512x64.Idx) : (k0_pay44 (k0_pay3 X) (k0_pay37 W) (constant S512x512 .f32 0#32)) x = A X W (ix2 (x 1) ⟨320 + (x 2).val, by have h2 : (x 2).val < 64 := (x 2).isLt; omega⟩) := by
  unfold A; pointwise! [k0_pay3, k0_pay37, k0_pay38, k0_pay44]
theorem pay_k6 (x : S1x512x64.Idx) : (k0_pay45 (k0_pay3 X) (k0_pay37 W) (constant S512x512 .f32 0#32)) x = A X W (ix2 (x 1) ⟨384 + (x 2).val, by have h2 : (x 2).val < 64 := (x 2).isLt; omega⟩) := by
  unfold A; pointwise! [k0_pay3, k0_pay37, k0_pay38, k0_pay45]
theorem pay_k7 (x : S1x512x64.Idx) : (k0_pay47 (k0_pay46 (k0_pay3 X) (k0_pay37 W) (constant S512x512 .f32 0#32))) x = A X W (ix2 (x 1) ⟨448 + (x 2).val, by have h2 : (x 2).val < 64 := (x 2).isLt; omega⟩) := by
  unfold A; pointwise! [k0_pay3, k0_pay37, k0_pay38, k0_pay46, k0_pay47]
theorem pay_v0 (x : S1x512x64.Idx) : (k0_pay72 (k0_pay3 X) W) x = A X W (ix2 (x 1) ⟨0 + (x 2).val, by have h2 : (x 2).val < 64 := (x 2).isLt; omega⟩) := by
  unfold A; pointwise! [k0_pay3, k0_pay71, k0_pay72]
theorem pay_v1 (x : S1x512x64.Idx) : (k0_pay73 (k0_pay3 X) W) x = A X W (ix2 (x 1) ⟨64 + (x 2).val, by have h2 : (x 2).val < 64 := (x 2).isLt; omega⟩) := by
  unfold A; pointwise! [k0_pay3, k0_pay71, k0_pay73]
theorem pay_v2 (x : S1x512x64.Idx) : (k0_pay75 (k0_pay74 (k0_pay3 X) W)) x = A X W (ix2 (x 1) ⟨128 + (x 2).val, by have h2 : (x 2).val < 64 := (x 2).isLt; omega⟩) := by
  unfold A; pointwise! [k0_pay3, k0_pay71, k0_pay74, k0_pay75]
theorem pay_v3 (x : S1x512x64.Idx) : (k0_pay76 (k0_pay71 (k0_pay3 X) W)) x = A X W (ix2 (x 1) ⟨192 + (x 2).val, by have h2 : (x 2).val < 64 := (x 2).isLt; omega⟩) := by
  unfold A; pointwise! [k0_pay3, k0_pay71, k0_pay76]
theorem pay_v4 (x : S1x512x64.Idx) : (k0_pay77 (k0_pay71 (k0_pay3 X) W)) x = A X W (ix2 (x 1) ⟨256 + (x 2).val, by have h2 : (x 2).val < 64 := (x 2).isLt; omega⟩) := by
  unfold A; pointwise! [k0_pay3, k0_pay71, k0_pay77]
theorem pay_v5 (x : S1x512x64.Idx) : (k0_pay78 (k0_pay71 (k0_pay3 X) W)) x = A X W (ix2 (x 1) ⟨320 + (x 2).val, by have h2 : (x 2).val < 64 := (x 2).isLt; omega⟩) := by
  unfold A; pointwise! [k0_pay3, k0_pay71, k0_pay78]
theorem pay_v6 (x : S1x512x64.Idx) : (k0_pay79 (k0_pay71 (k0_pay3 X) W)) x = A X W (ix2 (x 1) ⟨384 + (x 2).val, by have h2 : (x 2).val < 64 := (x 2).isLt; omega⟩) := by
  unfold A; pointwise! [k0_pay3, k0_pay71, k0_pay79]
theorem pay_v7 (x : S1x512x64.Idx) : (k0_pay80 (k0_pay71 (k0_pay3 X) W)) x = A X W (ix2 (x 1) ⟨448 + (x 2).val, by have h2 : (x 2).val < 64 := (x 2).isLt; omega⟩) := by
  unfold A; pointwise! [k0_pay3, k0_pay71, k0_pay80]

/-- The scratch after the queries' columns are written. -/
theorem can_q (L : List (View.Piece (Elt Ideal) S8x512x64 .f32)) (y : S8x512x64.Idx) :
    View.canon (Val := Elt Ideal) (e := .f32) (
      (⟨Rect.unit ![7, 0, 0] ![1, 512, 64] inb_S8x512x64_S1x512x64_7_0_0, k0_pay13 (k0_pay5 X W)⟩ : View.Piece (Elt Ideal) S8x512x64 .f32) ::
      (⟨Rect.unit ![6, 0, 0] ![1, 512, 64] inb_S8x512x64_S1x512x64_6_0_0, k0_pay12 (k0_pay5 X W)⟩ : View.Piece (Elt Ideal) S8x512x64 .f32) ::
      (⟨Rect.unit ![5, 0, 0] ![1, 512, 64] inb_S8x512x64_S1x512x64_5_0_0, k0_pay11 (k0_pay5 X W)⟩ : View.Piece (Elt Ideal) S8x512x64 .f32) ::
      (⟨Rect.unit ![4, 0, 0] ![1, 512, 64] inb_S8x512x64_S1x512x64_4_0_0, k0_pay10 X W⟩ : View.Piece (Elt Ideal) S8x512x64 .f32) ::
      (⟨Rect.unit ![3, 0, 0] ![1, 512, 64] inb_S8x512x64_S1x512x64_3_0_0, k0_pay9 X W⟩ : View.Piece (Elt Ideal) S8x512x64 .f32) ::
      (⟨Rect.unit ![2, 0, 0] ![1, 512, 64] inb_S8x512x64_S1x512x64_2_0_0, k0_pay8 X W⟩ : View.Piece (Elt Ideal) S8x512x64 .f32) ::
      (⟨Rect.unit ![1, 0, 0] ![1, 512, 64] inb_S8x512x64_S1x512x64_1_0_0, k0_pay7 X W⟩ : View.Piece (Elt Ideal) S8x512x64 .f32) ::
      (⟨Rect.unit ![0, 0, 0] ![1, 512, 64] inb_S8x512x64_S1x512x64_0_0_0, k0_pay6 X W⟩ : View.Piece (Elt Ideal) S8x512x64 .f32) :: L) y = slotG (A X W) y :=
  scr (A X W) _ _ _ _ _ _ _ _ (pay_q0 X W) (pay_q1 X W) (pay_q2 X W) (pay_q3 X W) (pay_q4 X W) (pay_q5 X W) (pay_q6 X W) (pay_q7 X W) L y

/-- The scratch after the keys' columns are written. -/
theorem can_k (L : List (View.Piece (Elt Ideal) S8x512x64 .f32)) (y : S8x512x64.Idx) :
    View.canon (Val := Elt Ideal) (e := .f32) (
      (⟨Rect.unit ![7, 0, 0] ![1, 512, 64] inb_S8x512x64_S1x512x64_7_0_0, k0_pay47 (k0_pay46 (k0_pay3 X) (k0_pay37 W) (constant S512x512 .f32 0#32))⟩ : View.Piece (Elt Ideal) S8x512x64 .f32) ::
      (⟨Rect.unit ![6, 0, 0] ![1, 512, 64] inb_S8x512x64_S1x512x64_6_0_0, k0_pay45 (k0_pay3 X) (k0_pay37 W) (constant S512x512 .f32 0#32)⟩ : View.Piece (Elt Ideal) S8x512x64 .f32) ::
      (⟨Rect.unit ![5, 0, 0] ![1, 512, 64] inb_S8x512x64_S1x512x64_5_0_0, k0_pay44 (k0_pay3 X) (k0_pay37 W) (constant S512x512 .f32 0#32)⟩ : View.Piece (Elt Ideal) S8x512x64 .f32) ::
      (⟨Rect.unit ![4, 0, 0] ![1, 512, 64] inb_S8x512x64_S1x512x64_4_0_0, k0_pay43 (k0_pay3 X) (k0_pay37 W) (constant S512x512 .f32 0#32)⟩ : View.Piece (Elt Ideal) S8x512x64 .f32) ::
      (⟨Rect.unit ![3, 0, 0] ![1, 512, 64] inb_S8x512x64_S1x512x64_3_0_0, k0_pay42 (k0_pay3 X) (k0_pay37 W) (constant S512x512 .f32 0#32)⟩ : View.Piece (Elt Ideal) S8x512x64 .f32) ::
      (⟨Rect.unit ![2, 0, 0] ![1, 512, 64] inb_S8x512x64_S1x512x64_2_0_0, k0_pay41 (k0_pay3 X) (k0_pay37 W) (constant S512x512 .f32 0#32)⟩ : View.Piece (Elt Ideal) S8x512x64 .f32) ::
      (⟨Rect.unit ![1, 0, 0] ![1, 512, 64] inb_S8x512x64_S1x512x64_1_0_0, k0_pay40 (k0_pay3 X) (k0_pay37 W) (constant S512x512 .f32 0#32)⟩ : View.Piece (Elt Ideal) S8x512x64 .f32) ::
      (⟨Rect.unit ![0, 0, 0] ![1, 512, 64] inb_S8x512x64_S1x512x64_0_0_0, k0_pay39 (k0_pay3 X) (k0_pay37 W) (constant S512x512 .f32 0#32)⟩ : View.Piece (Elt Ideal) S8x512x64 .f32) :: L) y = slotG (A X W) y :=
  scr (A X W) _ _ _ _ _ _ _ _ (pay_k0 X W) (pay_k1 X W) (pay_k2 X W) (pay_k3 X W) (pay_k4 X W) (pay_k5 X W) (pay_k6 X W) (pay_k7 X W) L y

/-- The scratch after the values' columns are written. -/
theorem can_v (L : List (View.Piece (Elt Ideal) S8x512x64 .f32)) (y : S8x512x64.Idx) :
    View.canon (Val := Elt Ideal) (e := .f32) (
      (⟨Rect.unit ![7, 0, 0] ![1, 512, 64] inb_S8x512x64_S1x512x64_7_0_0, k0_pay80 (k0_pay71 (k0_pay3 X) W)⟩ : View.Piece (Elt Ideal) S8x512x64 .f32) ::
      (⟨Rect.unit ![6, 0, 0] ![1, 512, 64] inb_S8x512x64_S1x512x64_6_0_0, k0_pay79 (k0_pay71 (k0_pay3 X) W)⟩ : View.Piece (Elt Ideal) S8x512x64 .f32) ::
      (⟨Rect.unit ![5, 0, 0] ![1, 512, 64] inb_S8x512x64_S1x512x64_5_0_0, k0_pay78 (k0_pay71 (k0_pay3 X) W)⟩ : View.Piece (Elt Ideal) S8x512x64 .f32) ::
      (⟨Rect.unit ![4, 0, 0] ![1, 512, 64] inb_S8x512x64_S1x512x64_4_0_0, k0_pay77 (k0_pay71 (k0_pay3 X) W)⟩ : View.Piece (Elt Ideal) S8x512x64 .f32) ::
      (⟨Rect.unit ![3, 0, 0] ![1, 512, 64] inb_S8x512x64_S1x512x64_3_0_0, k0_pay76 (k0_pay71 (k0_pay3 X) W)⟩ : View.Piece (Elt Ideal) S8x512x64 .f32) ::
      (⟨Rect.unit ![2, 0, 0] ![1, 512, 64] inb_S8x512x64_S1x512x64_2_0_0, k0_pay75 (k0_pay74 (k0_pay3 X) W)⟩ : View.Piece (Elt Ideal) S8x512x64 .f32) ::
      (⟨Rect.unit ![1, 0, 0] ![1, 512, 64] inb_S8x512x64_S1x512x64_1_0_0, k0_pay73 (k0_pay3 X) W⟩ : View.Piece (Elt Ideal) S8x512x64 .f32) ::
      (⟨Rect.unit ![0, 0, 0] ![1, 512, 64] inb_S8x512x64_S1x512x64_0_0_0, k0_pay72 (k0_pay3 X) W⟩ : View.Piece (Elt Ideal) S8x512x64 .f32) :: L) y = slotG (A X W) y :=
  scr (A X W) _ _ _ _ _ _ _ _ (pay_v0 X W) (pay_v1 X W) (pay_v2 X W) (pay_v3 X W) (pay_v4 X W) (pay_v5 X W) (pay_v6 X W) (pay_v7 X W) L y

end Cert.Kernel13Ideal.Inp

end
-- ==== Proof.InProjPt.lean ====
/- The call in_proj: what a grid point leaves in each output's block. -/
module

public import proofs.«01_k».proof.Proof.InProjPay

@[expose] public section

set_option maxRecDepth 16384

noncomputable section

open Idealize.ShloMosaic Idealize.ShloMosaic.TcCoe Idealize.SL.Sem

namespace Cert.Kernel13Ideal.Inp

open Cert.Kernel13Ideal Cert.Kernel13Ideal.Gen

variable (m : (ℓ : Loc nD τ sig) → Buf (Elt Ideal) ℓ) (c : Dev nD)

/-- The block of input rows and the three blocks of weight columns that a grid point reads. -/
abbrev bX (t : Fin cfg0.N) : Vec Ideal S512x1024 .f32 := iblk m c 0 t
abbrev Wh (t : Fin cfg0.N) : Vec Ideal S1024x512 .bf16 := View.ld (iblk m c 1 t) (Rect.unit (s := S1024x2048) ![0, 0] ![1024, 512] inb_S1024x2048_S1024x512_0_0)
abbrev Wq (t : Fin cfg0.N) : Vec Ideal S1024x512 .bf16 := View.ld (iblk m c 1 t) (Rect.unit (s := S1024x2048) ![0, 512] ![1024, 512] inb_S1024x2048_S1024x512_0_512)
abbrev Wk (t : Fin cfg0.N) : Vec Ideal S1024x512 .bf16 := View.ld (iblk m c 1 t) (Rect.unit (s := S1024x2048) ![0, 1024] ![1024, 512] inb_S1024x2048_S1024x512_0_1024)
abbrev Wv (t : Fin cfg0.N) : Vec Ideal S1024x512 .bf16 := View.ld (iblk m c 1 t) (Rect.unit (s := S1024x2048) ![0, 1536] ![1024, 512] inb_S1024x2048_S1024x512_0_1536)

/-- A block of one residue class per slot, its positions `4` (or `16`) apart, as columns of a matrix. -/
def G4 (G : S512x512.Idx → EReal) (y : S8x4x128x64.Idx) : EReal :=
  slotG G (ix3 (y 0) ⟨4 * (y 2).val + (y 1).val, by have h2 : (y 2).val < 128 := (y 2).isLt; have h1 : (y 1).val < 4 := (y 1).isLt; omega⟩ (y 3))
def G16 (G : S512x512.Idx → EReal) (y : S8x16x32x64.Idx) : EReal :=
  slotG G (ix3 (y 0) ⟨16 * (y 2).val + (y 1).val, by have h2 : (y 2).val < 32 := (y 2).isLt; have h1 : (y 1).val < 16 := (y 1).isLt; omega⟩ (y 3))

theorem eq_ix3' {n0 n1 n2 : Nat} {y : (⟨3, ![n0, n1, n2]⟩ : Shape).Idx} {a : Fin n0} {b : Fin n1} {e : Fin n2} (h0 : (y 0).val = a.val) (h1 : (y 1).val = b.val)
    (h2 : (y 2).val = e.val) : y = ix3 a b e := by
  funext i; fin_cases i
  · exact Fin.ext h0
  · exact Fin.ext h1
  · exact Fin.ext h2

theorem pt2 (t : Fin cfg0.N) (y : S512x512.Idx) : (outsAt0 m c t).1 y = A (bX m c t) (Wh m c t) y := by
  unfold outsAt0; dsimp only; frame_out
  exact k0_pay4_at _ _ y

theorem pt3 (t : Fin cfg0.N) (y : S8x512x64.Idx) : (outsAt0 m c t).2.1 y = slotG (A (bX m c t) (Wq m c t)) y := by
  unfold outsAt0; dsimp only; frame_out
  refine (k0_pay14_at _ y).trans ?_
  rw [View.readCov_eq_canon']
  refine (can_q (bX m c t) (Wq m c t) _ _).trans (congrArg (slotG _) ?_)
  funext a; refine Fin.ext ?_
  fin_cases a <;> simp [LoadRect.idx, Rect.toLoadRect, Rect.unit]

theorem pt4 (t : Fin cfg0.N) (y : S8x4x128x64.Idx) : (outsAt0 m c t).2.2.1 y = G4 (A (bX m c t) (Wq m c t)) y := by
  unfold outsAt0; dsimp only; frame_out
  refine View.canon_append_of_piecesOf (Val := Elt Ideal) (e := .bf16) (G4 (A (bX m c t) (Wq m c t))) [] [_, _, _, _] ⟨?_, ?_, ?_, ?_, trivial⟩ y
    (View.cover_of_tiledL (s := S8x4x128x64) _ ![8, 1, 128, 64] (by sl_kernel_rfl) y)
  all_goals
    intro x
    have h1 : (x 1).val < 1 := (x 1).isLt
    simp only [k0_pay15_at, k0_pay16_at, k0_pay17_at, k0_pay18_at, k0_pay49_at, k0_pay50_at, k0_pay51_at, k0_pay52_at, k0_pay53_at, k0_pay82_at, k0_pay83_at, k0_pay84_at, k0_pay85_at, k0_pay86_at]
    rw [View.readCov_eq_canon']
    refine (can_q (bX m c t) (Wq m c t) _ _).trans (congrArg (slotG _) (eq_ix3' ?_ ?_ ?_))
    all_goals simp [LoadRect.idx, Rect.emb, Rect.unit]
    all_goals omega

theorem pt5 (t : Fin cfg0.N) (y : S8x16x32x64.Idx) : (outsAt0 m c t).2.2.2.1 y = G16 (A (bX m c t) (Wq m c t)) y := by
  unfold outsAt0; dsimp only; frame_out
  refine View.canon_append_of_piecesOf (Val := Elt Ideal) (e := .bf16) (G16 (A (bX m c t) (Wq m c t))) [] [_, _, _, _, _, _, _, _, _, _, _, _, _, _, _, _] ⟨?_, ?_, ?_, ?_, ?_, ?_, ?_, ?_, ?_, ?_, ?_, ?_, ?_, ?_, ?_, ?_, trivial⟩ y
    (View.cover_of_tiledL (s := S8x16x32x64) _ ![8, 1, 32, 64] (by sl_kernel_rfl) y)
  all_goals
    intro x
    have h1 : (x 1).val < 1 := (x 1).isLt
    simp only [k0_pay1_at, k0_pay2_at, k0_pay19_at, k0_pay20_at, k0_pay21_at, k0_pay22_at, k0_pay23_at, k0_pay24_at, k0_pay25_at, k0_pay26_at, k0_pay27_at, k0_pay28_at, k0_pay29_at, k0_pay30_at, k0_pay31_at, k0_pay32_at, k0_pay33_at, k0_pay34_at, k0_pay35_at, k0_pay36_at, k0_pay54_at, k0_pay55_at, k0_pay56_at, k0_pay57_at, k0_pay58_at, k0_pay59_at, k0_pay60_at, k0_pay61_at, k0_pay62_at, k0_pay63_at, k0_pay64_at, k0_pay65_at, k0_pay66_at, k0_pay67_at, k0_pay68_at, k0_pay69_at, k0_pay70_at, k0_pay87_at, k0_pay88_at, k0_pay89_at, k0_pay90_at, k0_pay91_at, k0_pay92_at, k0_pay93_at, k0_pay94_at, k0_pay95_at, k0_pay96_at, k0_pay97_at, k0_pay98_at, k0_pay99_at, k0_pay100_at, k0_pay101_at, k0_pay102_at]
    rw [View.readCov_eq_canon']
    refine (can_q (bX m c t) (Wq m c t) _ _).trans (congrArg (slotG _) (eq_ix3' ?_ ?_ ?_))
    all_goals simp [LoadRect.idx, Rect.emb, Rect.unit]
    all_goals omega

theorem pt6 (t : Fin cfg0.N) (y : S8x512x64.Idx) : (outsAt0 m c t).2.2.2.2.1 y = slotG (A (bX m c t) (Wk m c t)) y := by
  unfold outsAt0; dsimp only; frame_out
  refine (k0_pay48_at _ y).trans ?_
  rw [View.readCov_eq_canon']
  refine (can_k (bX m c t) (Wk m c t) _ _).trans (congrArg (slotG _) ?_)
  funext a; refine Fin.ext ?_
  fin_cases a <;> simp [LoadRect.idx, Rect.toLoadRect, Rect.unit]

theorem pt7 (t : Fin cfg0.N) (y : S8x4x128x64.Idx) : (outsAt0 m c t).2.2.2.2.2.1 y = G4 (A (bX m c t) (Wk m c t)) y := by
  unfold outsAt0; dsimp only; frame_out
  refine View.canon_append_of_piecesOf (Val := Elt Ideal) (e := .bf16) (G4 (A (bX m c t) (Wk m c t))) [] [_, _, _, _] ⟨?_, ?_, ?_, ?_, trivial⟩ y
    (View.cover_of_tiledL (s := S8x4x128x64) _ ![8, 1, 128, 64] (by sl_kernel_rfl) y)
  all_goals
    intro x
    have h1 : (x 1).val < 1 := (x 1).isLt
    simp only [k0_pay15_at, k0_pay16_at, k0_pay17_at, k0_pay18_at, k0_pay49_at, k0_pay50_at, k0_pay51_at, k0_pay52_at, k0_pay53_at, k0_pay82_at, k0_pay83_at, k0_pay84_at, k0_pay85_at, k0_pay86_at]
    rw [View.readCov_eq_canon']
    refine (can_k (bX m c t) (Wk m c t) _ _).trans (congrArg (slotG _) (eq_ix3' ?_ ?_ ?_))
    all_goals simp [LoadRect.idx, Rect.emb, Rect.unit]
    all_goals omega

theorem pt8 (t : Fin cfg0.N) (y : S8x16x32x64.Idx) : (outsAt0 m c t).2.2.2.2.2.2.1 y = G16 (A (bX m c t) (Wk m c t)) y := by
  unfold outsAt0; dsimp only; frame_out
  refine View.canon_append_of_piecesOf (Val := Elt Ideal) (e := .bf16) (G16 (A (bX m c t) (Wk m c t))) [] [_, _, _, _, _, _, _, _, _, _, _, _, _, _, _, _] ⟨?_, ?_, ?_, ?_, ?_, ?_, ?_, ?_, ?_, ?_, ?_, ?_, ?_, ?_, ?_, ?_, trivial⟩ y
    (View.cover_of_tiledL (s := S8x16x32x64) _ ![8, 1, 32, 64] (by sl_kernel_rfl) y)
  all_goals
    intro x
    have h1 : (x 1).val < 1 := (x 1).isLt
    simp only [k0_pay1_at, k0_pay2_at, k0_pay19_at, k0_pay20_at, k0_pay21_at, k0_pay22_at, k0_pay23_at, k0_pay24_at, k0_pay25_at, k0_pay26_at, k0_pay27_at, k0_pay28_at, k0_pay29_at, k0_pay30_at, k0_pay31_at, k0_pay32_at, k0_pay33_at, k0_pay34_at, k0_pay35_at, k0_pay36_at, k0_pay54_at, k0_pay55_at, k0_pay56_at, k0_pay57_at, k0_pay58_at, k0_pay59_at, k0_pay60_at, k0_pay61_at, k0_pay62_at, k0_pay63_at, k0_pay64_at, k0_pay65_at, k0_pay66_at, k0_pay67_at, k0_pay68_at, k0_pay69_at, k0_pay70_at, k0_pay87_at, k0_pay88_at, k0_pay89_at, k0_pay90_at, k0_pay91_at, k0_pay92_at, k0_pay93_at, k0_pay94_at, k0_pay95_at, k0_pay96_at, k0_pay97_at, k0_pay98_at, k0_pay99_at, k0_pay100_at, k0_pay101_at, k0_pay102_at]
    rw [View.readCov_eq_canon']
    refine (can_k (bX m c t) (Wk m c t) _ _).trans (congrArg (slotG _) (eq_ix3' ?_ ?_ ?_))
    all_goals simp [LoadRect.idx, Rect.emb, Rect.unit]
    all_goals omega

theorem pt9 (t : Fin cfg0.N) (y : S8x512x64.Idx) : (outsAt0 m c t).2.2.2.2.2.2.2.1 y = slotG (A (bX m c t) (Wv m c t)) y := by
  unfold outsAt0; dsimp only; frame_out
  refine (k0_pay81_at _ y).trans ?_
  rw [View.readCov_eq_canon']
  refine (can_v (bX m c t) (Wv m c t) _ _).trans (congrArg (slotG _) ?_)
  funext a; refine Fin.ext ?_
  fin_cases a <;> simp [LoadRect.idx, Rect.toLoadRect, Rect.unit]

theorem pt10 (t : Fin cfg0.N) (y : S8x4x128x64.Idx) : (outsAt0 m c t).2.2.2.2.2.2.2.2.1 y = G4 (A (bX m c t) (Wv m c t)) y := by
  unfold outsAt0; dsimp only; frame_out
  refine View.canon_append_of_piecesOf (Val := Elt Ideal) (e := .bf16) (G4 (A (bX m c t) (Wv m c t))) [] [_, _, _, _] ⟨?_, ?_, ?_, ?_, trivial⟩ y
    (View.cover_of_tiledL (s := S8x4x128x64) _ ![8, 1, 128, 64] (by sl_kernel_rfl) y)
  all_goals
    intro x
    have h1 : (x 1).val < 1 := (x 1).isLt
    simp only [k0_pay15_at, k0_pay16_at, k0_pay17_at, k0_pay18_at, k0_pay49_at, k0_pay50_at, k0_pay51_at, k0_pay52_at, k0_pay53_at, k0_pay82_at, k0_pay83_at, k0_pay84_at, k0_pay85_at, k0_pay86_at]
    rw [View.readCov_eq_canon']
    refine (can_v (bX m c t) (Wv m c t) _ _).trans (congrArg (slotG _) (eq_ix3' ?_ ?_ ?_))
    all_goals simp [LoadRect.idx, Rect.emb, Rect.unit]
    all_goals omega

theorem pt11 (t : Fin cfg0.N) (y : S8x16x32x64.Idx) : (outsAt0 m c t).2.2.2.2.2.2.2.2.2 y = G16 (A (bX m c t) (Wv m c t)) y := by
  unfold outsAt0; dsimp only; frame_out
  refine View.canon_append_of_piecesOf (Val := Elt Ideal) (e := .bf16) (G16 (A (bX m c t) (Wv m c t))) [] [_, _, _, _, _, _, _, _, _, _, _, _, _, _, _, _] ⟨?_, ?_, ?_, ?_, ?_, ?_, ?_, ?_, ?_, ?_, ?_, ?_, ?_, ?_, ?_, ?_, trivial⟩ y
    (View.cover_of_tiledL (s := S8x16x32x64) _ ![8, 1, 32, 64] (by sl_kernel_rfl) y)
  all_goals
    intro x
    have h1 : (x 1).val < 1 := (x 1).isLt
    simp only [k0_pay1_at, k0_pay2_at, k0_pay19_at, k0_pay20_at, k0_pay21_at, k0_pay22_at, k0_pay23_at, k0_pay24_at, k0_pay25_at, k0_pay26_at, k0_pay27_at, k0_pay28_at, k0_pay29_at, k0_pay30_at, k0_pay31_at, k0_pay32_at, k0_pay33_at, k0_pay34_at, k0_pay35_at, k0_pay36_at, k0_pay54_at, k0_pay55_at, k0_pay56_at, k0_pay57_at, k0_pay58_at, k0_pay59_at, k0_pay60_at, k0_pay61_at, k0_pay62_at, k0_pay63_at, k0_pay64_at, k0_pay65_at, k0_pay66_at, k0_pay67_at, k0_pay68_at, k0_pay69_at, k0_pay70_at, k0_pay87_at, k0_pay88_at, k0_pay89_at, k0_pay90_at, k0_pay91_at, k0_pay92_at, k0_pay93_at, k0_pay94_at, k0_pay95_at, k0_pay96_at, k0_pay97_at, k0_pay98_at, k0_pay99_at, k0_pay100_at, k0_pay101_at, k0_pay102_at]
    rw [View.readCov_eq_canon']
    refine (can_v (bX m c t) (Wv m c t) _ _).trans (congrArg (slotG _) (eq_ix3' ?_ ?_ ?_))
    all_goals simp [LoadRect.idx, Rect.emb, Rect.unit]
    all_goals omega

end Cert.Kernel13Ideal.Inp

end
-- ==== Proof.InProjRef.lean ====
/- The reference of in_proj: its result arrays as functions of the one product, at an index. -/
module

public import proofs.«01_k».proof.Proof.Gen.Reference13Ideal
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference13Ideal.Inp

open Cert.Reference13Ideal Cert.Reference13Ideal.Gen

variable (x : FVec Ideal S4096x1024 .f32) (w : FVec Ideal S1024x1952 .f32) (H : FVec Ideal S4096x1952 .f32) (C : FVec Ideal S4096x512 .bf16)

/-- The input projection. -/
def hT : FVec Ideal S4096x1952 .f32 := Host.dotGeneral dot_S4096x1024_S1024x1952_S4096x1952_1_0_0_1_n_n none x w

/-- The latent attention's columns, padded. -/
def mlaT : FVec Ideal S4096x512 .f32 :=
  concatenate S4096x512 1 [⟨S4096x384, extractStridedSlice S4096x384 ![0, 0] H slices_S4096x1952_S4096x384_0_0⟩,
    ⟨S4096x64, broadcastInDim S4096x64 ![] bcast_S_S4096x64 (constant (F := Ideal) S_ .f32 0x00000000#32)⟩,
    ⟨S4096x32, extractStridedSlice S4096x32 ![0, 384] H slices_S4096x1952_S4096x32_0_384⟩,
    ⟨S4096x32, broadcastInDim S4096x32 ![] bcast_S_S4096x32 (constant (F := Ideal) S_ .f32 0x00000000#32)⟩]
    concatenates_S4096x384_S4096x64_S4096x32_S4096x32_S4096x512_d1

def qT : FVec Ideal S4096x512 .bf16 := truncf .bf16 (extractStridedSlice S4096x512 ![0, 416] H slices_S4096x1952_S4096x512_0_416) bitsLt_bf16_f32
def kT : FVec Ideal S4096x512 .bf16 := truncf .bf16 (extractStridedSlice S4096x512 ![0, 928] H slices_S4096x1952_S4096x512_0_928) bitsLt_bf16_f32
def vT : FVec Ideal S4096x512 .bf16 := truncf .bf16 (extractStridedSlice S4096x512 ![0, 1440] H slices_S4096x1952_S4096x512_0_1440) bitsLt_bf16_f32

/-- The columns by head, in the order of the positions, and by residue class modulo 4 and 16. -/
def d1T : FVec Ideal S8x4096x64 .bf16 := transpose S8x4096x64 [1, 0, 2] (shapeCast S4096x8x64 C shapeCasts_S4096x512_S4096x8x64) transposes_S4096x8x64_S8x4096x64_1_0_2
def d4T : FVec Ideal S8x4x1024x64 .bf16 := transpose S8x4x1024x64 [2, 1, 0, 3] (shapeCast S1024x4x8x64 C shapeCasts_S4096x512_S1024x4x8x64) transposes_S1024x4x8x64_S8x4x1024x64_2_1_0_3
def d16T : FVec Ideal S8x16x256x64 .bf16 := transpose S8x16x256x64 [2, 1, 0, 3] (shapeCast S256x16x8x64 C shapeCasts_S4096x512_S256x16x8x64) transposes_S256x16x8x64_S8x16x256x64_2_1_0_3

theorem row_ext {n0 n1 : Nat} {a a' : Fin n0} {b b' : Fin n1} (h : a.val = a'.val) (h' : b.val = b'.val) : ix2 a b = ix2 a' b' := by
  rw [Fin.ext h, Fin.ext h']

theorem hT_at (n : Fin 4096) (q : Fin 1952) : hT x w (ix2 n q) = ∑ k : Fin 1024, x (ix2 n k) * w (ix2 k q) := by pointwise! [hT]

theorem mlaT_at (n : Fin 4096) (q : Fin 512) : mlaT H (ix2 n q) = if h : q.val < 384 then H (ix2 n ⟨q.val, by omega⟩) else if h : q.val - 384 < 64 then 0
    else if h : q.val - 384 - 64 < 32 then H (ix2 n ⟨384 + (q.val - 384 - 64), by omega⟩) else 0 := by
  unfold mlaT
  pointwise!

theorem qT_at (n : Fin 4096) (q : Fin 512) : qT H (ix2 n q) = H (ix2 n ⟨416 + q.val, by omega⟩) := by pointwise! [qT]
theorem kT_at (n : Fin 4096) (q : Fin 512) : kT H (ix2 n q) = H (ix2 n ⟨928 + q.val, by omega⟩) := by pointwise! [kT]
theorem vT_at (n : Fin 4096) (q : Fin 512) : vT H (ix2 n q) = H (ix2 n ⟨1440 + q.val, by omega⟩) := by pointwise! [vT]

theorem d1T_at (h : Fin 8) (n : Fin 4096) (e : Fin 64) (q : Fin 512) (hq : q.val = 64 * h.val + e.val) : d1T C (ix3 h n e) = C (ix2 n q) := by
  pointwise! [d1T]
  exact congrArg C (row_ext (by simp) (by simp; omega))
theorem d4T_at (h : Fin 8) (s : Fin 4) (a : Fin 1024) (e : Fin 64) (n : Fin 4096) (q : Fin 512) (hn : n.val = 4 * a.val + s.val) (hq : q.val = 64 * h.val + e.val) :
    d4T C (ix4 h s a e) = C (ix2 n q) := by
  pointwise! [d4T]
  exact congrArg C (row_ext (by simp; omega) (by simp; omega))
theorem d16T_at (h : Fin 8) (s : Fin 16) (a : Fin 256) (e : Fin 64) (n : Fin 4096) (q : Fin 512) (hn : n.val = 16 * a.val + s.val) (hq : q.val = 64 * h.val + e.val) :
    d16T C (ix4 h s a e) = C (ix2 n q) := by
  pointwise! [d16T]
  exact congrArg C (row_ext (by simp; omega) (by simp; omega))

end Cert.Reference13Ideal.Inp

end
-- ==== Proof.InProj.lean ====
/- The call in_proj: its result arrays are the reference's. -/
module

public import proofs.«01_k».proof.Proof.InProjPt
public import proofs.«01_k».proof.Proof.InProjRef

@[expose] public section

set_option maxRecDepth 16384

noncomputable section

open Idealize.ShloMosaic Idealize.ShloMosaic.TcCoe Idealize.SL.Sem

namespace Cert.Kernel13Ideal.Inp

open Cert.Kernel13Ideal Cert.Kernel13Ideal.Gen
open Cert.Reference13Ideal (S4096x1952)
open Cert.Reference13Ideal.Inp (row_ext hT mlaT qT kT vT d1T d4T d16T hT_at mlaT_at qT_at kT_at vT_at d1T_at d4T_at d16T_at)

variable (m : (ℓ : Loc nD τ sig) → Buf (Elt Ideal) ℓ) (c : Dev nD)

abbrev aX : FVec Ideal S4096x1024 .f32 := m ((c : Thread nD τ).loc main_arg0)
abbrev aW : FVec Ideal S1024x1952 .f32 := m ((c : Thread nD τ).loc main_arg1)
abbrev H : FVec Ideal S4096x1952 .f32 := hT (aX m c) (aW m c)

theorem idx_val : ∀ t : Fin cfg0.N, win0_0.index t = ![t.val, 0] ∧ win0_1.index t = ![0, 0] ∧ win0_2.index t = ![t.val, 0]
    ∧ win0_3.index t = ![0, t.val, 0] ∧ win0_4.index t = ![0, 0, t.val, 0] ∧ win0_5.index t = ![0, 0, t.val, 0]
    ∧ win0_6.index t = ![0, t.val, 0] ∧ win0_7.index t = ![0, 0, t.val, 0] ∧ win0_8.index t = ![0, 0, t.val, 0]
    ∧ win0_9.index t = ![0, t.val, 0] ∧ win0_10.index t = ![0, 0, t.val, 0] ∧ win0_11.index t = ![0, 0, t.val, 0] :=
  (by decide +kernel : ∀ t : Fin grid0.N, _)

theorem lt8 (t : Fin cfg0.N) : t.val < 8 := t.isLt

theorem eq_ix2' {n0 n1 : Nat} {y : (⟨2, ![n0, n1]⟩ : Shape).Idx} {a : Fin n0} {b : Fin n1} (h0 : (y 0).val = a.val) (h1 : (y 1).val = b.val) : y = ix2 a b := by
  funext i; fin_cases i
  · exact Fin.ext h0
  · exact Fin.ext h1

/-- The weight with its padding. -/
def extW (w : FVec Ideal S1024x1952 .f32) : FVec Ideal S1024x2048 .bf16 :=
  concatenate S1024x2048 1 [⟨S1024x384, extractStridedSlice S1024x384 ![0, 0] (truncf .bf16 w bitsLt_bf16_f32) slices_S1024x1952_S1024x384_0_0⟩,
    ⟨S1024x64, broadcastInDim S1024x64 ![] bcast_S_S1024x64 (constant (F := Ideal) S_ .bf16 0x0000#16)⟩,
    ⟨S1024x32, extractStridedSlice S1024x32 ![0, 384] (truncf .bf16 w bitsLt_bf16_f32) slices_S1024x1952_S1024x32_0_384⟩,
    ⟨S1024x32, broadcastInDim S1024x32 ![] bcast_S_S1024x32 (constant (F := Ideal) S_ .bf16 0x0000#16)⟩,
    ⟨S1024x1536, extractStridedSlice S1024x1536 ![0, 416] (truncf .bf16 w bitsLt_bf16_f32) slices_S1024x1952_S1024x1536_0_416⟩]
    concatenates_S1024x384_S1024x64_S1024x32_S1024x32_S1024x1536_S1024x2048_d1

theorem ext_at (w : FVec Ideal S1024x1952 .f32) (k : Fin 1024) (q : Fin 2048) : extW w (ix2 k q) = if h : q.val < 384 then w (ix2 k ⟨q.val, by omega⟩) else if h : q.val - 384 < 64 then 0
    else if h : q.val - 384 - 64 < 32 then w (ix2 k ⟨384 + (q.val - 384 - 64), by omega⟩) else if h : q.val - 384 - 64 - 32 < 32 then 0
    else w (ix2 k ⟨416 + (q.val - 384 - 64 - 32 - 32), by omega⟩) := by
  unfold extW
  pointwise!

/-- The columns of the dilated attention. -/
theorem ext_dil (w : FVec Ideal S1024x1952 .f32) (k : Fin 1024) (q : Fin 2048) (q' : Fin 1952) (h : 512 ≤ q.val) (hq : q.val = q'.val + 96) : extW w (ix2 k q) = w (ix2 k q') := by
  rw [ext_at, dif_neg (by omega), dif_neg (by omega), dif_neg (by omega), dif_neg (by omega)]
  exact congrArg w (row_ext rfl (by dsimp only; omega))

/-- The host's buffers before the concatenation. -/
abbrev pre8 : Valuation τ sig (Elt Ideal) := StableHlo.after ((hostOps0 (F := Ideal)).take 8) (fun b => m (c, b))
theorem pre_1 : pre8 m c (Proc.devRef .tc main_v1) = extractStridedSlice S1024x384 ![0, 0] (truncf .bf16 (aW m c) bitsLt_bf16_f32) slices_S1024x1952_S1024x384_0_0 := by
  simp only [pre8, hostOps0, List.take_succ_cons, List.take_zero]; after_results_simp; first | done | rfl
theorem pre_2 : pre8 m c (Proc.devRef .tc main_v2) = broadcastInDim S1024x64 ![] bcast_S_S1024x64 (constant (F := Ideal) S_ .bf16 0x0000#16) := by
  simp only [pre8, hostOps0, List.take_succ_cons, List.take_zero]; after_results_simp; first | done | rfl
theorem pre_3 : pre8 m c (Proc.devRef .tc main_v3) = extractStridedSlice S1024x32 ![0, 384] (truncf .bf16 (aW m c) bitsLt_bf16_f32) slices_S1024x1952_S1024x32_0_384 := by
  simp only [pre8, hostOps0, List.take_succ_cons, List.take_zero]; after_results_simp; first | done | rfl
theorem pre_4 : pre8 m c (Proc.devRef .tc main_v4) = broadcastInDim S1024x32 ![] bcast_S_S1024x32 (constant (F := Ideal) S_ .bf16 0x0000#16) := by
  simp only [pre8, hostOps0, List.take_succ_cons, List.take_zero]; after_results_simp; first | done | rfl
theorem pre_5 : pre8 m c (Proc.devRef .tc main_v5) = extractStridedSlice S1024x1536 ![0, 416] (truncf .bf16 (aW m c) bitsLt_bf16_f32) slices_S1024x1952_S1024x1536_0_416 := by
  simp only [pre8, hostOps0, List.take_succ_cons, List.take_zero]; after_results_simp; first | done | rfl

theorem V_w : V m c main_v6 = extW (aW m c) := by
  have h : V m c main_v6 = concatenate S1024x2048 1 [⟨S1024x384, pre8 m c (Proc.devRef .tc main_v1)⟩, ⟨S1024x64, pre8 m c (Proc.devRef .tc main_v2)⟩, ⟨S1024x32, pre8 m c (Proc.devRef .tc main_v3)⟩, ⟨S1024x32, pre8 m c (Proc.devRef .tc main_v4)⟩, ⟨S1024x1536, pre8 m c (Proc.devRef .tc main_v5)⟩] concatenates_S1024x384_S1024x64_S1024x32_S1024x32_S1024x1536_S1024x2048_d1 := by
    have h0 : V m c main_v6 = (StableHlo.nary (τ := τ) (Val := Elt Ideal) ![main_v1, main_v2, main_v3, main_v4, main_v5] main_v6 (fun u => (concatenate S1024x2048 1 [⟨S1024x384, (u 0 : (⟨S1024x384, .bf16⟩ : BufTy).Contents (Elt Ideal))⟩, ⟨S1024x64, (u 1 : (⟨S1024x64, .bf16⟩ : BufTy).Contents (Elt Ideal))⟩, ⟨S1024x32, (u 2 : (⟨S1024x32, .bf16⟩ : BufTy).Contents (Elt Ideal))⟩, ⟨S1024x32, (u 3 : (⟨S1024x32, .bf16⟩ : BufTy).Contents (Elt Ideal))⟩, ⟨S1024x1536, (u 4 : (⟨S1024x1536, .bf16⟩ : BufTy).Contents (Elt Ideal))⟩] concatenates_S1024x384_S1024x64_S1024x32_S1024x32_S1024x1536_S1024x2048_d1 : (⟨S1024x2048, .bf16⟩ : BufTy).Contents (Elt Ideal)))).result (pre8 m c) (Proc.devRef .tc main_v6) := by
      simp only [V, pre8, hostOps0, List.take_succ_cons, List.take_zero, StableHlo.after_cons, StableHlo.after_nil]
    rw [h0, StableHlo.nary_result]
    rfl
  rw [h, pre_1, pre_2, pre_3, pre_4, pre_5]; rfl
theorem V_x : V m c main_arg0 = aX m c := by entry_read; rfl

variable (t : Fin cfg0.N)

theorem blk_x (r : Fin 512) (k : Fin 1024) (R : Fin 4096) (hR : R.val = t.val * 512 + r.val) : iblk m c 0 t (ix2 r k) = aX m c (ix2 R k) := by
  rw [← V_x]; blk_point [iblk, idx_val t]
theorem blk_w (k : Fin 1024) (q : Fin 2048) : iblk m c 1 t (ix2 k q) = extW (aW m c) (ix2 k q) := by
  rw [← V_w]; blk_point [iblk, idx_val t]

theorem Wh_at (k : Fin 1024) (q : Fin 512) (Q : Fin 2048) (hQ : Q.val = 0 + q.val) : Wh m c t (ix2 k q) = extW (aW m c) (ix2 k Q) :=
  (show _ = iblk m c 1 t (ix2 k Q) from congrArg (iblk m c 1 t) (eq_ix2' (by simp [Rect.toLoadRect, Rect.emb, Rect.unit]) (by simp [Rect.emb, Rect.unit, hQ]))).trans (blk_w m c t k Q)
theorem Wq_at (k : Fin 1024) (q : Fin 512) (Q : Fin 2048) (hQ : Q.val = 512 + q.val) : Wq m c t (ix2 k q) = extW (aW m c) (ix2 k Q) :=
  (show _ = iblk m c 1 t (ix2 k Q) from congrArg (iblk m c 1 t) (eq_ix2' (by simp [Rect.toLoadRect, Rect.emb, Rect.unit]) (by simp [Rect.emb, Rect.unit, hQ]))).trans (blk_w m c t k Q)
theorem Wk_at (k : Fin 1024) (q : Fin 512) (Q : Fin 2048) (hQ : Q.val = 1024 + q.val) : Wk m c t (ix2 k q) = extW (aW m c) (ix2 k Q) :=
  (show _ = iblk m c 1 t (ix2 k Q) from congrArg (iblk m c 1 t) (eq_ix2' (by simp [Rect.toLoadRect, Rect.emb, Rect.unit]) (by simp [Rect.emb, Rect.unit, hQ]))).trans (blk_w m c t k Q)
theorem Wv_at (k : Fin 1024) (q : Fin 512) (Q : Fin 2048) (hQ : Q.val = 1536 + q.val) : Wv m c t (ix2 k q) = extW (aW m c) (ix2 k Q) :=
  (show _ = iblk m c 1 t (ix2 k Q) from congrArg (iblk m c 1 t) (eq_ix2' (by simp [Rect.toLoadRect, Rect.emb, Rect.unit]) (by simp [Rect.emb, Rect.unit, hQ]))).trans (blk_w m c t k Q)

theorem Aq (r : Fin 512) (q : Fin 512) (R : Fin 4096) (hR : R.val = t.val * 512 + r.val) : A (bX m c t) (Wq m c t) (ix2 r q) = qT (H m c) (ix2 R q) := by
  rw [qT_at, H, hT_at]
  refine Finset.sum_congr rfl fun k _ => congrArg₂ (fun a b : EReal => a * b) (blk_x m c t r k R hR) ((Wq_at m c t k q ⟨512 + q.val, by omega⟩ rfl).trans ?_)
  exact ext_dil _ _ _ _ (by dsimp only; omega) (by dsimp only; omega)

theorem Ak (r : Fin 512) (q : Fin 512) (R : Fin 4096) (hR : R.val = t.val * 512 + r.val) : A (bX m c t) (Wk m c t) (ix2 r q) = kT (H m c) (ix2 R q) := by
  rw [kT_at, H, hT_at]
  refine Finset.sum_congr rfl fun k _ => congrArg₂ (fun a b : EReal => a * b) (blk_x m c t r k R hR) ((Wk_at m c t k q ⟨1024 + q.val, by omega⟩ rfl).trans ?_)
  exact ext_dil _ _ _ _ (by dsimp only; omega) (by dsimp only; omega)

theorem Av (r : Fin 512) (q : Fin 512) (R : Fin 4096) (hR : R.val = t.val * 512 + r.val) : A (bX m c t) (Wv m c t) (ix2 r q) = vT (H m c) (ix2 R q) := by
  rw [vT_at, H, hT_at]
  refine Finset.sum_congr rfl fun k _ => congrArg₂ (fun a b : EReal => a * b) (blk_x m c t r k R hR) ((Wv_at m c t k q ⟨1536 + q.val, by omega⟩ rfl).trans ?_)
  exact ext_dil _ _ _ _ (by dsimp only; omega) (by dsimp only; omega)

theorem Ah (r : Fin 512) (q : Fin 512) (R : Fin 4096) (hR : R.val = t.val * 512 + r.val) : A (bX m c t) (Wh m c t) (ix2 r q) = mlaT (H m c) (ix2 R q) := by
  have e : A (bX m c t) (Wh m c t) (ix2 r q) = ∑ k : Fin 1024, aX m c (ix2 R k) * extW (aW m c) (ix2 k ⟨q.val, by omega⟩) :=
    Finset.sum_congr rfl fun k _ => congrArg₂ (fun a b : EReal => a * b) (blk_x m c t r k R hR) (Wh_at m c t k q ⟨q.val, by omega⟩ (by simp))
  rw [e, mlaT_at]
  by_cases h1 : q.val < 384
  · rw [dif_pos h1, H, hT_at]
    exact Finset.sum_congr rfl fun k _ => by rw [ext_at, dif_pos h1]
  by_cases h2 : q.val - 384 < 64
  · rw [dif_neg h1, dif_pos h2]
    exact Finset.sum_eq_zero fun k _ => by rw [ext_at, dif_neg h1, dif_pos h2, mul_zero]
  by_cases h3 : q.val - 384 - 64 < 32
  · rw [dif_neg h1, dif_neg h2, dif_pos h3, H, hT_at]
    exact Finset.sum_congr rfl fun k _ => by rw [ext_at, dif_neg h1, dif_neg h2, dif_pos h3]
  · rw [dif_neg h1, dif_neg h2, dif_neg h3]
    exact Finset.sum_eq_zero fun k _ => by rw [ext_at, dif_neg h1, dif_neg h2, dif_neg h3, dif_pos (by dsimp only; omega), mul_zero]

theorem final2 : (dats m 0 c).arrAt 2 (cfgs 0).N = mlaT (H m c) := by
  refine (dats m 0 c).arrAt_eq_of_covers 2 _ (by decide +kernel) fun t hf y => ?_
  blk_simp
  have hR : t.val * 512 + (y 0).val < 4096 := by have := lt8 t; have h0 : (y 0).val < 512 := (y 0).isLt; omega
  have hy : (win0_2.blk t).view.emb y = ix2 (⟨t.val * 512 + (y 0).val, hR⟩ : Fin 4096) (y 1) := by blk_point [idx_val t]
  rw [after0_2]
  exact (pt2 m c t y).trans ((congrArg (A (bX m c t) (Wh m c t)) (eq_ix2 (n0 := 512) (n1 := 512) y)).trans ((Ah m c t (y 0) (y 1) _ rfl).trans (congrArg (mlaT (H m c)) hy.symm)))

theorem final3 : (dats m 0 c).arrAt 3 (cfgs 0).N = d1T (qT (H m c)) := by
  refine (dats m 0 c).arrAt_eq_of_covers 3 _ (by decide +kernel) fun t hf y => ?_
  blk_simp
  have h0 : (y 0).val < 8 := (y 0).isLt
  have h1 : (y 1).val < 512 := (y 1).isLt
  have h2 : (y 2).val < 64 := (y 2).isLt
  have ht := lt8 t
  have hy : (win0_3.blk t).view.emb y = ix3 (y 0) (⟨t.val * 512 + (y 1).val, by omega⟩ : Fin 4096) (y 2) := by blk_point [idx_val t]
  rw [after0_3]
  exact (pt3 m c t y).trans ((Aq m c t _ _ _ rfl).trans ((d1T_at (qT (H m c)) (y 0) _ (y 2) _ rfl).symm.trans (congrArg (d1T (qT (H m c))) hy.symm)))

theorem final4 : (dats m 0 c).arrAt 4 (cfgs 0).N = d4T (qT (H m c)) := by
  refine (dats m 0 c).arrAt_eq_of_covers 4 _ (by decide +kernel) fun t hf y => ?_
  blk_simp
  have h0 : (y 0).val < 8 := (y 0).isLt
  have h1 : (y 1).val < 4 := (y 1).isLt
  have h2 : (y 2).val < 128 := (y 2).isLt
  have h3 : (y 3).val < 64 := (y 3).isLt
  have ht := lt8 t
  have hy : (win0_4.blk t).view.emb y = ix4 (y 0) (y 1) (⟨t.val * 128 + (y 2).val, by omega⟩ : Fin 1024) (y 3) := by blk_point [idx_val t]
  rw [after0_4]
  exact (pt4 m c t y).trans ((Aq m c t _ _ (⟨t.val * 512 + (4 * (y 2).val + (y 1).val), by omega⟩ : Fin 4096) rfl).trans
    ((d4T_at (qT (H m c)) (y 0) (y 1) (⟨t.val * 128 + (y 2).val, by omega⟩ : Fin 1024) (y 3) _ _ (by simp; omega) rfl).symm.trans (congrArg (d4T (qT (H m c))) hy.symm)))

theorem final5 : (dats m 0 c).arrAt 5 (cfgs 0).N = d16T (qT (H m c)) := by
  refine (dats m 0 c).arrAt_eq_of_covers 5 _ (by decide +kernel) fun t hf y => ?_
  blk_simp
  have h0 : (y 0).val < 8 := (y 0).isLt
  have h1 : (y 1).val < 16 := (y 1).isLt
  have h2 : (y 2).val < 32 := (y 2).isLt
  have h3 : (y 3).val < 64 := (y 3).isLt
  have ht := lt8 t
  have hy : (win0_5.blk t).view.emb y = ix4 (y 0) (y 1) (⟨t.val * 32 + (y 2).val, by omega⟩ : Fin 256) (y 3) := by blk_point [idx_val t]
  rw [after0_5]
  exact (pt5 m c t y).trans ((Aq m c t _ _ (⟨t.val * 512 + (16 * (y 2).val + (y 1).val), by omega⟩ : Fin 4096) rfl).trans
    ((d16T_at (qT (H m c)) (y 0) (y 1) (⟨t.val * 32 + (y 2).val, by omega⟩ : Fin 256) (y 3) _ _ (by simp; omega) rfl).symm.trans (congrArg (d16T (qT (H m c))) hy.symm)))

theorem final6 : (dats m 0 c).arrAt 6 (cfgs 0).N = d1T (kT (H m c)) := by
  refine (dats m 0 c).arrAt_eq_of_covers 6 _ (by decide +kernel) fun t hf y => ?_
  blk_simp
  have h0 : (y 0).val < 8 := (y 0).isLt
  have h1 : (y 1).val < 512 := (y 1).isLt
  have h2 : (y 2).val < 64 := (y 2).isLt
  have ht := lt8 t
  have hy : (win0_6.blk t).view.emb y = ix3 (y 0) (⟨t.val * 512 + (y 1).val, by omega⟩ : Fin 4096) (y 2) := by blk_point [idx_val t]
  rw [after0_6]
  exact (pt6 m c t y).trans ((Ak m c t _ _ _ rfl).trans ((d1T_at (kT (H m c)) (y 0) _ (y 2) _ rfl).symm.trans (congrArg (d1T (kT (H m c))) hy.symm)))

theorem final7 : (dats m 0 c).arrAt 7 (cfgs 0).N = d4T (kT (H m c)) := by
  refine (dats m 0 c).arrAt_eq_of_covers 7 _ (by decide +kernel) fun t hf y => ?_
  blk_simp
  have h0 : (y 0).val < 8 := (y 0).isLt
  have h1 : (y 1).val < 4 := (y 1).isLt
  have h2 : (y 2).val < 128 := (y 2).isLt
  have h3 : (y 3).val < 64 := (y 3).isLt
  have ht := lt8 t
  have hy : (win0_7.blk t).view.emb y = ix4 (y 0) (y 1) (⟨t.val * 128 + (y 2).val, by omega⟩ : Fin 1024) (y 3) := by blk_point [idx_val t]
  rw [after0_7]
  exact (pt7 m c t y).trans ((Ak m c t _ _ (⟨t.val * 512 + (4 * (y 2).val + (y 1).val), by omega⟩ : Fin 4096) rfl).trans
    ((d4T_at (kT (H m c)) (y 0) (y 1) (⟨t.val * 128 + (y 2).val, by omega⟩ : Fin 1024) (y 3) _ _ (by simp; omega) rfl).symm.trans (congrArg (d4T (kT (H m c))) hy.symm)))

theorem final8 : (dats m 0 c).arrAt 8 (cfgs 0).N = d16T (kT (H m c)) := by
  refine (dats m 0 c).arrAt_eq_of_covers 8 _ (by decide +kernel) fun t hf y => ?_
  blk_simp
  have h0 : (y 0).val < 8 := (y 0).isLt
  have h1 : (y 1).val < 16 := (y 1).isLt
  have h2 : (y 2).val < 32 := (y 2).isLt
  have h3 : (y 3).val < 64 := (y 3).isLt
  have ht := lt8 t
  have hy : (win0_8.blk t).view.emb y = ix4 (y 0) (y 1) (⟨t.val * 32 + (y 2).val, by omega⟩ : Fin 256) (y 3) := by blk_point [idx_val t]
  rw [after0_8]
  exact (pt8 m c t y).trans ((Ak m c t _ _ (⟨t.val * 512 + (16 * (y 2).val + (y 1).val), by omega⟩ : Fin 4096) rfl).trans
    ((d16T_at (kT (H m c)) (y 0) (y 1) (⟨t.val * 32 + (y 2).val, by omega⟩ : Fin 256) (y 3) _ _ (by simp; omega) rfl).symm.trans (congrArg (d16T (kT (H m c))) hy.symm)))

theorem final9 : (dats m 0 c).arrAt 9 (cfgs 0).N = d1T (vT (H m c)) := by
  refine (dats m 0 c).arrAt_eq_of_covers 9 _ (by decide +kernel) fun t hf y => ?_
  blk_simp
  have h0 : (y 0).val < 8 := (y 0).isLt
  have h1 : (y 1).val < 512 := (y 1).isLt
  have h2 : (y 2).val < 64 := (y 2).isLt
  have ht := lt8 t
  have hy : (win0_9.blk t).view.emb y = ix3 (y 0) (⟨t.val * 512 + (y 1).val, by omega⟩ : Fin 4096) (y 2) := by blk_point [idx_val t]
  rw [after0_9]
  exact (pt9 m c t y).trans ((Av m c t _ _ _ rfl).trans ((d1T_at (vT (H m c)) (y 0) _ (y 2) _ rfl).symm.trans (congrArg (d1T (vT (H m c))) hy.symm)))

theorem final10 : (dats m 0 c).arrAt 10 (cfgs 0).N = d4T (vT (H m c)) := by
  refine (dats m 0 c).arrAt_eq_of_covers 10 _ (by decide +kernel) fun t hf y => ?_
  blk_simp
  have h0 : (y 0).val < 8 := (y 0).isLt
  have h1 : (y 1).val < 4 := (y 1).isLt
  have h2 : (y 2).val < 128 := (y 2).isLt
  have h3 : (y 3).val < 64 := (y 3).isLt
  have ht := lt8 t
  have hy : (win0_10.blk t).view.emb y = ix4 (y 0) (y 1) (⟨t.val * 128 + (y 2).val, by omega⟩ : Fin 1024) (y 3) := by blk_point [idx_val t]
  rw [after0_10]
  exact (pt10 m c t y).trans ((Av m c t _ _ (⟨t.val * 512 + (4 * (y 2).val + (y 1).val), by omega⟩ : Fin 4096) rfl).trans
    ((d4T_at (vT (H m c)) (y 0) (y 1) (⟨t.val * 128 + (y 2).val, by omega⟩ : Fin 1024) (y 3) _ _ (by simp; omega) rfl).symm.trans (congrArg (d4T (vT (H m c))) hy.symm)))

theorem final11 : (dats m 0 c).arrAt 11 (cfgs 0).N = d16T (vT (H m c)) := by
  refine (dats m 0 c).arrAt_eq_of_covers 11 _ (by decide +kernel) fun t hf y => ?_
  blk_simp
  have h0 : (y 0).val < 8 := (y 0).isLt
  have h1 : (y 1).val < 16 := (y 1).isLt
  have h2 : (y 2).val < 32 := (y 2).isLt
  have h3 : (y 3).val < 64 := (y 3).isLt
  have ht := lt8 t
  have hy : (win0_11.blk t).view.emb y = ix4 (y 0) (y 1) (⟨t.val * 32 + (y 2).val, by omega⟩ : Fin 256) (y 3) := by blk_point [idx_val t]
  rw [after0_11]
  exact (pt11 m c t y).trans ((Av m c t _ _ (⟨t.val * 512 + (16 * (y 2).val + (y 1).val), by omega⟩ : Fin 4096) rfl).trans
    ((d16T_at (vT (H m c)) (y 0) (y 1) (⟨t.val * 32 + (y 2).val, by omega⟩ : Fin 256) (y 3) _ _ (by simp; omega) rfl).symm.trans (congrArg (d16T (vT (H m c))) hy.symm)))

end Cert.Kernel13Ideal.Inp

end
-- ==== Proof.Claim13.lean ====
/- The claims about the programs of Kernel13 and Reference13. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.InProj
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C13

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2.2.2.2.2.2.2.2.2, sem_eq_zero_of_no_sems (by decide) r.2⟩)
    (Cert.Reference13Ideal.Value.run (F := Ideal) m ρ)
theorem preserves : Cert.preserves_Kernel13_Kernel13Ideal := trivial

set_option maxHeartbeats 4000000 in
/-- Both programs end with the same ten result arrays. -/
theorem algebraic : Cert.algebraic_Kernel13Ideal_Reference13Ideal := by
  pair_intro
  · run_from Cert.Kernel13Ideal.Gen.run_main m g
  · refine θ_run_mono (Cert.Reference13Ideal.Value.run m' g') ?_
    intro r hr c
    obtain ⟨h0, h1, h2, h3, h4, h5, h6, h7, h8, h9, hargs⟩ := hr c
    obtain ⟨a0, a1⟩ := hagree c
    refine ⟨h0.trans ?_, h1.trans ?_, h2.trans ?_, h3.trans ?_, h4.trans ?_, h5.trans ?_, h6.trans ?_, h7.trans ?_, h8.trans ?_, h9.trans ?_, hargs⟩
    · refine Eq.trans (b := Cert.Reference13Ideal.Inp.mlaT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1)))) rfl (Eq.trans ?_ (Cert.Kernel13Ideal.Inp.final2 m c).symm)
      rw [a0, a1]
    · refine Eq.trans (b := Cert.Reference13Ideal.Inp.d1T (Cert.Reference13Ideal.Inp.qT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final3 m c).symm)
      rw [a0, a1]
    · refine Eq.trans (b := Cert.Reference13Ideal.Inp.d4T (Cert.Reference13Ideal.Inp.qT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final4 m c).symm)
      rw [a0, a1]
    · refine Eq.trans (b := Cert.Reference13Ideal.Inp.d16T (Cert.Reference13Ideal.Inp.qT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final5 m c).symm)
      rw [a0, a1]
    · refine Eq.trans (b := Cert.Reference13Ideal.Inp.d1T (Cert.Reference13Ideal.Inp.kT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final6 m c).symm)
      rw [a0, a1]
    · refine Eq.trans (b := Cert.Reference13Ideal.Inp.d4T (Cert.Reference13Ideal.Inp.kT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final7 m c).symm)
      rw [a0, a1]
    · refine Eq.trans (b := Cert.Reference13Ideal.Inp.d16T (Cert.Reference13Ideal.Inp.kT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final8 m c).symm)
      rw [a0, a1]
    · refine Eq.trans (b := Cert.Reference13Ideal.Inp.d1T (Cert.Reference13Ideal.Inp.vT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final9 m c).symm)
      rw [a0, a1]
    · refine Eq.trans (b := Cert.Reference13Ideal.Inp.d4T (Cert.Reference13Ideal.Inp.vT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final10 m c).symm)
      rw [a0, a1]
    · refine Eq.trans (b := Cert.Reference13Ideal.Inp.d16T (Cert.Reference13Ideal.Inp.vT (Cert.Reference13Ideal.Inp.hT (m' ((c : Thread Cert.Reference13Ideal.nD Cert.Reference13Ideal.τ).loc Cert.Reference13Ideal.main_arg0)) (m' ((c : Thread Cert.Reference13Ideal.nD Cert.Reference13Ideal.τ).loc Cert.Reference13Ideal.main_arg1))))) rfl (Eq.trans ?_ (Cert.Kernel13Ideal.Inp.final11 m c).symm)
      rw [a0, a1]

end Cert.Proof.C13

end
-- ==== Proof.Adam.lean ====
/- One step of the optimiser at one element: the two moments and the change of the weight. -/
module

public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Adam

/-- The word of a constant, as a number. -/
abbrev k (b : BitVec 32) : EReal := Ideal.ofBits FTy.f32 b

/-- The first moment. -/
def aM (g m : EReal) : EReal := k 0x3F666666#32 * m + k 0x3DCCCCCD#32 * g
/-- The second moment. -/
def aV (g v : EReal) : EReal := k 0x3F7FBE77#32 * v + k 0x3A83126F#32 * (g * g)
/-- The weight's change, from its two new moments. -/
def aD (w m v : EReal) : EReal :=
  k 0xBA83126F#32 * (Ideal.div (Ideal.div m (k 0x3F26BD02#32)) (Ideal.sqrt (Ideal.div v (k 0x3C231ACC#32)) + k 0x322BCC77#32) + k 0x3C23D70A#32 * w)

end Cert.Adam

end
-- ==== Proof.Opt15.lean ====
/- The values of the call adamw_w_in: the reference in stages, and what each of the three result arrays holds after the run. -/
module

public import proofs.«01_k».proof.Defs
public import proofs.«01_k».proof.Proof.Gen.Kernel15Ideal.Frame
public import proofs.«01_k».proof.Proof.Gen.Kernel15Ideal
public import proofs.«01_k».proof.Proof.Gen.Reference15Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference15Ideal.Opt

open Cert.Reference15Ideal Cert.Reference15Ideal.Gen
open Cert.Adam (aM aV aD)

/-- The first moment. -/
def mT (g : Vec Ideal S1024x488 .f32) (m : Vec Ideal S1024x488 .f32) : FVec Ideal S1024x488 .f32 :=
  addf (mulf (broadcastInDim S1024x488 ![] bcast_S_S1024x488 (constant S_ .f32 0x3F666666#32)) m) (mulf (broadcastInDim S1024x488 ![] bcast_S_S1024x488 (constant S_ .f32 0x3DCCCCCD#32)) g)

/-- The second moment. -/
def vT (g : Vec Ideal S1024x488 .f32) (v : Vec Ideal S1024x488 .f32) : FVec Ideal S1024x488 .f32 :=
  addf (mulf (broadcastInDim S1024x488 ![] bcast_S_S1024x488 (constant S_ .f32 0x3F7FBE77#32)) v) (mulf (broadcastInDim S1024x488 ![] bcast_S_S1024x488 (constant S_ .f32 0x3A83126F#32)) (mulf g g))

/-- The weight's change. -/
def dT (w : Vec Ideal S1024x488 .f32) (m : Vec Ideal S1024x488 .f32) (v : Vec Ideal S1024x488 .f32) : FVec Ideal S1024x488 .f32 :=
  mulf (broadcastInDim S1024x488 ![] bcast_S_S1024x488 (constant S_ .f32 0xBA83126F#32)) (addf (Host.divf (Host.divf m (broadcastInDim S1024x488 ![] bcast_S_S1024x488 (constant S_ .f32 0x3F26BD02#32))) (addf (Host.sqrt (Host.divf v (broadcastInDim S1024x488 ![] bcast_S_S1024x488 (constant S_ .f32 0x3C231ACC#32)))) (broadcastInDim S1024x488 ![] bcast_S_S1024x488 (constant S_ .f32 0x322BCC77#32)))) (mulf (broadcastInDim S1024x488 ![] bcast_S_S1024x488 (constant S_ .f32 0x3C23D70A#32)) w))

theorem mT_at (g m : Vec Ideal S1024x488 .f32) (r : Fin 1024) (l : Fin 488) : mT g m (ix2 r l) = aM (g (ix2 r l)) (m (ix2 r l)) := by
  pointwise! [mT, aM]
theorem vT_at (g v : Vec Ideal S1024x488 .f32) (r : Fin 1024) (l : Fin 488) : vT g v (ix2 r l) = aV (g (ix2 r l)) (v (ix2 r l)) := by
  pointwise! [vT, aV]
theorem dT_at (w m v : Vec Ideal S1024x488 .f32) (r : Fin 1024) (l : Fin 488) : dT w m v (ix2 r l) = aD (w (ix2 r l)) (m (ix2 r l)) (v (ix2 r l)) := by
  pointwise! [dT, aD]

end Cert.Reference15Ideal.Opt

namespace Cert.Kernel15Ideal.Opt

open Cert.Kernel15Ideal Cert.Kernel15Ideal.Gen
open Cert.Adam (aM aV aD)
open Cert.Reference15Ideal.Opt (mT vT dT mT_at vT_at dT_at)

variable (m : (ℓ : Loc nD τ sig) → Buf (Elt Ideal) ℓ) (c : Dev nD)

/-- The argument arrays, at their shapes. -/
abbrev aW : FVec Ideal S1024x488 .f32 := m ((c : Thread nD τ).loc main_arg0)
abbrev aG : FVec Ideal S1024x488 .f32 := m ((c : Thread nD τ).loc main_arg1)
abbrev aM1 : FVec Ideal S1024x488 .f32 := m ((c : Thread nD τ).loc main_arg2)
abbrev aV1 : FVec Ideal S1024x488 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 256) : t.val * 256 + r.val < 1024 := by
  have h1 : t.val < 4 := t.isLt
  omega

/-- The row of the arrays that a row of the block is. -/
abbrev gR (r : Fin 256) : Fin 1024 := ⟨t.val * 256 + r.val, row_lt t r⟩

theorem blk0 (r : Fin 256) (l : Fin 488) : iblk m c 0 t (ix2 r l) = aW m c (ix2 (gR t r) l) := by
  have e : V m c main_arg0 = aW m c := by entry_read; rfl
  rw [← e]; blk_point [iblk, idx_val t]
theorem blk1 (r : Fin 256) (l : Fin 488) : iblk m c 1 t (ix2 r l) = aG m c (ix2 (gR t r) l) := by
  have e : V m c main_arg1 = aG m c := by entry_read; rfl
  rw [← e]; blk_point [iblk, idx_val t]
theorem blk2 (r : Fin 256) (l : Fin 488) : iblk m c 2 t (ix2 r l) = aM1 m c (ix2 (gR t r) l) := by
  have e : V m c main_arg2 = aM1 m c := by entry_read; rfl
  rw [← e]; blk_point [iblk, idx_val t]
theorem blk3 (r : Fin 256) (l : Fin 488) : iblk m c 3 t (ix2 r l) = aV1 m c (ix2 (gR t r) l) := by
  have e : V m c main_arg3 = aV1 m c := by entry_read; rfl
  rw [← e]; blk_point [iblk, idx_val t]

theorem at1 (r : Fin 256) (l : Fin 488) : k0_pay1 (F := Ideal) (iblk m c 1 t) (iblk m c 2 t) (ix2 r l) = mT (aG m c) (aM1 m c) (ix2 (gR t r) l) := by
  have h (a b : Vec Ideal S256x488 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 256) (l : Fin 488) : k0_pay2 (F := Ideal) (iblk m c 1 t) (iblk m c 3 t) (ix2 r l) = vT (aG m c) (aV1 m c) (ix2 (gR t r) l) := by
  have h (a b : Vec Ideal S256x488 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 256) (l : Fin 488) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S256x488 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 256) (n1 := 488) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 256) (n1 := 488) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 256) (n1 := 488) y)).trans ((at2 m c t (y 0) (y 1)).trans (congrArg (vT (aG m c) (aV1 m c)) hy.symm))
  rw [after0_6]; unfold out0_6; frame_out; exact fin

end Cert.Kernel15Ideal.Opt

end
-- ==== Proof.Claim15.lean ====
/- The claims about the programs of Kernel15 and Reference15. -/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Opt15
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C15

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)
theorem preserves : Cert.preserves_Kernel15_Kernel15Ideal := trivial

set_option maxHeartbeats 4000000 in
/-- Both programs end with the same three result arrays. -/
theorem algebraic : Cert.algebraic_Kernel15Ideal_Reference15Ideal := by
  pair_intro
  · run_from Cert.Kernel15Ideal.Gen.run_main m g
  · refine θ_run_mono (Cert.Reference15Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference15Ideal.Opt.dT (m' ((c : Thread Cert.Reference15Ideal.nD Cert.Reference15Ideal.τ).loc Cert.Reference15Ideal.main_arg0)) (Cert.Reference15Ideal.Opt.mT (m' ((c : Thread Cert.Reference15Ideal.nD Cert.Reference15Ideal.τ).loc Cert.Reference15Ideal.main_arg1)) (m' ((c : Thread Cert.Reference15Ideal.nD Cert.Reference15Ideal.τ).loc Cert.Reference15Ideal.main_arg2))) (Cert.Reference15Ideal.Opt.vT (m' ((c : Thread Cert.Reference15Ideal.nD Cert.Reference15Ideal.τ).loc Cert.Reference15Ideal.main_arg1)) (m' ((c : Thread Cert.Reference15Ideal.nD Cert.Reference15Ideal.τ).loc Cert.Reference15Ideal.main_arg3)))) rfl (Eq.trans ?_ (Cert.Kernel15Ideal.Opt.final4 m c).symm)
      rw [a0, a1, a2, a3]
    · refine Eq.trans (b := Cert.Reference15Ideal.Opt.mT (m' ((c : Thread Cert.Reference15Ideal.nD Cert.Reference15Ideal.τ).loc Cert.Reference15Ideal.main_arg1)) (m' ((c : Thread Cert.Reference15Ideal.nD Cert.Reference15Ideal.τ).loc Cert.Reference15Ideal.main_arg2))) rfl (Eq.trans ?_ (Cert.Kernel15Ideal.Opt.final5 m c).symm)
      rw [a1, a2]
    · refine Eq.trans (b := Cert.Reference15Ideal.Opt.vT (m' ((c : Thread Cert.Reference15Ideal.nD Cert.Reference15Ideal.τ).loc Cert.Reference15Ideal.main_arg1)) (m' ((c : Thread Cert.Reference15Ideal.nD Cert.Reference15Ideal.τ).loc Cert.Reference15Ideal.main_arg3))) rfl (Eq.trans ?_ (Cert.Kernel15Ideal.Opt.final6 m c).symm)
      rw [a1, a3]

end Cert.Proof.C15

end
-- ==== Proof.Opt16.lean ====
/- The values of the call adamw_w_uq: the reference in stages, and what each of the three result arrays holds after the run. -/
module

public import proofs.«01_k».proof.Defs
public import proofs.«01_k».proof.Proof.Gen.Kernel16Ideal.Frame
public import proofs.«01_k».proof.Proof.Gen.Kernel16Ideal
public import proofs.«01_k».proof.Proof.Gen.Reference16Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference16Ideal.Opt

open Cert.Reference16Ideal Cert.Reference16Ideal.Gen
open Cert.Adam (aM aV aD)

/-- The first moment. -/
def mT (g : Vec Ideal S64x768 .f32) (m : Vec Ideal S64x768 .f32) : FVec Ideal S64x768 .f32 :=
  addf (mulf (broadcastInDim S64x768 ![] bcast_S_S64x768 (constant S_ .f32 0x3F666666#32)) m) (mulf (broadcastInDim S64x768 ![] bcast_S_S64x768 (constant S_ .f32 0x3DCCCCCD#32)) g)

/-- The second moment. -/
def vT (g : Vec Ideal S64x768 .f32) (v : Vec Ideal S64x768 .f32) : FVec Ideal S64x768 .f32 :=
  addf (mulf (broadcastInDim S64x768 ![] bcast_S_S64x768 (constant S_ .f32 0x3F7FBE77#32)) v) (mulf (broadcastInDim S64x768 ![] bcast_S_S64x768 (constant S_ .f32 0x3A83126F#32)) (mulf g g))

/-- The weight's change. -/
def dT (w : Vec Ideal S64x768 .f32) (m : Vec Ideal S64x768 .f32) (v : Vec Ideal S64x768 .f32) : FVec Ideal S64x768 .f32 :=
  mulf (broadcastInDim S64x768 ![] bcast_S_S64x768 (constant S_ .f32 0xBA83126F#32)) (addf (Host.divf (Host.divf m (broadcastInDim S64x768 ![] bcast_S_S64x768 (constant S_ .f32 0x3F26BD02#32))) (addf (Host.sqrt (Host.divf v (broadcastInDim S64x768 ![] bcast_S_S64x768 (constant S_ .f32 0x3C231ACC#32)))) (broadcastInDim S64x768 ![] bcast_S_S64x768 (constant S_ .f32 0x322BCC77#32)))) (mulf (broadcastInDim S64x768 ![] bcast_S_S64x768 (constant S_ .f32 0x3C23D70A#32)) w))

theorem mT_at (g m : Vec Ideal S64x768 .f32) (r : Fin 64) (l : Fin 768) : mT g m (ix2 r l) = aM (g (ix2 r l)) (m (ix2 r l)) := by
  pointwise! [mT, aM]
theorem vT_at (g v : Vec Ideal S64x768 .f32) (r : Fin 64) (l : Fin 768) : vT g v (ix2 r l) = aV (g (ix2 r l)) (v (ix2 r l)) := by
  pointwise! [vT, aV]
theorem dT_at (w m v : Vec Ideal S64x768 .f32) (r : Fin 64) (l : Fin 768) : dT w m v (ix2 r l) = aD (w (ix2 r l)) (m (ix2 r l)) (v (ix2 r l)) := by
  pointwise! [dT, aD]

end Cert.Reference16Ideal.Opt

namespace Cert.Kernel16Ideal.Opt

open Cert.Kernel16Ideal Cert.Kernel16Ideal.Gen
open Cert.Adam (aM aV aD)
open Cert.Reference16Ideal.Opt (mT vT dT mT_at vT_at dT_at)

variable (m : (ℓ : Loc nD τ sig) → Buf (Elt Ideal) ℓ) (c : Dev nD)

/-- The argument arrays, at their shapes. -/
abbrev aW : FVec Ideal S64x768 .f32 := m ((c : Thread nD τ).loc main_arg0)
abbrev aG : FVec Ideal S64x768 .f32 := m ((c : Thread nD τ).loc main_arg1)
abbrev aM1 : FVec Ideal S64x768 .f32 := m ((c : Thread nD τ).loc main_arg2)
abbrev aV1 : FVec Ideal S64x768 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 16) : t.val * 16 + r.val < 64 := by
  have h1 : t.val < 4 := t.isLt
  omega

/-- The row of the arrays that a row of the block is. -/
abbrev gR (r : Fin 16) : Fin 64 := ⟨t.val * 16 + r.val, row_lt t r⟩

theorem blk0 (r : Fin 16) (l : Fin 768) : iblk m c 0 t (ix2 r l) = aW m c (ix2 (gR t r) l) := by
  have e : V m c main_arg0 = aW m c := by entry_read; rfl
  rw [← e]; blk_point [iblk, idx_val t]
theorem blk1 (r : Fin 16) (l : Fin 768) : iblk m c 1 t (ix2 r l) = aG m c (ix2 (gR t r) l) := by
  have e : V m c main_arg1 = aG m c := by entry_read; rfl
  rw [← e]; blk_point [iblk, idx_val t]
theorem blk2 (r : Fin 16) (l : Fin 768) : iblk m c 2 t (ix2 r l) = aM1 m c (ix2 (gR t r) l) := by
  have e : V m c main_arg2 = aM1 m c := by entry_read; rfl
  rw [← e]; blk_point [iblk, idx_val t]
theorem blk3 (r : Fin 16) (l : Fin 768) : iblk m c 3 t (ix2 r l) = aV1 m c (ix2 (gR t r) l) := by
  have e : V m c main_arg3 = aV1 m c := by entry_read; rfl
  rw [← e]; blk_point [iblk, idx_val t]

theorem at1 (r : Fin 16) (l : Fin 768) : k0_pay1 (F := Ideal) (iblk m c 1 t) (iblk m c 2 t) (ix2 r l) = mT (aG m c) (aM1 m c) (ix2 (gR t r) l) := by
  have h (a b : Vec Ideal S16x768 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 16) (l : Fin 768) : k0_pay2 (F := Ideal) (iblk m c 1 t) (iblk m c 3 t) (ix2 r l) = vT (aG m c) (aV1 m c) (ix2 (gR t r) l) := by
  have h (a b : Vec Ideal S16x768 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 16) (l : Fin 768) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S16x768 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 16) (n1 := 768) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 16) (n1 := 768) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 16) (n1 := 768) y)).trans ((at2 m c t (y 0) (y 1)).trans (congrArg (vT (aG m c) (aV1 m c)) hy.symm))
  rw [after0_6]; unfold out0_6; frame_out; exact fin

end Cert.Kernel16Ideal.Opt

end
-- ==== Proof.Claim16.lean ====
/- The claims about the programs of Kernel16 and Reference16. -/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Opt16
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C16

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)
theorem preserves : Cert.preserves_Kernel16_Kernel16Ideal := trivial

set_option maxHeartbeats 4000000 in
/-- Both programs end with the same three result arrays. -/
theorem algebraic : Cert.algebraic_Kernel16Ideal_Reference16Ideal := by
  pair_intro
  · run_from Cert.Kernel16Ideal.Gen.run_main m g
  · refine θ_run_mono (Cert.Reference16Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference16Ideal.Opt.dT (m' ((c : Thread Cert.Reference16Ideal.nD Cert.Reference16Ideal.τ).loc Cert.Reference16Ideal.main_arg0)) (Cert.Reference16Ideal.Opt.mT (m' ((c : Thread Cert.Reference16Ideal.nD Cert.Reference16Ideal.τ).loc Cert.Reference16Ideal.main_arg1)) (m' ((c : Thread Cert.Reference16Ideal.nD Cert.Reference16Ideal.τ).loc Cert.Reference16Ideal.main_arg2))) (Cert.Reference16Ideal.Opt.vT (m' ((c : Thread Cert.Reference16Ideal.nD Cert.Reference16Ideal.τ).loc Cert.Reference16Ideal.main_arg1)) (m' ((c : Thread Cert.Reference16Ideal.nD Cert.Reference16Ideal.τ).loc Cert.Reference16Ideal.main_arg3)))) rfl (Eq.trans ?_ (Cert.Kernel16Ideal.Opt.final4 m c).symm)
      rw [a0, a1, a2, a3]
    · refine Eq.trans (b := Cert.Reference16Ideal.Opt.mT (m' ((c : Thread Cert.Reference16Ideal.nD Cert.Reference16Ideal.τ).loc Cert.Reference16Ideal.main_arg1)) (m' ((c : Thread Cert.Reference16Ideal.nD Cert.Reference16Ideal.τ).loc Cert.Reference16Ideal.main_arg2))) rfl (Eq.trans ?_ (Cert.Kernel16Ideal.Opt.final5 m c).symm)
      rw [a1, a2]
    · refine Eq.trans (b := Cert.Reference16Ideal.Opt.vT (m' ((c : Thread Cert.Reference16Ideal.nD Cert.Reference16Ideal.τ).loc Cert.Reference16Ideal.main_arg1)) (m' ((c : Thread Cert.Reference16Ideal.nD Cert.Reference16Ideal.τ).loc Cert.Reference16Ideal.main_arg3))) rfl (Eq.trans ?_ (Cert.Kernel16Ideal.Opt.final6 m c).symm)
      rw [a1, a3]

end Cert.Proof.C16

end
-- ==== Proof.Opt17.lean ====
/- The values of the call adamw_w_o: the reference in stages, and what each of the three result arrays holds after the run. -/
module

public import proofs.«01_k».proof.Defs
public import proofs.«01_k».proof.Proof.Gen.Kernel17Ideal.Frame
public import proofs.«01_k».proof.Proof.Gen.Kernel17Ideal
public import proofs.«01_k».proof.Proof.Gen.Reference17Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference17Ideal.Opt

open Cert.Reference17Ideal Cert.Reference17Ideal.Gen
open Cert.Adam (aM aV aD)

/-- The first moment. -/
def mT (g : Vec Ideal S256x1024 .f32) (m : Vec Ideal S256x1024 .f32) : FVec Ideal S256x1024 .f32 :=
  addf (mulf (broadcastInDim S256x1024 ![] bcast_S_S256x1024 (constant S_ .f32 0x3F666666#32)) m) (mulf (broadcastInDim S256x1024 ![] bcast_S_S256x1024 (constant S_ .f32 0x3DCCCCCD#32)) g)

/-- The second moment. -/
def vT (g : Vec Ideal S256x1024 .f32) (v : Vec Ideal S256x1024 .f32) : FVec Ideal S256x1024 .f32 :=
  addf (mulf (broadcastInDim S256x1024 ![] bcast_S_S256x1024 (constant S_ .f32 0x3F7FBE77#32)) v) (mulf (broadcastInDim S256x1024 ![] bcast_S_S256x1024 (constant S_ .f32 0x3A83126F#32)) (mulf g g))

/-- The weight's change. -/
def dT (w : Vec Ideal S256x1024 .f32) (m : Vec Ideal S256x1024 .f32) (v : Vec Ideal S256x1024 .f32) : FVec Ideal S256x1024 .f32 :=
  mulf (broadcastInDim S256x1024 ![] bcast_S_S256x1024 (constant S_ .f32 0xBA83126F#32)) (addf (Host.divf (Host.divf m (broadcastInDim S256x1024 ![] bcast_S_S256x1024 (constant S_ .f32 0x3F26BD02#32))) (addf (Host.sqrt (Host.divf v (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w))

theorem mT_at (g m : Vec Ideal S256x1024 .f32) (r : Fin 256) (l : Fin 1024) : mT g m (ix2 r l) = aM (g (ix2 r l)) (m (ix2 r l)) := by
  pointwise! [mT, aM]
theorem vT_at (g v : Vec Ideal S256x1024 .f32) (r : Fin 256) (l : Fin 1024) : vT g v (ix2 r l) = aV (g (ix2 r l)) (v (ix2 r l)) := by
  pointwise! [vT, aV]
theorem dT_at (w m v : Vec Ideal S256x1024 .f32) (r : Fin 256) (l : Fin 1024) : dT w m v (ix2 r l) = aD (w (ix2 r l)) (m (ix2 r l)) (v (ix2 r l)) := by
  pointwise! [dT, aD]

end Cert.Reference17Ideal.Opt

namespace Cert.Kernel17Ideal.Opt

open Cert.Kernel17Ideal Cert.Kernel17Ideal.Gen
open Cert.Adam (aM aV aD)
open Cert.Reference17Ideal.Opt (mT vT dT mT_at vT_at dT_at)

variable (m : (ℓ : Loc nD τ sig) → Buf (Elt Ideal) ℓ) (c : Dev nD)

/-- The argument arrays, at their shapes. -/
abbrev aW : FVec Ideal S256x1024 .f32 := m ((c : Thread nD τ).loc main_arg0)
abbrev aG : FVec Ideal S256x1024 .f32 := m ((c : Thread nD τ).loc main_arg1)
abbrev aM1 : FVec Ideal S256x1024 .f32 := m ((c : Thread nD τ).loc main_arg2)
abbrev aV1 : FVec Ideal S256x1024 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 64) : t.val * 64 + r.val < 256 := by
  have h1 : t.val < 4 := t.isLt
  omega

/-- The row of the arrays that a row of the block is. -/
abbrev gR (r : Fin 64) : Fin 256 := ⟨t.val * 64 + r.val, row_lt t r⟩

theorem blk0 (r : Fin 64) (l : Fin 1024) : iblk m c 0 t (ix2 r l) = aW m c (ix2 (gR t r) l) := by
  have e : V m c main_arg0 = aW m c := by entry_read; rfl
  rw [← e]; blk_point [iblk, idx_val t]
theorem blk1 (r : Fin 64) (l : Fin 1024) : iblk m c 1 t (ix2 r l) = aG m c (ix2 (gR t r) l) := by
  have e : V m c main_arg1 = aG m c := by entry_read; rfl
  rw [← e]; blk_point [iblk, idx_val t]
theorem blk2 (r : Fin 64) (l : Fin 1024) : iblk m c 2 t (ix2 r l) = aM1 m c (ix2 (gR t r) l) := by
  have e : V m c main_arg2 = aM1 m c := by entry_read; rfl
  rw [← e]; blk_point [iblk, idx_val t]
theorem blk3 (r : Fin 64) (l : Fin 1024) : iblk m c 3 t (ix2 r l) = aV1 m c (ix2 (gR t r) l) := by
  have e : V m c main_arg3 = aV1 m c := by entry_read; rfl
  rw [← e]; blk_point [iblk, idx_val t]

theorem at1 (r : Fin 64) (l : Fin 1024) : k0_pay1 (F := Ideal) (iblk m c 1 t) (iblk m c 2 t) (ix2 r l) = mT (aG m c) (aM1 m c) (ix2 (gR t r) l) := by
  have h (a b : Vec Ideal S64x1024 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 64) (l : Fin 1024) : k0_pay2 (F := Ideal) (iblk m c 1 t) (iblk m c 3 t) (ix2 r l) = vT (aG m c) (aV1 m c) (ix2 (gR t r) l) := by
  have h (a b : Vec Ideal S64x1024 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 64) (l : Fin 1024) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S64x1024 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 64) (n1 := 1024) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 64) (n1 := 1024) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 64) (n1 := 1024) y)).trans ((at2 m c t (y 0) (y 1)).trans (congrArg (vT (aG m c) (aV1 m c)) hy.symm))
  rw [after0_6]; unfold out0_6; frame_out; exact fin

end Cert.Kernel17Ideal.Opt

end
-- ==== Proof.Claim17.lean ====
/- The claims about the programs of Kernel17 and Reference17. -/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Opt17
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C17

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)
theorem preserves : Cert.preserves_Kernel17_Kernel17Ideal := trivial

set_option maxHeartbeats 4000000 in
/-- Both programs end with the same three result arrays. -/
theorem algebraic : Cert.algebraic_Kernel17Ideal_Reference17Ideal := by
  pair_intro
  · run_from Cert.Kernel17Ideal.Gen.run_main m g
  · refine θ_run_mono (Cert.Reference17Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference17Ideal.Opt.dT (m' ((c : Thread Cert.Reference17Ideal.nD Cert.Reference17Ideal.τ).loc Cert.Reference17Ideal.main_arg0)) (Cert.Reference17Ideal.Opt.mT (m' ((c : Thread Cert.Reference17Ideal.nD Cert.Reference17Ideal.τ).loc Cert.Reference17Ideal.main_arg1)) (m' ((c : Thread Cert.Reference17Ideal.nD Cert.Reference17Ideal.τ).loc Cert.Reference17Ideal.main_arg2))) (Cert.Reference17Ideal.Opt.vT (m' ((c : Thread Cert.Reference17Ideal.nD Cert.Reference17Ideal.τ).loc Cert.Reference17Ideal.main_arg1)) (m' ((c : Thread Cert.Reference17Ideal.nD Cert.Reference17Ideal.τ).loc Cert.Reference17Ideal.main_arg3)))) rfl (Eq.trans ?_ (Cert.Kernel17Ideal.Opt.final4 m c).symm)
      rw [a0, a1, a2, a3]
    · refine Eq.trans (b := Cert.Reference17Ideal.Opt.mT (m' ((c : Thread Cert.Reference17Ideal.nD Cert.Reference17Ideal.τ).loc Cert.Reference17Ideal.main_arg1)) (m' ((c : Thread Cert.Reference17Ideal.nD Cert.Reference17Ideal.τ).loc Cert.Reference17Ideal.main_arg2))) rfl (Eq.trans ?_ (Cert.Kernel17Ideal.Opt.final5 m c).symm)
      rw [a1, a2]
    · refine Eq.trans (b := Cert.Reference17Ideal.Opt.vT (m' ((c : Thread Cert.Reference17Ideal.nD Cert.Reference17Ideal.τ).loc Cert.Reference17Ideal.main_arg1)) (m' ((c : Thread Cert.Reference17Ideal.nD Cert.Reference17Ideal.τ).loc Cert.Reference17Ideal.main_arg3))) rfl (Eq.trans ?_ (Cert.Kernel17Ideal.Opt.final6 m c).symm)
      rw [a1, a3]

end Cert.Proof.C17

end
-- ==== Proof.Opt18.lean ====
/- The values of the call adamw_w_up: the reference in stages, and what each of the three result arrays holds after the run. -/
module

public import proofs.«01_k».proof.Defs
public import proofs.«01_k».proof.Proof.Gen.Kernel18Ideal.Frame
public import proofs.«01_k».proof.Proof.Gen.Kernel18Ideal
public import proofs.«01_k».proof.Proof.Gen.Reference18Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference18Ideal.Opt

open Cert.Reference18Ideal Cert.Reference18Ideal.Gen
open Cert.Adam (aM aV aD)

/-- The first moment. -/
def mT (g : Vec Ideal S1024x1408 .f32) (m : Vec Ideal S1024x1408 .f32) : FVec Ideal S1024x1408 .f32 :=
  addf (mulf (broadcastInDim S1024x1408 ![] bcast_S_S1024x1408 (constant S_ .f32 0x3F666666#32)) m) (mulf (broadcastInDim S1024x1408 ![] bcast_S_S1024x1408 (constant S_ .f32 0x3DCCCCCD#32)) g)

/-- The second moment. -/
def vT (g : Vec Ideal S1024x1408 .f32) (v : Vec Ideal S1024x1408 .f32) : FVec Ideal S1024x1408 .f32 :=
  addf (mulf (broadcastInDim S1024x1408 ![] bcast_S_S1024x1408 (constant S_ .f32 0x3F7FBE77#32)) v) (mulf (broadcastInDim S1024x1408 ![] bcast_S_S1024x1408 (constant S_ .f32 0x3A83126F#32)) (mulf g g))

/-- The weight's change. -/
def dT (w : Vec Ideal S1024x1408 .f32) (m : Vec Ideal S1024x1408 .f32) (v : Vec Ideal S1024x1408 .f32) : FVec Ideal S1024x1408 .f32 :=
  mulf (broadcastInDim S1024x1408 ![] bcast_S_S1024x1408 (constant S_ .f32 0xBA83126F#32)) (addf (Host.divf (Host.divf m (broadcastInDim S1024x1408 ![] bcast_S_S1024x1408 (constant S_ .f32 0x3F26BD02#32))) (addf (Host.sqrt (Host.divf v (broadcastInDim S1024x1408 ![] bcast_S_S1024x1408 (constant S_ .f32 0x3C231ACC#32)))) (broadcastInDim S1024x1408 ![] bcast_S_S1024x1408 (constant S_ .f32 0x322BCC77#32)))) (mulf (broadcastInDim S1024x1408 ![] bcast_S_S1024x1408 (constant S_ .f32 0x3C23D70A#32)) w))

theorem mT_at (g m : Vec Ideal S1024x1408 .f32) (r : Fin 1024) (l : Fin 1408) : mT g m (ix2 r l) = aM (g (ix2 r l)) (m (ix2 r l)) := by
  pointwise! [mT, aM]
theorem vT_at (g v : Vec Ideal S1024x1408 .f32) (r : Fin 1024) (l : Fin 1408) : vT g v (ix2 r l) = aV (g (ix2 r l)) (v (ix2 r l)) := by
  pointwise! [vT, aV]
theorem dT_at (w m v : Vec Ideal S1024x1408 .f32) (r : Fin 1024) (l : Fin 1408) : dT w m v (ix2 r l) = aD (w (ix2 r l)) (m (ix2 r l)) (v (ix2 r l)) := by
  pointwise! [dT, aD]

end Cert.Reference18Ideal.Opt

namespace Cert.Kernel18Ideal.Opt

open Cert.Kernel18Ideal Cert.Kernel18Ideal.Gen
open Cert.Adam (aM aV aD)
open Cert.Reference18Ideal.Opt (mT vT dT mT_at vT_at dT_at)

variable (m : (ℓ : Loc nD τ sig) → Buf (Elt Ideal) ℓ) (c : Dev nD)

/-- The argument arrays, at their shapes. -/
abbrev aW : FVec Ideal S1024x1408 .f32 := m ((c : Thread nD τ).loc main_arg0)
abbrev aG : FVec Ideal S1024x1408 .f32 := m ((c : Thread nD τ).loc main_arg1)
abbrev aM1 : FVec Ideal S1024x1408 .f32 := m ((c : Thread nD τ).loc main_arg2)
abbrev aV1 : FVec Ideal S1024x1408 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 256) : t.val * 256 + r.val < 1024 := by
  have h1 : t.val < 4 := t.isLt
  omega

/-- The row of the arrays that a row of the block is. -/
abbrev gR (r : Fin 256) : Fin 1024 := ⟨t.val * 256 + r.val, row_lt t r⟩

theorem blk0 (r : Fin 256) (l : Fin 1408) : iblk m c 0 t (ix2 r l) = aW m c (ix2 (gR t r) l) := by
  have e : V m c main_arg0 = aW m c := by entry_read; rfl
  rw [← e]; blk_point [iblk, idx_val t]
theorem blk1 (r : Fin 256) (l : Fin 1408) : iblk m c 1 t (ix2 r l) = aG m c (ix2 (gR t r) l) := by
  have e : V m c main_arg1 = aG m c := by entry_read; rfl
  rw [← e]; blk_point [iblk, idx_val t]
theorem blk2 (r : Fin 256) (l : Fin 1408) : iblk m c 2 t (ix2 r l) = aM1 m c (ix2 (gR t r) l) := by
  have e : V m c main_arg2 = aM1 m c := by entry_read; rfl
  rw [← e]; blk_point [iblk, idx_val t]
theorem blk3 (r : Fin 256) (l : Fin 1408) : iblk m c 3 t (ix2 r l) = aV1 m c (ix2 (gR t r) l) := by
  have e : V m c main_arg3 = aV1 m c := by entry_read; rfl
  rw [← e]; blk_point [iblk, idx_val t]

theorem at1 (r : Fin 256) (l : Fin 1408) : k0_pay1 (F := Ideal) (iblk m c 1 t) (iblk m c 2 t) (ix2 r l) = mT (aG m c) (aM1 m c) (ix2 (gR t r) l) := by
  have h (a b : Vec Ideal S256x1408 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 256) (l : Fin 1408) : k0_pay2 (F := Ideal) (iblk m c 1 t) (iblk m c 3 t) (ix2 r l) = vT (aG m c) (aV1 m c) (ix2 (gR t r) l) := by
  have h (a b : Vec Ideal S256x1408 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 256) (l : Fin 1408) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S256x1408 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 256) (n1 := 1408) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 256) (n1 := 1408) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 256) (n1 := 1408) y)).trans ((at2 m c t (y 0) (y 1)).trans (congrArg (vT (aG m c) (aV1 m c)) hy.symm))
  rw [after0_6]; unfold out0_6; frame_out; exact fin

end Cert.Kernel18Ideal.Opt

end
-- ==== Proof.Claim18.lean ====
/- The claims about the programs of Kernel18 and Reference18. -/
module

public import proofs.«01_k».proof.Defs
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Opt18
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C18

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)
theorem preserves : Cert.preserves_Kernel18_Kernel18Ideal := trivial

set_option maxHeartbeats 4000000 in
/-- Both programs end with the same three result arrays. -/
theorem algebraic : Cert.algebraic_Kernel18Ideal_Reference18Ideal := by
  pair_intro
  · run_from Cert.Kernel18Ideal.Gen.run_main m g
  · refine θ_run_mono (Cert.Reference18Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference18Ideal.Opt.dT (m' ((c : Thread Cert.Reference18Ideal.nD Cert.Reference18Ideal.τ).loc Cert.Reference18Ideal.main_arg0)) (Cert.Reference18Ideal.Opt.mT (m' ((c : Thread Cert.Reference18Ideal.nD Cert.Reference18Ideal.τ).loc Cert.Reference18Ideal.main_arg1)) (m' ((c : Thread Cert.Reference18Ideal.nD Cert.Reference18Ideal.τ).loc Cert.Reference18Ideal.main_arg2))) (Cert.Reference18Ideal.Opt.vT (m' ((c : Thread Cert.Reference18Ideal.nD Cert.Reference18Ideal.τ).loc Cert.Reference18Ideal.main_arg1)) (m' ((c : Thread Cert.Reference18Ideal.nD Cert.Reference18Ideal.τ).loc Cert.Reference18Ideal.main_arg3)))) rfl (Eq.trans ?_ (Cert.Kernel18Ideal.Opt.final4 m c).symm)
      rw [a0, a1, a2, a3]
    · refine Eq.trans (b := Cert.Reference18Ideal.Opt.mT (m' ((c : Thread Cert.Reference18Ideal.nD Cert.Reference18Ideal.τ).loc Cert.Reference18Ideal.main_arg1)) (m' ((c : Thread Cert.Reference18Ideal.nD Cert.Reference18Ideal.τ).loc Cert.Reference18Ideal.main_arg2))) rfl (Eq.trans ?_ (Cert.Kernel18Ideal.Opt.final5 m c).symm)
      rw [a1, a2]
    · refine Eq.trans (b := Cert.Reference18Ideal.Opt.vT (m' ((c : Thread Cert.Reference18Ideal.nD Cert.Reference18Ideal.τ).loc Cert.Reference18Ideal.main_arg1)) (m' ((c : Thread Cert.Reference18Ideal.nD Cert.Reference18Ideal.τ).loc Cert.Reference18Ideal.main_arg3))) rfl (Eq.trans ?_ (Cert.Kernel18Ideal.Opt.final6 m c).symm)
      rw [a1, a3]

end Cert.Proof.C18

end
-- ==== Proof.Opt19.lean ====
/- The values of the call adamw_w_down: the reference in stages, and what each of the three result arrays holds after the run. -/
module

public import proofs.«01_k».proof.Defs
public import proofs.«01_k».proof.Proof.Gen.Kernel19Ideal.Frame
public import proofs.«01_k».proof.Proof.Gen.Kernel19Ideal
public import proofs.«01_k».proof.Proof.Gen.Reference19Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference19Ideal.Opt

open Cert.Reference19Ideal Cert.Reference19Ideal.Gen
open Cert.Adam (aM aV aD)

/-- The first moment. -/
def mT (g : Vec Ideal S704x1024 .f32) (m : Vec Ideal S704x1024 .f32) : FVec Ideal S704x1024 .f32 :=
  addf (mulf (broadcastInDim S704x1024 ![] bcast_S_S704x1024 (constant S_ .f32 0x3F666666#32)) m) (mulf (broadcastInDim S704x1024 ![] bcast_S_S704x1024 (constant S_ .f32 0x3DCCCCCD#32)) g)

/-- The second moment. -/
def vT (g : Vec Ideal S704x1024 .f32) (v : Vec Ideal S704x1024 .f32) : FVec Ideal S704x1024 .f32 :=
  addf (mulf (broadcastInDim S704x1024 ![] bcast_S_S704x1024 (constant S_ .f32 0x3F7FBE77#32)) v) (mulf (broadcastInDim S704x1024 ![] bcast_S_S704x1024 (constant S_ .f32 0x3A83126F#32)) (mulf g g))

/-- The weight's change. -/
def dT (w : Vec Ideal S704x1024 .f32) (m : Vec Ideal S704x1024 .f32) (v : Vec Ideal S704x1024 .f32) : FVec Ideal S704x1024 .f32 :=
  mulf (broadcastInDim S704x1024 ![] bcast_S_S704x1024 (constant S_ .f32 0xBA83126F#32)) (addf (Host.divf (Host.divf m (broadcastInDim S704x1024 ![] bcast_S_S704x1024 (constant S_ .f32 0x3F26BD02#32))) (addf (Host.sqrt (Host.divf v (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) w))

theorem mT_at (g m : Vec Ideal S704x1024 .f32) (r : Fin 704) (l : Fin 1024) : mT g m (ix2 r l) = aM (g (ix2 r l)) (m (ix2 r l)) := by
  pointwise! [mT, aM]
theorem vT_at (g v : Vec Ideal S704x1024 .f32) (r : Fin 704) (l : Fin 1024) : vT g v (ix2 r l) = aV (g (ix2 r l)) (v (ix2 r l)) := by
  pointwise! [vT, aV]
theorem dT_at (w m v : Vec Ideal S704x1024 .f32) (r : Fin 704) (l : Fin 1024) : dT w m v (ix2 r l) = aD (w (ix2 r l)) (m (ix2 r l)) (v (ix2 r l)) := by
  pointwise! [dT, aD]

end Cert.Reference19Ideal.Opt

namespace Cert.Kernel19Ideal.Opt

open Cert.Kernel19Ideal Cert.Kernel19Ideal.Gen
open Cert.Adam (aM aV aD)
open Cert.Reference19Ideal.Opt (mT vT dT mT_at vT_at dT_at)

variable (m : (ℓ : Loc nD τ sig) → Buf (Elt Ideal) ℓ) (c : Dev nD)

/-- The argument arrays, at their shapes. -/
abbrev aW : FVec Ideal S704x1024 .f32 := m ((c : Thread nD τ).loc main_arg0)
abbrev aG : FVec Ideal S704x1024 .f32 := m ((c : Thread nD τ).loc main_arg1)
abbrev aM1 : FVec Ideal S704x1024 .f32 := m ((c : Thread nD τ).loc main_arg2)
abbrev aV1 : FVec Ideal S704x1024 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 176) : t.val * 176 + r.val < 704 := by
  have h1 : t.val < 4 := t.isLt
  omega

/-- The row of the arrays that a row of the block is. -/
abbrev gR (r : Fin 176) : Fin 704 := ⟨t.val * 176 + r.val, row_lt t r⟩

theorem blk0 (r : Fin 176) (l : Fin 1024) : iblk m c 0 t (ix2 r l) = aW m c (ix2 (gR t r) l) := by
  have e : V m c main_arg0 = aW m c := by entry_read; rfl
  rw [← e]; blk_point [iblk, idx_val t]
theorem blk1 (r : Fin 176) (l : Fin 1024) : iblk m c 1 t (ix2 r l) = aG m c (ix2 (gR t r) l) := by
  have e : V m c main_arg1 = aG m c := by entry_read; rfl
  rw [← e]; blk_point [iblk, idx_val t]
theorem blk2 (r : Fin 176) (l : Fin 1024) : iblk m c 2 t (ix2 r l) = aM1 m c (ix2 (gR t r) l) := by
  have e : V m c main_arg2 = aM1 m c := by entry_read; rfl
  rw [← e]; blk_point [iblk, idx_val t]
theorem blk3 (r : Fin 176) (l : Fin 1024) : iblk m c 3 t (ix2 r l) = aV1 m c (ix2 (gR t r) l) := by
  have e : V m c main_arg3 = aV1 m c := by entry_read; rfl
  rw [← e]; blk_point [iblk, idx_val t]

theorem at1 (r : Fin 176) (l : Fin 1024) : k0_pay1 (F := Ideal) (iblk m c 1 t) (iblk m c 2 t) (ix2 r l) = mT (aG m c) (aM1 m c) (ix2 (gR t r) l) := by
  have h (a b : Vec Ideal S176x1024 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 176) (l : Fin 1024) : k0_pay2 (F := Ideal) (iblk m c 1 t) (iblk m c 3 t) (ix2 r l) = vT (aG m c) (aV1 m c) (ix2 (gR t r) l) := by
  have h (a b : Vec Ideal S176x1024 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 176) (l : Fin 1024) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S176x1024 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 176) (n1 := 1024) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 176) (n1 := 1024) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 176) (n1 := 1024) y)).trans ((at2 m c t (y 0) (y 1)).trans (congrArg (vT (aG m c) (aV1 m c)) hy.symm))
  rw [after0_6]; unfold out0_6; frame_out; exact fin

end Cert.Kernel19Ideal.Opt

end
-- ==== Proof.Claim19.lean ====
/- The claims about the programs of Kernel19 and Reference19. -/
module

public import proofs.«01_k».proof.Defs
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Opt19
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C19

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)
theorem preserves : Cert.preserves_Kernel19_Kernel19Ideal := trivial

set_option maxHeartbeats 4000000 in
/-- Both programs end with the same three result arrays. -/
theorem algebraic : Cert.algebraic_Kernel19Ideal_Reference19Ideal := by
  pair_intro
  · run_from Cert.Kernel19Ideal.Gen.run_main m g
  · refine θ_run_mono (Cert.Reference19Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference19Ideal.Opt.dT (m' ((c : Thread Cert.Reference19Ideal.nD Cert.Reference19Ideal.τ).loc Cert.Reference19Ideal.main_arg0)) (Cert.Reference19Ideal.Opt.mT (m' ((c : Thread Cert.Reference19Ideal.nD Cert.Reference19Ideal.τ).loc Cert.Reference19Ideal.main_arg1)) (m' ((c : Thread Cert.Reference19Ideal.nD Cert.Reference19Ideal.τ).loc Cert.Reference19Ideal.main_arg2))) (Cert.Reference19Ideal.Opt.vT (m' ((c : Thread Cert.Reference19Ideal.nD Cert.Reference19Ideal.τ).loc Cert.Reference19Ideal.main_arg1)) (m' ((c : Thread Cert.Reference19Ideal.nD Cert.Reference19Ideal.τ).loc Cert.Reference19Ideal.main_arg3)))) rfl (Eq.trans ?_ (Cert.Kernel19Ideal.Opt.final4 m c).symm)
      rw [a0, a1, a2, a3]
    · refine Eq.trans (b := Cert.Reference19Ideal.Opt.mT (m' ((c : Thread Cert.Reference19Ideal.nD Cert.Reference19Ideal.τ).loc Cert.Reference19Ideal.main_arg1)) (m' ((c : Thread Cert.Reference19Ideal.nD Cert.Reference19Ideal.τ).loc Cert.Reference19Ideal.main_arg2))) rfl (Eq.trans ?_ (Cert.Kernel19Ideal.Opt.final5 m c).symm)
      rw [a1, a2]
    · refine Eq.trans (b := Cert.Reference19Ideal.Opt.vT (m' ((c : Thread Cert.Reference19Ideal.nD Cert.Reference19Ideal.τ).loc Cert.Reference19Ideal.main_arg1)) (m' ((c : Thread Cert.Reference19Ideal.nD Cert.Reference19Ideal.τ).loc Cert.Reference19Ideal.main_arg3))) rfl (Eq.trans ?_ (Cert.Kernel19Ideal.Opt.final6 m c).symm)
      rw [a1, a3]

end Cert.Proof.C19

end
-- ==== Proof.Opt20.lean ====
/- The values of the call adamw_small: the reference in stages, and what each of the three result arrays holds after the run. -/
module

public import proofs.«01_k».proof.Defs
public import proofs.«01_k».proof.Proof.Gen.Kernel20Ideal.Frame
public import proofs.«01_k».proof.Proof.Gen.Kernel20Ideal
public import proofs.«01_k».proof.Proof.Gen.Reference20Ideal.Run
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference20Ideal.Opt

open Cert.Reference20Ideal Cert.Reference20Ideal.Gen
open Cert.Adam (aM aV aD)

/-- The first moment. -/
def mT (g : Vec Ideal S1280x128 .f32) (m : Vec Ideal S1280x128 .f32) : FVec Ideal S1280x128 .f32 :=
  addf (mulf (broadcastInDim S1280x128 ![] bcast_S_S1280x128 (constant S_ .f32 0x3F666666#32)) m) (mulf (broadcastInDim S1280x128 ![] bcast_S_S1280x128 (constant S_ .f32 0x3DCCCCCD#32)) g)

/-- The second moment. -/
def vT (g : Vec Ideal S1280x128 .f32) (v : Vec Ideal S1280x128 .f32) : FVec Ideal S1280x128 .f32 :=
  addf (mulf (broadcastInDim S1280x128 ![] bcast_S_S1280x128 (constant S_ .f32 0x3F7FBE77#32)) v) (mulf (broadcastInDim S1280x128 ![] bcast_S_S1280x128 (constant S_ .f32 0x3A83126F#32)) (mulf g g))

/-- The weight's change. -/
def dT (w : Vec Ideal S1280x128 .f32) (m : Vec Ideal S1280x128 .f32) (v : Vec Ideal S1280x128 .f32) : FVec Ideal S1280x128 .f32 :=
  mulf (broadcastInDim S1280x128 ![] bcast_S_S1280x128 (constant S_ .f32 0xBA83126F#32)) (addf (Host.divf (Host.divf m (broadcastInDim S1280x128 ![] bcast_S_S1280x128 (constant S_ .f32 0x3F26BD02#32))) (addf (Host.sqrt (Host.divf v (broadcastInDim S1280x128 ![] bcast_S_S1280x128 (constant S_ .f32 0x3C231ACC#32)))) (broadcastInDim S1280x128 ![] bcast_S_S1280x128 (constant S_ .f32 0x322BCC77#32)))) (mulf (broadcastInDim S1280x128 ![] bcast_S_S1280x128 (constant S_ .f32 0x3C23D70A#32)) w))

theorem mT_at (g m : Vec Ideal S1280x128 .f32) (r : Fin 1280) (l : Fin 128) : mT g m (ix2 r l) = aM (g (ix2 r l)) (m (ix2 r l)) := by
  pointwise! [mT, aM]
theorem vT_at (g v : Vec Ideal S1280x128 .f32) (r : Fin 1280) (l : Fin 128) : vT g v (ix2 r l) = aV (g (ix2 r l)) (v (ix2 r l)) := by
  pointwise! [vT, aV]
theorem dT_at (w m v : Vec Ideal S1280x128 .f32) (r : Fin 1280) (l : Fin 128) : dT w m v (ix2 r l) = aD (w (ix2 r l)) (m (ix2 r l)) (v (ix2 r l)) := by
  pointwise! [dT, aD]

end Cert.Reference20Ideal.Opt

namespace Cert.Kernel20Ideal.Opt

open Cert.Kernel20Ideal Cert.Kernel20Ideal.Gen
open Cert.Adam (aM aV aD)
open Cert.Reference20Ideal.Opt (mT vT dT mT_at vT_at dT_at)

variable (m : (ℓ : Loc nD τ sig) → Buf (Elt Ideal) ℓ) (c : Dev nD)

/-- The argument arrays, at their shapes. -/
abbrev aW : FVec Ideal S1280x128 .f32 := m ((c : Thread nD τ).loc main_arg0)
abbrev aG : FVec Ideal S1280x128 .f32 := m ((c : Thread nD τ).loc main_arg1)
abbrev aM1 : FVec Ideal S1280x128 .f32 := m ((c : Thread nD τ).loc main_arg2)
abbrev aV1 : FVec Ideal S1280x128 .f32 := m ((c : Thread nD τ).loc main_arg3)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (t : Fin cfg0.N)

theorem row_lt (r : Fin 1280) : t.val * 1280 + r.val < 1280 := by
  have h1 : t.val < 1 := t.isLt
  omega

/-- The row of the arrays that a row of the block is. -/
abbrev gR (r : Fin 1280) : Fin 1280 := ⟨t.val * 1280 + r.val, row_lt t r⟩

theorem blk0 (r : Fin 1280) (l : Fin 128) : iblk m c 0 t (ix2 r l) = aW m c (ix2 (gR t r) l) := by
  have e : V m c main_arg0 = aW m c := by entry_read; rfl
  rw [← e]; blk_point [iblk, idx_val t]
theorem blk1 (r : Fin 1280) (l : Fin 128) : iblk m c 1 t (ix2 r l) = aG m c (ix2 (gR t r) l) := by
  have e : V m c main_arg1 = aG m c := by entry_read; rfl
  rw [← e]; blk_point [iblk, idx_val t]
theorem blk2 (r : Fin 1280) (l : Fin 128) : iblk m c 2 t (ix2 r l) = aM1 m c (ix2 (gR t r) l) := by
  have e : V m c main_arg2 = aM1 m c := by entry_read; rfl
  rw [← e]; blk_point [iblk, idx_val t]
theorem blk3 (r : Fin 1280) (l : Fin 128) : iblk m c 3 t (ix2 r l) = aV1 m c (ix2 (gR t r) l) := by
  have e : V m c main_arg3 = aV1 m c := by entry_read; rfl
  rw [← e]; blk_point [iblk, idx_val t]

theorem at1 (r : Fin 1280) (l : Fin 128) : k0_pay1 (F := Ideal) (iblk m c 1 t) (iblk m c 2 t) (ix2 r l) = mT (aG m c) (aM1 m c) (ix2 (gR t r) l) := by
  have h (a b : Vec Ideal S1280x128 .f32) : k0_pay1 (F := Ideal) a b (ix2 r l) = aM (a (ix2 r l)) (b (ix2 r l)) := by
    pointwise! [k0_pay1, aM]
  exact (h _ _).trans ((congrArg₂ aM (blk1 m c t r l) (blk2 m c t r l)).trans (mT_at _ _ _ _).symm)

theorem at2 (r : Fin 1280) (l : Fin 128) : k0_pay2 (F := Ideal) (iblk m c 1 t) (iblk m c 3 t) (ix2 r l) = vT (aG m c) (aV1 m c) (ix2 (gR t r) l) := by
  have h (a b : Vec Ideal S1280x128 .f32) : k0_pay2 (F := Ideal) a b (ix2 r l) = aV (a (ix2 r l)) (b (ix2 r l)) := by
    pointwise! [k0_pay2, aV]
  exact (h _ _).trans ((congrArg₂ aV (blk1 m c t r l) (blk3 m c t r l)).trans (vT_at _ _ _ _).symm)

theorem at3 (r : Fin 1280) (l : Fin 128) : k0_pay3 (F := Ideal) (iblk m c 1 t) (iblk m c 2 t) (iblk m c 3 t) (iblk m c 0 t) (ix2 r l)
    = dT (aW m c) (mT (aG m c) (aM1 m c)) (vT (aG m c) (aV1 m c)) (ix2 (gR t r) l) := by
  have h (a b d e : Vec Ideal S1280x128 .f32) : k0_pay3 (F := Ideal) a b d e (ix2 r l) = aD (e (ix2 r l)) (k0_pay1 (F := Ideal) a b (ix2 r l)) (k0_pay2 (F := Ideal) a d (ix2 r l)) := by
    unfold k0_pay3
    generalize k0_pay1 (F := Ideal) a b = p
    generalize k0_pay2 (F := Ideal) a d = q
    pointwise! [aD]
  refine (h _ _ _ _).trans (Eq.trans ?_ (dT_at _ _ _ _ _).symm)
  exact congr (congrArg₂ aD (blk0 m c t r l) (at1 m c t r l)) (at2 m c t r l)

/-- The weight's change after the run. -/
theorem final4 : (dats m 0 c).arrAt 4 (cfgs 0).N = dT (aW m c) (mT (aG m c) (aM1 m c)) (vT (aG m c) (aV1 m c)) := by
  refine (dats m 0 c).arrAt_eq_of_covers 4 _ (by decide +kernel) fun t hf y => ?_
  blk_simp
  have hy : (win0_4.blk t).view.emb y = ix2 (gR t (y 0)) (y 1) := by blk_point [idx_val t]
  have fin := (congrArg (k0_pay3 (F := Ideal) (iblk m c 1 t) (iblk m c 2 t) (iblk m c 3 t) (iblk m c 0 t)) (eq_ix2 (n0 := 1280) (n1 := 128) y)).trans ((at3 m c t (y 0) (y 1)).trans (congrArg (dT (aW m c) (mT (aG m c) (aM1 m c)) (vT (aG m c) (aV1 m c))) hy.symm))
  rw [after0_4]; unfold out0_4; frame_out; exact fin

/-- The first moment after the run. -/
theorem final5 : (dats m 0 c).arrAt 5 (cfgs 0).N = mT (aG m c) (aM1 m c) := by
  refine (dats m 0 c).arrAt_eq_of_covers 5 _ (by decide +kernel) fun t hf y => ?_
  blk_simp
  have hy : (win0_5.blk t).view.emb y = ix2 (gR t (y 0)) (y 1) := by blk_point [idx_val t]
  have fin := (congrArg (k0_pay1 (F := Ideal) (iblk m c 1 t) (iblk m c 2 t)) (eq_ix2 (n0 := 1280) (n1 := 128) y)).trans ((at1 m c t (y 0) (y 1)).trans (congrArg (mT (aG m c) (aM1 m c)) hy.symm))
  rw [after0_5]; unfold out0_5; frame_out; exact fin

/-- The second moment after the run. -/
theorem final6 : (dats m 0 c).arrAt 6 (cfgs 0).N = vT (aG m c) (aV1 m c) := by
  refine (dats m 0 c).arrAt_eq_of_covers 6 _ (by decide +kernel) fun t hf y => ?_
  blk_simp
  have hy : (win0_6.blk t).view.emb y = ix2 (gR t (y 0)) (y 1) := by blk_point [idx_val t]
  have fin := (congrArg (k0_pay2 (F := Ideal) (iblk m c 1 t) (iblk m c 3 t)) (eq_ix2 (n0 := 1280) (n1 := 128) y)).trans ((at2 m c t (y 0) (y 1)).trans (congrArg (vT (aG m c) (aV1 m c)) hy.symm))
  rw [after0_6]; unfold out0_6; frame_out; exact fin

end Cert.Kernel20Ideal.Opt

end
-- ==== Proof.Claim20.lean ====
/- The claims about the programs of Kernel20 and Reference20. -/
module

public import proofs.«01_k».proof.Defs
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Opt20
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C20

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)
theorem preserves : Cert.preserves_Kernel20_Kernel20Ideal := trivial

set_option maxHeartbeats 4000000 in
/-- Both programs end with the same three result arrays. -/
theorem algebraic : Cert.algebraic_Kernel20Ideal_Reference20Ideal := by
  pair_intro
  · run_from Cert.Kernel20Ideal.Gen.run_main m g
  · refine θ_run_mono (Cert.Reference20Ideal.Value.run m' g') ?_
    intro r hr c
    obtain ⟨h0, h1, h2, hargs⟩ := hr c
    obtain ⟨a0, a1, a2, a3⟩ := hagree c
    refine ⟨h0.trans ?_, h1.trans ?_, h2.trans ?_, hargs⟩
    · refine Eq.trans (b := Cert.Reference20Ideal.Opt.dT (m' ((c : Thread Cert.Reference20Ideal.nD Cert.Reference20Ideal.τ).loc Cert.Reference20Ideal.main_arg0)) (Cert.Reference20Ideal.Opt.mT (m' ((c : Thread Cert.Reference20Ideal.nD Cert.Reference20Ideal.τ).loc Cert.Reference20Ideal.main_arg1)) (m' ((c : Thread Cert.Reference20Ideal.nD Cert.Reference20Ideal.τ).loc Cert.Reference20Ideal.main_arg2))) (Cert.Reference20Ideal.Opt.vT (m' ((c : Thread Cert.Reference20Ideal.nD Cert.Reference20Ideal.τ).loc Cert.Reference20Ideal.main_arg1)) (m' ((c : Thread Cert.Reference20Ideal.nD Cert.Reference20Ideal.τ).loc Cert.Reference20Ideal.main_arg3)))) rfl (Eq.trans ?_ (Cert.Kernel20Ideal.Opt.final4 m c).symm)
      rw [a0, a1, a2, a3]
    · refine Eq.trans (b := Cert.Reference20Ideal.Opt.mT (m' ((c : Thread Cert.Reference20Ideal.nD Cert.Reference20Ideal.τ).loc Cert.Reference20Ideal.main_arg1)) (m' ((c : Thread Cert.Reference20Ideal.nD Cert.Reference20Ideal.τ).loc Cert.Reference20Ideal.main_arg2))) rfl (Eq.trans ?_ (Cert.Kernel20Ideal.Opt.final5 m c).symm)
      rw [a1, a2]
    · refine Eq.trans (b := Cert.Reference20Ideal.Opt.vT (m' ((c : Thread Cert.Reference20Ideal.nD Cert.Reference20Ideal.τ).loc Cert.Reference20Ideal.main_arg1)) (m' ((c : Thread Cert.Reference20Ideal.nD Cert.Reference20Ideal.τ).loc Cert.Reference20Ideal.main_arg3))) rfl (Eq.trans ?_ (Cert.Kernel20Ideal.Opt.final6 m c).symm)
      rw [a1, a3]

end Cert.Proof.C20

end
-- ==== Proof.LowSpec.lean ====
/- The gradients of the low-rank projections, as functions of the rows: what the call and the reference both hold. -/
module

public import Idealize.ShloMosaic.Lib.Pointwise
public import Idealize.ShloMosaic.Lib.Claim

@[expose] public section

noncomputable section

open Idealize.ShloMosaic Idealize.ShloMosaic.TcCoe Idealize.SL.Sem

namespace Cert.LowSpec

/-- A row of n entries filled up to p entries with zeros. -/
def ext (n : Nat) {p : Nat} (Y : Fin n → EReal) (q : Fin p) : EReal := if h : q.val < n then Y ⟨q.val, h⟩ else 0

theorem ext_lo {n p : Nat} (Y : Fin n → EReal) (q : Fin p) (h : q.val < n) : ext n Y q = Y ⟨q.val, h⟩ := dif_pos h
theorem ext_hi {n p : Nat} (Y : Fin n → EReal) (q : Fin p) (h : ¬ q.val < n) : ext n Y q = 0 := dif_neg h

/-- The filled-up entries add nothing to a sum of products. -/
theorem sum_ext {n d : Nat} (f g : Fin (n + d) → EReal) (F G : Fin n → EReal) (hf : ∀ q : Fin (n + d), ∀ h : q.val < n, f q = F ⟨q.val, h⟩)
    (hg : ∀ q, g q = ext n G q) : ∑ q : Fin (n + d), f q * g q = ∑ e : Fin n, F e * G e := by
  rw [Fin.sum_univ_add]
  have h0 : ∑ i : Fin d, f (Fin.natAdd n i) * g (Fin.natAdd n i) = 0 := by
    refine Finset.sum_eq_zero fun i _ => ?_
    rw [hg, ext_hi _ _ (by simp), mul_zero (M₀ := EReal)]
  rw [h0, add_zero]
  refine Finset.sum_congr rfl fun e _ => ?_
  rw [hg, ext_lo _ _ (by simp), hf _ (by simp)]
  rfl

/-- The cotangent of a row's 96 columns before the rotary turn of the last 32, from the cotangent Y after it. -/
def UD (Y : Fin 96 → EReal) (A : Fin 16 → EReal) (e : Fin 96) : EReal :=
  if h : e.val < 64 then Y e
  else if h' : e.val < 80 then Y e * Ideal.cos (A ⟨e.val - 64, by omega⟩) + Y ⟨e.val + 16, by omega⟩ * Ideal.sin (A ⟨e.val - 64, by omega⟩)
  else Y e * Ideal.cos (A ⟨e.val - 80, by have := e.isLt; omega⟩) + -(Y ⟨e.val - 16, by omega⟩ * Ideal.sin (A ⟨e.val - 80, by have := e.isLt; omega⟩))

/-- A row over the root of its mean square. -/
def X {p n : Nat} (C : EReal) (a : Fin p → Fin n → EReal) (s : Fin p) (k : Fin n) : EReal :=
  a s k * Ideal.rsqrt (Ideal.div (∑ j : Fin n, a s j * a s j) C + Ideal.ofBits FTy.f32 0x358637BD#32)

/-- The normalised row with its gain. -/
def N {p n : Nat} (C : EReal) (a : Fin p → Fin n → EReal) (g : Fin n → EReal) (s : Fin p) (k : Fin n) : EReal := X C a s k * g k

/-- The rotary angles by row and column. -/
def Ang (s : Fin 4096) (j : Fin 16) : EReal :=
  FloatOps.sitofp (F := Ideal) FTy.f32 (BitVec.ofNat 32 s.val) * Ideal.pow (Ideal.ofBits FTy.f32 0x461C4000#32)
    (Ideal.div (-(FloatOps.sitofp (F := Ideal) FTy.f32 (BitVec.ofNat 32 j.val) : EReal)) (Ideal.ofBits FTy.f32 0x41800000#32))

/-- The gradient of a head's projection: the normalised rows times the filled-up cotangent. -/
def Wg {p n d w : Nat} (Nn : Fin p → Fin n → EReal) (D : Fin p → Fin d → EReal) (k : Fin n) (q : Fin w) : EReal :=
  ∑ s : Fin p, Nn s k * ext d (D s) q

/-- The gradient of the queries' gain. -/
def Gq (Xn : Fin 4096 → Fin 256 → EReal) (D : Fin 8 → Fin 4096 → Fin 96 → EReal) (w : Fin 256 → Fin 8 → Fin 96 → EReal) (k : Fin 256) : EReal :=
  ∑ s : Fin 4096, (∑ h : Fin 8, ∑ e : Fin 96, D h s e * w k h e) * Xn s k

/-- The gradient of the latent rows' gain. -/
def Gk (Xn : Fin 4096 → Fin 128 → EReal) (Dk : Fin 8 → Fin 4096 → Fin 64 → EReal) (Dv : Fin 8 → Fin 4096 → Fin 64 → EReal)
    (wk wv : Fin 128 → Fin 8 → Fin 64 → EReal) (k : Fin 128) : EReal :=
  ∑ s : Fin 4096, (∑ h : Fin 8, (∑ e : Fin 64, Dk h s e * wk k h e + ∑ e : Fin 64, Dv h s e * wv k h e)) * Xn s k

end Cert.LowSpec

end
-- ==== Proof.LowTab.lean ====
/- The call mla_prep_bwd: the host lines that prepare its arguments. -/
module

public import proofs.«01_k».proof.Proof.Gen.Kernel21Ideal.Frame
public import proofs.«01_k».proof.Proof.LowSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

variable (m : (ℓ : Loc nD τ sig) → Buf (Elt Ideal) ℓ) (c : Dev nD)

/-- The angles of the rotary tables. -/
def ang : FVec Ideal S4096x16 .f32 :=
  (mulf (broadcastInDim S4096x16 ![0, 1] bcast_S4096x1_S4096x16_0_1 (broadcastInDim S4096x1 ![0] bcast_S4096_S4096x1_0 (sitofp FTy.f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ FTy.f32 0x461C4000#32)) (Host.divf (Host.negf (sitofp FTy.f32 (iotaInDim S16 32 0))) (broadcastInDim S16 ![] bcast_S_S16 (constant S_ FTy.f32 0x41800000#32)))))))

variable (W : Valuation τ sig (Elt Ideal))

/-- The buffers before the concatenation number 32. -/
abbrev pre32 : Valuation τ sig (Elt Ideal) := StableHlo.after ((hostOps0_4 (F := Ideal)).take 32) W

theorem skip32 : StableHlo.after ((hostOps0_4 (F := Ideal)).drop 33) W (Proc.devRef .tc main_v32) = W (Proc.devRef .tc main_v32) := by
  simp only [hostOps0_4, List.drop_succ_cons, List.drop_zero]; after_results_simp

theorem pre32_30 : pre32 W (Proc.devRef .tc main_v30) = broadcastInDim S4096x64 ![] bcast_S_S4096x64 (constant (F := Ideal) S_ FTy.f32 0x3F800000#32) := by
  simp only [pre32, hostOps0_4, List.take_succ_cons, List.take_zero]; after_results_simp; first | done | rfl

theorem pre32_28 : pre32 W (Proc.devRef .tc main_v28) = Host.cos ang := by
  simp only [pre32, hostOps0_4, List.take_succ_cons, List.take_zero]; after_results_simp; first | done | rfl

theorem pre32_31 : pre32 W (Proc.devRef .tc main_v31) = broadcastInDim S4096x32 ![] bcast_S_S4096x32 (constant (F := Ideal) S_ FTy.f32 0x00000000#32) := by
  simp only [pre32, hostOps0_4, List.take_succ_cons, List.take_zero]; after_results_simp; first | done | rfl

/-- The cosines by column. -/
def tab32 (A : FVec Ideal S4096x16 .f32) : FVec Ideal S4096x128 .f32 := concatenate S4096x128 1 [⟨S4096x64, broadcastInDim S4096x64 ![] bcast_S_S4096x64 (constant (F := Ideal) S_ FTy.f32 0x3F800000#32)⟩, ⟨S4096x16, Host.cos A⟩, ⟨S4096x16, Host.cos A⟩, ⟨S4096x32, broadcastInDim S4096x32 ![] bcast_S_S4096x32 (constant (F := Ideal) S_ FTy.f32 0x00000000#32)⟩] concatenates_S4096x64_S4096x16_S4096x16_S4096x32_S4096x128_d1
theorem after_32 : StableHlo.after (hostOps0_4 (F := Ideal)) W (Proc.devRef .tc main_v32) = tab32 ang := by
  have h0 : StableHlo.after (hostOps0_4 (F := Ideal)) W (Proc.devRef .tc main_v32) = StableHlo.after ((hostOps0_4 (F := Ideal)).drop 33)
      ((StableHlo.nary (τ := τ) (Val := Elt Ideal) ![main_v30, main_v28, main_v28, main_v31] main_v32 (fun u => (concatenate S4096x128 1 [⟨S4096x64, (u 0 : (⟨S4096x64, .f32⟩ : BufTy).Contents (Elt Ideal))⟩, ⟨S4096x16, (u 1 : (⟨S4096x16, .f32⟩ : BufTy).Contents (Elt Ideal))⟩, ⟨S4096x16, (u 2 : (⟨S4096x16, .f32⟩ : BufTy).Contents (Elt Ideal))⟩, ⟨S4096x32, (u 3 : (⟨S4096x32, .f32⟩ : BufTy).Contents (Elt Ideal))⟩] concatenates_S4096x64_S4096x16_S4096x16_S4096x32_S4096x128_d1 : (⟨S4096x128, .f32⟩ : BufTy).Contents (Elt Ideal)))).result (pre32 W)) (Proc.devRef .tc main_v32) := by
    simp only [pre32, hostOps0_4, List.take_succ_cons, List.take_zero, List.drop_succ_cons, List.drop_zero, StableHlo.after_cons, StableHlo.after_nil]
  have h1 : StableHlo.after (hostOps0_4 (F := Ideal)) W (Proc.devRef .tc main_v32) = concatenate S4096x128 1 [⟨S4096x64, pre32 W (Proc.devRef .tc main_v30)⟩, ⟨S4096x16, pre32 W (Proc.devRef .tc main_v28)⟩, ⟨S4096x16, pre32 W (Proc.devRef .tc main_v28)⟩, ⟨S4096x32, pre32 W (Proc.devRef .tc main_v31)⟩] concatenates_S4096x64_S4096x16_S4096x16_S4096x32_S4096x128_d1 := by
    rw [h0, skip32, StableHlo.nary_result]; rfl
  rw [h1, pre32_30, pre32_28, pre32_31]; rfl

theorem V_32 : V m c main_v32 = tab32 ang := by
  rw [← after_32 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The buffers before the concatenation number 35. -/
abbrev pre35 : Valuation τ sig (Elt Ideal) := StableHlo.after ((hostOps0_4 (F := Ideal)).take 37) W

theorem skip35 : StableHlo.after ((hostOps0_4 (F := Ideal)).drop 38) W (Proc.devRef .tc main_v35) = W (Proc.devRef .tc main_v35) := by
  simp only [hostOps0_4, List.drop_succ_cons, List.drop_zero]; after_results_simp

theorem pre35_33 : pre35 W (Proc.devRef .tc main_v33) = broadcastInDim S4096x80 ![] bcast_S_S4096x80 (constant (F := Ideal) S_ FTy.f32 0x00000000#32) := by
  simp only [pre35, hostOps0_4, List.take_succ_cons, List.take_zero]; after_results_simp; first | done | rfl

theorem pre35_29 : pre35 W (Proc.devRef .tc main_v29) = Host.sin ang := by
  simp only [pre35, hostOps0_4, List.take_succ_cons, List.take_zero]; after_results_simp; first | done | rfl

theorem pre35_34 : pre35 W (Proc.devRef .tc main_v34) = broadcastInDim S4096x32 ![] bcast_S_S4096x32 (constant (F := Ideal) S_ FTy.f32 0x00000000#32) := by
  simp only [pre35, hostOps0_4, List.take_succ_cons, List.take_zero]; after_results_simp; first | done | rfl

/-- The sines by column. -/
def tab35 (A : FVec Ideal S4096x16 .f32) : FVec Ideal S4096x128 .f32 := concatenate S4096x128 1 [⟨S4096x80, broadcastInDim S4096x80 ![] bcast_S_S4096x80 (constant (F := Ideal) S_ FTy.f32 0x00000000#32)⟩, ⟨S4096x16, Host.sin A⟩, ⟨S4096x32, broadcastInDim S4096x32 ![] bcast_S_S4096x32 (constant (F := Ideal) S_ FTy.f32 0x00000000#32)⟩] concatenates_S4096x80_S4096x16_S4096x32_S4096x128_d1
theorem after_35 : StableHlo.after (hostOps0_4 (F := Ideal)) W (Proc.devRef .tc main_v35) = tab35 ang := by
  have h0 : StableHlo.after (hostOps0_4 (F := Ideal)) W (Proc.devRef .tc main_v35) = StableHlo.after ((hostOps0_4 (F := Ideal)).drop 38)
      ((StableHlo.nary (τ := τ) (Val := Elt Ideal) ![main_v33, main_v29, main_v34] main_v35 (fun u => (concatenate S4096x128 1 [⟨S4096x80, (u 0 : (⟨S4096x80, .f32⟩ : BufTy).Contents (Elt Ideal))⟩, ⟨S4096x16, (u 1 : (⟨S4096x16, .f32⟩ : BufTy).Contents (Elt Ideal))⟩, ⟨S4096x32, (u 2 : (⟨S4096x32, .f32⟩ : BufTy).Contents (Elt Ideal))⟩] concatenates_S4096x80_S4096x16_S4096x32_S4096x128_d1 : (⟨S4096x128, .f32⟩ : BufTy).Contents (Elt Ideal)))).result (pre35 W)) (Proc.devRef .tc main_v35) := by
    simp only [pre35, hostOps0_4, List.take_succ_cons, List.take_zero, List.drop_succ_cons, List.drop_zero, StableHlo.after_cons, StableHlo.after_nil]
  have h1 : StableHlo.after (hostOps0_4 (F := Ideal)) W (Proc.devRef .tc main_v35) = concatenate S4096x128 1 [⟨S4096x80, pre35 W (Proc.devRef .tc main_v33)⟩, ⟨S4096x16, pre35 W (Proc.devRef .tc main_v29)⟩, ⟨S4096x32, pre35 W (Proc.devRef .tc main_v34)⟩] concatenates_S4096x80_S4096x16_S4096x32_S4096x128_d1 := by
    rw [h0, skip35, StableHlo.nary_result]; rfl
  rw [h1, pre35_33, pre35_29, pre35_34]; rfl

theorem V_35 : V m c main_v35 = tab35 ang := by
  rw [← after_35 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The buffers before the concatenation number 39. -/
abbrev pre39 : Valuation τ sig (Elt Ideal) := StableHlo.after ((hostOps0_4 (F := Ideal)).take 43) W

theorem skip39 : StableHlo.after ((hostOps0_4 (F := Ideal)).drop 44) W (Proc.devRef .tc main_v39) = W (Proc.devRef .tc main_v39) := by
  simp only [hostOps0_4, List.drop_succ_cons, List.drop_zero]; after_results_simp

theorem pre39_36 : pre39 W (Proc.devRef .tc main_v36) = broadcastInDim S4096x64 ![] bcast_S_S4096x64 (constant (F := Ideal) S_ FTy.f32 0x00000000#32) := by
  simp only [pre39, hostOps0_4, List.take_succ_cons, List.take_zero]; after_results_simp; first | done | rfl

theorem pre39_37 : pre39 W (Proc.devRef .tc main_v37) = Host.negf (Host.sin ang) := by
  simp only [pre39, hostOps0_4, List.take_succ_cons, List.take_zero]; after_results_simp; first | done | rfl

theorem pre39_38 : pre39 W (Proc.devRef .tc main_v38) = broadcastInDim S4096x48 ![] bcast_S_S4096x48 (constant (F := Ideal) S_ FTy.f32 0x00000000#32) := by
  simp only [pre39, hostOps0_4, List.take_succ_cons, List.take_zero]; after_results_simp; first | done | rfl

/-- The negated sines by column. -/
def tab39 (A : FVec Ideal S4096x16 .f32) : FVec Ideal S4096x128 .f32 := concatenate S4096x128 1 [⟨S4096x64, broadcastInDim S4096x64 ![] bcast_S_S4096x64 (constant (F := Ideal) S_ FTy.f32 0x00000000#32)⟩, ⟨S4096x16, Host.negf (Host.sin A)⟩, ⟨S4096x48, broadcastInDim S4096x48 ![] bcast_S_S4096x48 (constant (F := Ideal) S_ FTy.f32 0x00000000#32)⟩] concatenates_S4096x64_S4096x16_S4096x48_S4096x128_d1
theorem after_39 : StableHlo.after (hostOps0_4 (F := Ideal)) W (Proc.devRef .tc main_v39) = tab39 ang := by
  have h0 : StableHlo.after (hostOps0_4 (F := Ideal)) W (Proc.devRef .tc main_v39) = StableHlo.after ((hostOps0_4 (F := Ideal)).drop 44)
      ((StableHlo.nary (τ := τ) (Val := Elt Ideal) ![main_v36, main_v37, main_v38] main_v39 (fun u => (concatenate S4096x128 1 [⟨S4096x64, (u 0 : (⟨S4096x64, .f32⟩ : BufTy).Contents (Elt Ideal))⟩, ⟨S4096x16, (u 1 : (⟨S4096x16, .f32⟩ : BufTy).Contents (Elt Ideal))⟩, ⟨S4096x48, (u 2 : (⟨S4096x48, .f32⟩ : BufTy).Contents (Elt Ideal))⟩] concatenates_S4096x64_S4096x16_S4096x48_S4096x128_d1 : (⟨S4096x128, .f32⟩ : BufTy).Contents (Elt Ideal)))).result (pre39 W)) (Proc.devRef .tc main_v39) := by
    simp only [pre39, hostOps0_4, List.take_succ_cons, List.take_zero, List.drop_succ_cons, List.drop_zero, StableHlo.after_cons, StableHlo.after_nil]
  have h1 : StableHlo.after (hostOps0_4 (F := Ideal)) W (Proc.devRef .tc main_v39) = concatenate S4096x128 1 [⟨S4096x64, pre39 W (Proc.devRef .tc main_v36)⟩, ⟨S4096x16, pre39 W (Proc.devRef .tc main_v37)⟩, ⟨S4096x48, pre39 W (Proc.devRef .tc main_v38)⟩] concatenates_S4096x64_S4096x16_S4096x48_S4096x128_d1 := by
    rw [h0, skip39, StableHlo.nary_result]; rfl
  rw [h1, pre39_36, pre39_37, pre39_38]; rfl

theorem V_39 : V m c main_v39 = tab39 ang := by
  rw [← after_39 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

theorem ang_at (s : Fin 4096) (j : Fin 16) : ang (ix2 s j) = Ang s j := by
  unfold Ang; pointwise! [ang]

theorem tab32_at (A : FVec Ideal S4096x16 .f32) (s : Fin 4096) (q : Fin 128) : tab32 A (ix2 s q) = if h : q.val < 64 then 1
    else if h : q.val - 64 < 16 then Ideal.cos (A (ix2 s ⟨q.val - 64, h⟩)) else if h : q.val - 64 - 16 < 16 then Ideal.cos (A (ix2 s ⟨q.val - 64 - 16, h⟩)) else 0 := by
  pointwise! [tab32]
theorem tab35_at (A : FVec Ideal S4096x16 .f32) (s : Fin 4096) (q : Fin 128) : tab35 A (ix2 s q) = if h : q.val < 80 then 0
    else if h : q.val - 80 < 16 then Ideal.sin (A (ix2 s ⟨q.val - 80, h⟩)) else 0 := by
  pointwise! [tab35]
theorem tab39_at (A : FVec Ideal S4096x16 .f32) (s : Fin 4096) (q : Fin 128) : tab39 A (ix2 s q) = if h : q.val < 64 then 0
    else if h : q.val - 64 < 16 then -Ideal.sin (A (ix2 s ⟨q.val - 64, h⟩)) else 0 := by
  pointwise! [tab39]

/-- The arguments by index. -/
abbrev a0 : FVec Ideal S4096x512 .f32 := m ((c.tc : Thread nD τ).loc main_arg0)
abbrev a1 : FVec Ideal S8x4096x96 .f32 := m ((c.tc : Thread nD τ).loc main_arg1)
abbrev a2 : FVec Ideal S8x4096x96 .f32 := m ((c.tc : Thread nD τ).loc main_arg2)
abbrev a3 : FVec Ideal S8x4096x64 .f32 := m ((c.tc : Thread nD τ).loc main_arg3)
abbrev a4 : FVec Ideal S256 .f32 := m ((c.tc : Thread nD τ).loc main_arg4)
abbrev a5 : FVec Ideal S128 .f32 := m ((c.tc : Thread nD τ).loc main_arg5)
abbrev a6 : FVec Ideal S256x8x96 .f32 := m ((c.tc : Thread nD τ).loc main_arg6)
abbrev a7 : FVec Ideal S128x8x64 .f32 := m ((c.tc : Thread nD τ).loc main_arg7)
abbrev a8 : FVec Ideal S128x8x64 .f32 := m ((c.tc : Thread nD τ).loc main_arg8)

/-- The host's zero in eight bits fewer. -/
def zb : FVec Ideal S_ .bf16 := sitofp .bf16 (constantI S_ 32 0#32)
theorem zb_at (i : S_.Idx) : zb i = (0 : EReal) := by
  have e : zb i = (((0#32 : BitVec 32).toInt : ℝ) : EReal) := rfl
  rw [e]; simp

/-- The arguments as the host lines lay them out. -/
def padD (a : FVec Ideal S8x4096x96 .f32) : FVec Ideal S8x4096x128 .f32 := pad S8x4096x128 ![0, 0, 0] ![0, 0, 32] ![0, 0, 0] a (constant (F := Ideal) S_ .f32 0x00000000#32) pads_S8x4096x96_S8x4096x128_000_000_0320 h_S_
def wqT (a : FVec Ideal S256x8x96 .f32) (z : FVec Ideal S_ .bf16) : FVec Ideal S8x128x256 .bf16 := transpose S8x128x256 [0, 2, 1] (pad S8x256x128 ![0, 0, 0] ![0, 0, 32] ![0, 0, 0] (transpose S8x256x96 [1, 0, 2] (truncf .bf16 a bitsLt_bf16_f32) transposes_S256x8x96_S8x256x96_1_0_2) z pads_S8x256x96_S8x256x128_000_000_0320 h_S_) transposes_S8x256x128_S8x128x256_0_2_1
def wkT (a : FVec Ideal S128x8x64 .f32) (z : FVec Ideal S_ .bf16) : FVec Ideal S8x128x128 .bf16 := transpose S8x128x128 [0, 2, 1] (pad S8x128x128 ![0, 0, 0] ![0, 0, 64] ![0, 0, 0] (transpose S8x128x64 [1, 0, 2] (truncf .bf16 a bitsLt_bf16_f32) transposes_S128x8x64_S8x128x64_1_0_2) z pads_S8x128x64_S8x128x128_000_000_0640 h_S_) transposes_S8x128x128_S8x128x128_0_2_1

def wvT (a : FVec Ideal S128x8x64 .f32) : FVec Ideal S8x64x128 .bf16 := transpose S8x64x128 [0, 2, 1] (transpose S8x128x64 [1, 0, 2] (truncf .bf16 a bitsLt_bf16_f32) transposes_S128x8x64_S8x128x64_1_0_2) transposes_S8x128x64_S8x64x128_0_2_1

theorem row256 (a : FVec Ideal S256 .f32) (k : Fin 256) : (shapeCast S1x256 a shapeCasts_S256_S1x256 : FVec Ideal S1x256 .f32) (ix2 (0 : Fin 1) k) = a (ix1 k) := by pointwise!
theorem row128 (a : FVec Ideal S128 .f32) (k : Fin 128) : (shapeCast S1x128 a shapeCasts_S128_S1x128 : FVec Ideal S1x128 .f32) (ix2 (0 : Fin 1) k) = a (ix1 k) := by pointwise!
theorem wvT_at (a : FVec Ideal S128x8x64 .f32) (h : Fin 8) (q : Fin 64) (k : Fin 128) : wvT a (ix3 h q k) = a (ix3 k h q) := by pointwise! [wvT]

theorem padD_at (a : FVec Ideal S8x4096x96 .f32) (h : Fin 8) (s : Fin 4096) (q : Fin 128) : padD a (ix3 h s q) = ext 96 (fun e => a (ix3 h s e)) q := by
  unfold ext; pointwise! [padD]
theorem wqT_at (a : FVec Ideal S256x8x96 .f32) (h : Fin 8) (q : Fin 128) (k : Fin 256) : wqT a zb (ix3 h q k) = ext 96 (fun e => a (ix3 k h e)) q := by
  unfold ext; have hz := zb_at; generalize zb = z at hz ⊢
  pointwise [wqT]
  rw [hz]
theorem wkT_at (a : FVec Ideal S128x8x64 .f32) (h : Fin 8) (q : Fin 128) (k : Fin 128) : wkT a zb (ix3 h q k) = ext 64 (fun e => a (ix3 k h e)) q := by
  unfold ext; have hz := zb_at; generalize zb = z at hz ⊢
  pointwise [wkT]
  rw [hz]

theorem V_0 : V m c main_arg0 = a0 m c := by simp only [V, hostOps0, hostOps0_1, hostOps0_2, hostOps0_3, hostOps0_4, List.flatten_cons, List.flatten_nil, List.append_nil, List.cons_append, List.nil_append]; after_results_simp
theorem V_1 : V m c main_v8 = padD (a1 m c) := by simp only [V, hostOps0, hostOps0_1, hostOps0_2, hostOps0_3, hostOps0_4, List.flatten_cons, List.flatten_nil, List.append_nil, List.cons_append, List.nil_append]; after_results_simp; rfl
theorem V_2 : V m c main_v9 = padD (a2 m c) := by simp only [V, hostOps0, hostOps0_1, hostOps0_2, hostOps0_3, hostOps0_4, List.flatten_cons, List.flatten_nil, List.append_nil, List.cons_append, List.nil_append]; after_results_simp; rfl
theorem V_3 : V m c main_arg3 = a3 m c := by simp only [V, hostOps0, hostOps0_1, hostOps0_2, hostOps0_3, hostOps0_4, List.flatten_cons, List.flatten_nil, List.append_nil, List.cons_append, List.nil_append]; after_results_simp
theorem V_4 : V m c main_v10 = shapeCast S1x256 (a4 m c) shapeCasts_S256_S1x256 := by simp only [V, hostOps0, hostOps0_1, hostOps0_2, hostOps0_3, hostOps0_4, List.flatten_cons, List.flatten_nil, List.append_nil, List.cons_append, List.nil_append]; after_results_simp; rfl
theorem V_5 : V m c main_v11 = shapeCast S1x128 (a5 m c) shapeCasts_S128_S1x128 := by simp only [V, hostOps0, hostOps0_1, hostOps0_2, hostOps0_3, hostOps0_4, List.flatten_cons, List.flatten_nil, List.append_nil, List.cons_append, List.nil_append]; after_results_simp; rfl
theorem V_6 : V m c main_v12 = wqT (a6 m c) zb := by simp only [V, hostOps0, hostOps0_1, hostOps0_2, hostOps0_3, hostOps0_4, List.flatten_cons, List.flatten_nil, List.append_nil, List.cons_append, List.nil_append]; after_results_simp; rfl
theorem V_7 : V m c main_v13 = wkT (a7 m c) zb := by simp only [V, hostOps0, hostOps0_1, hostOps0_2, hostOps0_3, hostOps0_4, List.flatten_cons, List.flatten_nil, List.append_nil, List.cons_append, List.nil_append]; after_results_simp; rfl
theorem V_8 : V m c main_v14 = wvT (a8 m c) := by simp only [V, hostOps0, hostOps0_1, hostOps0_2, hostOps0_3, hostOps0_4, List.flatten_cons, List.flatten_nil, List.append_nil, List.cons_append, List.nil_append]; after_results_simp; rfl

end Cert.Kernel21Ideal.Low

end
-- ==== Proof.LowHost.lean ====
/- The call mla_prep_bwd: a grid point's blocks, read from the arguments. -/
module

public import proofs.«01_k».proof.Proof.Gen.Kernel21Ideal.Frame
public import proofs.«01_k».proof.Proof.LowSpec
public import proofs.«01_k».proof.Proof.LowTab
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

theorem idx_val : ∀ t : Fin cfg0.N, win0_0.index t = ![t.val, 0] ∧ win0_1.index t = ![0, t.val, 0] ∧ win0_2.index t = ![0, t.val, 0]
    ∧ win0_3.index t = ![0, t.val, 0] ∧ win0_4.index t = ![0, 0] ∧ win0_5.index t = ![0, 0] ∧ win0_6.index t = ![0, 0, 0] ∧ win0_7.index t = ![0, 0, 0]
    ∧ win0_8.index t = ![0, 0, 0] ∧ win0_9.index t = ![t.val, 0] ∧ win0_10.index t = ![t.val, 0] ∧ win0_11.index t = ![t.val, 0]
    ∧ win0_14.index t = ![0, 0, 0] ∧ win0_15.index t = ![0, 0, 0] ∧ win0_16.index t = ![0, 0, 0] ∧ win0_17.index t = ![0, 0] ∧ win0_18.index t = ![0, 0] :=
  (by decide +kernel : ∀ t : Fin grid0.N, _)

variable (m : (ℓ : Loc nD τ sig) → Buf (Elt Ideal) ℓ) (c : Dev nD)

variable (t : Fin cfg0.N)

theorem blk_0 (r : Fin 256) (k : Fin 512) (R : Fin 4096) (hR : R.val = t.val * 256 + r.val) : iblk m c 0 t (ix2 r k) = a0 m c (ix2 R k) := by
  have e : iblk m c 0 t (ix2 r k) = V m c main_arg0 (ix2 R k) := by blk_point [iblk, idx_val t]
  rw [e, V_0]
theorem blk_1 (h : Fin 8) (r : Fin 256) (q : Fin 128) (R : Fin 4096) (hR : R.val = t.val * 256 + r.val) : iblk m c 1 t (ix3 h r q) = ext 96 (fun e => a1 m c (ix3 h R e)) q := by
  have e : iblk m c 1 t (ix3 h r q) = V m c main_v8 (ix3 h R q) := by blk_point [iblk, idx_val t]
  rw [e, V_1]
  exact padD_at ..
theorem blk_2 (h : Fin 8) (r : Fin 256) (q : Fin 128) (R : Fin 4096) (hR : R.val = t.val * 256 + r.val) : iblk m c 2 t (ix3 h r q) = ext 96 (fun e => a2 m c (ix3 h R e)) q := by
  have e : iblk m c 2 t (ix3 h r q) = V m c main_v9 (ix3 h R q) := by blk_point [iblk, idx_val t]
  rw [e, V_2]
  exact padD_at ..
theorem blk_3 (h : Fin 8) (r : Fin 256) (q : Fin 64) (R : Fin 4096) (hR : R.val = t.val * 256 + r.val) : iblk m c 3 t (ix3 h r q) = a3 m c (ix3 h R q) := by
  have e : iblk m c 3 t (ix3 h r q) = V m c main_arg3 (ix3 h R q) := by blk_point [iblk, idx_val t]
  rw [e, V_3]
theorem blk_4 (k : Fin 256) : iblk m c 4 t (ix2 (0 : Fin 1) k) = a4 m c (ix1 k) := by
  have e : iblk m c 4 t (ix2 (0 : Fin 1) k) = V m c main_v10 (ix2 (0 : Fin 1) k) := by blk_point [iblk, idx_val t]
  rw [e, V_4]
  exact row256 _ _
theorem blk_5 (k : Fin 128) : iblk m c 5 t (ix2 (0 : Fin 1) k) = a5 m c (ix1 k) := by
  have e : iblk m c 5 t (ix2 (0 : Fin 1) k) = V m c main_v11 (ix2 (0 : Fin 1) k) := by blk_point [iblk, idx_val t]
  rw [e, V_5]
  exact row128 _ _
theorem blk_6 (h : Fin 8) (q : Fin 128) (k : Fin 256) : iblk m c 6 t (ix3 h q k) = ext 96 (fun e => a6 m c (ix3 k h e)) q := by
  have e : iblk m c 6 t (ix3 h q k) = V m c main_v12 (ix3 h q k) := by blk_point [iblk, idx_val t]
  rw [e, V_6]
  exact wqT_at ..
theorem blk_7 (h : Fin 8) (q : Fin 128) (k : Fin 128) : iblk m c 7 t (ix3 h q k) = ext 64 (fun e => a7 m c (ix3 k h e)) q := by
  have e : iblk m c 7 t (ix3 h q k) = V m c main_v13 (ix3 h q k) := by blk_point [iblk, idx_val t]
  rw [e, V_7]
  exact wkT_at ..
theorem blk_8 (h : Fin 8) (q : Fin 64) (k : Fin 128) : iblk m c 8 t (ix3 h q k) = a8 m c (ix3 k h q) := by
  have e : iblk m c 8 t (ix3 h q k) = V m c main_v14 (ix3 h q k) := by blk_point [iblk, idx_val t]
  rw [e, V_8]
  exact wvT_at ..
theorem blk_9 (r : Fin 256) (q : Fin 128) (R : Fin 4096) (hR : R.val = t.val * 256 + r.val) : iblk m c 9 t (ix2 r q) = tab32 ang (ix2 R q) := by
  have e : iblk m c 9 t (ix2 r q) = V m c main_v32 (ix2 R q) := by blk_point [iblk, idx_val t]
  rw [e, V_32]
theorem blk_10 (r : Fin 256) (q : Fin 128) (R : Fin 4096) (hR : R.val = t.val * 256 + r.val) : iblk m c 10 t (ix2 r q) = tab35 ang (ix2 R q) := by
  have e : iblk m c 10 t (ix2 r q) = V m c main_v35 (ix2 R q) := by blk_point [iblk, idx_val t]
  rw [e, V_35]
theorem blk_11 (r : Fin 256) (q : Fin 128) (R : Fin 4096) (hR : R.val = t.val * 256 + r.val) : iblk m c 11 t (ix2 r q) = tab39 ang (ix2 R q) := by
  have e : iblk m c 11 t (ix2 r q) = V m c main_v39 (ix2 R q) := by blk_point [iblk, idx_val t]
  rw [e, V_39]

/-- The kernel's turned-back row of the filled-up cotangent is the reference's, filled up. -/
theorem unrope_row (Y : Fin 96 → EReal) (s : Fin 4096) (q : Fin 128) :
    ext 96 Y q * tab32 ang (ix2 s q)
      + ext 96 Y (⟨(q.val + 128 - 112) % 128, Nat.mod_lt _ (by decide)⟩ : Fin 128) * tab35 ang (ix2 s ⟨(q.val + 128 - 112) % 128, Nat.mod_lt _ (by decide)⟩)
      + ext 96 Y (⟨(q.val + 128 - 16) % 128, Nat.mod_lt _ (by decide)⟩ : Fin 128) * tab39 ang (ix2 s ⟨(q.val + 128 - 16) % 128, Nat.mod_lt _ (by decide)⟩)
      = ext 96 (UD Y (Ang s)) q := by
  have hq := q.isLt
  rw [tab32_at, tab35_at, tab39_at]
  by_cases h1 : q.val < 64
  · rw [dif_pos h1, dif_pos (by simp only; omega : (⟨(q.val + 128 - 112) % 128, Nat.mod_lt _ (by decide)⟩ : Fin 128).val < 80), mul_zero (M₀ := EReal), mul_one, add_zero,
      ext_lo _ _ (by omega : q.val < 96), ext_lo _ _ (by omega : q.val < 96)]
    have e2 : UD Y (Ang s) ⟨q.val, by omega⟩ = Y ⟨q.val, by omega⟩ := by unfold UD; rw [dif_pos h1]
    rw [e2]
    by_cases h2 : q.val < 16
    · rw [dif_neg (by simp only; omega), dif_neg (by simp only; omega), mul_zero (M₀ := EReal), add_zero]
    · rw [dif_pos (by simp only; omega), mul_zero (M₀ := EReal), add_zero]
  · rw [dif_neg h1]
    by_cases h2 : q.val < 80
    · rw [dif_pos (by omega : q.val - 64 < 16), dif_neg (by simp only; omega), dif_pos (by simp only; omega), dif_pos (by simp only; omega), mul_zero (M₀ := EReal), add_zero,
        ext_lo _ _ (by omega : q.val < 96), ext_lo _ _ (by omega : q.val < 96), ext_lo _ _ (by simp only; omega)]
      have e2 : UD Y (Ang s) ⟨q.val, by omega⟩ = Y ⟨q.val, by omega⟩ * Ideal.cos (Ang s ⟨q.val - 64, by omega⟩) + Y ⟨q.val + 16, by omega⟩ * Ideal.sin (Ang s ⟨q.val - 64, by omega⟩) := by
        unfold UD; rw [dif_neg h1, dif_pos h2]
      rw [e2, ang_at, ang_at]
      have e3 : (⟨(q.val + 128 - 112) % 128, by omega⟩ : Fin 96) = ⟨q.val + 16, by omega⟩ := Fin.ext (by simp only; omega)
      have e4 : (⟨(q.val + 128 - 112) % 128 - 80, by omega⟩ : Fin 16) = ⟨q.val - 64, by omega⟩ := Fin.ext (by simp only; omega)
      simp only [e3, e4]
    · by_cases h3 : q.val < 96
      · rw [dif_neg (by omega : ¬ q.val - 64 < 16), dif_pos (by omega : q.val - 64 - 16 < 16), dif_neg (by simp only; omega), dif_neg (by simp only; omega), mul_zero (M₀ := EReal), add_zero,
          dif_neg (by simp only; omega), dif_pos (by simp only; omega), ext_lo _ _ (by omega : q.val < 96), ext_lo _ _ (by omega : q.val < 96), ext_lo _ _ (by simp only; omega)]
        have e2 : UD Y (Ang s) ⟨q.val, h3⟩ = Y ⟨q.val, h3⟩ * Ideal.cos (Ang s ⟨q.val - 80, by omega⟩) + -(Y ⟨q.val - 16, by omega⟩ * Ideal.sin (Ang s ⟨q.val - 80, by omega⟩)) := by
          unfold UD; rw [dif_neg h1, dif_neg h2]
        rw [e2, ang_at, ang_at, mul_neg]
        have e3 : (⟨(q.val + 128 - 16) % 128, by omega⟩ : Fin 96) = ⟨q.val - 16, by omega⟩ := Fin.ext (by simp only; omega)
        have e4 : (⟨(q.val + 128 - 16) % 128 - 64, by omega⟩ : Fin 16) = ⟨q.val - 80, by omega⟩ := Fin.ext (by simp only; omega)
        have e5 : (⟨q.val - 64 - 16, by omega⟩ : Fin 16) = ⟨q.val - 80, by omega⟩ := Fin.ext (by simp only; omega)
        simp only [e3, e4, e5]
      · rw [dif_neg (by omega : ¬ q.val - 64 < 16), dif_neg (by omega : ¬ q.val - 64 - 16 < 16), mul_zero (M₀ := EReal), zero_add, ext_hi _ (q := q) h3]
        have e6 : (if h : (⟨(q.val + 128 - 16) % 128, Nat.mod_lt _ (by decide)⟩ : Fin 128).val < 64 then (0 : EReal)
            else if h : (⟨(q.val + 128 - 16) % 128, Nat.mod_lt _ (by decide)⟩ : Fin 128).val - 64 < 16 then
              -Ideal.sin (ang (ix2 s ⟨(⟨(q.val + 128 - 16) % 128, Nat.mod_lt _ (by decide)⟩ : Fin 128).val - 64, h⟩)) else 0) = 0 := by
          rw [dif_neg (by simp only; omega), dif_neg (by simp only; omega)]
        rw [e6, mul_zero (M₀ := EReal), add_zero]
        by_cases h4 : q.val < 112
        · rw [ext_hi _ _ (by simp only; omega), zero_mul (M₀ := EReal)]
        · rw [dif_pos (by simp only; omega), mul_zero (M₀ := EReal)]

end Cert.Kernel21Ideal.Low

end
-- ==== Proof.LowPay.lean ====
/- The call mla_prep_bwd: its payloads, head by head, and what they hold at an index. -/
module

public import proofs.«01_k».proof.Proof.Gen.Kernel21Ideal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen

/-- A head's slab of the queries' weight gradient: what it held and the products of the normalised rows with a cotangent. -/
def AQ (n : FVec Ideal S256x256 .bf16) (d : FVec Ideal S256x128 .bf16) (p : Vec Ideal S1x256x128 .f32) : FVec Ideal S1x256x128 .f32 :=
  shapeCast S1x256x128 (addf (shapeCast S256x128 p shapeCasts_S1x256x128_S256x128)
    (matmul dot_S256x256_S256x128_S256x128_0_0_1_1_n_n none n d (constant S256x128 .f32 0x00000000#32))) shapeCasts_S256x128_S1x256x128

/-- One head's part of the normalised queries' cotangent, added to the earlier heads'. -/
def MQ (acc : FVec Ideal S256x256 .f32) (d : FVec Ideal S256x128 .bf16) (w : Vec Ideal S1x128x256 .bf16) : FVec Ideal S256x256 .f32 :=
  have v : FVec Ideal S128x256 .bf16 := shapeCast S128x256 w shapeCasts_S1x128x256_S128x256
  have z : FVec Ideal S256x256 .f32 := constant S256x256 .f32 0x00000000#32
  have u : FVec Ideal S256x256 .f32 := matmul dot_S256x128_S128x256_S256x256_1_0_0_1_n_n none d v z
  addf acc u

/-- One head's keys' part of the normalised latent rows' cotangent. -/
def MK (acc : FVec Ideal S256x128 .f32) (d : FVec Ideal S256x128 .bf16) (w : Vec Ideal S1x128x128 .bf16) : FVec Ideal S256x128 .f32 :=
  have v : FVec Ideal S128x128 .bf16 := shapeCast S128x128 w shapeCasts_S1x128x128_S128x128
  have z : FVec Ideal S256x128 .f32 := constant S256x128 .f32 0x00000000#32
  have u : FVec Ideal S256x128 .f32 := matmul dot_S256x128_S128x128_S256x128_1_0_0_1_n_n none d v z
  addf acc u

/-- One head's values' part of the normalised latent rows' cotangent. -/
def MV (acc : FVec Ideal S256x128 .f32) (y : Vec Ideal S1x256x64 .f32) (w : Vec Ideal S1x64x128 .bf16) : FVec Ideal S256x128 .f32 :=
  have v : FVec Ideal S64x128 .bf16 := shapeCast S64x128 w shapeCasts_S1x64x128_S64x128
  have z : FVec Ideal S256x128 .f32 := constant S256x128 .f32 0x00000000#32
  have u : FVec Ideal S256x128 .f32 := matmul dot_S256x64_S64x128_S256x128_1_0_0_1_n_n none (k0_pay28 y) v z
  addf acc u

theorem aq0 (a b e : FVec Ideal S256x128 .f32) (x g : FVec Ideal S256x256 .f32) (y p : Vec Ideal S1x256x128 .f32) : k0_pay23 a b e x g y p = AQ (k0_pay18 x g) (k0_pay21 a b e y) p := rfl

theorem aq1 (a b e : FVec Ideal S256x128 .f32) (n : FVec Ideal S256x256 .bf16) (y p : Vec Ideal S1x256x128 .f32) : k0_pay36 n (k0_pay32 a b y) (k0_pay33 e y) (16#32) p = AQ n (k0_pay21 a b e y) p := rfl

theorem aq2 (a b e : FVec Ideal S256x128 .f32) (n : FVec Ideal S256x256 .bf16) (y p : Vec Ideal S1x256x128 .f32) : k0_pay48 (k0_pay47 a b e n y p) = AQ n (k0_pay21 a b e y) p := rfl

theorem aq3 (a b e : FVec Ideal S256x128 .f32) (n : FVec Ideal S256x256 .bf16) (y p : Vec Ideal S1x256x128 .f32) : k0_pay59 a b e n y p = AQ n (k0_pay21 a b e y) p := rfl

theorem aq4 (a b e : FVec Ideal S256x128 .f32) (n : FVec Ideal S256x256 .bf16) (y p : Vec Ideal S1x256x128 .f32) : k0_pay72 n (k0_pay69 a b e y) p = AQ n (k0_pay21 a b e y) p := rfl

theorem aq5 (a b e : FVec Ideal S256x128 .f32) (n : FVec Ideal S256x256 .bf16) (y p : Vec Ideal S1x256x128 .f32) : k0_pay84 a b e n y p = AQ n (k0_pay21 a b e y) p := rfl

theorem aq6 (a b e : FVec Ideal S256x128 .f32) (n : FVec Ideal S256x256 .bf16) (y p : Vec Ideal S1x256x128 .f32) : k0_pay97 e n (k0_pay92 y) (k0_pay93 a y) (k0_pay94 b y) p = AQ n (k0_pay21 a b e y) p := rfl

theorem aq7 (a b e : FVec Ideal S256x128 .f32) (n : FVec Ideal S256x256 .bf16) (y p : Vec Ideal S1x256x128 .f32) : k0_pay110 (k0_pay108 p) (k0_pay109 a b e n y) = AQ n (k0_pay21 a b e y) p := rfl

theorem ak0 (n : FVec Ideal S256x128 .bf16) (y : Vec Ideal S1x256x128 .f32) (p : Vec Ideal S1x128x128 .f32) : k0_pay27 n (k0_pay26 y) p = k0_pay27 n (k0_pay26 y) p := rfl

theorem ak1 (n : FVec Ideal S256x128 .bf16) (y : Vec Ideal S1x256x128 .f32) (p : Vec Ideal S1x128x128 .f32) : k0_pay41 n y p = k0_pay27 n (k0_pay26 y) p := rfl

theorem ak2 (n : FVec Ideal S256x128 .bf16) (y : Vec Ideal S1x256x128 .f32) (p : Vec Ideal S1x128x128 .f32) : k0_pay52 n y p = k0_pay27 n (k0_pay26 y) p := rfl

theorem ak3 (n : FVec Ideal S256x128 .bf16) (y : Vec Ideal S1x256x128 .f32) (p : Vec Ideal S1x128x128 .f32) : k0_pay65 n (k0_pay62 y) (k0_pay64 p) = k0_pay27 n (k0_pay26 y) p := rfl

theorem ak4 (n : FVec Ideal S256x128 .bf16) (y : Vec Ideal S1x256x128 .f32) (p : Vec Ideal S1x128x128 .f32) : k0_pay77 n y p = k0_pay27 n (k0_pay26 y) p := rfl

theorem ak5 (n : FVec Ideal S256x128 .bf16) (y : Vec Ideal S1x256x128 .f32) (p : Vec Ideal S1x128x128 .f32) : k0_pay88 n (k0_pay85 y) p = k0_pay27 n (k0_pay26 y) p := rfl

theorem ak6 (n : FVec Ideal S256x128 .bf16) (y : Vec Ideal S1x256x128 .f32) (p : Vec Ideal S1x128x128 .f32) : k0_pay102 n y p = k0_pay27 n (k0_pay26 y) p := rfl

theorem ak7 (n : FVec Ideal S256x128 .bf16) (y : Vec Ideal S1x256x128 .f32) (p : Vec Ideal S1x128x128 .f32) : k0_pay114 n y p = k0_pay27 n (k0_pay26 y) p := rfl

theorem av0 (n : FVec Ideal S256x128 .bf16) (y : Vec Ideal S1x256x64 .f32) (p : Vec Ideal S1x128x64 .f32) : k0_pay30 n y p = k0_pay30 n y p := rfl

theorem av1 (n : FVec Ideal S256x128 .bf16) (y : Vec Ideal S1x256x64 .f32) (p : Vec Ideal S1x128x64 .f32) : k0_pay44 n y p = k0_pay30 n y p := rfl

theorem av2 (n : FVec Ideal S256x128 .bf16) (y : Vec Ideal S1x256x64 .f32) (p : Vec Ideal S1x128x64 .f32) : k0_pay56 (k0_pay55 n y p) = k0_pay30 n y p := rfl

theorem av3 (n : FVec Ideal S256x128 .bf16) (y : Vec Ideal S1x256x64 .f32) (p : Vec Ideal S1x128x64 .f32) : k0_pay68 n y p = k0_pay30 n y p := rfl

theorem av4 (n : FVec Ideal S256x128 .bf16) (y : Vec Ideal S1x256x64 .f32) (p : Vec Ideal S1x128x64 .f32) : k0_pay81 n (k0_pay78 y) p = k0_pay30 n y p := rfl

theorem av5 (n : FVec Ideal S256x128 .bf16) (y : Vec Ideal S1x256x64 .f32) (p : Vec Ideal S1x128x64 .f32) : k0_pay91 n y p = k0_pay30 n y p := rfl

theorem av6 (n : FVec Ideal S256x128 .bf16) (y : Vec Ideal S1x256x64 .f32) (p : Vec Ideal S1x128x64 .f32) : k0_pay105 n y p = k0_pay30 n y p := rfl

theorem av7 (n : FVec Ideal S256x128 .bf16) (y : Vec Ideal S1x256x64 .f32) (p : Vec Ideal S1x128x64 .f32) : k0_pay118 (k0_pay117 n y p) = k0_pay30 n y p := rfl

theorem nestQ (a b e : FVec Ideal S256x128 .f32) (x : FVec Ideal S256x256 .f32) (y1_0 y1_1 y1_2 y1_3 y1_4 y1_5 y1_6 y1_7 : Vec Ideal S1x256x128 .f32) (y6_0 y6_1 y6_2 y6_3 y6_4 y6_5 y6_6 y6_7 : Vec Ideal S1x128x256 .bf16) (p : Vec Ideal S1x256 .f32) :
    k0_pay119 x (k0_pay107 a b e (k0_pay96 e (k0_pay83 a b e (k0_pay71 (k0_pay58 a b e (k0_pay46 a b e (k0_pay35 (k0_pay22 a b e y1_0 y6_0) (k0_pay32 a b y1_1) (k0_pay33 e y1_1) (16#32) y6_1) y1_2 y6_2) y1_3 y6_3) (k0_pay69 a b e y1_4) (k0_pay70 y6_4) (constant S256x256 FTy.f32 0#32)) y1_5 y6_5) (k0_pay92 y1_6) (k0_pay93 a y1_6) (k0_pay94 b y1_6) y6_6) y1_7 y6_7) p =
    k0_pay119 x (MQ (MQ (MQ (MQ (MQ (MQ (MQ (MQ (broadcast S256x256 (Scalar.ofBits .f32 0x00000000#32)) (k0_pay21 a b e y1_0) y6_0) (k0_pay21 a b e y1_1) y6_1) (k0_pay21 a b e y1_2) y6_2) (k0_pay21 a b e y1_3) y6_3) (k0_pay21 a b e y1_4) y6_4) (k0_pay21 a b e y1_5) y6_5) (k0_pay21 a b e y1_6) y6_6) (k0_pay21 a b e y1_7) y6_7) p := rfl

theorem nestK (x : FVec Ideal S256x128 .f32) (y2_0 y2_1 y2_2 y2_3 y2_4 y2_5 y2_6 y2_7 : Vec Ideal S1x256x128 .f32) (y3_0 y3_1 y3_2 y3_3 y3_4 y3_5 y3_6 y3_7 : Vec Ideal S1x256x64 .f32) (y7_0 y7_1 y7_2 y7_3 y7_4 y7_5 y7_6 y7_7 : Vec Ideal S1x128x128 .bf16)
    (y8_0 y8_1 y8_2 y8_3 y8_4 y8_5 y8_6 y8_7 : Vec Ideal S1x64x128 .bf16) (p : Vec Ideal S1x128 .f32) :
    k0_pay120 x (k0_pay116 (k0_pay104 (k0_pay101 (k0_pay90 (k0_pay80 (k0_pay76 (k0_pay67 (k0_pay63 (k0_pay54 (k0_pay43 (k0_pay40 (k0_pay29 k0_pay20 (k0_pay26 y2_0) y7_0 y3_0 y8_0) y2_1 y7_1) y3_1 y8_1) y2_2 y7_2 y3_2 y8_2) y2_3 y7_3) y3_3 y8_3) y2_4 y7_4) (k0_pay79 y3_4 y8_4)) (k0_pay85 y2_5) y7_5 y3_5 y8_5) y2_6 y7_6) y3_6 y8_6) y2_7 y7_7 y3_7 y8_7) p =
    k0_pay120 x (MV (MK (MV (MK (MV (MK (MV (MK (MV (MK (MV (MK (MV (MK (MV (MK k0_pay20 (k0_pay26 y2_0) y7_0) y3_0 y8_0) (k0_pay26 y2_1) y7_1) y3_1 y8_1) (k0_pay26 y2_2) y7_2) y3_2 y8_2) (k0_pay26 y2_3) y7_3) y3_3 y8_3) (k0_pay26 y2_4) y7_4) y3_4 y8_4) (k0_pay26 y2_5) y7_5) y3_5 y8_5) (k0_pay26 y2_6) y7_6) y3_6 y8_6) (k0_pay26 y2_7) y7_7) y3_7 y8_7) p := rfl

theorem aq_at (n : FVec Ideal S256x256 .bf16) (d : FVec Ideal S256x128 .bf16) (p : Vec Ideal S1x256x128 .f32) (i : S1x256x128.Idx) :
    AQ n d p i = p i + ∑ r : Fin 256, n (ix2 r (i 1)) * d (ix2 r (i 2)) := by
  pointwise! [AQ]

theorem ak_at (n d : FVec Ideal S256x128 .bf16) (p : Vec Ideal S1x128x128 .f32) (i : S1x128x128.Idx) :
    k0_pay27 n d p i = p i + ∑ r : Fin 256, n (ix2 r (i 1)) * d (ix2 r (i 2)) := by
  pointwise! [k0_pay27]

theorem av_at (n : FVec Ideal S256x128 .bf16) (d : Vec Ideal S1x256x64 .f32) (p : Vec Ideal S1x128x64 .f32) (i : S1x128x64.Idx) :
    k0_pay30 n d p i = p i + ∑ r : Fin 256, n (ix2 r (i 1)) * d (ix3 0 r (i 2)) := by
  pointwise! [k0_pay30, k0_pay28]

theorem mq_at (acc : FVec Ideal S256x256 .f32) (d : FVec Ideal S256x128 .bf16) (w : Vec Ideal S1x128x256 .bf16) (i : S256x256.Idx) :
    MQ acc d w i = acc i + ∑ q : Fin 128, d (ix2 (i 0) q) * w (ix3 0 q (i 1)) := by
  pointwise! [MQ]

theorem mk_at (acc : FVec Ideal S256x128 .f32) (d : FVec Ideal S256x128 .bf16) (w : Vec Ideal S1x128x128 .bf16) (i : S256x128.Idx) :
    MK acc d w i = acc i + ∑ q : Fin 128, d (ix2 (i 0) q) * w (ix3 0 q (i 1)) := by
  pointwise! [MK]

theorem mv_at (acc : FVec Ideal S256x128 .f32) (d : Vec Ideal S1x256x64 .f32) (w : Vec Ideal S1x64x128 .bf16) (i : S256x128.Idx) :
    MV acc d w i = acc i + ∑ q : Fin 64, d (ix3 0 (i 0) q) * w (ix3 0 q (i 1)) := by
  pointwise! [MV, k0_pay28]

theorem kb_at (y : Vec Ideal S1x256x128 .f32) (i : S256x128.Idx) : k0_pay26 y i = y (ix3 0 (i 0) (i 1)) := by
  pointwise! [k0_pay26, k0_pay24]

theorem uq_at (a b e : Vec Ideal S256x128 .f32) (y : Vec Ideal S1x256x128 .f32) (i : S256x128.Idx) :
    k0_pay21 (k0_pay8 a) (k0_pay9 b) (k0_pay10 e) y i = y (ix3 0 (i 0) (i 1)) * a i
      + y (ix3 0 (i 0) ⟨((i 1).val + 128 - 112) % 128, Nat.mod_lt _ (by decide)⟩) * b (ix2 (i 0) ⟨((i 1).val + 128 - 112) % 128, Nat.mod_lt _ (by decide)⟩)
      + y (ix3 0 (i 0) ⟨((i 1).val + 128 - 16) % 128, Nat.mod_lt _ (by decide)⟩) * e (ix2 (i 0) ⟨((i 1).val + 128 - 16) % 128, Nat.mod_lt _ (by decide)⟩) := by
  pointwise! [k0_pay21, k0_pay8, k0_pay9, k0_pay10]

theorem xq_at (v : Vec Ideal S256x256 .f32) (i : S256x256.Idx) :
    k0_pay12 v i = v i * Ideal.rsqrt (Ideal.div (∑ k : Fin 256, v (ix2 (i 0) k) * v (ix2 (i 0) k)) (Ideal.ofBits FTy.f32 0x43800000#32)
      + Ideal.ofBits FTy.f32 0x358637BD#32) := by
  pointwise! [k0_pay12, k0_pay11]

theorem xk_at (v : Vec Ideal S256x128 .f32) (i : S256x128.Idx) :
    k0_pay14 v i = v i * Ideal.rsqrt (Ideal.div (∑ k : Fin 128, v (ix2 (i 0) k) * v (ix2 (i 0) k)) (Ideal.ofBits FTy.f32 0x43000000#32)
      + Ideal.ofBits FTy.f32 0x358637BD#32) := by
  pointwise! [k0_pay14, k0_pay13]

theorem nq_at (x : FVec Ideal S256x256 .f32) (g : Vec Ideal S1x256 .f32) (i : S256x256.Idx) :
    k0_pay18 x (k0_pay17 g) i = x i * g (ix2 0 (i 1)) := by
  pointwise! [k0_pay18, k0_pay17, k0_pay15]

theorem nk_at (x : FVec Ideal S256x128 .f32) (g : Vec Ideal S1x128 .f32) (i : S256x128.Idx) :
    k0_pay19 x (k0_pay16 g) i = x i * g (ix2 0 (i 1)) := by
  pointwise! [k0_pay19, k0_pay16]

theorem gq_at (x acc : FVec Ideal S256x256 .f32) (p : Vec Ideal S1x256 .f32) (i : S1x256.Idx) :
    k0_pay119 x acc p i = p i + ∑ r : Fin 256, acc (ix2 r (i 1)) * x (ix2 r (i 1)) := by
  pointwise! [k0_pay119]

theorem gk_at (x acc : FVec Ideal S256x128 .f32) (p : Vec Ideal S1x128 .f32) (i : S1x128.Idx) :
    k0_pay120 x acc p i = p i + ∑ r : Fin 256, acc (ix2 r (i 1)) * x (ix2 r (i 1)) := by
  pointwise! [k0_pay120]

theorem z3_at (i) : (k0_pay3 : FVec Ideal S8x256x128 .f32) i = (0 : EReal) := by pointwise! [k0_pay3]
theorem z4_at (i) : (k0_pay4 : FVec Ideal S8x128x128 .f32) i = (0 : EReal) := by pointwise! [k0_pay4]
theorem z5_at (i) : (k0_pay5 : FVec Ideal S8x128x64 .f32) i = (0 : EReal) := by pointwise! [k0_pay5]
theorem z6_at (i) : (k0_pay6 : FVec Ideal S1x256 .f32) i = (0 : EReal) := by pointwise! [k0_pay6]
theorem z7_at (i) : (k0_pay7 : FVec Ideal S1x128 .f32) i = (0 : EReal) := by pointwise! [k0_pay7]
theorem z20_at (i) : (k0_pay20 : FVec Ideal S256x128 .f32) i = (0 : EReal) := by pointwise! [k0_pay20]

end Cert.Kernel21Ideal.Low

end
-- ==== Proof.LowSlab.lean ====
/- The call mla_prep_bwd: the by-head slabs of a grid point: what is loaded of them and what is stored into them. -/
module

public import proofs.«01_k».proof.Proof.Gen.Kernel21Ideal.Frame
public import proofs.«01_k».proof.Proof.LowSpec
public import proofs.«01_k».proof.Proof.LowHost
public import proofs.«01_k».proof.Proof.LowPay
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

theorem ix3_ext {n0 n1 n2 : Nat} {i j : (⟨3, ![n0, n1, n2]⟩ : Shape).Idx} (h0 : (i 0).val = (j 0).val) (h1 : (i 1).val = (j 1).val) (h2 : (i 2).val = (j 2).val) : i = j :=
  funext fun a => Fin.ext (by fin_cases a; exacts [h0, h1, h2])
theorem ix2_ext {n0 n1 : Nat} {i j : (⟨2, ![n0, n1]⟩ : Shape).Idx} (h0 : (i 0).val = (j 0).val) (h1 : (i 1).val = (j 1).val) : i = j :=
  funext fun a => Fin.ext (by fin_cases a; exacts [h0, h1])

theorem ld_256_128 (P : Vec Ideal S8x256x128 .f32) (h : Nat) (hh : h < 8) (p) (x : S1x256x128.Idx) :
    View.ld (Val := Elt Ideal) (S := S8x256x128) (e' := .f32) P (Rect.unit ![h, 0, 0] ![1, 256, 128] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ld_128_128 (P : Vec Ideal S8x128x128 .f32) (h : Nat) (hh : h < 8) (p) (x : S1x128x128.Idx) :
    View.ld (Val := Elt Ideal) (S := S8x128x128) (e' := .f32) P (Rect.unit ![h, 0, 0] ![1, 128, 128] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ld_128_64 (P : Vec Ideal S8x128x64 .f32) (h : Nat) (hh : h < 8) (p) (x : S1x128x64.Idx) :
    View.ld (Val := Elt Ideal) (S := S8x128x64) (e' := .f32) P (Rect.unit ![h, 0, 0] ![1, 128, 64] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ld_256_64 (P : Vec Ideal S8x256x64 .f32) (h : Nat) (hh : h < 8) (p) (x : S1x256x64.Idx) :
    View.ld (Val := Elt Ideal) (S := S8x256x64) (e' := .f32) P (Rect.unit ![h, 0, 0] ![1, 256, 64] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ld_128_256 (P : Vec Ideal S8x128x256 .bf16) (h : Nat) (hh : h < 8) (p) (x : S1x128x256.Idx) :
    View.ld (Val := Elt Ideal) (S := S8x128x256) (e' := .bf16) P (Rect.unit ![h, 0, 0] ![1, 128, 256] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ld_64_128 (P : Vec Ideal S8x64x128 .bf16) (h : Nat) (hh : h < 8) (p) (x : S1x64x128.Idx) :
    View.ld (Val := Elt Ideal) (S := S8x64x128) (e' := .bf16) P (Rect.unit ![h, 0, 0] ![1, 64, 128] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]
theorem ldb_128_128 (P : Vec Ideal S8x128x128 .bf16) (h : Nat) (hh : h < 8) (p) (x : S1x128x128.Idx) :
    View.ld (Val := Elt Ideal) (S := S8x128x128) (e' := .bf16) P (Rect.unit ![h, 0, 0] ![1, 128, 128] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]

/-- Eight slabs of 256 by 128, stored one by one, are the array they are slabs of. -/
theorem slab_256_128 (G : S8x256x128.Idx → EReal) (p0 p1 p2 p3 p4 p5 p6 p7 : S1x256x128.Idx → EReal)
    (h0 : ∀ x : S1x256x128.Idx, p0 x = G (ix3 (0 : Fin 8) (x 1) (x 2)))
    (h1 : ∀ x : S1x256x128.Idx, p1 x = G (ix3 (1 : Fin 8) (x 1) (x 2)))
    (h2 : ∀ x : S1x256x128.Idx, p2 x = G (ix3 (2 : Fin 8) (x 1) (x 2)))
    (h3 : ∀ x : S1x256x128.Idx, p3 x = G (ix3 (3 : Fin 8) (x 1) (x 2)))
    (h4 : ∀ x : S1x256x128.Idx, p4 x = G (ix3 (4 : Fin 8) (x 1) (x 2)))
    (h5 : ∀ x : S1x256x128.Idx, p5 x = G (ix3 (5 : Fin 8) (x 1) (x 2)))
    (h6 : ∀ x : S1x256x128.Idx, p6 x = G (ix3 (6 : Fin 8) (x 1) (x 2)))
    (h7 : ∀ x : S1x256x128.Idx, p7 x = G (ix3 (7 : Fin 8) (x 1) (x 2)))
    (L : List (View.Piece (Elt Ideal) S8x256x128 .f32)) (y : S8x256x128.Idx) :
    View.canon (Val := Elt Ideal) (e := .f32) ((⟨Rect.unit ![7, 0, 0] ![1, 256, 128] inb_S8x256x128_S1x256x128_7_0_0, p7⟩ : View.Piece (Elt Ideal) S8x256x128 .f32) :: (⟨Rect.unit ![6, 0, 0] ![1, 256, 128] inb_S8x256x128_S1x256x128_6_0_0, p6⟩ : View.Piece (Elt Ideal) S8x256x128 .f32) :: (⟨Rect.unit ![5, 0, 0] ![1, 256, 128] inb_S8x256x128_S1x256x128_5_0_0, p5⟩ : View.Piece (Elt Ideal) S8x256x128 .f32) :: (⟨Rect.unit ![4, 0, 0] ![1, 256, 128] inb_S8x256x128_S1x256x128_4_0_0, p4⟩ : View.Piece (Elt Ideal) S8x256x128 .f32) :: (⟨Rect.unit ![3, 0, 0] ![1, 256, 128] inb_S8x256x128_S1x256x128_3_0_0, p3⟩ : View.Piece (Elt Ideal) S8x256x128 .f32) :: (⟨Rect.unit ![2, 0, 0] ![1, 256, 128] inb_S8x256x128_S1x256x128_2_0_0, p2⟩ : View.Piece (Elt Ideal) S8x256x128 .f32) :: (⟨Rect.unit ![1, 0, 0] ![1, 256, 128] inb_S8x256x128_S1x256x128_1_0_0, p1⟩ : View.Piece (Elt Ideal) S8x256x128 .f32) :: (⟨Rect.unit ![0, 0, 0] ![1, 256, 128] inb_S8x256x128_S1x256x128_0_0_0, p0⟩ : View.Piece (Elt Ideal) S8x256x128 .f32) :: L) y = G y := by
  refine View.canon_append_of_piecesOf G L [_, _, _, _, _, _, _, _] ⟨?_, ?_, ?_, ?_, ?_, ?_, ?_, ?_, trivial⟩ y
    (View.cover_of_tiledL (s := S8x256x128) _ ![1, 256, 128] (by sl_kernel_rfl) y)
  · intro x
    have h0' : (x 0).val < 1 := (x 0).isLt
    exact (h7 x).trans (congrArg G (ix3_ext (by simp [Rect.emb, Rect.unit]) (by simp [Rect.emb, Rect.unit]) (by simp [Rect.emb, Rect.unit])))
  · intro x
    have h0' : (x 0).val < 1 := (x 0).isLt
    exact (h6 x).trans (congrArg G (ix3_ext (by simp [Rect.emb, Rect.unit]) (by simp [Rect.emb, Rect.unit]) (by simp [Rect.emb, Rect.unit])))
  · intro x
    have h0' : (x 0).val < 1 := (x 0).isLt
    exact (h5 x).trans (congrArg G (ix3_ext (by simp [Rect.emb, Rect.unit]) (by simp [Rect.emb, Rect.unit]) (by simp [Rect.emb, Rect.unit])))
  · intro x
    have h0' : (x 0).val < 1 := (x 0).isLt
    exact (h4 x).trans (congrArg G (ix3_ext (by simp [Rect.emb, Rect.unit]) (by simp [Rect.emb, Rect.unit]) (by simp [Rect.emb, Rect.unit])))
  · intro x
    have h0' : (x 0).val < 1 := (x 0).isLt
    exact (h3 x).trans (congrArg G (ix3_ext (by simp [Rect.emb, Rect.unit]) (by simp [Rect.emb, Rect.unit]) (by simp [Rect.emb, Rect.unit])))
  · intro x
    have h0' : (x 0).val < 1 := (x 0).isLt
    exact (h2 x).trans (congrArg G (ix3_ext (by simp [Rect.emb, Rect.unit]) (by simp [Rect.emb, Rect.unit]) (by simp [Rect.emb, Rect.unit])))
  · intro x
    have h0' : (x 0).val < 1 := (x 0).isLt
    exact (h1 x).trans (congrArg G (ix3_ext (by simp [Rect.emb, Rect.unit]) (by simp [Rect.emb, Rect.unit]) (by simp [Rect.emb, Rect.unit])))
  · intro x
    have h0' : (x 0).val < 1 := (x 0).isLt
    exact (h0 x).trans (congrArg G (ix3_ext (by simp [Rect.emb, Rect.unit]) (by simp [Rect.emb, Rect.unit]) (by simp [Rect.emb, Rect.unit])))

/-- Eight slabs of 128 by 128, stored one by one, are the array they are slabs of. -/
theorem slab_128_128 (G : S8x128x128.Idx → EReal) (p0 p1 p2 p3 p4 p5 p6 p7 : S1x128x128.Idx → EReal)
    (h0 : ∀ x : S1x128x128.Idx, p0 x = G (ix3 (0 : Fin 8) (x 1) (x 2)))
    (h1 : ∀ x : S1x128x128.Idx, p1 x = G (ix3 (1 : Fin 8) (x 1) (x 2)))
    (h2 : ∀ x : S1x128x128.Idx, p2 x = G (ix3 (2 : Fin 8) (x 1) (x 2)))
    (h3 : ∀ x : S1x128x128.Idx, p3 x = G (ix3 (3 : Fin 8) (x 1) (x 2)))
    (h4 : ∀ x : S1x128x128.Idx, p4 x = G (ix3 (4 : Fin 8) (x 1) (x 2)))
    (h5 : ∀ x : S1x128x128.Idx, p5 x = G (ix3 (5 : Fin 8) (x 1) (x 2)))
    (h6 : ∀ x : S1x128x128.Idx, p6 x = G (ix3 (6 : Fin 8) (x 1) (x 2)))
    (h7 : ∀ x : S1x128x128.Idx, p7 x = G (ix3 (7 : Fin 8) (x 1) (x 2)))
    (L : List (View.Piece (Elt Ideal) S8x128x128 .f32)) (y : S8x128x128.Idx) :
    View.canon (Val := Elt Ideal) (e := .f32) ((⟨Rect.unit ![7, 0, 0] ![1, 128, 128] inb_S8x128x128_S1x128x128_7_0_0, p7⟩ : View.Piece (Elt Ideal) S8x128x128 .f32) :: (⟨Rect.unit ![6, 0, 0] ![1, 128, 128] inb_S8x128x128_S1x128x128_6_0_0, p6⟩ : View.Piece (Elt Ideal) S8x128x128 .f32) :: (⟨Rect.unit ![5, 0, 0] ![1, 128, 128] inb_S8x128x128_S1x128x128_5_0_0, p5⟩ : View.Piece (Elt Ideal) S8x128x128 .f32) :: (⟨Rect.unit ![4, 0, 0] ![1, 128, 128] inb_S8x128x128_S1x128x128_4_0_0, p4⟩ : View.Piece (Elt Ideal) S8x128x128 .f32) :: (⟨Rect.unit ![3, 0, 0] ![1, 128, 128] inb_S8x128x128_S1x128x128_3_0_0, p3⟩ : View.Piece (Elt Ideal) S8x128x128 .f32) :: (⟨Rect.unit ![2, 0, 0] ![1, 128, 128] inb_S8x128x128_S1x128x128_2_0_0, p2⟩ : View.Piece (Elt Ideal) S8x128x128 .f32) :: (⟨Rect.unit ![1, 0, 0] ![1, 128, 128] inb_S8x128x128_S1x128x128_1_0_0, p1⟩ : View.Piece (Elt Ideal) S8x128x128 .f32) :: (⟨Rect.unit ![0, 0, 0] ![1, 128, 128] inb_S8x128x128_S1x128x128_0_0_0, p0⟩ : View.Piece (Elt Ideal) S8x128x128 .f32) :: L) y = G y := by
  refine View.canon_append_of_piecesOf G L [_, _, _, _, _, _, _, _] ⟨?_, ?_, ?_, ?_, ?_, ?_, ?_, ?_, trivial⟩ y
    (View.cover_of_tiledL (s := S8x128x128) _ ![1, 128, 128] (by sl_kernel_rfl) y)
  · intro x
    have h0' : (x 0).val < 1 := (x 0).isLt
    exact (h7 x).trans (congrArg G (ix3_ext (by simp [Rect.emb, Rect.unit]) (by simp [Rect.emb, Rect.unit]) (by simp [Rect.emb, Rect.unit])))
  · intro x
    have h0' : (x 0).val < 1 := (x 0).isLt
    exact (h6 x).trans (congrArg G (ix3_ext (by simp [Rect.emb, Rect.unit]) (by simp [Rect.emb, Rect.unit]) (by simp [Rect.emb, Rect.unit])))
  · intro x
    have h0' : (x 0).val < 1 := (x 0).isLt
    exact (h5 x).trans (congrArg G (ix3_ext (by simp [Rect.emb, Rect.unit]) (by simp [Rect.emb, Rect.unit]) (by simp [Rect.emb, Rect.unit])))
  · intro x
    have h0' : (x 0).val < 1 := (x 0).isLt
    exact (h4 x).trans (congrArg G (ix3_ext (by simp [Rect.emb, Rect.unit]) (by simp [Rect.emb, Rect.unit]) (by simp [Rect.emb, Rect.unit])))
  · intro x
    have h0' : (x 0).val < 1 := (x 0).isLt
    exact (h3 x).trans (congrArg G (ix3_ext (by simp [Rect.emb, Rect.unit]) (by simp [Rect.emb, Rect.unit]) (by simp [Rect.emb, Rect.unit])))
  · intro x
    have h0' : (x 0).val < 1 := (x 0).isLt
    exact (h2 x).trans (congrArg G (ix3_ext (by simp [Rect.emb, Rect.unit]) (by simp [Rect.emb, Rect.unit]) (by simp [Rect.emb, Rect.unit])))
  · intro x
    have h0' : (x 0).val < 1 := (x 0).isLt
    exact (h1 x).trans (congrArg G (ix3_ext (by simp [Rect.emb, Rect.unit]) (by simp [Rect.emb, Rect.unit]) (by simp [Rect.emb, Rect.unit])))
  · intro x
    have h0' : (x 0).val < 1 := (x 0).isLt
    exact (h0 x).trans (congrArg G (ix3_ext (by simp [Rect.emb, Rect.unit]) (by simp [Rect.emb, Rect.unit]) (by simp [Rect.emb, Rect.unit])))

/-- Eight slabs of 128 by 64, stored one by one, are the array they are slabs of. -/
theorem slab_128_64 (G : S8x128x64.Idx → EReal) (p0 p1 p2 p3 p4 p5 p6 p7 : S1x128x64.Idx → EReal)
    (h0 : ∀ x : S1x128x64.Idx, p0 x = G (ix3 (0 : Fin 8) (x 1) (x 2)))
    (h1 : ∀ x : S1x128x64.Idx, p1 x = G (ix3 (1 : Fin 8) (x 1) (x 2)))
    (h2 : ∀ x : S1x128x64.Idx, p2 x = G (ix3 (2 : Fin 8) (x 1) (x 2)))
    (h3 : ∀ x : S1x128x64.Idx, p3 x = G (ix3 (3 : Fin 8) (x 1) (x 2)))
    (h4 : ∀ x : S1x128x64.Idx, p4 x = G (ix3 (4 : Fin 8) (x 1) (x 2)))
    (h5 : ∀ x : S1x128x64.Idx, p5 x = G (ix3 (5 : Fin 8) (x 1) (x 2)))
    (h6 : ∀ x : S1x128x64.Idx, p6 x = G (ix3 (6 : Fin 8) (x 1) (x 2)))
    (h7 : ∀ x : S1x128x64.Idx, p7 x = G (ix3 (7 : Fin 8) (x 1) (x 2)))
    (L : List (View.Piece (Elt Ideal) S8x128x64 .f32)) (y : S8x128x64.Idx) :
    View.canon (Val := Elt Ideal) (e := .f32) ((⟨Rect.unit ![7, 0, 0] ![1, 128, 64] inb_S8x128x64_S1x128x64_7_0_0, p7⟩ : View.Piece (Elt Ideal) S8x128x64 .f32) :: (⟨Rect.unit ![6, 0, 0] ![1, 128, 64] inb_S8x128x64_S1x128x64_6_0_0, p6⟩ : View.Piece (Elt Ideal) S8x128x64 .f32) :: (⟨Rect.unit ![5, 0, 0] ![1, 128, 64] inb_S8x128x64_S1x128x64_5_0_0, p5⟩ : View.Piece (Elt Ideal) S8x128x64 .f32) :: (⟨Rect.unit ![4, 0, 0] ![1, 128, 64] inb_S8x128x64_S1x128x64_4_0_0, p4⟩ : View.Piece (Elt Ideal) S8x128x64 .f32) :: (⟨Rect.unit ![3, 0, 0] ![1, 128, 64] inb_S8x128x64_S1x128x64_3_0_0, p3⟩ : View.Piece (Elt Ideal) S8x128x64 .f32) :: (⟨Rect.unit ![2, 0, 0] ![1, 128, 64] inb_S8x128x64_S1x128x64_2_0_0, p2⟩ : View.Piece (Elt Ideal) S8x128x64 .f32) :: (⟨Rect.unit ![1, 0, 0] ![1, 128, 64] inb_S8x128x64_S1x128x64_1_0_0, p1⟩ : View.Piece (Elt Ideal) S8x128x64 .f32) :: (⟨Rect.unit ![0, 0, 0] ![1, 128, 64] inb_S8x128x64_S1x128x64_0_0_0, p0⟩ : View.Piece (Elt Ideal) S8x128x64 .f32) :: L) y = G y := by
  refine View.canon_append_of_piecesOf G L [_, _, _, _, _, _, _, _] ⟨?_, ?_, ?_, ?_, ?_, ?_, ?_, ?_, trivial⟩ y
    (View.cover_of_tiledL (s := S8x128x64) _ ![1, 128, 64] (by sl_kernel_rfl) y)
  · intro x
    have h0' : (x 0).val < 1 := (x 0).isLt
    exact (h7 x).trans (congrArg G (ix3_ext (by simp [Rect.emb, Rect.unit]) (by simp [Rect.emb, Rect.unit]) (by simp [Rect.emb, Rect.unit])))
  · intro x
    have h0' : (x 0).val < 1 := (x 0).isLt
    exact (h6 x).trans (congrArg G (ix3_ext (by simp [Rect.emb, Rect.unit]) (by simp [Rect.emb, Rect.unit]) (by simp [Rect.emb, Rect.unit])))
  · intro x
    have h0' : (x 0).val < 1 := (x 0).isLt
    exact (h5 x).trans (congrArg G (ix3_ext (by simp [Rect.emb, Rect.unit]) (by simp [Rect.emb, Rect.unit]) (by simp [Rect.emb, Rect.unit])))
  · intro x
    have h0' : (x 0).val < 1 := (x 0).isLt
    exact (h4 x).trans (congrArg G (ix3_ext (by simp [Rect.emb, Rect.unit]) (by simp [Rect.emb, Rect.unit]) (by simp [Rect.emb, Rect.unit])))
  · intro x
    have h0' : (x 0).val < 1 := (x 0).isLt
    exact (h3 x).trans (congrArg G (ix3_ext (by simp [Rect.emb, Rect.unit]) (by simp [Rect.emb, Rect.unit]) (by simp [Rect.emb, Rect.unit])))
  · intro x
    have h0' : (x 0).val < 1 := (x 0).isLt
    exact (h2 x).trans (congrArg G (ix3_ext (by simp [Rect.emb, Rect.unit]) (by simp [Rect.emb, Rect.unit]) (by simp [Rect.emb, Rect.unit])))
  · intro x
    have h0' : (x 0).val < 1 := (x 0).isLt
    exact (h1 x).trans (congrArg G (ix3_ext (by simp [Rect.emb, Rect.unit]) (by simp [Rect.emb, Rect.unit]) (by simp [Rect.emb, Rect.unit])))
  · intro x
    have h0' : (x 0).val < 1 := (x 0).isLt
    exact (h0 x).trans (congrArg G (ix3_ext (by simp [Rect.emb, Rect.unit]) (by simp [Rect.emb, Rect.unit]) (by simp [Rect.emb, Rect.unit])))

end Cert.Kernel21Ideal.Low

end
-- ==== Proof.LowRows.lean ====
/- The call mla_prep_bwd: a grid point's rows: normalised, turned back, and their products with the weights. -/
module

public import proofs.«01_k».proof.Proof.Gen.Kernel21Ideal.Frame
public import proofs.«01_k».proof.Proof.LowSpec
public import proofs.«01_k».proof.Proof.LowSlab
public import proofs.«01_k».proof.Proof.LowPay
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

variable (m : (ℓ : Loc nD τ sig) → Buf (Elt Ideal) ℓ) (c : Dev nD)

/-- The two mean squares' divisors. -/
abbrev Cq : EReal := Ideal.ofBits FTy.f32 0x43800000#32
abbrev Ck : EReal := Ideal.ofBits FTy.f32 0x43000000#32

/-- The saved rows' two parts and the two scales, from the arguments. -/
def hq (s : Fin 4096) (k : Fin 256) : EReal := a0 m c (ix2 s (⟨k.val, by omega⟩ : Fin 512))
def hk (s : Fin 4096) (k : Fin 128) : EReal := a0 m c (ix2 s (⟨256 + k.val, by omega⟩ : Fin 512))
def gq (k : Fin 256) : EReal := a4 m c (ix1 k)
def gk (k : Fin 128) : EReal := a5 m c (ix1 k)
/-- A head's cotangents by row: the queries' turned back, the keys' and the values'. -/
def dq (h : Fin 8) (s : Fin 4096) : Fin 96 → EReal := UD (fun e => a1 m c (ix3 h s e)) (Ang s)
def dk (h : Fin 8) (s : Fin 4096) (e : Fin 96) : EReal := a2 m c (ix3 h s e)
def dv (h : Fin 8) (s : Fin 4096) (e : Fin 64) : EReal := a3 m c (ix3 h s e)

/-- The row of the arrays that a block's row is. -/
abbrev row (t : Fin cfg0.N) (r : Fin 256) : Fin 4096 := ⟨t.val * 256 + r.val, by have h16 : t.val < 16 := t.isLt; omega⟩

variable (t : Fin cfg0.N)

/-- A grid point's own two blocks of rows, normalised without and with the scale. -/
abbrev xq : FVec Ideal S256x256 .f32 := k0_pay12 (View.ld (iblk m c 0 t) (Rect.unit ![0, 0] ![256, 256] inb_S256x512_S256x256_0_0))
abbrev xk : FVec Ideal S256x128 .f32 := k0_pay14 (View.ld (iblk m c 0 t) (Rect.unit ![0, 256] ![256, 128] inb_S256x512_S256x128_0_256))
abbrev nq : FVec Ideal S256x256 .bf16 := k0_pay18 (xq m c t) (k0_pay17 (iblk m c 4 t))
abbrev nk : FVec Ideal S256x128 .bf16 := k0_pay19 (xk m c t) (k0_pay16 (iblk m c 5 t))

theorem ldq (r : Fin 256) (k : Fin 256) : View.ld (iblk m c 0 t) (Rect.unit ![0, 0] ![256, 256] inb_S256x512_S256x256_0_0) (ix2 r k) = hq m c (row t r) k :=
  (show _ = iblk m c 0 t (ix2 r (⟨k.val, by omega⟩ : Fin 512)) from congrArg (iblk m c 0 t) (ix2_ext (by simp [Rect.toLoadRect, Rect.emb, Rect.unit]) (by simp [Rect.toLoadRect, Rect.emb, Rect.unit]))).trans (blk_0 m c t r _ (row t r) rfl)
theorem ldk (r : Fin 256) (k : Fin 128) : View.ld (iblk m c 0 t) (Rect.unit ![0, 256] ![256, 128] inb_S256x512_S256x128_0_256) (ix2 r k) = hk m c (row t r) k :=
  (show _ = iblk m c 0 t (ix2 r (⟨256 + k.val, by omega⟩ : Fin 512)) from congrArg (iblk m c 0 t) (ix2_ext (by simp [Rect.toLoadRect, Rect.emb, Rect.unit]) (by simp [Rect.toLoadRect, Rect.emb, Rect.unit]))).trans (blk_0 m c t r _ (row t r) rfl)

theorem xq_row (r : Fin 256) (k : Fin 256) : xq m c t (ix2 r k) = X Cq (hq m c) (row t r) k := by
  have e := xq_at (View.ld (iblk m c 0 t) (Rect.unit ![0, 0] ![256, 256] inb_S256x512_S256x256_0_0)) (ix2 r k)
  refine e.trans ?_
  unfold X
  refine congrArg₂ (fun a b : EReal => a * Ideal.rsqrt (Ideal.div b Cq + Ideal.ofBits FTy.f32 0x358637BD#32)) (ldq m c t r k) ?_
  exact Finset.sum_congr rfl fun q _ => congrArg₂ (fun a b : EReal => a * b) (ldq m c t r q) (ldq m c t r q)
theorem xk_row (r : Fin 256) (k : Fin 128) : xk m c t (ix2 r k) = X Ck (hk m c) (row t r) k := by
  have e := xk_at (View.ld (iblk m c 0 t) (Rect.unit ![0, 256] ![256, 128] inb_S256x512_S256x128_0_256)) (ix2 r k)
  refine e.trans ?_
  unfold X
  refine congrArg₂ (fun a b : EReal => a * Ideal.rsqrt (Ideal.div b Ck + Ideal.ofBits FTy.f32 0x358637BD#32)) (ldk m c t r k) ?_
  exact Finset.sum_congr rfl fun q _ => congrArg₂ (fun a b : EReal => a * b) (ldk m c t r q) (ldk m c t r q)
theorem nq_row (r : Fin 256) (k : Fin 256) : nq m c t (ix2 r k) = N Cq (hq m c) (gq m c) (row t r) k := by
  refine (nq_at (xq m c t) (iblk m c 4 t) (ix2 r k)).trans ?_
  unfold N
  exact congrArg₂ (fun a b : EReal => a * b) (xq_row m c t r k) (blk_4 m c t k)
theorem nk_row (r : Fin 256) (k : Fin 128) : nk m c t (ix2 r k) = N Ck (hk m c) (gk m c) (row t r) k := by
  refine (nk_at (xk m c t) (iblk m c 5 t) (ix2 r k)).trans ?_
  unfold N
  exact congrArg₂ (fun a b : EReal => a * b) (xk_row m c t r k) (blk_5 m c t k)

/-- A head's cotangent rows as a grid point has them. -/
theorem uq_row (h : Nat) (hh : h < 8) (p) (r : Fin 256) (q : Fin 128) :
    k0_pay21 (k0_pay8 (iblk m c 9 t)) (k0_pay9 (iblk m c 10 t)) (k0_pay10 (iblk m c 11 t)) (View.ld (iblk m c 1 t) (Rect.unit ![h, 0, 0] ![1, 256, 128] p)) (ix2 r q)
      = ext 96 (dq m c ⟨h, hh⟩ (row t r)) q := by
  refine (uq_at _ _ _ _ _).trans ?_
  refine Eq.trans ?_ (unrope_row _ _ _)
  have l (q : Fin 128) : View.ld (iblk m c 1 t) (Rect.unit ![h, 0, 0] ![1, 256, 128] p) (ix3 0 r q) = ext 96 (fun e => a1 m c (ix3 ⟨h, hh⟩ (row t r) e)) q :=
    (ld_256_128 (iblk m c 1 t) h hh p (ix3 0 r q)).trans (blk_1 m c t ⟨h, hh⟩ r q (row t r) rfl)
  refine congrArg₂ (fun a b : EReal => a + b) (congrArg₂ (fun a b : EReal => a + b) ?_ ?_) ?_
  · exact congrArg₂ (fun a b : EReal => a * b) (l q) (blk_9 m c t r q (row t r) rfl)
  · exact congrArg₂ (fun a b : EReal => a * b) (l _) (blk_10 m c t r _ (row t r) rfl)
  · exact congrArg₂ (fun a b : EReal => a * b) (l _) (blk_11 m c t r _ (row t r) rfl)
theorem uk_row (h : Nat) (hh : h < 8) (p) (r : Fin 256) (q : Fin 128) :
    k0_pay26 (View.ld (iblk m c 2 t) (Rect.unit ![h, 0, 0] ![1, 256, 128] p)) (ix2 r q) = ext 96 (dk m c ⟨h, hh⟩ (row t r)) q :=
  (kb_at _ _).trans ((ld_256_128 (iblk m c 2 t) h hh p (ix3 0 r q)).trans (blk_2 m c t ⟨h, hh⟩ r q (row t r) rfl))
theorem uv_row (h : Nat) (hh : h < 8) (p) (r : Fin 256) (q : Fin 64) :
    View.ld (iblk m c 3 t) (Rect.unit ![h, 0, 0] ![1, 256, 64] p) (ix3 0 r q) = dv m c ⟨h, hh⟩ (row t r) q :=
  (ld_256_64 (iblk m c 3 t) h hh p (ix3 0 r q)).trans (blk_3 m c t ⟨h, hh⟩ r q (row t r) rfl)
theorem wq_row (h : Nat) (hh : h < 8) (p) (q : Fin 128) (k : Fin 256) :
    View.ld (iblk m c 6 t) (Rect.unit ![h, 0, 0] ![1, 128, 256] p) (ix3 0 q k) = ext 96 (fun e => a6 m c (ix3 k ⟨h, hh⟩ e)) q :=
  (ld_128_256 (iblk m c 6 t) h hh p (ix3 0 q k)).trans (blk_6 m c t ⟨h, hh⟩ q k)
theorem wk_row (h : Nat) (hh : h < 8) (p) (q : Fin 128) (k : Fin 128) :
    View.ld (iblk m c 7 t) (Rect.unit ![h, 0, 0] ![1, 128, 128] p) (ix3 0 q k) = ext 64 (fun e => a7 m c (ix3 k ⟨h, hh⟩ e)) q :=
  (ldb_128_128 (iblk m c 7 t) h hh p (ix3 0 q k)).trans (blk_7 m c t ⟨h, hh⟩ q k)
theorem wv_row (h : Nat) (hh : h < 8) (p) (q : Fin 64) (k : Fin 128) :
    View.ld (iblk m c 8 t) (Rect.unit ![h, 0, 0] ![1, 64, 128] p) (ix3 0 q k) = a8 m c (ix3 k ⟨h, hh⟩ q) :=
  (ld_64_128 (iblk m c 8 t) h hh p (ix3 0 q k)).trans (blk_8 m c t ⟨h, hh⟩ q k)

/-- A head's part of the cotangents of the normalised rows, over the filled-up columns, is that over the columns that are there. -/
theorem mqH (h : Nat) (hh : h < 8) (p p') (r : Fin 256) (k : Fin 256) :
    (∑ q : Fin 128, k0_pay21 (k0_pay8 (iblk m c 9 t)) (k0_pay9 (iblk m c 10 t)) (k0_pay10 (iblk m c 11 t)) (View.ld (iblk m c 1 t) (Rect.unit ![h, 0, 0] ![1, 256, 128] p)) (ix2 r q)
      * View.ld (iblk m c 6 t) (Rect.unit ![h, 0, 0] ![1, 128, 256] p') (ix3 0 q k))
      = ∑ e : Fin 96, dq m c ⟨h, hh⟩ (row t r) e * a6 m c (ix3 k ⟨h, hh⟩ e) :=
  sum_ext (n := 96) (d := 32) (fun q => k0_pay21 (k0_pay8 (iblk m c 9 t)) (k0_pay9 (iblk m c 10 t)) (k0_pay10 (iblk m c 11 t)) (View.ld (iblk m c 1 t) (Rect.unit ![h, 0, 0] ![1, 256, 128] p)) (ix2 r q))
    (fun q => View.ld (iblk m c 6 t) (Rect.unit ![h, 0, 0] ![1, 128, 256] p') (ix3 0 q k)) (dq m c ⟨h, hh⟩ (row t r)) (fun e => a6 m c (ix3 k ⟨h, hh⟩ e))
    (fun q hq => (uq_row m c t h hh p r q).trans (ext_lo _ _ hq)) (fun q => wq_row m c t h hh p' q k)
theorem mkH (h : Nat) (hh : h < 8) (p p') (r : Fin 256) (k : Fin 128) :
    (∑ q : Fin 128, k0_pay26 (View.ld (iblk m c 2 t) (Rect.unit ![h, 0, 0] ![1, 256, 128] p)) (ix2 r q)
      * View.ld (iblk m c 7 t) (Rect.unit ![h, 0, 0] ![1, 128, 128] p') (ix3 0 q k))
      = ∑ e : Fin 64, dk m c ⟨h, hh⟩ (row t r) ⟨e.val, by omega⟩ * a7 m c (ix3 k ⟨h, hh⟩ e) :=
  sum_ext (n := 64) (d := 64) (fun q => k0_pay26 (View.ld (iblk m c 2 t) (Rect.unit ![h, 0, 0] ![1, 256, 128] p)) (ix2 r q))
    (fun q => View.ld (iblk m c 7 t) (Rect.unit ![h, 0, 0] ![1, 128, 128] p') (ix3 0 q k)) (fun e => dk m c ⟨h, hh⟩ (row t r) ⟨e.val, by omega⟩) (fun e => a7 m c (ix3 k ⟨h, hh⟩ e))
    (fun q hq => (uk_row m c t h hh p r q).trans (ext_lo _ _ (by omega))) (fun q => wk_row m c t h hh p' q k)
theorem mvH (h : Fin 8) (Y : Vec Ideal S1x256x64 .f32) (W : Vec Ideal S1x64x128 .bf16) (hY : ∀ r q, Y (ix3 0 r q) = dv m c h (row t r) q)
    (hW : ∀ q k, W (ix3 0 q k) = a8 m c (ix3 k h q)) (r : Fin 256) (k : Fin 128) :
    (∑ q : Fin 64, Y (ix3 0 r q) * W (ix3 0 q k)) = ∑ e : Fin 64, dv m c h (row t r) e * a8 m c (ix3 k h e) :=
  Finset.sum_congr rfl fun q _ => congrArg₂ (fun a b : EReal => a * b) (hY r q) (hW q k)

end Cert.Kernel21Ideal.Low

end
-- ==== Proof.LowStep.lean ====
/- The call mla_prep_bwd: what a grid point adds to each accumulator, and the accumulators after the run. -/
module

public import proofs.«01_k».proof.Proof.Gen.Kernel21Ideal.Frame
public import proofs.«01_k».proof.Proof.LowSpec
public import proofs.«01_k».proof.Proof.LowRows
public import proofs.«01_k».proof.Proof.LowPay
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

variable (m : (ℓ : Loc nD τ sig) → Buf (Elt Ideal) ℓ) (c : Dev nD)

/-- What a grid point adds to the gradients. -/
def s14 (t : Fin cfg0.N) (y : S8x256x128.Idx) : EReal := ∑ r : Fin 256, N Cq (hq m c) (gq m c) (row t r) (y 1) * ext 96 (dq m c (y 0) (row t r)) (y 2)
def s15 (t : Fin cfg0.N) (y : S8x128x128.Idx) : EReal := ∑ r : Fin 256, N Ck (hk m c) (gk m c) (row t r) (y 1) * ext 96 (dk m c (y 0) (row t r)) (y 2)
def s16 (t : Fin cfg0.N) (y : S8x128x64.Idx) : EReal := ∑ r : Fin 256, N Ck (hk m c) (gk m c) (row t r) (y 1) * ext 64 (dv m c (y 0) (row t r)) (y 2)
def s17 (t : Fin cfg0.N) (y : S1x256.Idx) : EReal :=
  ∑ r : Fin 256, (∑ h : Fin 8, ∑ e : Fin 96, dq m c h (row t r) e * a6 m c (ix3 (y 1) h e)) * X Cq (hq m c) (row t r) (y 1)
def s18 (t : Fin cfg0.N) (y : S1x128.Idx) : EReal :=
  ∑ r : Fin 256, (∑ h : Fin 8, (∑ e : Fin 64, dk m c h (row t r) ⟨e.val, by omega⟩ * a7 m c (ix3 (y 1) h e) + ∑ e : Fin 64, dv m c h (row t r) e * a8 m c (ix3 (y 1) h e)))
    * X Ck (hk m c) (row t r) (y 1)

variable (t : Fin cfg0.N)

/-- A head's slab for result 0. -/
theorem p14 (P : Vec Ideal S8x256x128 .f32) (h : Nat) (hh : h < 8) (p p') (x : S1x256x128.Idx) :
    AQ (nq m c t) (k0_pay21 (k0_pay8 (iblk m c 9 t)) (k0_pay9 (iblk m c 10 t)) (k0_pay10 (iblk m c 11 t)) (View.ld (iblk m c 1 t) (Rect.unit ![h, 0, 0] ![1, 256, 128] p))) (View.ld (Val := Elt Ideal) (S := S8x256x128) (e' := .f32) P (Rect.unit ![h, 0, 0] ![1, 256, 128] p')) x = (fun y => P y + s14 m c t y) (ix3 (⟨h, hh⟩ : Fin 8) (x 1) (x 2)) := by
  refine (aq_at _ _ _ x).trans ?_
  refine congrArg₂ (fun a b : EReal => a + b) (ld_256_128 P h hh p' x) ?_
  exact Finset.sum_congr rfl fun r _ => congrArg₂ (fun a b : EReal => a * b) (nq_row m c t r (x 1)) (uq_row m c t h hh p r (x 2))

/-- A head's slab for result 1. -/
theorem p15 (P : Vec Ideal S8x128x128 .f32) (h : Nat) (hh : h < 8) (p p') (x : S1x128x128.Idx) :
    k0_pay27 (nk m c t) (k0_pay26 (View.ld (iblk m c 2 t) (Rect.unit ![h, 0, 0] ![1, 256, 128] p))) (View.ld (Val := Elt Ideal) (S := S8x128x128) (e' := .f32) P (Rect.unit ![h, 0, 0] ![1, 128, 128] p')) x = (fun y => P y + s15 m c t y) (ix3 (⟨h, hh⟩ : Fin 8) (x 1) (x 2)) := by
  refine (ak_at _ _ _ x).trans ?_
  refine congrArg₂ (fun a b : EReal => a + b) (ld_128_128 P h hh p' x) ?_
  exact Finset.sum_congr rfl fun r _ => congrArg₂ (fun a b : EReal => a * b) (nk_row m c t r (x 1)) (uk_row m c t h hh p r (x 2))

/-- A head's slab for result 2. -/
theorem p16 (P : Vec Ideal S8x128x64 .f32) (h : Nat) (hh : h < 8) (p p') (x : S1x128x64.Idx) :
    k0_pay30 (nk m c t) (View.ld (iblk m c 3 t) (Rect.unit ![h, 0, 0] ![1, 256, 64] p)) (View.ld (Val := Elt Ideal) (S := S8x128x64) (e' := .f32) P (Rect.unit ![h, 0, 0] ![1, 128, 64] p')) x = (fun y => P y + s16 m c t y) (ix3 (⟨h, hh⟩ : Fin 8) (x 1) (x 2)) := by
  refine (av_at _ _ _ x).trans ?_
  refine congrArg₂ (fun a b : EReal => a + b) (ld_128_64 P h hh p' x) ?_
  exact Finset.sum_congr rfl fun r _ => congrArg₂ (fun a b : EReal => a * b) (nk_row m c t r (x 1)) ((uv_row m c t h hh p r (x 2)).trans (ext_lo _ _ (x 2).isLt).symm)

theorem o14A (h : t.val % 16 = 0) (y : S8x256x128.Idx) : (outsAt0 m c t.val t.isLt).2.1 y = s14 m c t y := by
  rw [outsAt0_A m c t h]; frame_open
  simp (disch := decide) only [↓ View.readCov_skip, ↓ View.readCov_cons_toLoadRect, ↓ View.readCov_fill]
  frame_out
  refine (slab_256_128 (fun y => (k0_pay3 : FVec Ideal S8x256x128 .f32) y + s14 m c t y) _ _ _ _ _ _ _ _
    (fun x => p14 m c t (k0_pay3 : FVec Ideal S8x256x128 .f32) 0 (by decide) inb_S8x256x128_S1x256x128_0_0_0 inb_S8x256x128_S1x256x128_0_0_0 x)
    (fun x => p14 m c t (k0_pay3 : FVec Ideal S8x256x128 .f32) 1 (by decide) inb_S8x256x128_S1x256x128_1_0_0 inb_S8x256x128_S1x256x128_1_0_0 x)
    (fun x => p14 m c t (k0_pay3 : FVec Ideal S8x256x128 .f32) 2 (by decide) inb_S8x256x128_S1x256x128_2_0_0 inb_S8x256x128_S1x256x128_2_0_0 x)
    (fun x => p14 m c t (k0_pay3 : FVec Ideal S8x256x128 .f32) 3 (by decide) inb_S8x256x128_S1x256x128_3_0_0 inb_S8x256x128_S1x256x128_3_0_0 x)
    (fun x => p14 m c t (k0_pay3 : FVec Ideal S8x256x128 .f32) 4 (by decide) inb_S8x256x128_S1x256x128_4_0_0 inb_S8x256x128_S1x256x128_4_0_0 x)
    (fun x => p14 m c t (k0_pay3 : FVec Ideal S8x256x128 .f32) 5 (by decide) inb_S8x256x128_S1x256x128_5_0_0 inb_S8x256x128_S1x256x128_5_0_0 x)
    (fun x => p14 m c t (k0_pay3 : FVec Ideal S8x256x128 .f32) 6 (by decide) inb_S8x256x128_S1x256x128_6_0_0 inb_S8x256x128_S1x256x128_6_0_0 x)
    (fun x => p14 m c t (k0_pay3 : FVec Ideal S8x256x128 .f32) 7 (by decide) inb_S8x256x128_S1x256x128_7_0_0 inb_S8x256x128_S1x256x128_7_0_0 x)
    _ y).trans ?_
  show (k0_pay3 : FVec Ideal S8x256x128 .f32) y + s14 m c t y = _
  rw [z3_at, zero_add]

theorem o14B (h : ¬ t.val % 16 = 0) (y : S8x256x128.Idx) : (outsAt0 m c t.val t.isLt).2.1 y = (outsAt0 m c (t.val - 1) (by omega)).2.1 y + s14 m c t y := by
  rw [outsAt0_B m c t h]; frame_open
  simp (disch := decide) only [↓ View.readCov_skip, ↓ View.readCov_cons_toLoadRect, ↓ View.readCov_fill]
  frame_out
  refine (slab_256_128 (fun y => (outsAt0 m c (t.val - 1) (by omega)).2.1 y + s14 m c t y) _ _ _ _ _ _ _ _
    (fun x => p14 m c t (outsAt0 m c (t.val - 1) (by omega)).2.1 0 (by decide) inb_S8x256x128_S1x256x128_0_0_0 inb_S8x256x128_S1x256x128_0_0_0 x)
    (fun x => p14 m c t (outsAt0 m c (t.val - 1) (by omega)).2.1 1 (by decide) inb_S8x256x128_S1x256x128_1_0_0 inb_S8x256x128_S1x256x128_1_0_0 x)
    (fun x => p14 m c t (outsAt0 m c (t.val - 1) (by omega)).2.1 2 (by decide) inb_S8x256x128_S1x256x128_2_0_0 inb_S8x256x128_S1x256x128_2_0_0 x)
    (fun x => p14 m c t (outsAt0 m c (t.val - 1) (by omega)).2.1 3 (by decide) inb_S8x256x128_S1x256x128_3_0_0 inb_S8x256x128_S1x256x128_3_0_0 x)
    (fun x => p14 m c t (outsAt0 m c (t.val - 1) (by omega)).2.1 4 (by decide) inb_S8x256x128_S1x256x128_4_0_0 inb_S8x256x128_S1x256x128_4_0_0 x)
    (fun x => p14 m c t (outsAt0 m c (t.val - 1) (by omega)).2.1 5 (by decide) inb_S8x256x128_S1x256x128_5_0_0 inb_S8x256x128_S1x256x128_5_0_0 x)
    (fun x => p14 m c t (outsAt0 m c (t.val - 1) (by omega)).2.1 6 (by decide) inb_S8x256x128_S1x256x128_6_0_0 inb_S8x256x128_S1x256x128_6_0_0 x)
    (fun x => p14 m c t (outsAt0 m c (t.val - 1) (by omega)).2.1 7 (by decide) inb_S8x256x128_S1x256x128_7_0_0 inb_S8x256x128_S1x256x128_7_0_0 x)
    _ y).trans ?_
  rfl

theorem o15A (h : t.val % 16 = 0) (y : S8x128x128.Idx) : (outsAt0 m c t.val t.isLt).2.2.1 y = s15 m c t y := by
  rw [outsAt0_A m c t h]; frame_open
  simp (disch := decide) only [↓ View.readCov_skip, ↓ View.readCov_cons_toLoadRect, ↓ View.readCov_fill]
  frame_out
  refine (slab_128_128 (fun y => (k0_pay4 : FVec Ideal S8x128x128 .f32) y + s15 m c t y) _ _ _ _ _ _ _ _
    (fun x => p15 m c t (k0_pay4 : FVec Ideal S8x128x128 .f32) 0 (by decide) inb_S8x256x128_S1x256x128_0_0_0 inb_S8x128x128_S1x128x128_0_0_0 x)
    (fun x => p15 m c t (k0_pay4 : FVec Ideal S8x128x128 .f32) 1 (by decide) inb_S8x256x128_S1x256x128_1_0_0 inb_S8x128x128_S1x128x128_1_0_0 x)
    (fun x => p15 m c t (k0_pay4 : FVec Ideal S8x128x128 .f32) 2 (by decide) inb_S8x256x128_S1x256x128_2_0_0 inb_S8x128x128_S1x128x128_2_0_0 x)
    (fun x => p15 m c t (k0_pay4 : FVec Ideal S8x128x128 .f32) 3 (by decide) inb_S8x256x128_S1x256x128_3_0_0 inb_S8x128x128_S1x128x128_3_0_0 x)
    (fun x => p15 m c t (k0_pay4 : FVec Ideal S8x128x128 .f32) 4 (by decide) inb_S8x256x128_S1x256x128_4_0_0 inb_S8x128x128_S1x128x128_4_0_0 x)
    (fun x => p15 m c t (k0_pay4 : FVec Ideal S8x128x128 .f32) 5 (by decide) inb_S8x256x128_S1x256x128_5_0_0 inb_S8x128x128_S1x128x128_5_0_0 x)
    (fun x => p15 m c t (k0_pay4 : FVec Ideal S8x128x128 .f32) 6 (by decide) inb_S8x256x128_S1x256x128_6_0_0 inb_S8x128x128_S1x128x128_6_0_0 x)
    (fun x => p15 m c t (k0_pay4 : FVec Ideal S8x128x128 .f32) 7 (by decide) inb_S8x256x128_S1x256x128_7_0_0 inb_S8x128x128_S1x128x128_7_0_0 x)
    _ y).trans ?_
  show (k0_pay4 : FVec Ideal S8x128x128 .f32) y + s15 m c t y = _
  rw [z4_at, zero_add]

theorem o15B (h : ¬ t.val % 16 = 0) (y : S8x128x128.Idx) : (outsAt0 m c t.val t.isLt).2.2.1 y = (outsAt0 m c (t.val - 1) (by omega)).2.2.1 y + s15 m c t y := by
  rw [outsAt0_B m c t h]; frame_open
  simp (disch := decide) only [↓ View.readCov_skip, ↓ View.readCov_cons_toLoadRect, ↓ View.readCov_fill]
  frame_out
  refine (slab_128_128 (fun y => (outsAt0 m c (t.val - 1) (by omega)).2.2.1 y + s15 m c t y) _ _ _ _ _ _ _ _
    (fun x => p15 m c t (outsAt0 m c (t.val - 1) (by omega)).2.2.1 0 (by decide) inb_S8x256x128_S1x256x128_0_0_0 inb_S8x128x128_S1x128x128_0_0_0 x)
    (fun x => p15 m c t (outsAt0 m c (t.val - 1) (by omega)).2.2.1 1 (by decide) inb_S8x256x128_S1x256x128_1_0_0 inb_S8x128x128_S1x128x128_1_0_0 x)
    (fun x => p15 m c t (outsAt0 m c (t.val - 1) (by omega)).2.2.1 2 (by decide) inb_S8x256x128_S1x256x128_2_0_0 inb_S8x128x128_S1x128x128_2_0_0 x)
    (fun x => p15 m c t (outsAt0 m c (t.val - 1) (by omega)).2.2.1 3 (by decide) inb_S8x256x128_S1x256x128_3_0_0 inb_S8x128x128_S1x128x128_3_0_0 x)
    (fun x => p15 m c t (outsAt0 m c (t.val - 1) (by omega)).2.2.1 4 (by decide) inb_S8x256x128_S1x256x128_4_0_0 inb_S8x128x128_S1x128x128_4_0_0 x)
    (fun x => p15 m c t (outsAt0 m c (t.val - 1) (by omega)).2.2.1 5 (by decide) inb_S8x256x128_S1x256x128_5_0_0 inb_S8x128x128_S1x128x128_5_0_0 x)
    (fun x => p15 m c t (outsAt0 m c (t.val - 1) (by omega)).2.2.1 6 (by decide) inb_S8x256x128_S1x256x128_6_0_0 inb_S8x128x128_S1x128x128_6_0_0 x)
    (fun x => p15 m c t (outsAt0 m c (t.val - 1) (by omega)).2.2.1 7 (by decide) inb_S8x256x128_S1x256x128_7_0_0 inb_S8x128x128_S1x128x128_7_0_0 x)
    _ y).trans ?_
  rfl

theorem o16A (h : t.val % 16 = 0) (y : S8x128x64.Idx) : (outsAt0 m c t.val t.isLt).2.2.2.1 y = s16 m c t y := by
  rw [outsAt0_A m c t h]; frame_open
  simp (disch := decide) only [↓ View.readCov_skip, ↓ View.readCov_cons_toLoadRect, ↓ View.readCov_fill]
  frame_out
  refine (slab_128_64 (fun y => (k0_pay5 : FVec Ideal S8x128x64 .f32) y + s16 m c t y) _ _ _ _ _ _ _ _
    (fun x => p16 m c t (k0_pay5 : FVec Ideal S8x128x64 .f32) 0 (by decide) inb_S8x256x64_S1x256x64_0_0_0 inb_S8x128x64_S1x128x64_0_0_0 x)
    (fun x => p16 m c t (k0_pay5 : FVec Ideal S8x128x64 .f32) 1 (by decide) inb_S8x256x64_S1x256x64_1_0_0 inb_S8x128x64_S1x128x64_1_0_0 x)
    (fun x => p16 m c t (k0_pay5 : FVec Ideal S8x128x64 .f32) 2 (by decide) inb_S8x256x64_S1x256x64_2_0_0 inb_S8x128x64_S1x128x64_2_0_0 x)
    (fun x => p16 m c t (k0_pay5 : FVec Ideal S8x128x64 .f32) 3 (by decide) inb_S8x256x64_S1x256x64_3_0_0 inb_S8x128x64_S1x128x64_3_0_0 x)
    (fun x => p16 m c t (k0_pay5 : FVec Ideal S8x128x64 .f32) 4 (by decide) inb_S8x256x64_S1x256x64_4_0_0 inb_S8x128x64_S1x128x64_4_0_0 x)
    (fun x => p16 m c t (k0_pay5 : FVec Ideal S8x128x64 .f32) 5 (by decide) inb_S8x256x64_S1x256x64_5_0_0 inb_S8x128x64_S1x128x64_5_0_0 x)
    (fun x => p16 m c t (k0_pay5 : FVec Ideal S8x128x64 .f32) 6 (by decide) inb_S8x256x64_S1x256x64_6_0_0 inb_S8x128x64_S1x128x64_6_0_0 x)
    (fun x => p16 m c t (k0_pay5 : FVec Ideal S8x128x64 .f32) 7 (by decide) inb_S8x256x64_S1x256x64_7_0_0 inb_S8x128x64_S1x128x64_7_0_0 x)
    _ y).trans ?_
  show (k0_pay5 : FVec Ideal S8x128x64 .f32) y + s16 m c t y = _
  rw [z5_at, zero_add]

theorem o16B (h : ¬ t.val % 16 = 0) (y : S8x128x64.Idx) : (outsAt0 m c t.val t.isLt).2.2.2.1 y = (outsAt0 m c (t.val - 1) (by omega)).2.2.2.1 y + s16 m c t y := by
  rw [outsAt0_B m c t h]; frame_open
  simp (disch := decide) only [↓ View.readCov_skip, ↓ View.readCov_cons_toLoadRect, ↓ View.readCov_fill]
  frame_out
  refine (slab_128_64 (fun y => (outsAt0 m c (t.val - 1) (by omega)).2.2.2.1 y + s16 m c t y) _ _ _ _ _ _ _ _
    (fun x => p16 m c t (outsAt0 m c (t.val - 1) (by omega)).2.2.2.1 0 (by decide) inb_S8x256x64_S1x256x64_0_0_0 inb_S8x128x64_S1x128x64_0_0_0 x)
    (fun x => p16 m c t (outsAt0 m c (t.val - 1) (by omega)).2.2.2.1 1 (by decide) inb_S8x256x64_S1x256x64_1_0_0 inb_S8x128x64_S1x128x64_1_0_0 x)
    (fun x => p16 m c t (outsAt0 m c (t.val - 1) (by omega)).2.2.2.1 2 (by decide) inb_S8x256x64_S1x256x64_2_0_0 inb_S8x128x64_S1x128x64_2_0_0 x)
    (fun x => p16 m c t (outsAt0 m c (t.val - 1) (by omega)).2.2.2.1 3 (by decide) inb_S8x256x64_S1x256x64_3_0_0 inb_S8x128x64_S1x128x64_3_0_0 x)
    (fun x => p16 m c t (outsAt0 m c (t.val - 1) (by omega)).2.2.2.1 4 (by decide) inb_S8x256x64_S1x256x64_4_0_0 inb_S8x128x64_S1x128x64_4_0_0 x)
    (fun x => p16 m c t (outsAt0 m c (t.val - 1) (by omega)).2.2.2.1 5 (by decide) inb_S8x256x64_S1x256x64_5_0_0 inb_S8x128x64_S1x128x64_5_0_0 x)
    (fun x => p16 m c t (outsAt0 m c (t.val - 1) (by omega)).2.2.2.1 6 (by decide) inb_S8x256x64_S1x256x64_6_0_0 inb_S8x128x64_S1x128x64_6_0_0 x)
    (fun x => p16 m c t (outsAt0 m c (t.val - 1) (by omega)).2.2.2.1 7 (by decide) inb_S8x256x64_S1x256x64_7_0_0 inb_S8x128x64_S1x128x64_7_0_0 x)
    _ y).trans ?_
  rfl

end Cert.Kernel21Ideal.Low

end
-- ==== Proof.LowGain.lean ====
/- The call mla_prep_bwd: what a grid point adds to the gradients of the two scales. -/
module

public import proofs.«01_k».proof.Proof.Gen.Kernel21Ideal.Frame
public import proofs.«01_k».proof.Proof.LowSpec
public import proofs.«01_k».proof.Proof.LowStep
public import proofs.«01_k».proof.Proof.LowPay
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

variable (m : (ℓ : Loc nD τ sig) → Buf (Elt Ideal) ℓ) (c : Dev nD)

/-- Eight heads' parts, one after another from zero. -/
theorem accQ (d0 d1 d2 d3 d4 d5 d6 d7 : FVec Ideal S256x128 .bf16) (w0 w1 w2 w3 w4 w5 w6 w7 : Vec Ideal S1x128x256 .bf16) (r k : Fin 256) (S : Fin 8 → EReal)
    (h0 : ∑ q : Fin 128, d0 (ix2 r q) * w0 (ix3 0 q k) = S 0) (h1 : ∑ q : Fin 128, d1 (ix2 r q) * w1 (ix3 0 q k) = S 1) (h2 : ∑ q : Fin 128, d2 (ix2 r q) * w2 (ix3 0 q k) = S 2) (h3 : ∑ q : Fin 128, d3 (ix2 r q) * w3 (ix3 0 q k) = S 3) (h4 : ∑ q : Fin 128, d4 (ix2 r q) * w4 (ix3 0 q k) = S 4) (h5 : ∑ q : Fin 128, d5 (ix2 r q) * w5 (ix3 0 q k) = S 5) (h6 : ∑ q : Fin 128, d6 (ix2 r q) * w6 (ix3 0 q k) = S 6) (h7 : ∑ q : Fin 128, d7 (ix2 r q) * w7 (ix3 0 q k) = S 7) :
    (MQ (MQ (MQ (MQ (MQ (MQ (MQ (MQ (broadcast S256x256 (Scalar.ofBits .f32 0x00000000#32) : FVec Ideal S256x256 .f32) d0 w0) d1 w1) d2 w2) d3 w3) d4 w4) d5 w5) d6 w6) d7 w7) (ix2 r k) = ∑ h : Fin 8, S h := by
  have z : (broadcast S256x256 (Scalar.ofBits .f32 0x00000000#32) : FVec Ideal S256x256 .f32) (ix2 r k) = (0 : EReal) := by pointwise!
  refine (mq_at _ _ _ _).trans ?_
  refine Eq.trans ?_ (Fin.sum_univ_eight S).symm
  refine congrArg₂ (fun a b : EReal => a + b) ?_ h7
  refine (mq_at _ _ _ _).trans (congrArg₂ (fun a b : EReal => a + b) ?_ h6)
  refine (mq_at _ _ _ _).trans (congrArg₂ (fun a b : EReal => a + b) ?_ h5)
  refine (mq_at _ _ _ _).trans (congrArg₂ (fun a b : EReal => a + b) ?_ h4)
  refine (mq_at _ _ _ _).trans (congrArg₂ (fun a b : EReal => a + b) ?_ h3)
  refine (mq_at _ _ _ _).trans (congrArg₂ (fun a b : EReal => a + b) ?_ h2)
  refine (mq_at _ _ _ _).trans (congrArg₂ (fun a b : EReal => a + b) ?_ h1)
  refine (mq_at _ _ _ _).trans ?_
  exact (congrArg₂ (fun a b : EReal => a + b) z h0).trans (zero_add _)

theorem accK (d0 d1 d2 d3 d4 d5 d6 d7 : FVec Ideal S256x128 .bf16) (w0 w1 w2 w3 w4 w5 w6 w7 : Vec Ideal S1x128x128 .bf16)
    (y0 y1 y2 y3 y4 y5 y6 y7 : Vec Ideal S1x256x64 .f32) (v0 v1 v2 v3 v4 v5 v6 v7 : Vec Ideal S1x64x128 .bf16) (r : Fin 256) (k : Fin 128) (S T : Fin 8 → EReal)
    (h0 : ∑ q : Fin 128, d0 (ix2 r q) * w0 (ix3 0 q k) = S 0) (h1 : ∑ q : Fin 128, d1 (ix2 r q) * w1 (ix3 0 q k) = S 1) (h2 : ∑ q : Fin 128, d2 (ix2 r q) * w2 (ix3 0 q k) = S 2) (h3 : ∑ q : Fin 128, d3 (ix2 r q) * w3 (ix3 0 q k) = S 3) (h4 : ∑ q : Fin 128, d4 (ix2 r q) * w4 (ix3 0 q k) = S 4) (h5 : ∑ q : Fin 128, d5 (ix2 r q) * w5 (ix3 0 q k) = S 5) (h6 : ∑ q : Fin 128, d6 (ix2 r q) * w6 (ix3 0 q k) = S 6) (h7 : ∑ q : Fin 128, d7 (ix2 r q) * w7 (ix3 0 q k) = S 7)
    (g0 : ∑ q : Fin 64, y0 (ix3 0 r q) * v0 (ix3 0 q k) = T 0) (g1 : ∑ q : Fin 64, y1 (ix3 0 r q) * v1 (ix3 0 q k) = T 1) (g2 : ∑ q : Fin 64, y2 (ix3 0 r q) * v2 (ix3 0 q k) = T 2) (g3 : ∑ q : Fin 64, y3 (ix3 0 r q) * v3 (ix3 0 q k) = T 3) (g4 : ∑ q : Fin 64, y4 (ix3 0 r q) * v4 (ix3 0 q k) = T 4) (g5 : ∑ q : Fin 64, y5 (ix3 0 r q) * v5 (ix3 0 q k) = T 5) (g6 : ∑ q : Fin 64, y6 (ix3 0 r q) * v6 (ix3 0 q k) = T 6) (g7 : ∑ q : Fin 64, y7 (ix3 0 r q) * v7 (ix3 0 q k) = T 7) :
    (MV (MK (MV (MK (MV (MK (MV (MK (MV (MK (MV (MK (MV (MK (MV (MK (k0_pay20 : FVec Ideal S256x128 .f32) d0 w0) y0 v0) d1 w1) y1 v1) d2 w2) y2 v2) d3 w3) y3 v3) d4 w4) y4 v4) d5 w5) y5 v5) d6 w6) y6 v6) d7 w7) y7 v7) (ix2 r k) = ∑ h : Fin 8, (S h + T h) := by
  have st (A : FVec Ideal S256x128 .f32) (d : FVec Ideal S256x128 .bf16) (w : Vec Ideal S1x128x128 .bf16) (y : Vec Ideal S1x256x64 .f32) (v : Vec Ideal S1x64x128 .bf16) (a s u : EReal)
      (hA : A (ix2 r k) = a) (hs : ∑ q : Fin 128, d (ix2 r q) * w (ix3 0 q k) = s) (hu : ∑ q : Fin 64, y (ix3 0 r q) * v (ix3 0 q k) = u) :
      MV (MK A d w) y v (ix2 r k) = a + (s + u) := by
    refine (mv_at _ _ _ _).trans ?_
    refine (congrArg₂ (fun a b : EReal => a + b) ((mk_at _ _ _ _).trans (congrArg₂ (fun a b : EReal => a + b) hA hs)) hu).trans (add_assoc ..)
  refine Eq.trans ?_ (Fin.sum_univ_eight fun h => S h + T h).symm
  refine st _ _ _ _ _ _ _ _ ?_ h7 g7
  refine st _ _ _ _ _ _ _ _ ?_ h6 g6
  refine st _ _ _ _ _ _ _ _ ?_ h5 g5
  refine st _ _ _ _ _ _ _ _ ?_ h4 g4
  refine st _ _ _ _ _ _ _ _ ?_ h3 g3
  refine st _ _ _ _ _ _ _ _ ?_ h2 g2
  refine st _ _ _ _ _ _ _ _ ?_ h1 g1
  exact (st _ _ _ _ _ _ _ _ (z20_at _) h0 g0).trans (zero_add _)

variable (t : Fin cfg0.N)

theorem o17A (h : t.val % 16 = 0) (y : S1x256.Idx) : (outsAt0 m c t.val t.isLt).2.2.2.2.1 y = s17 m c t y := by
  rw [outsAt0_A m c t h]; frame_open
  simp (disch := decide) only [↓ View.readCov_skip, ↓ View.readCov_cons_toLoadRect, ↓ View.readCov_fill]
  frame_out
  refine (congrFun (nestQ _ _ _ _ _ _ _ _ _ _ _ _ _ _ _ _ _ _ _ _ _ ) y).trans ((gq_at _ _ _ y).trans ?_)
  refine (congrArg₂ (fun a b : EReal => a + b) (z6_at y) (Finset.sum_congr rfl fun r _ => congrArg₂ (fun a b : EReal => a * b) ?_ (xq_row m c t r (y 1)))).trans (zero_add (s17 m c t y))
  refine accQ _ _ _ _ _ _ _ _ _ _ _ _ _ _ _ _ r (y 1) (fun h => ∑ e : Fin 96, dq m c h (row t r) e * a6 m c (ix3 (y 1) h e))
    (mqH m c t 0 (by decide) _ _ r (y 1))
    (mqH m c t 1 (by decide) _ _ r (y 1))
    (mqH m c t 2 (by decide) _ _ r (y 1))
    (mqH m c t 3 (by decide) _ _ r (y 1))
    (mqH m c t 4 (by decide) _ _ r (y 1))
    (mqH m c t 5 (by decide) _ _ r (y 1))
    (mqH m c t 6 (by decide) _ _ r (y 1))
    (mqH m c t 7 (by decide) _ _ r (y 1))

theorem o17B (h : ¬ t.val % 16 = 0) (y : S1x256.Idx) : (outsAt0 m c t.val t.isLt).2.2.2.2.1 y = (outsAt0 m c (t.val - 1) (by omega)).2.2.2.2.1 y + s17 m c t y := by
  rw [outsAt0_B m c t h]; frame_open
  simp (disch := decide) only [↓ View.readCov_skip, ↓ View.readCov_cons_toLoadRect, ↓ View.readCov_fill]
  frame_out
  refine (congrFun (nestQ _ _ _ _ _ _ _ _ _ _ _ _ _ _ _ _ _ _ _ _ _ ) y).trans ((gq_at _ _ _ y).trans ?_)
  refine congrArg₂ (fun a b : EReal => a + b) rfl (Finset.sum_congr rfl fun r _ => congrArg₂ (fun a b : EReal => a * b) ?_ (xq_row m c t r (y 1)))
  refine accQ _ _ _ _ _ _ _ _ _ _ _ _ _ _ _ _ r (y 1) (fun h => ∑ e : Fin 96, dq m c h (row t r) e * a6 m c (ix3 (y 1) h e))
    (mqH m c t 0 (by decide) _ _ r (y 1))
    (mqH m c t 1 (by decide) _ _ r (y 1))
    (mqH m c t 2 (by decide) _ _ r (y 1))
    (mqH m c t 3 (by decide) _ _ r (y 1))
    (mqH m c t 4 (by decide) _ _ r (y 1))
    (mqH m c t 5 (by decide) _ _ r (y 1))
    (mqH m c t 6 (by decide) _ _ r (y 1))
    (mqH m c t 7 (by decide) _ _ r (y 1))

theorem o18A (h : t.val % 16 = 0) (y : S1x128.Idx) : (outsAt0 m c t.val t.isLt).2.2.2.2.2 y = s18 m c t y := by
  rw [outsAt0_A m c t h]; frame_open
  simp (disch := decide) only [↓ View.readCov_skip, ↓ View.readCov_cons_toLoadRect, ↓ View.readCov_fill]
  frame_out
  refine (congrFun (nestK _ _ _ _ _ _ _ _ _ _ _ _ _ _ _ _ _ _ _ _ _ _ _ _ _ _ _ _ _ _ _ _ _ _ ) y).trans ((gk_at _ _ _ y).trans ?_)
  refine (congrArg₂ (fun a b : EReal => a + b) (z7_at y) (Finset.sum_congr rfl fun r _ => congrArg₂ (fun a b : EReal => a * b) ?_ (xk_row m c t r (y 1)))).trans (zero_add (s18 m c t y))
  refine accK _ _ _ _ _ _ _ _ _ _ _ _ _ _ _ _ _ _ _ _ _ _ _ _ _ _ _ _ _ _ _ _ r (y 1) (fun h => ∑ e : Fin 64, dk m c h (row t r) ⟨e.val, by omega⟩ * a7 m c (ix3 (y 1) h e)) (fun h => ∑ e : Fin 64, dv m c h (row t r) e * a8 m c (ix3 (y 1) h e))
    (mkH m c t 0 (by decide) _ _ r (y 1))
    (mkH m c t 1 (by decide) _ _ r (y 1))
    (mkH m c t 2 (by decide) _ _ r (y 1))
    (mkH m c t 3 (by decide) _ _ r (y 1))
    (mkH m c t 4 (by decide) _ _ r (y 1))
    (mkH m c t 5 (by decide) _ _ r (y 1))
    (mkH m c t 6 (by decide) _ _ r (y 1))
    (mkH m c t 7 (by decide) _ _ r (y 1))
    (mvH m c t 0 _ _ (uv_row m c t 0 (by decide) inb_S8x256x64_S1x256x64_0_0_0) (wv_row m c t 0 (by decide) inb_S8x64x128_S1x64x128_0_0_0) r (y 1))
    (mvH m c t 1 _ _ (uv_row m c t 1 (by decide) inb_S8x256x64_S1x256x64_1_0_0) (wv_row m c t 1 (by decide) inb_S8x64x128_S1x64x128_1_0_0) r (y 1))
    (mvH m c t 2 _ _ (uv_row m c t 2 (by decide) inb_S8x256x64_S1x256x64_2_0_0) (wv_row m c t 2 (by decide) inb_S8x64x128_S1x64x128_2_0_0) r (y 1))
    (mvH m c t 3 _ _ (uv_row m c t 3 (by decide) inb_S8x256x64_S1x256x64_3_0_0) (wv_row m c t 3 (by decide) inb_S8x64x128_S1x64x128_3_0_0) r (y 1))
    (mvH m c t 4 _ _ (uv_row m c t 4 (by decide) inb_S8x256x64_S1x256x64_4_0_0) (wv_row m c t 4 (by decide) inb_S8x64x128_S1x64x128_4_0_0) r (y 1))
    (mvH m c t 5 _ _ (uv_row m c t 5 (by decide) inb_S8x256x64_S1x256x64_5_0_0) (wv_row m c t 5 (by decide) inb_S8x64x128_S1x64x128_5_0_0) r (y 1))
    (mvH m c t 6 _ _ (uv_row m c t 6 (by decide) inb_S8x256x64_S1x256x64_6_0_0) (wv_row m c t 6 (by decide) inb_S8x64x128_S1x64x128_6_0_0) r (y 1))
    (mvH m c t 7 _ _ (uv_row m c t 7 (by decide) inb_S8x256x64_S1x256x64_7_0_0) (wv_row m c t 7 (by decide) inb_S8x64x128_S1x64x128_7_0_0) r (y 1))

theorem o18B (h : ¬ t.val % 16 = 0) (y : S1x128.Idx) : (outsAt0 m c t.val t.isLt).2.2.2.2.2 y = (outsAt0 m c (t.val - 1) (by omega)).2.2.2.2.2 y + s18 m c t y := by
  rw [outsAt0_B m c t h]; frame_open
  simp (disch := decide) only [↓ View.readCov_skip, ↓ View.readCov_cons_toLoadRect, ↓ View.readCov_fill]
  frame_out
  refine (congrFun (nestK _ _ _ _ _ _ _ _ _ _ _ _ _ _ _ _ _ _ _ _ _ _ _ _ _ _ _ _ _ _ _ _ _ _ ) y).trans ((gk_at _ _ _ y).trans ?_)
  refine congrArg₂ (fun a b : EReal => a + b) rfl (Finset.sum_congr rfl fun r _ => congrArg₂ (fun a b : EReal => a * b) ?_ (xk_row m c t r (y 1)))
  refine accK _ _ _ _ _ _ _ _ _ _ _ _ _ _ _ _ _ _ _ _ _ _ _ _ _ _ _ _ _ _ _ _ r (y 1) (fun h => ∑ e : Fin 64, dk m c h (row t r) ⟨e.val, by omega⟩ * a7 m c (ix3 (y 1) h e)) (fun h => ∑ e : Fin 64, dv m c h (row t r) e * a8 m c (ix3 (y 1) h e))
    (mkH m c t 0 (by decide) _ _ r (y 1))
    (mkH m c t 1 (by decide) _ _ r (y 1))
    (mkH m c t 2 (by decide) _ _ r (y 1))
    (mkH m c t 3 (by decide) _ _ r (y 1))
    (mkH m c t 4 (by decide) _ _ r (y 1))
    (mkH m c t 5 (by decide) _ _ r (y 1))
    (mkH m c t 6 (by decide) _ _ r (y 1))
    (mkH m c t 7 (by decide) _ _ r (y 1))
    (mvH m c t 0 _ _ (uv_row m c t 0 (by decide) inb_S8x256x64_S1x256x64_0_0_0) (wv_row m c t 0 (by decide) inb_S8x64x128_S1x64x128_0_0_0) r (y 1))
    (mvH m c t 1 _ _ (uv_row m c t 1 (by decide) inb_S8x256x64_S1x256x64_1_0_0) (wv_row m c t 1 (by decide) inb_S8x64x128_S1x64x128_1_0_0) r (y 1))
    (mvH m c t 2 _ _ (uv_row m c t 2 (by decide) inb_S8x256x64_S1x256x64_2_0_0) (wv_row m c t 2 (by decide) inb_S8x64x128_S1x64x128_2_0_0) r (y 1))
    (mvH m c t 3 _ _ (uv_row m c t 3 (by decide) inb_S8x256x64_S1x256x64_3_0_0) (wv_row m c t 3 (by decide) inb_S8x64x128_S1x64x128_3_0_0) r (y 1))
    (mvH m c t 4 _ _ (uv_row m c t 4 (by decide) inb_S8x256x64_S1x256x64_4_0_0) (wv_row m c t 4 (by decide) inb_S8x64x128_S1x64x128_4_0_0) r (y 1))
    (mvH m c t 5 _ _ (uv_row m c t 5 (by decide) inb_S8x256x64_S1x256x64_5_0_0) (wv_row m c t 5 (by decide) inb_S8x64x128_S1x64x128_5_0_0) r (y 1))
    (mvH m c t 6 _ _ (uv_row m c t 6 (by decide) inb_S8x256x64_S1x256x64_6_0_0) (wv_row m c t 6 (by decide) inb_S8x64x128_S1x64x128_6_0_0) r (y 1))
    (mvH m c t 7 _ _ (uv_row m c t 7 (by decide) inb_S8x256x64_S1x256x64_7_0_0) (wv_row m c t 7 (by decide) inb_S8x64x128_S1x64x128_7_0_0) r (y 1))

end Cert.Kernel21Ideal.Low

end
-- ==== Proof.LowFin.lean ====
/- The call mla_prep_bwd: the five gradients after the run. -/
module

public import proofs.«01_k».proof.Proof.Gen.Kernel21Ideal.Frame
public import proofs.«01_k».proof.Proof.LowSpec
public import proofs.«01_k».proof.Proof.LowGain
public import proofs.«01_k».proof.Proof.LowPay
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel21Ideal.Low

open Cert.Kernel21Ideal Cert.Kernel21Ideal.Gen Cert.LowSpec

variable (m : (ℓ : Loc nD τ sig) → Buf (Elt Ideal) ℓ) (c : Dev nD)

/-- Result 0 after the run. -/
def F14 (y : S8x256x128.Idx) : EReal := Wg (N Cq (hq m c) (gq m c)) (dq m c (y 0)) (y 1) (y 2)
theorem final14 : (dats m 0 c).arrAt 14 (cfgs 0).N = F14 m c := by
  refine (dats m 0 c).arrAt_eq_of_covers 14 _ (by decide +kernel) fun t hf y => ?_
  blk_simp
  rw [after0_14, Pipeline.eq_sum_fin_of_reset_step_apply_of_flush (fun n h => (outsAt0 m c n h).2.1) 16 (fun _ => 0)
    (fun t j => s14 m c t j)
    (fun t h j => by rw [o14A m c t h j, zero_add])
    (fun t h j => by rw [o14B m c t h j])
    t ((flush0_14 t).mp hf) _, zero_add]
  have hy : (win0_14.blk t).view.emb y = ix3 (y 0) (y 1) (y 2) := by blk_point [idx_val t]
  have h16 : t.val < 16 := t.isLt
  have ht : 16 * (t.val / 16) = 0 := by omega
  rw [hy]
  unfold F14 Wg
  refine Fin.sum_mul_add_congr fun s k hl => ?_
  have hr : row ⟨16 * (t.val / 16) + s.val, by have := s.isLt; show _ < 16; omega⟩ k = ⟨s.val * 256 + k.val, hl⟩ := Fin.ext (by simp only; omega)
  simp only [hr]
  rfl

/-- Result 1 after the run. -/
def F15 (y : S8x128x128.Idx) : EReal := Wg (N Ck (hk m c) (gk m c)) (dk m c (y 0)) (y 1) (y 2)
theorem final15 : (dats m 0 c).arrAt 15 (cfgs 0).N = F15 m c := by
  refine (dats m 0 c).arrAt_eq_of_covers 15 _ (by decide +kernel) fun t hf y => ?_
  blk_simp
  rw [after0_15, Pipeline.eq_sum_fin_of_reset_step_apply_of_flush (fun n h => (outsAt0 m c n h).2.2.1) 16 (fun _ => 0)
    (fun t j => s15 m c t j)
    (fun t h j => by rw [o15A m c t h j, zero_add])
    (fun t h j => by rw [o15B m c t h j])
    t ((flush0_15 t).mp hf) _, zero_add]
  have hy : (win0_15.blk t).view.emb y = ix3 (y 0) (y 1) (y 2) := by blk_point [idx_val t]
  have h16 : t.val < 16 := t.isLt
  have ht : 16 * (t.val / 16) = 0 := by omega
  rw [hy]
  unfold F15 Wg
  refine Fin.sum_mul_add_congr fun s k hl => ?_
  have hr : row ⟨16 * (t.val / 16) + s.val, by have := s.isLt; show _ < 16; omega⟩ k = ⟨s.val * 256 + k.val, hl⟩ := Fin.ext (by simp only; omega)
  simp only [hr]
  rfl

/-- Result 2 after the run. -/
def F16 (y : S8x128x64.Idx) : EReal := Wg (N Ck (hk m c) (gk m c)) (dv m c (y 0)) (y 1) (y 2)
theorem final16 : (dats m 0 c).arrAt 16 (cfgs 0).N = F16 m c := by
  refine (dats m 0 c).arrAt_eq_of_covers 16 _ (by decide +kernel) fun t hf y => ?_
  blk_simp
  rw [after0_16, Pipeline.eq_sum_fin_of_reset_step_apply_of_flush (fun n h => (outsAt0 m c n h).2.2.2.1) 16 (fun _ => 0)
    (fun t j => s16 m c t j)
    (fun t h j => by rw [o16A m c t h j, zero_add])
    (fun t h j => by rw [o16B m c t h j])
    t ((flush0_16 t).mp hf) _, zero_add]
  have hy : (win0_16.blk t).view.emb y = ix3 (y 0) (y 1) (y 2) := by blk_point [idx_val t]
  have h16 : t.val < 16 := t.isLt
  have ht : 16 * (t.val / 16) = 0 := by omega
  rw [hy]
  unfold F16 Wg
  refine Fin.sum_mul_add_congr fun s k hl => ?_
  have hr : row ⟨16 * (t.val / 16) + s.val, by have := s.isLt; show _ < 16; omega⟩ k = ⟨s.val * 256 + k.val, hl⟩ := Fin.ext (by simp only; omega)
  simp only [hr]
  rfl

/-- Result 3 after the run. -/
def F17 (y : S1x256.Idx) : EReal := Gq (X Cq (hq m c)) (dq m c) (fun k h e => a6 m c (ix3 k h e)) (y 1)
theorem final17 : (dats m 0 c).arrAt 17 (cfgs 0).N = F17 m c := by
  refine (dats m 0 c).arrAt_eq_of_covers 17 _ (by decide +kernel) fun t hf y => ?_
  blk_simp
  rw [after0_17, Pipeline.eq_sum_fin_of_reset_step_apply_of_flush (fun n h => (outsAt0 m c n h).2.2.2.2.1) 16 (fun _ => 0)
    (fun t j => s17 m c t j)
    (fun t h j => by rw [o17A m c t h j, zero_add])
    (fun t h j => by rw [o17B m c t h j])
    t ((flush0_17 t).mp hf) _, zero_add]
  have hy : (win0_17.blk t).view.emb y = ix2 (y 0) (y 1) := by blk_point [idx_val t]
  have h16 : t.val < 16 := t.isLt
  have ht : 16 * (t.val / 16) = 0 := by omega
  rw [hy]
  unfold F17 Gq
  refine Fin.sum_mul_add_congr fun s k hl => ?_
  have hr : row ⟨16 * (t.val / 16) + s.val, by have := s.isLt; show _ < 16; omega⟩ k = ⟨s.val * 256 + k.val, hl⟩ := Fin.ext (by simp only; omega)
  simp only [hr]
  rfl

/-- Result 4 after the run. -/
def F18 (y : S1x128.Idx) : EReal := Gk (X Ck (hk m c)) (fun h s e => dk m c h s ⟨e.val, by omega⟩) (dv m c) (fun k h e => a7 m c (ix3 k h e)) (fun k h e => a8 m c (ix3 k h e)) (y 1)
theorem final18 : (dats m 0 c).arrAt 18 (cfgs 0).N = F18 m c := by
  refine (dats m 0 c).arrAt_eq_of_covers 18 _ (by decide +kernel) fun t hf y => ?_
  blk_simp
  rw [after0_18, Pipeline.eq_sum_fin_of_reset_step_apply_of_flush (fun n h => (outsAt0 m c n h).2.2.2.2.2) 16 (fun _ => 0)
    (fun t j => s18 m c t j)
    (fun t h j => by rw [o18A m c t h j, zero_add])
    (fun t h j => by rw [o18B m c t h j])
    t ((flush0_18 t).mp hf) _, zero_add]
  have hy : (win0_18.blk t).view.emb y = ix2 (y 0) (y 1) := by blk_point [idx_val t]
  have h16 : t.val < 16 := t.isLt
  have ht : 16 * (t.val / 16) = 0 := by omega
  rw [hy]
  unfold F18 Gk
  refine Fin.sum_mul_add_congr fun s k hl => ?_
  have hr : row ⟨16 * (t.val / 16) + s.val, by have := s.isLt; show _ < 16; omega⟩ k = ⟨s.val * 256 + k.val, hl⟩ := Fin.ext (by simp only; omega)
  simp only [hr]
  rfl

end Cert.Kernel21Ideal.Low

end
-- ==== Proof.LowRef.lean ====
/- The reference's five gradients, index by index. -/
module

public import proofs.«01_k».proof.Proof.Gen.Reference21Ideal.Run
public import proofs.«01_k».proof.Proof.LowSpec

@[expose] public section

set_option maxRecDepth 16384

noncomputable section

open Idealize.ShloMosaic Idealize.ShloMosaic.TcCoe Idealize.SL.Sem

namespace Cert.Reference21Ideal.Low

open Cert.Reference21Ideal Cert.Reference21Ideal.Gen Cert.Reference21Ideal.Value Cert.LowSpec

variable (V0 : Valuation τ sig (Elt Ideal))

/-- The arguments by index. -/
abbrev b0 : FVec Ideal S4096x512 .f32 := V0 (Proc.devRef .tc main_arg0)
abbrev b1 : FVec Ideal S8x4096x96 .f32 := V0 (Proc.devRef .tc main_arg1)
abbrev b2 : FVec Ideal S8x4096x96 .f32 := V0 (Proc.devRef .tc main_arg2)
abbrev b3 : FVec Ideal S8x4096x64 .f32 := V0 (Proc.devRef .tc main_arg3)
abbrev b4 : FVec Ideal S256 .f32 := V0 (Proc.devRef .tc main_arg4)
abbrev b5 : FVec Ideal S128 .f32 := V0 (Proc.devRef .tc main_arg5)
abbrev b6 : FVec Ideal S256x8x96 .f32 := V0 (Proc.devRef .tc main_arg6)
abbrev b7 : FVec Ideal S128x8x64 .f32 := V0 (Proc.devRef .tc main_arg7)
abbrev b8 : FVec Ideal S128x8x64 .f32 := V0 (Proc.devRef .tc main_arg8)

/-- The queries' columns and the latent rows' columns. -/
def hq (s : Fin 4096) (k : Fin 256) : EReal := b0 V0 (ix2 s ⟨k.val, by omega⟩)
def hk (s : Fin 4096) (k : Fin 128) : EReal := b0 V0 (ix2 s ⟨256 + k.val, by omega⟩)

abbrev q0 : FVec Ideal S4096x256 .f32 := res_main_v0 (F := Ideal) V0
abbrev k0 : FVec Ideal S4096x128 .f32 := res_main_v1 (F := Ideal) V0
theorem v0_at (s : Fin 4096) (k : Fin 256) : q0 V0 (ix2 s k) = hq V0 s k := by
  unfold hq; pointwise! [res_main_v0]
theorem v1_at (s : Fin 4096) (k : Fin 128) : k0 V0 (ix2 s k) = hk V0 s k := by
  unfold hk; pointwise! [res_main_v1]

abbrev Cq : EReal := Ideal.ofBits FTy.f32 0x43800000#32
abbrev Ck : EReal := Ideal.ofBits FTy.f32 0x43000000#32

theorem v12_at (s : Fin 4096) (k : Fin 256) : (res_main_v12 (F := Ideal) V0 : FVec Ideal S4096x256 .f32) (ix2 s k) = X Cq (hq V0) s k := by
  have e : X Cq (hq V0) s k = q0 V0 (ix2 s k) * Ideal.rsqrt (Ideal.div (∑ j : Fin 256,
      q0 V0 (ix2 s j) * q0 V0 (ix2 s j)) Cq
      + Ideal.ofBits FTy.f32 0x358637BD#32) := by
    simp only [v0_at]; rfl
  rw [e]; pointwise! [res_main_v12]
theorem v25_at (s : Fin 4096) (k : Fin 128) : (res_main_v25 (F := Ideal) V0 : FVec Ideal S4096x128 .f32) (ix2 s k) = X Ck (hk V0) s k := by
  have e : X Ck (hk V0) s k = k0 V0 (ix2 s k) * Ideal.rsqrt (Ideal.div (∑ j : Fin 128,
      k0 V0 (ix2 s j) * k0 V0 (ix2 s j)) Ck
      + Ideal.ofBits FTy.f32 0x358637BD#32) := by
    simp only [v1_at]; rfl
  rw [e]; pointwise! [res_main_v25]

def gq (k : Fin 256) : EReal := b4 V0 (ix1 k)
def gk (k : Fin 128) : EReal := b5 V0 (ix1 k)
theorem v15_at (s : Fin 4096) (k : Fin 256) : (res_main_v15 (F := Ideal) V0 : FVec Ideal S4096x256 .f32) (ix2 s k) = N Cq (hq V0) (gq V0) s k := by
  unfold N gq; rw [← v12_at]; pointwise! [res_main_v15]
theorem v28_at (s : Fin 4096) (k : Fin 128) : (res_main_v28 (F := Ideal) V0 : FVec Ideal S4096x128 .f32) (ix2 s k) = N Ck (hk V0) (gk V0) s k := by
  unfold N gk; rw [← v25_at]; pointwise! [res_main_v28]

theorem v49_at (s : Fin 4096) (j : Fin 16) : (res_main_v49 (F := Ideal) V0 : FVec Ideal S4096x16 .f32) (ix2 s j) = Ang s j := by
  unfold Ang; pointwise! [res_main_v49]
theorem v64_at (s : Fin 4096) (j : Fin 16) : (res_main_v64 (F := Ideal) V0 : FVec Ideal S1x4096x16 .f32) (ix3 0 s j) = Ideal.cos (Ang s j) := by
  rw [← v49_at V0]; pointwise! [res_main_v64, res_main_v50]
theorem v54_at (s : Fin 4096) (j : Fin 16) : (res_main_v54 (F := Ideal) V0 : FVec Ideal S1x4096x16 .f32) (ix3 0 s j) = Ideal.cos (Ang s j) := by
  rw [← v49_at V0]; pointwise! [res_main_v54, res_main_v50]
theorem v57_at (s : Fin 4096) (j : Fin 16) : (res_main_v57 (F := Ideal) V0 : FVec Ideal S1x4096x16 .f32) (ix3 0 s j) = Ideal.sin (Ang s j) := by
  rw [← v49_at V0]; pointwise! [res_main_v57, res_main_v51]
theorem v61_at (s : Fin 4096) (j : Fin 16) : (res_main_v61 (F := Ideal) V0 : FVec Ideal S1x4096x16 .f32) (ix3 0 s j) = Ideal.sin (Ang s j) := by
  rw [← v49_at V0]; pointwise! [res_main_v61, res_main_v51]
theorem v101_at (h : Fin 8) (s : Fin 4096) (j : Fin 16) : (res_main_v101 (F := Ideal) V0 : FVec Ideal S8x4096x16 .f32) (ix3 h s j) = b1 V0 (ix3 h s ⟨64 + j.val, by omega⟩) := by
  pointwise! [res_main_v101, res_main_v100]
theorem v102_at (h : Fin 8) (s : Fin 4096) (j : Fin 16) : (res_main_v102 (F := Ideal) V0 : FVec Ideal S8x4096x16 .f32) (ix3 h s j) = b1 V0 (ix3 h s ⟨80 + j.val, by omega⟩) := by
  pointwise [res_main_v102, res_main_v100]
  exact congrArg (V0 (Proc.devRef .tc main_arg1)) (congrArg (ix3 h s) (Fin.ext (by simp only; omega)))

/-- The turned columns, before they are filled up. -/
def M1 : FVec Ideal S8x4096x16 .f32 := addf (mulf (res_main_v102 V0) (broadcastInDim S8x4096x16 ![0, 1, 2] bcast_S1x4096x16_S8x4096x16_0_1_2 (res_main_v64 V0))) (mulf (Host.negf (res_main_v101 V0)) (broadcastInDim S8x4096x16 ![0, 1, 2] bcast_S1x4096x16_S8x4096x16_0_1_2 (res_main_v57 V0)))
def M2 : FVec Ideal S8x4096x16 .f32 := addf (mulf (res_main_v102 V0) (broadcastInDim S8x4096x16 ![0, 1, 2] bcast_S1x4096x16_S8x4096x16_0_1_2 (res_main_v61 V0))) (mulf (res_main_v101 V0) (broadcastInDim S8x4096x16 ![0, 1, 2] bcast_S1x4096x16_S8x4096x16_0_1_2 (res_main_v54 V0)))

theorem M1_at (h : Fin 8) (s : Fin 4096) (j : Fin 16) : M1 V0 (ix3 h s j) = b1 V0 (ix3 h s ⟨80 + j.val, by omega⟩) * Ideal.cos (Ang s j)
    + -(b1 V0 (ix3 h s ⟨64 + j.val, by omega⟩) * Ideal.sin (Ang s j)) := by
  rw [← EReal.neg_mul, ← v64_at V0, ← v57_at V0, ← v101_at, ← v102_at]; pointwise! [M1]
theorem M2_at (h : Fin 8) (s : Fin 4096) (j : Fin 16) : M2 V0 (ix3 h s j) = b1 V0 (ix3 h s ⟨80 + j.val, by omega⟩) * Ideal.sin (Ang s j)
    + b1 V0 (ix3 h s ⟨64 + j.val, by omega⟩) * Ideal.cos (Ang s j) := by
  rw [← v54_at V0, ← v61_at V0, ← v101_at, ← v102_at]; pointwise! [M2]

/-- The turned columns filled up to 32, and to the whole row. -/
def U32 (P Q : FVec Ideal S8x4096x16 .f32) : FVec Ideal S8x4096x32 .f32 := addf (pad S8x4096x32 ![0, 0, 16] ![0, 0, 0] ![0, 0, 0] P (constant S_ .f32 0x00000000#32) pads_S8x4096x16_S8x4096x32_000_000_1600 h_S_) (pad S8x4096x32 ![0, 0, 0] ![0, 0, 16] ![0, 0, 0] Q (constant S_ .f32 0x00000000#32) pads_S8x4096x16_S8x4096x32_000_000_0160 h_S_)
def U96 (P : FVec Ideal S8x4096x32 .f32) : FVec Ideal S8x96x4096 .f32 := transpose S8x96x4096 [0, 2, 1] (addf (pad S8x4096x96 ![0, 0, 64] ![0, 0, 0] ![0, 0, 0] P (constant S_ .f32 0x00000000#32) pads_S8x4096x32_S8x4096x96_000_000_6400 h_S_) (pad S8x4096x96 ![0, 0, 0] ![0, 0, 32] ![0, 0, 0] (extractStridedSlice S8x4096x64 ![0, 0, 0] (V0 (Proc.devRef .tc main_arg1)) slices_S8x4096x96_S8x4096x64_0_0_0) (constant S_ .f32 0x00000000#32) pads_S8x4096x64_S8x4096x96_000_000_0320 h_S_)) transposes_S8x4096x96_S8x96x4096_0_2_1

theorem U32_at (P Q : FVec Ideal S8x4096x16 .f32) (h : Fin 8) (s : Fin 4096) (e : Fin 32) : U32 P Q (ix3 h s e)
    = if h' : e.val < 16 then Q (ix3 h s ⟨e.val, h'⟩) else P (ix3 h s ⟨e.val - 16, by omega⟩) := by
  by_cases h' : e.val < 16
  · rw [dif_pos h']
    have h2 : ¬ (16 ≤ e.val ∧ e.val - 16 < 16) := by omega
    pointwise [U32]
    rw [dif_neg h2, dif_pos h', zero_add]
  · rw [dif_neg h']
    have h2 : 16 ≤ e.val ∧ e.val - 16 < 16 := by omega
    pointwise [U32]
    rw [dif_pos h2, dif_neg h', add_zero]

theorem U96_at (P : FVec Ideal S8x4096x32 .f32) (h : Fin 8) (s : Fin 4096) (e : Fin 96) : U96 V0 P (ix3 h e s)
    = if h' : e.val < 64 then b1 V0 (ix3 h s e) else P (ix3 h s ⟨e.val - 64, by omega⟩) := by
  by_cases h' : e.val < 64
  · rw [dif_pos h']
    have h2 : ¬ (64 ≤ e.val ∧ e.val - 64 < 32) := by omega
    pointwise [U96]
    rw [dif_neg h2, dif_pos h', zero_add]
  · rw [dif_neg h']
    have h2 : 64 ≤ e.val ∧ e.val - 64 < 32 := by omega
    pointwise [U96]
    rw [dif_pos h2, dif_neg h', add_zero]

theorem v129_at (h : Fin 8) (s : Fin 4096) (e : Fin 96) : (res_main_v129 (F := Ideal) V0 : FVec Ideal S8x96x4096 .f32) (ix3 h e s)
    = UD (fun e => b1 V0 (ix3 h s e)) (Ang s) e := by
  refine Eq.trans (b := U96 V0 (U32 (M1 V0) (M2 V0)) (ix3 h e s)) rfl ?_
  rw [U96_at]
  unfold UD
  by_cases h1 : e.val < 64
  · rw [dif_pos h1, dif_pos h1]
  · rw [dif_neg h1, dif_neg h1, U32_at]
    by_cases h2 : e.val < 80
    · rw [dif_pos (show (⟨e.val - 64, by omega⟩ : Fin 32).val < 16 by simp only; omega), dif_pos h2, M2_at, add_comm]
      have e1 : (⟨64 + (e.val - 64), by omega⟩ : Fin 96) = e := Fin.ext (by simp only; omega)
      have e2 : (⟨80 + (e.val - 64), by omega⟩ : Fin 96) = ⟨e.val + 16, by omega⟩ := Fin.ext (by simp only; omega)
      simp only [e1, e2]
    · rw [dif_neg (show ¬ (⟨e.val - 64, by omega⟩ : Fin 32).val < 16 by simp only; omega), dif_neg h2, M1_at]
      have e1 : (⟨64 + (e.val - 64 - 16), by omega⟩ : Fin 96) = ⟨e.val - 16, by omega⟩ := Fin.ext (by simp only; omega)
      have e2 : (⟨80 + (e.val - 64 - 16), by omega⟩ : Fin 96) = e := Fin.ext (by simp only; omega)
      have e3 : (⟨e.val - 64 - 16, by omega⟩ : Fin 16) = ⟨e.val - 80, by omega⟩ := Fin.ext (by simp only; omega)
      simp only [e1, e2, e3]

theorem v120_at (h : Fin 8) (e : Fin 64) (s : Fin 4096) : (res_main_v120 (F := Ideal) V0 : FVec Ideal S8x64x4096 .f32) (ix3 h e s) = b3 V0 (ix3 h s e) := by
  pointwise! [res_main_v120]
theorem v124_at (h : Fin 8) (e : Fin 64) (s : Fin 4096) : (res_main_v124 (F := Ideal) V0 : FVec Ideal S8x64x4096 .f32) (ix3 h e s) = b2 V0 (ix3 h s ⟨e.val, by omega⟩) := by
  pointwise! [res_main_v124]

/-- The reference's results, as functions of the normalised rows and the cotangents. -/
def fWq (D : FVec Ideal S8x96x4096 .f32) (n : FVec Ideal S4096x256 .f32) : FVec Ideal S8x256x128 .f32 :=
  concatenate S8x256x128 2 [⟨S8x256x96, (transpose S8x256x96 [1, 0, 2] (transpose S256x8x96 [2, 0, 1] (Host.dotGeneral (φ₁ := .f32) (φ₂ := .f32) (F := Ideal) dot_S8x96x4096_S4096x256_S8x96x256_2_0_01_1_n_n none D n) transposes_S8x96x256_S256x8x96_2_0_1) transposes_S256x8x96_S8x256x96_1_0_2)⟩, ⟨S8x256x32, (broadcastInDim S8x256x32 ![] bcast_S_S8x256x32 (constant (F := Ideal) S_ .f32 0x00000000#32))⟩] concatenates_S8x256x96_S8x256x32_S8x256x128_d2
def fWv (D : FVec Ideal S8x64x4096 .f32) (n : FVec Ideal S4096x128 .f32) : FVec Ideal S8x128x64 .f32 :=
  transpose S8x128x64 [1, 0, 2] (transpose S128x8x64 [2, 0, 1] (Host.dotGeneral (φ₁ := .f32) (φ₂ := .f32) (F := Ideal) dot_S8x64x4096_S4096x128_S8x64x128_2_0_01_1_n_n none D n) transposes_S8x64x128_S128x8x64_2_0_1) transposes_S128x8x64_S8x128x64_1_0_2
def fOver (n : FVec Ideal S4096x128 .f32) (d : FVec Ideal S8x4096x96 .f32) : FVec Ideal S8x128x32 .f32 :=
  transpose S8x128x32 [1, 0, 2] (Host.dotGeneral (φ₁ := .f32) (φ₂ := .f32) (F := Ideal) dot_S4096x128_S8x4096x32_S128x8x32_0_1_1_02_n_n none n (extractStridedSlice S8x4096x32 ![0, 0, 64] d slices_S8x4096x96_S8x4096x32_0_0_64)) transposes_S128x8x32_S8x128x32_1_0_2
def fWk (a : FVec Ideal S8x128x64 .f32) (b : FVec Ideal S8x128x32 .f32) : FVec Ideal S8x128x128 .f32 :=
  concatenate S8x128x128 2 [⟨S8x128x64, a⟩, ⟨S8x128x32, b⟩, ⟨S8x128x32, (broadcastInDim S8x128x32 ![] bcast_S_S8x128x32 (constant (F := Ideal) S_ .f32 0x00000000#32))⟩] concatenates_S8x128x64_S8x128x32_S8x128x32_S8x128x128_d2
def fGq (x : FVec Ideal S4096x256 .f32) (D : FVec Ideal S8x96x4096 .f32) (w : FVec Ideal S256x8x96 .f32) : FVec Ideal S1x256 .f32 :=
  broadcastInDim S1x256 ![1] bcast_S256_S1x256_1 (Host.reduceAdd (shapeCast S1x256 (Host.reduceAdd (mulf x (Host.dotGeneral (φ₁ := .f32) (φ₂ := .f32) dot_S8x96x4096_S256x8x96_S4096x256_01_12_2_0_n_n none D w)) (constant S_ .f32 0x00000000#32) reducesTo_S4096x256_S256_d0 h_S_) shapeCasts_S256_S1x256) (constant S_ .f32 0x00000000#32) reducesTo_S1x256_S256_d0 h_S_)
def fGk (x : FVec Ideal S4096x128 .f32) (Dv Dk : FVec Ideal S8x64x4096 .f32) (wv wk : FVec Ideal S128x8x64 .f32) : FVec Ideal S1x128 .f32 :=
  broadcastInDim S1x128 ![1] bcast_S128_S1x128_1 (Host.reduceAdd (shapeCast S1x128 (Host.reduceAdd (mulf x (addf (Host.dotGeneral (φ₁ := .f32) (φ₂ := .f32) dot_S8x64x4096_S128x8x64_S4096x128_01_12_2_0_n_n none Dv wv) (Host.dotGeneral (φ₁ := .f32) (φ₂ := .f32) dot_S8x64x4096_S128x8x64_S4096x128_01_12_2_0_n_n none Dk wk))) (constant S_ .f32 0x00000000#32) reducesTo_S4096x128_S128_d0 h_S_) shapeCasts_S128_S1x128) (constant S_ .f32 0x00000000#32) reducesTo_S1x128_S128_d0 h_S_)

theorem fWq_at (D : FVec Ideal S8x96x4096 .f32) (n : FVec Ideal S4096x256 .f32) (h : Fin 8) (k : Fin 256) (q : Fin 128) :
    fWq D n (ix3 h k q) = if h' : q.val < 96 then ∑ s : Fin 4096, D (ix3 h ⟨q.val, h'⟩ s) * n (ix2 s k) else 0 := by
  pointwise! [fWq]
theorem fWv_at (D : FVec Ideal S8x64x4096 .f32) (n : FVec Ideal S4096x128 .f32) (h : Fin 8) (k : Fin 128) (q : Fin 64) :
    fWv D n (ix3 h k q) = ∑ s : Fin 4096, D (ix3 h q s) * n (ix2 s k) := by
  pointwise! [fWv]
theorem fOver_at (n : FVec Ideal S4096x128 .f32) (d : FVec Ideal S8x4096x96 .f32) (h : Fin 8) (k : Fin 128) (q : Fin 32) :
    fOver n d (ix3 h k q) = ∑ s : Fin 4096, n (ix2 s k) * d (ix3 h s ⟨64 + q.val, by omega⟩) := by
  pointwise! [fOver]
theorem fWk_at (a : FVec Ideal S8x128x64 .f32) (b : FVec Ideal S8x128x32 .f32) (h : Fin 8) (k : Fin 128) (q : Fin 128) :
    fWk a b (ix3 h k q) = if h' : q.val < 64 then a (ix3 h k ⟨q.val, h'⟩) else if h'' : q.val - 64 < 32 then b (ix3 h k ⟨q.val - 64, h''⟩) else 0 := by
  pointwise! [fWk]
theorem fGq_at (x : FVec Ideal S4096x256 .f32) (D : FVec Ideal S8x96x4096 .f32) (w : FVec Ideal S256x8x96 .f32) (k : Fin 256) :
    fGq x D w (ix2 0 k) = ∑ s : Fin 4096, x (ix2 s k) * ∑ h : Fin 8, ∑ e : Fin 96, D (ix3 h e s) * w (ix3 k h e) := by
  pointwise [fGq]
  rw [Fin.sum_univ_one]
theorem fGk_at (x : FVec Ideal S4096x128 .f32) (Dv Dk : FVec Ideal S8x64x4096 .f32) (wv wk : FVec Ideal S128x8x64 .f32) (k : Fin 128) :
    fGk x Dv Dk wv wk (ix2 0 k) = ∑ s : Fin 4096, x (ix2 s k) * (∑ h : Fin 8, ∑ e : Fin 64, Dv (ix3 h e s) * wv (ix3 k h e)
      + ∑ h : Fin 8, ∑ e : Fin 64, Dk (ix3 h e s) * wk (ix3 k h e)) := by
  pointwise [fGk]
  rw [Fin.sum_univ_one]

/-- The five results of the reference. -/
def out0 : FVec Ideal S8x256x128 .f32 := fWq (res_main_v129 V0) (res_main_v15 V0)
def out1 : FVec Ideal S8x128x128 .f32 := fWk (fWv (res_main_v124 V0) (res_main_v28 V0)) (fOver (res_main_v28 V0) (b2 V0))
def out2 : FVec Ideal S8x128x64 .f32 := fWv (res_main_v120 V0) (res_main_v28 V0)
def out3 : FVec Ideal S1x256 .f32 := fGq (res_main_v12 V0) (res_main_v129 V0) (b6 V0)
def out4 : FVec Ideal S1x128 .f32 := fGk (res_main_v25 V0) (res_main_v120 V0) (res_main_v124 V0) (b8 V0) (b7 V0)

theorem out0_at (h : Fin 8) (k : Fin 256) (q : Fin 128) : out0 V0 (ix3 h k q)
    = Wg (N Cq (hq V0) (gq V0)) (fun s => UD (fun e => b1 V0 (ix3 h s e)) (Ang s)) k q := by
  refine (fWq_at ..).trans ?_
  unfold Wg
  by_cases h' : q.val < 96
  · rw [dif_pos h']
    refine Finset.sum_congr rfl fun s _ => ?_
    rw [ext_lo _ _ h', mul_comm (G := EReal)]
    exact congrArg₂ (fun a b : EReal => a * b) (v15_at V0 s k) (v129_at V0 h s _)
  · rw [dif_neg h']
    refine (Finset.sum_eq_zero fun s _ => ?_).symm
    rw [ext_hi _ _ h', mul_zero (M₀ := EReal)]

theorem out2_at (h : Fin 8) (k : Fin 128) (q : Fin 64) : out2 V0 (ix3 h k q) = Wg (N Ck (hk V0) (gk V0)) (fun s e => b3 V0 (ix3 h s e)) k q := by
  refine (fWv_at ..).trans ?_
  unfold Wg
  refine Finset.sum_congr rfl fun s _ => ?_
  rw [ext_lo _ _ q.isLt, mul_comm (G := EReal)]
  exact congrArg₂ (fun a b : EReal => a * b) (v28_at V0 s k) (v120_at V0 h q s)

theorem out1_at (h : Fin 8) (k : Fin 128) (q : Fin 128) : out1 V0 (ix3 h k q) = Wg (N Ck (hk V0) (gk V0)) (fun s e => b2 V0 (ix3 h s e)) k q := by
  refine (fWk_at ..).trans ?_
  unfold Wg
  by_cases h' : q.val < 64
  · rw [dif_pos h']
    refine (fWv_at ..).trans (Finset.sum_congr rfl fun s _ => ?_)
    rw [ext_lo _ _ (by omega : q.val < 96), mul_comm (G := EReal)]
    exact congrArg₂ (fun a b : EReal => a * b) (v28_at V0 s k) (v124_at V0 h ⟨q.val, h'⟩ s)
  · rw [dif_neg h']
    by_cases h'' : q.val - 64 < 32
    · rw [dif_pos h'']
      refine (fOver_at ..).trans (Finset.sum_congr rfl fun s _ => ?_)
      rw [ext_lo _ _ (by omega : q.val < 96)]
      exact congrArg₂ (fun a b : EReal => a * b) (v28_at V0 s k) (congrArg (b2 V0) (congrArg (ix3 h s) (Fin.ext (by simp only; omega))))
    · rw [dif_neg h'']
      refine (Finset.sum_eq_zero fun s _ => ?_).symm
      rw [ext_hi _ _ (by omega), mul_zero (M₀ := EReal)]

theorem out3_at (k : Fin 256) : out3 V0 (ix2 0 k)
    = Gq (X Cq (hq V0)) (fun h s => UD (fun e => b1 V0 (ix3 h s e)) (Ang s)) (fun k h e => b6 V0 (ix3 k h e)) k := by
  refine (fGq_at ..).trans (Finset.sum_congr rfl fun s _ => ?_)
  rw [mul_comm (G := EReal)]
  refine congrArg₂ (fun a b : EReal => a * b) (Finset.sum_congr rfl fun h _ => Finset.sum_congr rfl fun e _ => ?_) (v12_at V0 s k)
  exact congrArg (fun a : EReal => a * b6 V0 (ix3 k h e)) (v129_at V0 h s e)

theorem out4_at (k : Fin 128) : out4 V0 (ix2 0 k)
    = Gk (X Ck (hk V0)) (fun h s e => b2 V0 (ix3 h s ⟨e.val, by omega⟩)) (fun h s e => b3 V0 (ix3 h s e))
      (fun k h e => b7 V0 (ix3 k h e)) (fun k h e => b8 V0 (ix3 k h e)) k := by
  refine (fGk_at ..).trans (Finset.sum_congr rfl fun s _ => ?_)
  rw [mul_comm (G := EReal), add_comm, ← Finset.sum_add_distrib]
  refine congrArg₂ (fun a b : EReal => a * b) (Finset.sum_congr rfl fun h _ => ?_) (v25_at V0 s k)
  refine congrArg₂ (fun a b : EReal => a + b) (Finset.sum_congr rfl fun e _ => ?_) (Finset.sum_congr rfl fun e _ => ?_)
  · exact congrArg (fun a : EReal => a * b7 V0 (ix3 k h e)) (v124_at V0 h e s)
  · exact congrArg (fun a : EReal => a * b8 V0 (ix3 k h e)) (v120_at V0 h e s)

end Cert.Reference21Ideal.Low

end
-- ==== Proof.LowEq.lean ====
/- The call mla_prep_bwd: its reference's results are what the kernel leaves. -/
module

public import proofs.«01_k».proof.Proof.LowFin
public import proofs.«01_k».proof.Proof.LowRef
public import proofs.«01_k».proof.Proof.Gen.Reference21Ideal.Run
public import Idealize.ShloMosaic.Lib.Claim

@[expose] public section

set_option maxRecDepth 16384

noncomputable section

open Idealize.ShloMosaic Idealize.ShloMosaic.TcCoe Idealize.SL.Sem Idealize.ShloMosaic.StableHlo

namespace Cert.Reference21Ideal.Low

open Cert.Reference21Ideal Cert.Reference21Ideal.Gen

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = out0 (launchContents m c)
      ∧ r.2.mem ((c.tc : Thread nD τ).loc main_v162) = out1 (launchContents m c)
      ∧ r.2.mem ((c.tc : Thread nD τ).loc main_v163) = out2 (launchContents m c)
      ∧ r.2.mem ((c.tc : Thread nD τ).loc main_v164) = out3 (launchContents m c)
      ∧ r.2.mem ((c.tc : Thread nD τ).loc main_v165) = out4 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_mono (Cert.Reference21Ideal.Value.run m ρ) fun r hr c => hr c

end Cert.Reference21Ideal.Low

namespace Cert.Kernel21Ideal.Low

variable (m : (ℓ : Loc Cert.Kernel21Ideal.nD Cert.Kernel21Ideal.τ Cert.Kernel21Ideal.sig) → Buf (Elt Ideal) ℓ) (c : Dev Cert.Kernel21Ideal.nD)
  (U : Valuation Cert.Reference21Ideal.τ Cert.Reference21Ideal.sig (Elt Ideal))

theorem hq_eq (e : Cert.Reference21Ideal.Low.b0 U = a0 m c) : Cert.Reference21Ideal.Low.hq U = hq m c := funext fun s => funext fun k => congrFun e _
theorem hk_eq (e : Cert.Reference21Ideal.Low.b0 U = a0 m c) : Cert.Reference21Ideal.Low.hk U = hk m c := funext fun s => funext fun k => congrFun e _
theorem gq_eq (e : Cert.Reference21Ideal.Low.b4 U = a4 m c) : Cert.Reference21Ideal.Low.gq U = gq m c := funext fun k => congrFun e _
theorem gk_eq (e : Cert.Reference21Ideal.Low.b5 U = a5 m c) : Cert.Reference21Ideal.Low.gk U = gk m c := funext fun k => congrFun e _

theorem res0 (e0 : Cert.Reference21Ideal.Low.b0 U = a0 m c) (e1 : Cert.Reference21Ideal.Low.b1 U = a1 m c) (e4 : Cert.Reference21Ideal.Low.b4 U = a4 m c) :
    Cert.Reference21Ideal.Low.out0 U = F14 m c := by
  funext y
  have hy : y = ix3 (n0 := 8) (n1 := 256) (n2 := 128) (y 0) (y 1) (y 2) := eq_ix3 y
  refine (congrArg _ hy).trans ((Cert.Reference21Ideal.Low.out0_at U (y 0) (y 1) (y 2)).trans ?_)
  rw [hq_eq m c U e0, gq_eq m c U e4, e1]
  rfl

theorem res1 (e0 : Cert.Reference21Ideal.Low.b0 U = a0 m c) (e2 : Cert.Reference21Ideal.Low.b2 U = a2 m c) (e5 : Cert.Reference21Ideal.Low.b5 U = a5 m c) :
    Cert.Reference21Ideal.Low.out1 U = F15 m c := by
  funext y
  have hy : y = ix3 (n0 := 8) (n1 := 128) (n2 := 128) (y 0) (y 1) (y 2) := eq_ix3 y
  refine (congrArg _ hy).trans ((Cert.Reference21Ideal.Low.out1_at U (y 0) (y 1) (y 2)).trans ?_)
  rw [hk_eq m c U e0, gk_eq m c U e5, e2]
  rfl

theorem res2 (e0 : Cert.Reference21Ideal.Low.b0 U = a0 m c) (e3 : Cert.Reference21Ideal.Low.b3 U = a3 m c) (e5 : Cert.Reference21Ideal.Low.b5 U = a5 m c) :
    Cert.Reference21Ideal.Low.out2 U = F16 m c := by
  funext y
  have hy : y = ix3 (n0 := 8) (n1 := 128) (n2 := 64) (y 0) (y 1) (y 2) := eq_ix3 y
  refine (congrArg _ hy).trans ((Cert.Reference21Ideal.Low.out2_at U (y 0) (y 1) (y 2)).trans ?_)
  rw [hk_eq m c U e0, gk_eq m c U e5, e3]
  rfl

theorem res3 (e0 : Cert.Reference21Ideal.Low.b0 U = a0 m c) (e1 : Cert.Reference21Ideal.Low.b1 U = a1 m c) (e6 : Cert.Reference21Ideal.Low.b6 U = a6 m c) :
    Cert.Reference21Ideal.Low.out3 U = F17 m c := by
  funext y
  have hz : y 0 = (⟨0, Nat.one_pos⟩ : Fin 1) := Subsingleton.elim (α := Fin 1) _ _
  have hy : y = ix2 (n0 := 1) (n1 := 256) 0 (y 1) := (eq_ix2 y).trans (congrArg (fun z : Fin 1 => ix2 (n0 := 1) (n1 := 256) z (y 1)) hz)
  refine (congrArg _ hy).trans ((Cert.Reference21Ideal.Low.out3_at U (y 1)).trans ?_)
  rw [hq_eq m c U e0, e1, e6]
  rfl

theorem res4 (e0 : Cert.Reference21Ideal.Low.b0 U = a0 m c) (e2 : Cert.Reference21Ideal.Low.b2 U = a2 m c) (e3 : Cert.Reference21Ideal.Low.b3 U = a3 m c) (e7 : Cert.Reference21Ideal.Low.b7 U = a7 m c) (e8 : Cert.Reference21Ideal.Low.b8 U = a8 m c) :
    Cert.Reference21Ideal.Low.out4 U = F18 m c := by
  funext y
  have hz : y 0 = (⟨0, Nat.one_pos⟩ : Fin 1) := Subsingleton.elim (α := Fin 1) _ _
  have hy : y = ix2 (n0 := 1) (n1 := 128) 0 (y 1) := (eq_ix2 y).trans (congrArg (fun z : Fin 1 => ix2 (n0 := 1) (n1 := 128) z (y 1)) hz)
  refine (congrArg _ hy).trans ((Cert.Reference21Ideal.Low.out4_at U (y 1)).trans ?_)
  rw [hk_eq m c U e0, e2, e3, e7, e8]
  rfl

end Cert.Kernel21Ideal.Low

end
-- ==== Proof.Claim21.lean ====
/- The claims about the programs of Kernel21 and Reference21. -/
module

public import proofs.«01_k».proof.Defs
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.LowEq
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C21

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono (fun r h => ⟨fun c => (h c).2.2.2.2.2, sem_eq_zero_of_no_sems (by decide) r.2⟩)
    (Cert.Reference21Ideal.Value.run (F := Ideal) m ρ)
theorem preserves : Cert.preserves_Kernel21_Kernel21Ideal := trivial

set_option maxHeartbeats 4000000 in
/-- Both programs end with the same five result arrays. -/
theorem algebraic : Cert.algebraic_Kernel21Ideal_Reference21Ideal := by
  intro m g m' g' hpre hagree
  refine ⟨fun c => Cert.Kernel21Ideal.Low.F14 m c, fun c => Cert.Kernel21Ideal.Low.F15 m c, fun c => Cert.Kernel21Ideal.Low.F16 m c, fun c => Cert.Kernel21Ideal.Low.F17 m c, fun c => Cert.Kernel21Ideal.Low.F18 m c, ?_, ?_⟩
  · refine θ_run_mono (Cert.Kernel21Ideal.Value.run_blocks m g) ?_
    intro r hr c
    obtain ⟨_, k1, k2, k3, k4, k5, kargs⟩ := hr c
    exact ⟨k1.trans (Cert.Kernel21Ideal.Low.final14 m c), k2.trans (Cert.Kernel21Ideal.Low.final15 m c), k3.trans (Cert.Kernel21Ideal.Low.final16 m c), k4.trans (Cert.Kernel21Ideal.Low.final17 m c), k5.trans (Cert.Kernel21Ideal.Low.final18 m c), kargs⟩
  · refine θ_run_mono (Cert.Reference21Ideal.Low.run m' g') ?_
    intro r hr c
    obtain ⟨h0, h1, h2, h3, h4, hargs⟩ := hr c
    obtain ⟨a0, a1, a2, a3, a4, a5, a6, a7, a8⟩ := hagree c
    exact ⟨h0.trans (Cert.Kernel21Ideal.Low.res0 m c _ a0 a1 a4), h1.trans (Cert.Kernel21Ideal.Low.res1 m c _ a0 a2 a5), h2.trans (Cert.Kernel21Ideal.Low.res2 m c _ a0 a3 a5),
      h3.trans (Cert.Kernel21Ideal.Low.res3 m c _ a0 a1 a6), h4.trans (Cert.Kernel21Ideal.Low.res4 m c _ a0 a2 a3 a7 a8), hargs⟩

end Cert.Proof.C21

end
-- ==== Proof.FwdTab.lean ====
/- The call mla_prep_fwd: the host lines that prepare its arguments. -/
module

public import proofs.«01_k».proof.Proof.Gen.Kernel22Ideal.Frame
public import proofs.«01_k».proof.Proof.LowTab
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel22Ideal.Fwd

open Cert.Kernel22Ideal Cert.Kernel22Ideal.Gen Cert.LowSpec
open Cert.Kernel21Ideal.Low (ang ang_at tab32 tab35 tab39 tab32_at tab35_at tab39_at zb zb_at row256 row128)

variable (m : (ℓ : Loc nD τ sig) → Buf (Elt Ideal) ℓ) (c : Dev nD)

/-- The arguments by index. -/
abbrev a0 : FVec Ideal S4096x416 .f32 := m ((c.tc : Thread nD τ).loc main_arg0)
abbrev a1 : FVec Ideal S256 .f32 := m ((c.tc : Thread nD τ).loc main_arg1)
abbrev a2 : FVec Ideal S128 .f32 := m ((c.tc : Thread nD τ).loc main_arg2)
abbrev a3 : FVec Ideal S256x8x96 .f32 := m ((c.tc : Thread nD τ).loc main_arg3)
abbrev a4 : FVec Ideal S128x8x64 .f32 := m ((c.tc : Thread nD τ).loc main_arg4)
abbrev a5 : FVec Ideal S128x8x64 .f32 := m ((c.tc : Thread nD τ).loc main_arg5)

variable (W : Valuation τ sig (Elt Ideal))

/-- The buffers before the concatenation number 12. -/
abbrev pre12 : Valuation τ sig (Elt Ideal) := StableHlo.after ((hostOps0_4 (F := Ideal)).take 8) W

theorem skip12 : StableHlo.after ((hostOps0_4 (F := Ideal)).drop 9) W (Proc.devRef .tc main_v12) = W (Proc.devRef .tc main_v12) := by
  simp only [hostOps0_4, List.drop_succ_cons, List.drop_zero]; after_results_simp

theorem pre12_8 : pre12 W (Proc.devRef .tc main_v8) = extractStridedSlice S4096x384 ![0, 0] (W (Proc.devRef .tc main_arg0)) slices_S4096x416_S4096x384_0_0 := by
  simp only [pre12, hostOps0_4, List.take_succ_cons, List.take_zero]; after_results_simp; first | done | rfl

theorem pre12_9 : pre12 W (Proc.devRef .tc main_v9) = broadcastInDim S4096x64 ![] bcast_S_S4096x64 (constant (F := Ideal) S_ FTy.f32 0x00000000#32) := by
  simp only [pre12, hostOps0_4, List.take_succ_cons, List.take_zero]; after_results_simp; first | done | rfl

theorem pre12_10 : pre12 W (Proc.devRef .tc main_v10) = extractStridedSlice S4096x32 ![0, 384] (W (Proc.devRef .tc main_arg0)) slices_S4096x416_S4096x32_0_384 := by
  simp only [pre12, hostOps0_4, List.take_succ_cons, List.take_zero]; after_results_simp; first | done | rfl

theorem pre12_11 : pre12 W (Proc.devRef .tc main_v11) = broadcastInDim S4096x32 ![] bcast_S_S4096x32 (constant (F := Ideal) S_ FTy.f32 0x00000000#32) := by
  simp only [pre12, hostOps0_4, List.take_succ_cons, List.take_zero]; after_results_simp; first | done | rfl

/-- The rows as the call reads them. -/
def hx (a : FVec Ideal S4096x416 .f32) : FVec Ideal S4096x512 .f32 := concatenate S4096x512 1 [⟨S4096x384, extractStridedSlice S4096x384 ![0, 0] a slices_S4096x416_S4096x384_0_0⟩, ⟨S4096x64, broadcastInDim S4096x64 ![] bcast_S_S4096x64 (constant (F := Ideal) S_ FTy.f32 0x00000000#32)⟩, ⟨S4096x32, extractStridedSlice S4096x32 ![0, 384] a slices_S4096x416_S4096x32_0_384⟩, ⟨S4096x32, broadcastInDim S4096x32 ![] bcast_S_S4096x32 (constant (F := Ideal) S_ FTy.f32 0x00000000#32)⟩] concatenates_S4096x384_S4096x64_S4096x32_S4096x32_S4096x512_d1

theorem after_12 : StableHlo.after (hostOps0_4 (F := Ideal)) W (Proc.devRef .tc main_v12) = hx (W (Proc.devRef .tc main_arg0)) := by
  have h0 : StableHlo.after (hostOps0_4 (F := Ideal)) W (Proc.devRef .tc main_v12) = StableHlo.after ((hostOps0_4 (F := Ideal)).drop 9)
      ((StableHlo.nary (τ := τ) (Val := Elt Ideal) ![main_v8, main_v9, main_v10, main_v11] main_v12 (fun u => (concatenate S4096x512 1 [⟨S4096x384, (u 0 : (⟨S4096x384, .f32⟩ : BufTy).Contents (Elt Ideal))⟩, ⟨S4096x64, (u 1 : (⟨S4096x64, .f32⟩ : BufTy).Contents (Elt Ideal))⟩, ⟨S4096x32, (u 2 : (⟨S4096x32, .f32⟩ : BufTy).Contents (Elt Ideal))⟩, ⟨S4096x32, (u 3 : (⟨S4096x32, .f32⟩ : BufTy).Contents (Elt Ideal))⟩] concatenates_S4096x384_S4096x64_S4096x32_S4096x32_S4096x512_d1 : (⟨S4096x512, .f32⟩ : BufTy).Contents (Elt Ideal)))).result (pre12 W)) (Proc.devRef .tc main_v12) := by
    simp only [pre12, hostOps0_4, List.take_succ_cons, List.take_zero, List.drop_succ_cons, List.drop_zero, StableHlo.after_cons, StableHlo.after_nil]
  have h1 : StableHlo.after (hostOps0_4 (F := Ideal)) W (Proc.devRef .tc main_v12) = concatenate S4096x512 1 [⟨S4096x384, pre12 W (Proc.devRef .tc main_v8)⟩, ⟨S4096x64, pre12 W (Proc.devRef .tc main_v9)⟩, ⟨S4096x32, pre12 W (Proc.devRef .tc main_v10)⟩, ⟨S4096x32, pre12 W (Proc.devRef .tc main_v11)⟩] concatenates_S4096x384_S4096x64_S4096x32_S4096x32_S4096x512_d1 := by
    rw [h0, skip12, StableHlo.nary_result]; rfl
  rw [h1, pre12_8, pre12_9, pre12_10, pre12_11]; rfl

theorem V_12 : V m c main_v12 = hx (a0 m c) := by
  have e : StableHlo.after (List.flatten [hostOps0, hostOps0_1, hostOps0_2, hostOps0_3]) (fun b => m (c, b)) (Proc.devRef .tc main_arg0) = a0 m c := by
    simp only [hostOps0, hostOps0_1, hostOps0_2, hostOps0_3, List.flatten_cons, List.flatten_nil, List.append_nil, List.cons_append, List.nil_append]; after_results_simp
  rw [← e, ← after_12 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The buffers before the concatenation number 33. -/
abbrev pre33 : Valuation τ sig (Elt Ideal) := StableHlo.after ((hostOps0_4 (F := Ideal)).take 33) W

theorem skip33 : StableHlo.after ((hostOps0_4 (F := Ideal)).drop 34) W (Proc.devRef .tc main_v33) = W (Proc.devRef .tc main_v33) := by
  simp only [hostOps0_4, List.drop_succ_cons, List.drop_zero]; after_results_simp

theorem pre33_31 : pre33 W (Proc.devRef .tc main_v31) = broadcastInDim S4096x64 ![] bcast_S_S4096x64 (constant (F := Ideal) S_ FTy.f32 0x3F800000#32) := by
  simp only [pre33, hostOps0_4, List.take_succ_cons, List.take_zero]; after_results_simp; first | done | rfl

theorem pre33_29 : pre33 W (Proc.devRef .tc main_v29) = Host.cos ang := by
  simp only [pre33, hostOps0_4, List.take_succ_cons, List.take_zero]; after_results_simp; first | done | rfl

theorem pre33_32 : pre33 W (Proc.devRef .tc main_v32) = broadcastInDim S4096x32 ![] bcast_S_S4096x32 (constant (F := Ideal) S_ FTy.f32 0x00000000#32) := by
  simp only [pre33, hostOps0_4, List.take_succ_cons, List.take_zero]; after_results_simp; first | done | rfl

theorem after_33 : StableHlo.after (hostOps0_4 (F := Ideal)) W (Proc.devRef .tc main_v33) = tab32 ang := by
  have h0 : StableHlo.after (hostOps0_4 (F := Ideal)) W (Proc.devRef .tc main_v33) = StableHlo.after ((hostOps0_4 (F := Ideal)).drop 34)
      ((StableHlo.nary (τ := τ) (Val := Elt Ideal) ![main_v31, main_v29, main_v29, main_v32] main_v33 (fun u => (concatenate S4096x128 1 [⟨S4096x64, (u 0 : (⟨S4096x64, .f32⟩ : BufTy).Contents (Elt Ideal))⟩, ⟨S4096x16, (u 1 : (⟨S4096x16, .f32⟩ : BufTy).Contents (Elt Ideal))⟩, ⟨S4096x16, (u 2 : (⟨S4096x16, .f32⟩ : BufTy).Contents (Elt Ideal))⟩, ⟨S4096x32, (u 3 : (⟨S4096x32, .f32⟩ : BufTy).Contents (Elt Ideal))⟩] concatenates_S4096x64_S4096x16_S4096x16_S4096x32_S4096x128_d1 : (⟨S4096x128, .f32⟩ : BufTy).Contents (Elt Ideal)))).result (pre33 W)) (Proc.devRef .tc main_v33) := by
    simp only [pre33, hostOps0_4, List.take_succ_cons, List.take_zero, List.drop_succ_cons, List.drop_zero, StableHlo.after_cons, StableHlo.after_nil]
  have h1 : StableHlo.after (hostOps0_4 (F := Ideal)) W (Proc.devRef .tc main_v33) = concatenate S4096x128 1 [⟨S4096x64, pre33 W (Proc.devRef .tc main_v31)⟩, ⟨S4096x16, pre33 W (Proc.devRef .tc main_v29)⟩, ⟨S4096x16, pre33 W (Proc.devRef .tc main_v29)⟩, ⟨S4096x32, pre33 W (Proc.devRef .tc main_v32)⟩] concatenates_S4096x64_S4096x16_S4096x16_S4096x32_S4096x128_d1 := by
    rw [h0, skip33, StableHlo.nary_result]; rfl
  rw [h1, pre33_31, pre33_29, pre33_32]; rfl

theorem V_33 : V m c main_v33 = tab32 ang := by
  rw [← after_33 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The buffers before the concatenation number 36. -/
abbrev pre36 : Valuation τ sig (Elt Ideal) := StableHlo.after ((hostOps0_4 (F := Ideal)).take 38) W

theorem skip36 : StableHlo.after ((hostOps0_4 (F := Ideal)).drop 39) W (Proc.devRef .tc main_v36) = W (Proc.devRef .tc main_v36) := by
  simp only [hostOps0_4, List.drop_succ_cons, List.drop_zero]; after_results_simp

theorem pre36_34 : pre36 W (Proc.devRef .tc main_v34) = broadcastInDim S4096x80 ![] bcast_S_S4096x80 (constant (F := Ideal) S_ FTy.f32 0x00000000#32) := by
  simp only [pre36, hostOps0_4, List.take_succ_cons, List.take_zero]; after_results_simp; first | done | rfl

theorem pre36_30 : pre36 W (Proc.devRef .tc main_v30) = Host.sin ang := by
  simp only [pre36, hostOps0_4, List.take_succ_cons, List.take_zero]; after_results_simp; first | done | rfl

theorem pre36_35 : pre36 W (Proc.devRef .tc main_v35) = broadcastInDim S4096x32 ![] bcast_S_S4096x32 (constant (F := Ideal) S_ FTy.f32 0x00000000#32) := by
  simp only [pre36, hostOps0_4, List.take_succ_cons, List.take_zero]; after_results_simp; first | done | rfl

theorem after_36 : StableHlo.after (hostOps0_4 (F := Ideal)) W (Proc.devRef .tc main_v36) = tab35 ang := by
  have h0 : StableHlo.after (hostOps0_4 (F := Ideal)) W (Proc.devRef .tc main_v36) = StableHlo.after ((hostOps0_4 (F := Ideal)).drop 39)
      ((StableHlo.nary (τ := τ) (Val := Elt Ideal) ![main_v34, main_v30, main_v35] main_v36 (fun u => (concatenate S4096x128 1 [⟨S4096x80, (u 0 : (⟨S4096x80, .f32⟩ : BufTy).Contents (Elt Ideal))⟩, ⟨S4096x16, (u 1 : (⟨S4096x16, .f32⟩ : BufTy).Contents (Elt Ideal))⟩, ⟨S4096x32, (u 2 : (⟨S4096x32, .f32⟩ : BufTy).Contents (Elt Ideal))⟩] concatenates_S4096x80_S4096x16_S4096x32_S4096x128_d1 : (⟨S4096x128, .f32⟩ : BufTy).Contents (Elt Ideal)))).result (pre36 W)) (Proc.devRef .tc main_v36) := by
    simp only [pre36, hostOps0_4, List.take_succ_cons, List.take_zero, List.drop_succ_cons, List.drop_zero, StableHlo.after_cons, StableHlo.after_nil]
  have h1 : StableHlo.after (hostOps0_4 (F := Ideal)) W (Proc.devRef .tc main_v36) = concatenate S4096x128 1 [⟨S4096x80, pre36 W (Proc.devRef .tc main_v34)⟩, ⟨S4096x16, pre36 W (Proc.devRef .tc main_v30)⟩, ⟨S4096x32, pre36 W (Proc.devRef .tc main_v35)⟩] concatenates_S4096x80_S4096x16_S4096x32_S4096x128_d1 := by
    rw [h0, skip36, StableHlo.nary_result]; rfl
  rw [h1, pre36_34, pre36_30, pre36_35]; rfl

theorem V_36 : V m c main_v36 = tab35 ang := by
  rw [← after_36 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The buffers before the concatenation number 40. -/
abbrev pre40 : Valuation τ sig (Elt Ideal) := StableHlo.after ((hostOps0_4 (F := Ideal)).take 44) W

theorem skip40 : StableHlo.after ((hostOps0_4 (F := Ideal)).drop 45) W (Proc.devRef .tc main_v40) = W (Proc.devRef .tc main_v40) := by
  simp only [hostOps0_4, List.drop_succ_cons, List.drop_zero]; after_results_simp

theorem pre40_37 : pre40 W (Proc.devRef .tc main_v37) = broadcastInDim S4096x64 ![] bcast_S_S4096x64 (constant (F := Ideal) S_ FTy.f32 0x00000000#32) := by
  simp only [pre40, hostOps0_4, List.take_succ_cons, List.take_zero]; after_results_simp; first | done | rfl

theorem pre40_38 : pre40 W (Proc.devRef .tc main_v38) = Host.negf (Host.sin ang) := by
  simp only [pre40, hostOps0_4, List.take_succ_cons, List.take_zero]; after_results_simp; first | done | rfl

theorem pre40_39 : pre40 W (Proc.devRef .tc main_v39) = broadcastInDim S4096x48 ![] bcast_S_S4096x48 (constant (F := Ideal) S_ FTy.f32 0x00000000#32) := by
  simp only [pre40, hostOps0_4, List.take_succ_cons, List.take_zero]; after_results_simp; first | done | rfl

theorem after_40 : StableHlo.after (hostOps0_4 (F := Ideal)) W (Proc.devRef .tc main_v40) = tab39 ang := by
  have h0 : StableHlo.after (hostOps0_4 (F := Ideal)) W (Proc.devRef .tc main_v40) = StableHlo.after ((hostOps0_4 (F := Ideal)).drop 45)
      ((StableHlo.nary (τ := τ) (Val := Elt Ideal) ![main_v37, main_v38, main_v39] main_v40 (fun u => (concatenate S4096x128 1 [⟨S4096x64, (u 0 : (⟨S4096x64, .f32⟩ : BufTy).Contents (Elt Ideal))⟩, ⟨S4096x16, (u 1 : (⟨S4096x16, .f32⟩ : BufTy).Contents (Elt Ideal))⟩, ⟨S4096x48, (u 2 : (⟨S4096x48, .f32⟩ : BufTy).Contents (Elt Ideal))⟩] concatenates_S4096x64_S4096x16_S4096x48_S4096x128_d1 : (⟨S4096x128, .f32⟩ : BufTy).Contents (Elt Ideal)))).result (pre40 W)) (Proc.devRef .tc main_v40) := by
    simp only [pre40, hostOps0_4, List.take_succ_cons, List.take_zero, List.drop_succ_cons, List.drop_zero, StableHlo.after_cons, StableHlo.after_nil]
  have h1 : StableHlo.after (hostOps0_4 (F := Ideal)) W (Proc.devRef .tc main_v40) = concatenate S4096x128 1 [⟨S4096x64, pre40 W (Proc.devRef .tc main_v37)⟩, ⟨S4096x16, pre40 W (Proc.devRef .tc main_v38)⟩, ⟨S4096x48, pre40 W (Proc.devRef .tc main_v39)⟩] concatenates_S4096x64_S4096x16_S4096x48_S4096x128_d1 := by
    rw [h0, skip40, StableHlo.nary_result]; rfl
  rw [h1, pre40_37, pre40_38, pre40_39]; rfl

theorem V_40 : V m c main_v40 = tab39 ang := by
  rw [← after_40 (StableHlo.after (List.flatten [hostOps0, hostOps0_1, hostOps0_2, hostOps0_3]) (fun b => m (c, b)))]
  simp only [V, hostOps0, hostOps0_1, hostOps0_2, hostOps0_3, List.flatten_cons, List.flatten_nil, List.append_nil, List.cons_append, List.nil_append, StableHlo.after_cons, StableHlo.after_nil]

/-- The weights as the host lines lay them out. -/
def wqP (a : FVec Ideal S256x8x96 .f32) (z : FVec Ideal S_ .bf16) : FVec Ideal S8x256x128 .bf16 := pad S8x256x128 ![0, 0, 0] ![0, 0, 32] ![0, 0, 0] (transpose S8x256x96 [1, 0, 2] (truncf .bf16 a bitsLt_bf16_f32) transposes_S256x8x96_S8x256x96_1_0_2) z pads_S8x256x96_S8x256x128_000_000_0320 h_S_
def wkP (a : FVec Ideal S128x8x64 .f32) (z : FVec Ideal S_ .bf16) : FVec Ideal S8x128x128 .bf16 := pad S8x128x128 ![0, 0, 0] ![0, 0, 64] ![0, 0, 0] (transpose S8x128x64 [1, 0, 2] (truncf .bf16 a bitsLt_bf16_f32) transposes_S128x8x64_S8x128x64_1_0_2) z pads_S8x128x64_S8x128x128_000_000_0640 h_S_
def wvP (a : FVec Ideal S128x8x64 .f32) : FVec Ideal S8x128x64 .bf16 := transpose S8x128x64 [1, 0, 2] (truncf .bf16 a bitsLt_bf16_f32) transposes_S128x8x64_S8x128x64_1_0_2
def wvX (a : FVec Ideal S128x8x64 .f32) : FVec Ideal S8x64x128 .bf16 := transpose S8x64x128 [0, 2, 1] (wvP a) transposes_S8x128x64_S8x64x128_0_2_1
theorem wqP_at (a : FVec Ideal S256x8x96 .f32) (h : Fin 8) (k : Fin 256) (q : Fin 128) : wqP a zb (ix3 h k q) = ext 96 (fun e => a (ix3 k h e)) q := by
  unfold ext; have hz := zb_at; generalize zb = z at hz ⊢
  pointwise [wqP]
  rw [hz]
theorem wkP_at (a : FVec Ideal S128x8x64 .f32) (h : Fin 8) (k : Fin 128) (q : Fin 128) : wkP a zb (ix3 h k q) = ext 64 (fun e => a (ix3 k h e)) q := by
  unfold ext; have hz := zb_at; generalize zb = z at hz ⊢
  pointwise [wkP]
  rw [hz]
theorem wvP_at (a : FVec Ideal S128x8x64 .f32) (h : Fin 8) (k : Fin 128) (q : Fin 64) : wvP a (ix3 h k q) = a (ix3 k h q) := by pointwise! [wvP]
theorem wvX_at (a : FVec Ideal S128x8x64 .f32) (h : Fin 8) (q : Fin 64) (k : Fin 128) : wvX a (ix3 h q k) = a (ix3 k h q) := by pointwise! [wvX, wvP]
theorem hx_at (a : FVec Ideal S4096x416 .f32) (s : Fin 4096) (q : Fin 512) : hx a (ix2 s q) = if h : q.val < 384 then a (ix2 s ⟨q.val, by omega⟩)
    else if h : q.val - 384 < 64 then 0 else if h : q.val - 384 - 64 < 32 then a (ix2 s ⟨384 + (q.val - 384 - 64), by omega⟩) else 0 := by
  pointwise! [hx]

theorem V_rest : V m c main_v13 = shapeCast S1x256 (a1 m c) shapeCasts_S256_S1x256
    ∧ V m c main_v14 = shapeCast S1x128 (a2 m c) shapeCasts_S128_S1x128
    ∧ V m c main_v2 = wqP (a3 m c) zb
    ∧ V m c main_v5 = wkP (a4 m c) zb
    ∧ V m c main_v7 = wvP (a5 m c)
    ∧ V m c main_v15 = wvX (a5 m c) := by
  refine ⟨?_, ?_, ?_, ?_, ?_, ?_⟩ <;> (simp only [V, hostOps0, hostOps0_1, hostOps0_2, hostOps0_3, hostOps0_4, List.flatten_cons, List.flatten_nil, List.append_nil, List.cons_append, List.nil_append]; after_results_simp; rfl)

end Cert.Kernel22Ideal.Fwd

end
-- ==== Proof.FwdHost.lean ====
/- The call mla_prep_fwd: the rows it makes as functions of the arguments' rows, and a grid point's blocks read from the arguments. -/
module

public import proofs.«01_k».proof.Proof.FwdTab

@[expose] public section

set_option maxRecDepth 16384

noncomputable section

open Idealize.ShloMosaic Idealize.ShloMosaic.TcCoe Idealize.SL.Sem

namespace Cert.Kernel22Ideal.Fwd

open Cert.Kernel22Ideal Cert.Kernel22Ideal.Gen Cert.LowSpec
open Cert.Kernel21Ideal.Low (ang ang_at tab32 tab35 tab39 tab32_at tab35_at tab39_at row256 row128)

/-- A row of 96 columns after the rotary turn of its last 32. -/
def RT (Y : Fin 96 → EReal) (A : Fin 16 → EReal) (e : Fin 96) : EReal :=
  if h : e.val < 64 then Y e
  else if h' : e.val < 80 then Y e * Ideal.cos (A ⟨e.val - 64, by omega⟩) + -(Y ⟨e.val + 16, by omega⟩ * Ideal.sin (A ⟨e.val - 64, by omega⟩))
  else Y ⟨e.val - 16, by omega⟩ * Ideal.sin (A ⟨e.val - 80, by have := e.isLt; omega⟩) + Y e * Ideal.cos (A ⟨e.val - 80, by have := e.isLt; omega⟩)

/-- The 32 rotary columns, after 64 zeros. -/
def KR (b : Fin 32 → EReal) (e : Fin 96) : EReal := if h : e.val < 64 then 0 else b ⟨e.val - 64, by have := e.isLt; omega⟩

/-- Rows times a weight with filled-up columns are filled-up products. -/
theorem mul_ext {n d p : Nat} (f : Fin n → EReal) (w : Fin n → Fin d → EReal) (q : Fin p) :
    ∑ k : Fin n, f k * ext d (w k) q = ext d (fun e => ∑ k : Fin n, f k * w k e) q := by
  by_cases h : q.val < d
  · rw [ext_lo _ _ h]
    exact Finset.sum_congr rfl fun k _ => by rw [ext_lo _ _ h]
  · rw [ext_hi _ _ h]
    exact Finset.sum_eq_zero fun k _ => by rw [ext_hi _ _ h, mul_zero (M₀ := EReal)]

/-- The kernel's turned row of a filled-up row is the turned row, filled up. -/
theorem rope_row (Y : Fin 96 → EReal) (s : Fin 4096) (q : Fin 128) :
    ext 96 Y q * tab32 ang (ix2 s q)
      + ext 96 Y (⟨(q.val + 128 - 16) % 128, Nat.mod_lt _ (by decide)⟩ : Fin 128) * tab35 ang (ix2 s q)
      + ext 96 Y (⟨(q.val + 128 - 112) % 128, Nat.mod_lt _ (by decide)⟩ : Fin 128) * tab39 ang (ix2 s q)
      = ext 96 (RT Y (Ang s)) q := by
  have hq := q.isLt
  rw [tab32_at, tab35_at, tab39_at]
  by_cases h1 : q.val < 64
  · rw [dif_pos h1, dif_pos (by omega : q.val < 80), dif_pos h1, mul_zero (M₀ := EReal), mul_zero (M₀ := EReal), mul_one, add_zero, add_zero,
      ext_lo _ _ (by omega : q.val < 96), ext_lo _ _ (by omega : q.val < 96)]
    unfold RT; rw [dif_pos h1]
  · rw [dif_neg h1, dif_neg h1]
    by_cases h2 : q.val < 80
    · rw [dif_pos (by omega : q.val - 64 < 16), dif_pos h2, dif_pos (by omega : q.val - 64 < 16), mul_zero (M₀ := EReal), add_zero,
        ext_lo _ _ (by omega : q.val < 96), ext_lo _ _ (by omega : q.val < 96), ext_lo _ _ (by simp only; omega), ang_at, mul_neg]
      have e2 : RT Y (Ang s) ⟨q.val, by omega⟩ = Y ⟨q.val, by omega⟩ * Ideal.cos (Ang s ⟨q.val - 64, by omega⟩) + -(Y ⟨q.val + 16, by omega⟩ * Ideal.sin (Ang s ⟨q.val - 64, by omega⟩)) := by
        unfold RT; rw [dif_neg h1, dif_pos h2]
      rw [e2]
      have e3 : (⟨(q.val + 128 - 112) % 128, by omega⟩ : Fin 96) = ⟨q.val + 16, by omega⟩ := Fin.ext (by simp only; omega)
      simp only [e3]
    · by_cases h3 : q.val < 96
      · rw [dif_neg (by omega : ¬ q.val - 64 < 16), dif_pos (by omega : q.val - 64 - 16 < 16), dif_neg h2, dif_pos (by omega : q.val - 80 < 16), dif_neg (by omega : ¬ q.val - 64 < 16),
          mul_zero (M₀ := EReal), add_zero, ext_lo _ _ (by omega : q.val < 96), ext_lo _ _ (by omega : q.val < 96), ext_lo _ _ (by simp only; omega), ang_at, ang_at]
        have e2 : RT Y (Ang s) ⟨q.val, h3⟩ = Y ⟨q.val - 16, by omega⟩ * Ideal.sin (Ang s ⟨q.val - 80, by omega⟩) + Y ⟨q.val, h3⟩ * Ideal.cos (Ang s ⟨q.val - 80, by omega⟩) := by
          unfold RT; rw [dif_neg h1, dif_neg h2]
        have e3 : (⟨(q.val + 128 - 16) % 128, by omega⟩ : Fin 96) = ⟨q.val - 16, by omega⟩ := Fin.ext (by simp only; omega)
        have e5 : (⟨q.val - 64 - 16, by omega⟩ : Fin 16) = ⟨q.val - 80, by omega⟩ := Fin.ext (by simp only; omega)
        rw [e2, add_comm (G := EReal)]
        simp only [e3, e5]
      · rw [dif_neg (by omega : ¬ q.val - 64 < 16), dif_neg (by omega : ¬ q.val - 64 - 16 < 16), dif_neg h2, dif_neg (by omega : ¬ q.val - 80 < 16), dif_neg (by omega : ¬ q.val - 64 < 16),
          mul_zero (M₀ := EReal), mul_zero (M₀ := EReal), mul_zero (M₀ := EReal), add_zero, add_zero, ext_hi _ (q := q) h3]

theorem idx_val : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0] ∧ win0_7.index t = ![t.val, 0]
    ∧ win0_8.index t = ![t.val, 0] ∧ win0_9.index t = ![t.val, 0] ∧ win0_10.index t = ![0, t.val, 0] ∧ win0_11.index t = ![0, t.val, 0]
    ∧ win0_12.index t = ![0, t.val, 0] ∧ win0_13.index t = ![0, 0, t.val] :=
  (by decide +kernel : ∀ t : Fin grid0.N, _)

variable (m : (ℓ : Loc nD τ sig) → Buf (Elt Ideal) ℓ) (c : Dev nD) (t : Fin cfg0.N)

/-- The parts of a row, and the two gains. -/
def hq (s : Fin 4096) (k : Fin 256) : EReal := a0 m c (ix2 s (⟨k.val, by omega⟩ : Fin 416))
def hk (s : Fin 4096) (k : Fin 128) : EReal := a0 m c (ix2 s (⟨256 + k.val, by omega⟩ : Fin 416))
def hr (s : Fin 4096) (k : Fin 32) : EReal := a0 m c (ix2 s (⟨384 + k.val, by omega⟩ : Fin 416))
def gq (k : Fin 256) : EReal := a1 m c (ix1 k)
def gk (k : Fin 128) : EReal := a2 m c (ix1 k)

/-- The row of the arrays that a block's row is. -/
abbrev row (t : Fin cfg0.N) (r : Fin 256) : Fin 4096 := ⟨t.val * 256 + r.val, by have h16 : t.val < 16 := t.isLt; omega⟩

theorem blk_0 (r : Fin 256) (q : Fin 512) : iblk m c 0 t (ix2 r q) = hx (a0 m c) (ix2 (row t r) q) := by
  have e : iblk m c 0 t (ix2 r q) = V m c main_v12 (ix2 (row t r) q) := by blk_point [iblk, idx_val t]
  rw [e, V_12]
theorem blk_1 (k : Fin 256) : iblk m c 1 t (ix2 (0 : Fin 1) k) = gq m c k := by
  have e : iblk m c 1 t (ix2 (0 : Fin 1) k) = V m c main_v13 (ix2 (0 : Fin 1) k) := by blk_point [iblk, idx_val t]
  rw [e, (V_rest m c).1]
  exact row256 _ _
theorem blk_2 (k : Fin 128) : iblk m c 2 t (ix2 (0 : Fin 1) k) = gk m c k := by
  have e : iblk m c 2 t (ix2 (0 : Fin 1) k) = V m c main_v14 (ix2 (0 : Fin 1) k) := by blk_point [iblk, idx_val t]
  rw [e, (V_rest m c).2.1]
  exact row128 _ _
theorem blk_3 (h : Fin 8) (k : Fin 256) (q : Fin 128) : iblk m c 3 t (ix3 h k q) = ext 96 (fun e => a3 m c (ix3 k h e)) q := by
  have e : iblk m c 3 t (ix3 h k q) = V m c main_v2 (ix3 h k q) := by blk_point [iblk, idx_val t]
  rw [e, (V_rest m c).2.2.1]
  exact wqP_at ..
theorem blk_4 (h : Fin 8) (k : Fin 128) (q : Fin 128) : iblk m c 4 t (ix3 h k q) = ext 64 (fun e => a4 m c (ix3 k h e)) q := by
  have e : iblk m c 4 t (ix3 h k q) = V m c main_v5 (ix3 h k q) := by blk_point [iblk, idx_val t]
  rw [e, (V_rest m c).2.2.2.1]
  exact wkP_at ..
theorem blk_5 (h : Fin 8) (k : Fin 128) (q : Fin 64) : iblk m c 5 t (ix3 h k q) = a5 m c (ix3 k h q) := by
  have e : iblk m c 5 t (ix3 h k q) = V m c main_v7 (ix3 h k q) := by blk_point [iblk, idx_val t]
  rw [e, (V_rest m c).2.2.2.2.1]
  exact wvP_at ..
theorem blk_6 (h : Fin 8) (q : Fin 64) (k : Fin 128) : iblk m c 6 t (ix3 h q k) = a5 m c (ix3 k h q) := by
  have e : iblk m c 6 t (ix3 h q k) = V m c main_v15 (ix3 h q k) := by blk_point [iblk, idx_val t]
  rw [e, (V_rest m c).2.2.2.2.2]
  exact wvX_at ..
theorem blk_7 (r : Fin 256) (q : Fin 128) : iblk m c 7 t (ix2 r q) = tab32 ang (ix2 (row t r) q) := by
  have e : iblk m c 7 t (ix2 r q) = V m c main_v33 (ix2 (row t r) q) := by blk_point [iblk, idx_val t]
  rw [e, V_33]
theorem blk_8 (r : Fin 256) (q : Fin 128) : iblk m c 8 t (ix2 r q) = tab35 ang (ix2 (row t r) q) := by
  have e : iblk m c 8 t (ix2 r q) = V m c main_v36 (ix2 (row t r) q) := by blk_point [iblk, idx_val t]
  rw [e, V_36]
theorem blk_9 (r : Fin 256) (q : Fin 128) : iblk m c 9 t (ix2 r q) = tab39 ang (ix2 (row t r) q) := by
  have e : iblk m c 9 t (ix2 r q) = V m c main_v40 (ix2 (row t r) q) := by blk_point [iblk, idx_val t]
  rw [e, V_40]

theorem hx_q (s : Fin 4096) (k : Fin 256) : hx (a0 m c) (ix2 s ⟨k.val, by omega⟩) = hq m c s k := by
  rw [hx_at, dif_pos (by simp only; omega)]; rfl
theorem hx_k (s : Fin 4096) (k : Fin 128) : hx (a0 m c) (ix2 s ⟨256 + k.val, by omega⟩) = hk m c s k := by
  rw [hx_at, dif_pos (by simp only; omega)]; rfl
theorem hx_r (s : Fin 4096) (q : Fin 128) : hx (a0 m c) (ix2 s ⟨384 + q.val, by omega⟩) = ext 96 (KR (hr m c s)) q := by
  rw [hx_at, dif_neg (by simp only; omega)]
  have e : 384 + q.val - 384 = q.val := by omega
  by_cases h1 : q.val < 64
  · rw [dif_pos (by simp only; omega), ext_lo _ _ (by omega)]; unfold KR; rw [dif_pos h1]
  · rw [dif_neg (by simp only; omega)]
    by_cases h2 : q.val < 96
    · rw [dif_pos (by simp only; omega), ext_lo _ _ h2]; unfold KR; rw [dif_neg h1]
      simp only [e]; rfl
    · rw [dif_neg (by simp only; omega), ext_hi _ _ h2]

end Cert.Kernel22Ideal.Fwd

end
-- ==== Proof.FwdPay.lean ====
/- The call mla_prep_fwd: what a grid point leaves in each output's block. -/
module

public import proofs.«01_k».proof.Proof.Gen.Kernel22Ideal.Frame
public import proofs.«01_k».proof.Proof.LowSlab
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.Kernel22Ideal.Fwd

open Cert.Kernel22Ideal Cert.Kernel22Ideal.Gen
open Cert.Kernel21Ideal.Low (ix3_ext ix2_ext ldb_128_128 ld_64_128)

/-- A row turned by its tables. -/
def turn (M : Fin 128 → EReal) (c s z : FVec Ideal S256x128 .f32) (r : Fin 256) (q : Fin 128) : EReal :=
  M q * c (ix2 r q) + M ⟨(q.val + 128 - 16) % 128, Nat.mod_lt _ (by decide)⟩ * s (ix2 r q) + M ⟨(q.val + 128 - 112) % 128, Nat.mod_lt _ (by decide)⟩ * z (ix2 r q)

theorem q_at (c s z : FVec Ideal S256x128 .f32) (n : FVec Ideal S256x256 .bf16) (y : Vec Ideal S1x256x128 .bf16) (i : S1x256x128.Idx) :
    k0_pay12 c s z n y i = turn (fun q => ∑ k : Fin 256, n (ix2 (i 1) k) * y (ix3 0 k q)) c s z (i 1) (i 2) := by
  pointwise! [k0_pay12, turn]
theorem r_at (v c s z : FVec Ideal S256x128 .f32) (i : S256x128.Idx) :
    k0_pay11 v c s z i = turn (fun q => v (ix2 (i 0) q)) c s z (i 0) (i 1) := by
  pointwise! [k0_pay11, turn]
theorem k_at (n : FVec Ideal S256x128 .bf16) (r : FVec Ideal S256x128 .f32) (y : Vec Ideal S1x128x128 .bf16) (i : S1x256x128.Idx) :
    k0_pay23 n r y i = (∑ k : Fin 128, n (ix2 (i 1) k) * y (ix3 0 k (i 2))) + r (ix2 (i 1) (i 2)) := by
  pointwise! [k0_pay23]
theorem v_at (n : FVec Ideal S256x128 .bf16) (y : Vec Ideal S1x128x64 .bf16) (i : S1x256x64.Idx) :
    k0_pay2 n y i = ∑ k : Fin 128, n (ix2 (i 1) k) * y (ix3 0 k (i 2)) := by
  pointwise! [k0_pay2]
theorem t_at (n : FVec Ideal S256x128 .bf16) (y : Vec Ideal S1x64x128 .bf16) (i : S1x64x256.Idx) :
    k0_pay3 n y i = ∑ k : Fin 128, y (ix3 0 (i 1) k) * n (ix2 (i 2) k) := by
  pointwise! [k0_pay3]
theorem nq_at (v : Vec Ideal S256x256 .f32) (g : Vec Ideal S1x256 .f32) (i : S256x256.Idx) :
    k0_pay8 v g i = v i * Ideal.rsqrt (Ideal.div (∑ k : Fin 256, v (ix2 (i 0) k) * v (ix2 (i 0) k)) (Ideal.ofBits FTy.f32 0x43800000#32)
      + Ideal.ofBits FTy.f32 0x358637BD#32) * g (ix2 0 (i 1)) := by
  pointwise! [k0_pay8]
theorem nk_at (v : Vec Ideal S256x128 .f32) (g : Vec Ideal S1x128 .f32) (i : S256x128.Idx) :
    k0_pay10 (k0_pay9 v) g i = v i * Ideal.rsqrt (Ideal.div (∑ k : Fin 128, v (ix2 (i 0) k) * v (ix2 (i 0) k)) (Ideal.ofBits FTy.f32 0x43000000#32)
      + Ideal.ofBits FTy.f32 0x358637BD#32) * g (ix2 0 (i 1)) := by
  pointwise! [k0_pay10, k0_pay9]
theorem p4_at (v : Vec Ideal S256x128 .f32) : k0_pay4 v = v := by funext i; pointwise! [k0_pay4]
theorem p5_at (v : Vec Ideal S256x128 .f32) : k0_pay5 v = v := by funext i; pointwise! [k0_pay5]
theorem p6_at (v : Vec Ideal S256x128 .f32) : k0_pay6 v = v := by funext i; pointwise! [k0_pay6]
theorem p7_at (v : Vec Ideal S256x128 .f32) : k0_pay7 v = v := by funext i; pointwise! [k0_pay7]

theorem lq (P : Vec Ideal S8x256x128 .bf16) (h : Nat) (hh : h < 8) (p) (x : S1x256x128.Idx) :
    View.ld (Val := Elt Ideal) (S := S8x256x128) (e' := .bf16) P (Rect.unit ![h, 0, 0] ![1, 256, 128] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]

theorem lv (P : Vec Ideal S8x128x64 .bf16) (h : Nat) (hh : h < 8) (p) (x : S1x128x64.Idx) :
    View.ld (Val := Elt Ideal) (S := S8x128x64) (e' := .bf16) P (Rect.unit ![h, 0, 0] ![1, 128, 64] p) x = P (ix3 (⟨h, hh⟩ : Fin 8) (x 1) (x 2)) := by
  refine congrArg P (ix3_ext ?_ ?_ ?_)
  · have h0 : (x 0).val < 1 := (x 0).isLt
    simp [Rect.toLoadRect, Rect.emb, Rect.unit]
  · simp [Rect.toLoadRect, Rect.emb, Rect.unit]
  · simp [Rect.toLoadRect, Rect.emb, Rect.unit]

/-- A head's part of an output's block. -/
theorem at_head {a b : Nat} (h : Nat) (hh : h < 8) (p) (x : (⟨3, ![1, a, b]⟩ : Shape).Idx) :
    ix3 (⟨h, hh⟩ : Fin 8) (x 1) (x 2) = (Rect.unit (s := ⟨3, ![8, a, b]⟩) ![h, 0, 0] ![1, a, b] p).emb x := by
  have h0 : (x 0).val < 1 := (x 0).isLt
  exact ix3_ext (by simp [Rect.emb, Rect.unit]) (by simp [Rect.emb, Rect.unit]) (by simp [Rect.emb, Rect.unit])

variable (x0 : Vec Ideal S256x512 .f32) (x1 : Vec Ideal S1x256 .f32) (x2 : Vec Ideal S1x128 .f32) (x3 : Vec Ideal S8x256x128 .bf16) (x4 : Vec Ideal S8x128x128 .bf16)
  (x5 : Vec Ideal S8x128x64 .bf16) (x6 : Vec Ideal S8x64x128 .bf16) (x7 x8 x9 : Vec Ideal S256x128 .f32)

/-- The point's normalised rows and the rotary columns' turned rows. -/
abbrev bq : FVec Ideal S256x256 .bf16 := k0_pay52 x0 x1 x2 x3 x4 x5 x6 x7 x8 x9
abbrev bk : FVec Ideal S256x128 .bf16 := k0_pay54 x0 x1 x2 x3 x4 x5 x6 x7 x8 x9
abbrev br : FVec Ideal S256x128 .f32 := k0_pay55 x0 x1 x2 x3 x4 x5 x6 x7 x8 x9
abbrev bc : FVec Ideal S256x128 .f32 := k0_pay49 x0 x1 x2 x3 x4 x5 x6 x7 x8 x9
abbrev bs : FVec Ideal S256x128 .f32 := k0_pay50 x0 x1 x2 x3 x4 x5 x6 x7 x8 x9
abbrev bz : FVec Ideal S256x128 .f32 := k0_pay51 x0 x1 x2 x3 x4 x5 x6 x7 x8 x9

/-- The blocks of the four outputs, from blocks of normalised rows n and the weights' blocks. -/
def GQ (n : FVec Ideal S256x256 .bf16) (c s z : FVec Ideal S256x128 .f32) (y : S8x256x128.Idx) : EReal :=
  turn (fun q => ∑ k : Fin 256, n (ix2 (y 1) k) * x3 (ix3 (y 0) k q)) c s z (y 1) (y 2)
def GK (n : FVec Ideal S256x128 .bf16) (r : FVec Ideal S256x128 .f32) (y : S8x256x128.Idx) : EReal :=
  (∑ k : Fin 128, n (ix2 (y 1) k) * x4 (ix3 (y 0) k (y 2))) + r (ix2 (y 1) (y 2))
def GV (n : FVec Ideal S256x128 .bf16) (y : S8x256x64.Idx) : EReal := ∑ k : Fin 128, n (ix2 (y 1) k) * x5 (ix3 (y 0) k (y 2))
def GT (n : FVec Ideal S256x128 .bf16) (y : S8x64x256.Idx) : EReal := ∑ k : Fin 128, x6 (ix3 (y 0) (y 1) k) * n (ix2 (y 2) k)

theorem pq (n : FVec Ideal S256x256 .bf16) (c s z : FVec Ideal S256x128 .f32) (h : Nat) (hh : h < 8) (p p') (x : S1x256x128.Idx) :
    k0_pay12 c s z n (View.ld x3 (Rect.unit ![h, 0, 0] ![1, 256, 128] p)) x = GQ x3 n c s z ((Rect.unit (s := S8x256x128) ![h, 0, 0] ![1, 256, 128] p').emb x) := by
  rw [← at_head h hh p' x]
  refine (q_at ..).trans ?_
  exact congrArg (fun M => turn M c s z (x 1) (x 2)) (funext fun q => Finset.sum_congr rfl fun k _ => congrArg (fun a : EReal => n (ix2 (x 1) k) * a) (lq x3 h hh p (ix3 0 k q)))
theorem pk (n : FVec Ideal S256x128 .bf16) (r : FVec Ideal S256x128 .f32) (h : Nat) (hh : h < 8) (p p') (x : S1x256x128.Idx) :
    k0_pay23 n r (View.ld x4 (Rect.unit ![h, 0, 0] ![1, 128, 128] p)) x = GK x4 n r ((Rect.unit (s := S8x256x128) ![h, 0, 0] ![1, 256, 128] p').emb x) := by
  rw [← at_head h hh p' x]
  refine (k_at ..).trans ?_
  exact congrArg (fun a : EReal => a + r (ix2 (x 1) (x 2))) (Finset.sum_congr rfl fun k _ => congrArg (fun a : EReal => n (ix2 (x 1) k) * a) (ldb_128_128 x4 h hh p (ix3 0 k (x 2))))
theorem pv (n : FVec Ideal S256x128 .bf16) (h : Nat) (hh : h < 8) (p p') (x : S1x256x64.Idx) :
    k0_pay2 n (View.ld x5 (Rect.unit ![h, 0, 0] ![1, 128, 64] p)) x = GV x5 n ((Rect.unit (s := S8x256x64) ![h, 0, 0] ![1, 256, 64] p').emb x) := by
  rw [← at_head h hh p' x]
  refine (v_at ..).trans ?_
  exact Finset.sum_congr rfl fun k _ => congrArg (fun a : EReal => n (ix2 (x 1) k) * a) (lv x5 h hh p (ix3 0 k (x 2)))
theorem pt (n : FVec Ideal S256x128 .bf16) (h : Nat) (hh : h < 8) (p p') (x : S1x64x256.Idx) :
    k0_pay3 n (View.ld x6 (Rect.unit ![h, 0, 0] ![1, 64, 128] p)) x = GT x6 n ((Rect.unit (s := S8x64x256) ![h, 0, 0] ![1, 64, 256] p').emb x) := by
  rw [← at_head h hh p' x]
  refine (t_at ..).trans ?_
  exact Finset.sum_congr rfl fun k _ => congrArg (fun a : EReal => a * n (ix2 (x 2) k)) (ld_64_128 x6 h hh p (ix3 0 (x 1) k))

theorem out10 (y : S8x256x128.Idx) : out0_10 x0 x1 x2 x3 x4 x5 x6 x7 x8 x9 y = GQ x3 (bq x0 x1 x2 x3 x4 x5 x6 x7 x8 x9) (bc x0 x1 x2 x3 x4 x5 x6 x7 x8 x9) (bs x0 x1 x2 x3 x4 x5 x6 x7 x8 x9) (bz x0 x1 x2 x3 x4 x5 x6 x7 x8 x9) y := by
  unfold out0_10
  refine View.canon_append_of_piecesOf (Val := Elt Ideal) (e := .bf16) (GQ x3 (bq x0 x1 x2 x3 x4 x5 x6 x7 x8 x9) (bc x0 x1 x2 x3 x4 x5 x6 x7 x8 x9) (bs x0 x1 x2 x3 x4 x5 x6 x7 x8 x9) (bz x0 x1 x2 x3 x4 x5 x6 x7 x8 x9)) [] [_, _, _, _, _, _, _, _] ⟨?_, ?_, ?_, ?_, ?_, ?_, ?_, ?_, trivial⟩ y
    (View.cover_of_tiledL (s := S8x256x128) _ ![1, 256, 128] (by sl_kernel_rfl) y)
  · exact pq x3 _ _ _ _ 7 (by decide) _ inb_S8x256x128_S1x256x128_7_0_0
  · exact pq x3 _ _ _ _ 6 (by decide) _ inb_S8x256x128_S1x256x128_6_0_0
  · exact pq x3 _ _ _ _ 5 (by decide) _ inb_S8x256x128_S1x256x128_5_0_0
  · exact pq x3 _ _ _ _ 4 (by decide) _ inb_S8x256x128_S1x256x128_4_0_0
  · exact pq x3 _ _ _ _ 3 (by decide) _ inb_S8x256x128_S1x256x128_3_0_0
  · exact pq x3 _ _ _ _ 2 (by decide) _ inb_S8x256x128_S1x256x128_2_0_0
  · exact pq x3 _ _ _ _ 1 (by decide) _ inb_S8x256x128_S1x256x128_1_0_0
  · exact pq x3 _ _ _ _ 0 (by decide) _ inb_S8x256x128_S1x256x128_0_0_0

theorem out11 (y : S8x256x128.Idx) : out0_11 x0 x1 x2 x3 x4 x5 x6 x7 x8 x9 y = GK x4 (bk x0 x1 x2 x3 x4 x5 x6 x7 x8 x9) (br x0 x1 x2 x3 x4 x5 x6 x7 x8 x9) y := by
  unfold out0_11
  refine View.canon_append_of_piecesOf (Val := Elt Ideal) (e := .bf16) (GK x4 (bk x0 x1 x2 x3 x4 x5 x6 x7 x8 x9) (br x0 x1 x2 x3 x4 x5 x6 x7 x8 x9)) [] [_, _, _, _, _, _, _, _] ⟨?_, ?_, ?_, ?_, ?_, ?_, ?_, ?_, trivial⟩ y
    (View.cover_of_tiledL (s := S8x256x128) _ ![1, 256, 128] (by sl_kernel_rfl) y)
  · exact pk x4 _ _ 7 (by decide) _ inb_S8x256x128_S1x256x128_7_0_0
  · exact pk x4 _ _ 6 (by decide) _ inb_S8x256x128_S1x256x128_6_0_0
  · exact pk x4 _ _ 5 (by decide) _ inb_S8x256x128_S1x256x128_5_0_0
  · exact pk x4 _ _ 4 (by decide) _ inb_S8x256x128_S1x256x128_4_0_0
  · exact pk x4 _ _ 3 (by decide) _ inb_S8x256x128_S1x256x128_3_0_0
  · exact pk x4 _ _ 2 (by decide) _ inb_S8x256x128_S1x256x128_2_0_0
  · exact pk x4 _ _ 1 (by decide) _ inb_S8x256x128_S1x256x128_1_0_0
  · exact pk x4 _ _ 0 (by decide) _ inb_S8x256x128_S1x256x128_0_0_0

theorem out12 (y : S8x256x64.Idx) : out0_12 x0 x1 x2 x3 x4 x5 x6 x7 x8 x9 y = GV x5 (bk x0 x1 x2 x3 x4 x5 x6 x7 x8 x9) y := by
  unfold out0_12
  refine View.canon_append_of_piecesOf (Val := Elt Ideal) (e := .bf16) (GV x5 (bk x0 x1 x2 x3 x4 x5 x6 x7 x8 x9)) [] [_, _, _, _, _, _, _, _] ⟨?_, ?_, ?_, ?_, ?_, ?_, ?_, ?_, trivial⟩ y
    (View.cover_of_tiledL (s := S8x256x64) _ ![1, 256, 64] (by sl_kernel_rfl) y)
  · exact pv x5 _ 7 (by decide) _ inb_S8x256x64_S1x256x64_7_0_0
  · exact pv x5 _ 6 (by decide) _ inb_S8x256x64_S1x256x64_6_0_0
  · exact pv x5 _ 5 (by decide) _ inb_S8x256x64_S1x256x64_5_0_0
  · exact pv x5 _ 4 (by decide) _ inb_S8x256x64_S1x256x64_4_0_0
  · exact pv x5 _ 3 (by decide) _ inb_S8x256x64_S1x256x64_3_0_0
  · exact pv x5 _ 2 (by decide) _ inb_S8x256x64_S1x256x64_2_0_0
  · exact pv x5 _ 1 (by decide) _ inb_S8x256x64_S1x256x64_1_0_0
  · exact pv x5 _ 0 (by decide) _ inb_S8x256x64_S1x256x64_0_0_0

theorem out13 (y : S8x64x256.Idx) : out0_13 x0 x1 x2 x3 x4 x5 x6 x7 x8 x9 y = GT x6 (bk x0 x1 x2 x3 x4 x5 x6 x7 x8 x9) y := by
  unfold out0_13
  refine View.canon_append_of_piecesOf (Val := Elt Ideal) (e := .bf16) (GT x6 (bk x0 x1 x2 x3 x4 x5 x6 x7 x8 x9)) [] [_, _, _, _, _, _, _, _] ⟨?_, ?_, ?_, ?_, ?_, ?_, ?_, ?_, trivial⟩ y
    (View.cover_of_tiledL (s := S8x64x256) _ ![1, 64, 256] (by sl_kernel_rfl) y)
  · exact pt x6 _ 7 (by decide) _ inb_S8x64x256_S1x64x256_7_0_0
  · exact pt x6 _ 6 (by decide) _ inb_S8x64x256_S1x64x256_6_0_0
  · exact pt x6 _ 5 (by decide) _ inb_S8x64x256_S1x64x256_5_0_0
  · exact pt x6 _ 4 (by decide) _ inb_S8x64x256_S1x64x256_4_0_0
  · exact pt x6 _ 3 (by decide) _ inb_S8x64x256_S1x64x256_3_0_0
  · exact pt x6 _ 2 (by decide) _ inb_S8x64x256_S1x64x256_2_0_0
  · exact pt x6 _ 1 (by decide) _ inb_S8x64x256_S1x64x256_1_0_0
  · exact pt x6 _ 0 (by decide) _ inb_S8x64x256_S1x64x256_0_0_0

end Cert.Kernel22Ideal.Fwd

end
-- ==== Proof.FwdFin.lean ====
/- The call mla_prep_fwd: its four outputs after the run. -/
module

public import proofs.«01_k».proof.Proof.FwdHost
public import proofs.«01_k».proof.Proof.FwdPay

@[expose] public section

set_option maxRecDepth 16384

noncomputable section

open Idealize.ShloMosaic Idealize.ShloMosaic.TcCoe Idealize.SL.Sem

namespace Cert.Kernel22Ideal.Fwd

open Cert.Kernel22Ideal Cert.Kernel22Ideal.Gen Cert.LowSpec
open Cert.Kernel21Ideal.Low (ang tab32 tab35 tab39 ix2_ext)

variable (m : (ℓ : Loc nD τ sig) → Buf (Elt Ideal) ℓ) (c : Dev nD)

/-- The two mean squares' divisors. -/
abbrev Cq : EReal := Ideal.ofBits FTy.f32 0x43800000#32
abbrev Ck : EReal := Ideal.ofBits FTy.f32 0x43000000#32

/-- The normalised rows, a head's queries before their turn, and the four outputs. -/
def nQ : Fin 4096 → Fin 256 → EReal := N Cq (hq m c) (gq m c)
def nK : Fin 4096 → Fin 128 → EReal := N Ck (hk m c) (gk m c)
def F10 (y : S8x4096x128.Idx) : EReal := ext 96 (RT (fun e => ∑ k : Fin 256, nQ m c (y 1) k * a3 m c (ix3 k (y 0) e)) (Ang (y 1))) (y 2)
def F11 (y : S8x4096x128.Idx) : EReal := ext 64 (fun e => ∑ k : Fin 128, nK m c (y 1) k * a4 m c (ix3 k (y 0) e)) (y 2) + ext 96 (RT (KR (hr m c (y 1))) (Ang (y 1))) (y 2)
def F12 (y : S8x4096x64.Idx) : EReal := ∑ k : Fin 128, nK m c (y 1) k * a5 m c (ix3 k (y 0) (y 2))
def F13 (y : S8x64x4096.Idx) : EReal := ∑ k : Fin 128, nK m c (y 2) k * a5 m c (ix3 k (y 0) (y 1))

section rows
variable (t : Fin cfg0.N)

theorem ldq (r : Fin 256) (k : Fin 256) (p) : View.ld (iblk m c 0 t) (Rect.unit ![0, 0] ![256, 256] p) (ix2 r k) = hq m c (row t r) k :=
  (show _ = iblk m c 0 t (ix2 r (⟨k.val, by omega⟩ : Fin 512)) from congrArg (iblk m c 0 t) (ix2_ext (by simp [Rect.toLoadRect, Rect.emb, Rect.unit]) (by simp [Rect.toLoadRect, Rect.emb, Rect.unit]))).trans ((blk_0 m c t r _).trans (hx_q m c _ k))
theorem ldk (r : Fin 256) (k : Fin 128) (p) : View.ld (iblk m c 0 t) (Rect.unit ![0, 256] ![256, 128] p) (ix2 r k) = hk m c (row t r) k :=
  (show _ = iblk m c 0 t (ix2 r (⟨256 + k.val, by omega⟩ : Fin 512)) from congrArg (iblk m c 0 t) (ix2_ext (by simp [Rect.toLoadRect, Rect.emb, Rect.unit]) (by simp [Rect.toLoadRect, Rect.emb, Rect.unit]))).trans ((blk_0 m c t r _).trans (hx_k m c _ k))
theorem ldr (r : Fin 256) (q : Fin 128) (p) : View.ld (iblk m c 0 t) (Rect.unit ![0, 384] ![256, 128] p) (ix2 r q) = ext 96 (KR (hr m c (row t r))) q :=
  (show _ = iblk m c 0 t (ix2 r (⟨384 + q.val, by omega⟩ : Fin 512)) from congrArg (iblk m c 0 t) (ix2_ext (by simp [Rect.toLoadRect, Rect.emb, Rect.unit]) (by simp [Rect.toLoadRect, Rect.emb, Rect.unit]))).trans ((blk_0 m c t r _).trans (hx_r m c _ q))
theorem ldt (P : Vec Ideal S256x128 .f32) (i : S256x128.Idx) (p) : View.ld P (Rect.unit ![0, 0] ![256, 128] p) i = P i :=
  congrArg P (funext fun d => Fin.ext (by fin_cases d <;> simp [Rect.toLoadRect, Rect.emb, Rect.unit]))
theorem ldg (P : Vec Ideal S1x256 .f32) (i : S1x256.Idx) (p) : View.ld P (Rect.unit ![0, 0] ![1, 256] p) i = P i :=
  congrArg P (funext fun d => Fin.ext (by fin_cases d <;> simp [Rect.toLoadRect, Rect.emb, Rect.unit]))
theorem ldh (P : Vec Ideal S1x128 .f32) (i : S1x128.Idx) (p) : View.ld P (Rect.unit ![0, 0] ![1, 128] p) i = P i :=
  congrArg P (funext fun d => Fin.ext (by fin_cases d <;> simp [Rect.toLoadRect, Rect.emb, Rect.unit]))

/-- The shared rows of the point. -/
abbrev B {α : Type} (f : Vec Ideal S256x512 .f32 → Vec Ideal S1x256 .f32 → Vec Ideal S1x128 .f32 → Vec Ideal S8x256x128 .bf16 → Vec Ideal S8x128x128 .bf16 → Vec Ideal S8x128x64 .bf16 → Vec Ideal S8x64x128 .bf16
    → Vec Ideal S256x128 .f32 → Vec Ideal S256x128 .f32 → Vec Ideal S256x128 .f32 → α) : α :=
  f (iblk m c 0 t) (iblk m c 1 t) (iblk m c 2 t) (iblk m c 3 t) (iblk m c 4 t) (iblk m c 5 t) (iblk m c 6 t) (iblk m c 7 t) (iblk m c 8 t) (iblk m c 9 t)

theorem bq_row (r : Fin 256) (k : Fin 256) : B m c t bq (ix2 r k) = nQ m c (row t r) k := by
  refine (nq_at _ _ (ix2 r k)).trans ?_
  unfold nQ N X
  refine congrArg₂ (fun a b : EReal => a * b) (congrArg₂ (fun a b : EReal => a * Ideal.rsqrt (Ideal.div b Cq + Ideal.ofBits FTy.f32 0x358637BD#32)) (ldq m c t r k _) ?_) ((ldg _ _ _).trans (blk_1 m c t k))
  exact Finset.sum_congr rfl fun q _ => congrArg₂ (fun a b : EReal => a * b) (ldq m c t r q _) (ldq m c t r q _)
theorem bk_row (r : Fin 256) (k : Fin 128) : B m c t bk (ix2 r k) = nK m c (row t r) k := by
  refine (nk_at _ _ (ix2 r k)).trans ?_
  unfold nK N X
  refine congrArg₂ (fun a b : EReal => a * b) (congrArg₂ (fun a b : EReal => a * Ideal.rsqrt (Ideal.div b Ck + Ideal.ofBits FTy.f32 0x358637BD#32)) (ldk m c t r k _) ?_) ((ldh _ _ _).trans (blk_2 m c t k))
  exact Finset.sum_congr rfl fun q _ => congrArg₂ (fun a b : EReal => a * b) (ldk m c t r q _) (ldk m c t r q _)
theorem bc_row (r : Fin 256) (q : Fin 128) : B m c t bc (ix2 r q) = tab32 ang (ix2 (row t r) q) :=
  (congrFun (p5_at _) _).trans ((ldt _ _ _).trans (blk_7 m c t r q))
theorem bs_row (r : Fin 256) (q : Fin 128) : B m c t bs (ix2 r q) = tab35 ang (ix2 (row t r) q) :=
  (congrFun (p6_at _) _).trans ((ldt _ _ _).trans (blk_8 m c t r q))
theorem bz_row (r : Fin 256) (q : Fin 128) : B m c t bz (ix2 r q) = tab39 ang (ix2 (row t r) q) :=
  (congrFun (p7_at _) _).trans ((ldt _ _ _).trans (blk_9 m c t r q))

/-- A filled-up row turned by the point's tables. -/
theorem turn_row (M : Fin 128 → EReal) (Y : Fin 96 → EReal) (r : Fin 256) (q : Fin 128) (hM : ∀ q, M q = ext 96 Y q) :
    turn M (B m c t bc) (B m c t bs) (B m c t bz) r q = ext 96 (RT Y (Ang (row t r))) q := by
  refine Eq.trans ?_ (rope_row Y (row t r) q)
  unfold turn
  rw [bc_row, bs_row, bz_row, hM, hM, hM]
theorem br_row (r : Fin 256) (q : Fin 128) : B m c t br (ix2 r q) = ext 96 (RT (KR (hr m c (row t r))) (Ang (row t r))) q :=
  (r_at _ _ _ _ (ix2 r q)).trans (turn_row m c t _ _ r q fun q => (congrFun (p4_at _) _).trans (ldr m c t r q _))

/-- A point's block of each output is the output there. -/
theorem p10 (h : Fin 8) (r : Fin 256) (q : Fin 128) : B m c t out0_10 (ix3 h r q) = F10 m c (ix3 h (row t r) q) :=
  (out10 _ _ _ _ _ _ _ _ _ _ _).trans (turn_row m c t _ _ r q fun q => (Finset.sum_congr rfl fun k _ => congrArg₂ (fun a b : EReal => a * b) (bq_row m c t r k) (blk_3 m c t h k q)).trans (mul_ext _ _ q))
theorem p11 (h : Fin 8) (r : Fin 256) (q : Fin 128) : B m c t out0_11 (ix3 h r q) = F11 m c (ix3 h (row t r) q) :=
  (out11 _ _ _ _ _ _ _ _ _ _ _).trans (congrArg₂ (fun a b : EReal => a + b)
    ((Finset.sum_congr rfl fun k _ => congrArg₂ (fun a b : EReal => a * b) (bk_row m c t r k) (blk_4 m c t h k q)).trans (mul_ext _ _ q)) (br_row m c t r q))
theorem p12 (h : Fin 8) (r : Fin 256) (q : Fin 64) : B m c t out0_12 (ix3 h r q) = F12 m c (ix3 h (row t r) q) :=
  (out12 _ _ _ _ _ _ _ _ _ _ _).trans (Finset.sum_congr rfl fun k _ => congrArg₂ (fun a b : EReal => a * b) (bk_row m c t r k) (blk_5 m c t h k q))
theorem p13 (h : Fin 8) (q : Fin 64) (r : Fin 256) : B m c t out0_13 (ix3 h q r) = F13 m c (ix3 h q (row t r)) :=
  (out13 _ _ _ _ _ _ _ _ _ _ _).trans (Finset.sum_congr rfl fun k _ => (congrArg₂ (fun a b : EReal => a * b) (blk_6 m c t h q k) (bk_row m c t r k)).trans (mul_comm (G := EReal) _ _))

end rows

/-- Output 0 after the run. -/
theorem final10 : (dats m 0 c).arrAt 10 (cfgs 0).N = F10 m c := by
  refine (dats m 0 c).arrAt_eq_of_covers 10 _ (by decide +kernel) fun t hf y => ?_
  blk_simp
  rw [after0_10]
  have hy : (win0_10.blk t).view.emb y = ix3 (y 0) (row t (y 1)) (y 2) := by blk_point [idx_val t]
  rw [hy]
  refine Eq.trans ?_ (p10 m c t (y 0) (y 1) (y 2))
  exact congrArg _ (eq_ix3 y)

/-- Output 1 after the run. -/
theorem final11 : (dats m 0 c).arrAt 11 (cfgs 0).N = F11 m c := by
  refine (dats m 0 c).arrAt_eq_of_covers 11 _ (by decide +kernel) fun t hf y => ?_
  blk_simp
  rw [after0_11]
  have hy : (win0_11.blk t).view.emb y = ix3 (y 0) (row t (y 1)) (y 2) := by blk_point [idx_val t]
  rw [hy]
  refine Eq.trans ?_ (p11 m c t (y 0) (y 1) (y 2))
  exact congrArg _ (eq_ix3 y)

/-- Output 2 after the run. -/
theorem final12 : (dats m 0 c).arrAt 12 (cfgs 0).N = F12 m c := by
  refine (dats m 0 c).arrAt_eq_of_covers 12 _ (by decide +kernel) fun t hf y => ?_
  blk_simp
  rw [after0_12]
  have hy : (win0_12.blk t).view.emb y = ix3 (y 0) (row t (y 1)) (y 2) := by blk_point [idx_val t]
  rw [hy]
  refine Eq.trans ?_ (p12 m c t (y 0) (y 1) (y 2))
  exact congrArg _ (eq_ix3 y)

/-- Output 3 after the run. -/
theorem final13 : (dats m 0 c).arrAt 13 (cfgs 0).N = F13 m c := by
  refine (dats m 0 c).arrAt_eq_of_covers 13 _ (by decide +kernel) fun t hf y => ?_
  blk_simp
  rw [after0_13]
  have hy : (win0_13.blk t).view.emb y = ix3 (y 0) (y 1) (row t (y 2)) := by blk_point [idx_val t]
  rw [hy]
  refine Eq.trans ?_ (p13 m c t (y 0) (y 1) (y 2))
  exact congrArg _ (eq_ix3 y)

end Cert.Kernel22Ideal.Fwd

end
-- ==== Proof.FwdRef.lean ====
/- The call mla_prep_fwd: its reference's four results, index by index. -/
module

public import proofs.«01_k».proof.Proof.Gen.Reference22Ideal.Run
public import proofs.«01_k».proof.Proof.LowSpec
public import Idealize.ShloMosaic.Lib.Claim

@[expose] public section

set_option maxRecDepth 16384

noncomputable section

open Idealize.ShloMosaic Idealize.ShloMosaic.TcCoe Idealize.SL.Sem

namespace Cert.Reference22Ideal.Fwd

open Cert.Reference22Ideal Cert.Reference22Ideal.Gen Cert.LowSpec

variable (b0 : FVec Ideal S4096x416 .f32) (b1 : FVec Ideal S256 .f32) (b2 : FVec Ideal S128 .f32) (b3 : FVec Ideal S256x8x96 .f32) (b4 b5 : FVec Ideal S128x8x64 .f32)

/-- The reference's lines by name. -/
def ANG : FVec Ideal S4096x16 .f32 := mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def NQ : FVec Ideal S4096x256 .f32 := mulf (mulf (extractStridedSlice S4096x256 ![0, 0] b0 slices_S4096x416_S4096x256_0_0) (broadcastInDim S4096x256 ![0, 1] bcast_S4096x1_S4096x256_0_1 (Host.rsqrt (addf (Host.divf (broadcastInDim S4096x1 ![0] bcast_S4096_S4096x1_0 (Host.reduceAdd (mulf (extractStridedSlice S4096x256 ![0, 0] b0 slices_S4096x416_S4096x256_0_0) (extractStridedSlice S4096x256 ![0, 0] b0 slices_S4096x416_S4096x256_0_0)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 (broadcastInDim S1x256 ![1] bcast_S256_S1x256_1 b1))
def NK : FVec Ideal S4096x128 .f32 := mulf (mulf (extractStridedSlice S4096x128 ![0, 256] b0 slices_S4096x416_S4096x128_0_256) (broadcastInDim S4096x128 ![0, 1] bcast_S4096x1_S4096x128_0_1 (Host.rsqrt (addf (Host.divf (broadcastInDim S4096x1 ![0] bcast_S4096_S4096x1_0 (Host.reduceAdd (mulf (extractStridedSlice S4096x128 ![0, 256] b0 slices_S4096x416_S4096x128_0_256) (extractStridedSlice S4096x128 ![0, 256] b0 slices_S4096x416_S4096x128_0_256)) (constant S_ .f32 0x00000000#32) reducesTo_S4096x128_S4096_d1 h_S_)) (broadcastInDim S4096x1 ![] bcast_S_S4096x1 (constant S_ .f32 0x43000000#32))) (broadcastInDim S4096x1 ![] bcast_S_S4096x1 (constant S_ .f32 0x358637BD#32)))))) (broadcastInDim S4096x128 ![0, 1] bcast_S1x128_S4096x128_0_1 (broadcastInDim S1x128 ![1] bcast_S128_S1x128_1 b2))
def QT : FVec Ideal S8x4096x96 .f32 := transpose S8x4096x96 [0, 2, 1] (Host.dotGeneral dot_S256x8x96_S4096x256_S8x96x4096_0_1_12_0_n_n none b3 (NQ b0 b1)) transposes_S8x96x4096_S8x4096x96_0_2_1
def KN : FVec Ideal S8x4096x64 .f32 := transpose S8x4096x64 [0, 2, 1] (Host.dotGeneral dot_S128x8x64_S4096x128_S8x64x4096_0_1_12_0_n_n none b4 (NK b0 b2)) transposes_S8x64x4096_S8x4096x64_0_2_1
/-- A table for every head. -/
def up (P : FVec Ideal S4096x16 .f32) : FVec Ideal S8x4096x16 .f32 := broadcastInDim S8x4096x16 ![0, 1, 2] bcast_S1x4096x16_S8x4096x16_0_1_2 (broadcastInDim S1x4096x16 ![1, 2] bcast_S4096x16_S1x4096x16_1_2 P)
def QR : FVec Ideal S8x4096x32 .f32 := extractStridedSlice S8x4096x32 ![0, 0, 64] (QT b0 b1 b3) slices_S8x4096x96_S8x4096x32_0_0_64
def HR : FVec Ideal S4096x32 .f32 := extractStridedSlice S4096x32 ![0, 384] b0 slices_S4096x416_S4096x32_0_384
/-- The turned columns. -/
def TQ (Y : FVec Ideal S8x4096x32 .f32) : FVec Ideal S8x4096x32 .f32 := concatenate S8x4096x32 2 [⟨S8x4096x16, (subf (mulf (extractStridedSlice S8x4096x16 ![0, 0, 0] Y slices_S8x4096x32_S8x4096x16_0_0_0) (up (Host.cos ANG))) (mulf (extractStridedSlice S8x4096x16 ![0, 0, 16] Y slices_S8x4096x32_S8x4096x16_0_0_16) (up (Host.sin ANG))))⟩, ⟨S8x4096x16, (addf (mulf (extractStridedSlice S8x4096x16 ![0, 0, 0] Y slices_S8x4096x32_S8x4096x16_0_0_0) (up (Host.sin ANG))) (mulf (extractStridedSlice S8x4096x16 ![0, 0, 16] Y slices_S8x4096x32_S8x4096x16_0_0_16) (up (Host.cos ANG))))⟩] concatenates_S8x4096x16_S8x4096x16_S8x4096x32_d2
def TK (Y : FVec Ideal S4096x32 .f32) : FVec Ideal S4096x32 .f32 := concatenate S4096x32 1 [⟨S4096x16, (subf (mulf (extractStridedSlice S4096x16 ![0, 0] Y slices_S4096x32_S4096x16_0_0) (Host.cos ANG)) (mulf (extractStridedSlice S4096x16 ![0, 16] Y slices_S4096x32_S4096x16_0_16) (Host.sin ANG)))⟩, ⟨S4096x16, (addf (mulf (extractStridedSlice S4096x16 ![0, 0] Y slices_S4096x32_S4096x16_0_0) (Host.sin ANG)) (mulf (extractStridedSlice S4096x16 ![0, 16] Y slices_S4096x32_S4096x16_0_16) (Host.cos ANG)))⟩] concatenates_S4096x16_S4096x16_S4096x32_d1
/-- The four results. -/
def OQ : FVec Ideal S8x4096x128 .bf16 := truncf .bf16 ((concatenate S8x4096x128 2 [⟨S8x4096x64, ((extractStridedSlice S8x4096x64 ![0, 0, 0] (QT b0 b1 b3) slices_S8x4096x96_S8x4096x64_0_0_0) : FVec Ideal S8x4096x64 .f32)⟩, ⟨S8x4096x32, ((TQ (QR b0 b1 b3)) : FVec Ideal S8x4096x32 .f32)⟩, ⟨S8x4096x32, ((broadcastInDim S8x4096x32 ![] bcast_S_S8x4096x32 (constant S_ .f32 0x00000000#32)) : FVec Ideal S8x4096x32 .f32)⟩] concatenates_S8x4096x64_S8x4096x32_S8x4096x32_S8x4096x128_d2 : FVec Ideal S8x4096x128 .f32)) bitsLt_bf16_f32
def OK : FVec Ideal S8x4096x128 .bf16 := truncf .bf16 ((concatenate S8x4096x128 2 [⟨S8x4096x64, ((KN b0 b2 b4) : FVec Ideal S8x4096x64 .f32)⟩, ⟨S8x4096x32, ((broadcastInDim S8x4096x32 ![1, 2] bcast_S4096x32_S8x4096x32_1_2 (TK (HR b0))) : FVec Ideal S8x4096x32 .f32)⟩, ⟨S8x4096x32, ((broadcastInDim S8x4096x32 ![] bcast_S_S8x4096x32 (constant S_ .f32 0x00000000#32)) : FVec Ideal S8x4096x32 .f32)⟩] concatenates_S8x4096x64_S8x4096x32_S8x4096x32_S8x4096x128_d2 : FVec Ideal S8x4096x128 .f32)) bitsLt_bf16_f32
def OV : FVec Ideal S8x4096x64 .bf16 := truncf .bf16 (KN b0 b2 b5) bitsLt_bf16_f32
def OT : FVec Ideal S8x64x4096 .bf16 := truncf .bf16 (transpose S8x64x4096 [0, 2, 1] (KN b0 b2 b5) transposes_S8x4096x64_S8x64x4096_0_2_1) bitsLt_bf16_f32

/-- The columns of a row. -/
def rq (s : Fin 4096) (k : Fin 256) : EReal := b0 (ix2 s (⟨k.val, by omega⟩ : Fin 416))
def rk (s : Fin 4096) (k : Fin 128) : EReal := b0 (ix2 s (⟨256 + k.val, by omega⟩ : Fin 416))
def rr (s : Fin 4096) (k : Fin 32) : EReal := b0 (ix2 s (⟨384 + k.val, by omega⟩ : Fin 416))

theorem ANG_at (s : Fin 4096) (j : Fin 16) : ANG (ix2 s j) = Ang s j := by
  unfold Ang; pointwise! [ANG]
theorem NQ_at (s : Fin 4096) (k : Fin 256) : NQ b0 b1 (ix2 s k) = N (Ideal.ofBits FTy.f32 0x43800000#32) (rq b0) (fun k => b1 (ix1 k)) s k := by
  unfold N X rq; pointwise! [NQ]
theorem NK_at (s : Fin 4096) (k : Fin 128) : NK b0 b2 (ix2 s k) = N (Ideal.ofBits FTy.f32 0x43000000#32) (rk b0) (fun k => b2 (ix1 k)) s k := by
  unfold N X rk; pointwise! [NK]
theorem QT_at (h : Fin 8) (s : Fin 4096) (e : Fin 96) : QT b0 b1 b3 (ix3 h s e) = ∑ k : Fin 256, N (Ideal.ofBits FTy.f32 0x43800000#32) (rq b0) (fun k => b1 (ix1 k)) s k * b3 (ix3 k h e) := by
  have e0 : QT b0 b1 b3 (ix3 h s e) = ∑ k : Fin 256, b3 (ix3 k h e) * NQ b0 b1 (ix2 s k) := by pointwise! [QT]
  rw [e0]
  exact Finset.sum_congr rfl fun k _ => by rw [NQ_at, mul_comm (G := EReal)]
theorem KN_at (h : Fin 8) (s : Fin 4096) (e : Fin 64) : KN b0 b2 b4 (ix3 h s e) = ∑ k : Fin 128, N (Ideal.ofBits FTy.f32 0x43000000#32) (rk b0) (fun k => b2 (ix1 k)) s k * b4 (ix3 k h e) := by
  have e0 : KN b0 b2 b4 (ix3 h s e) = ∑ k : Fin 128, b4 (ix3 k h e) * NK b0 b2 (ix2 s k) := by pointwise! [KN]
  rw [e0]
  exact Finset.sum_congr rfl fun k _ => by rw [NK_at, mul_comm (G := EReal)]
theorem QR_at (h : Fin 8) (s : Fin 4096) (e : Fin 32) : QR b0 b1 b3 (ix3 h s e) = QT b0 b1 b3 (ix3 h s ⟨64 + e.val, by omega⟩) := by pointwise! [QR]
theorem HR_at (s : Fin 4096) (e : Fin 32) : HR b0 (ix2 s e) = rr b0 s e := by unfold rr; pointwise! [HR]

/-- 32 columns turned. -/
def R32 (Y : Fin 32 → EReal) (s : Fin 4096) (e : Fin 32) : EReal :=
  if h : e.val < 16 then Y ⟨e.val, by omega⟩ * Ideal.cos (Ang s ⟨e.val, h⟩) - Y ⟨16 + e.val, by omega⟩ * Ideal.sin (Ang s ⟨e.val, h⟩)
  else Y ⟨e.val - 16, by omega⟩ * Ideal.sin (Ang s ⟨e.val - 16, by omega⟩) + Y ⟨16 + (e.val - 16), by omega⟩ * Ideal.cos (Ang s ⟨e.val - 16, by omega⟩)
theorem TQ_at (Y : FVec Ideal S8x4096x32 .f32) (h : Fin 8) (s : Fin 4096) (e : Fin 32) : TQ Y (ix3 h s e) = R32 (fun e => Y (ix3 h s e)) s e := by
  unfold R32; simp only [← ANG_at]
  pointwise! [TQ, up]
theorem TK_at (Y : FVec Ideal S4096x32 .f32) (s : Fin 4096) (e : Fin 32) : TK Y (ix2 s e) = R32 (fun e => Y (ix2 s e)) s e := by
  unfold R32; simp only [← ANG_at]
  pointwise! [TK]

/-- Three blocks of columns side by side, the last of zeros. -/
theorem OQ_at (h : Fin 8) (s : Fin 4096) (q : Fin 128) : OQ b0 b1 b3 (ix3 h s q) = if h' : q.val < 64 then QT b0 b1 b3 (ix3 h s ⟨q.val, by omega⟩)
    else if h' : q.val - 64 < 32 then TQ (QR b0 b1 b3) (ix3 h s ⟨q.val - 64, h'⟩) else 0 := by
  pointwise! [OQ]
theorem OK_at (h : Fin 8) (s : Fin 4096) (q : Fin 128) : OK b0 b2 b4 (ix3 h s q) = if h' : q.val < 64 then KN b0 b2 b4 (ix3 h s ⟨q.val, h'⟩)
    else if h' : q.val - 64 < 32 then TK (HR b0) (ix2 s ⟨q.val - 64, h'⟩) else 0 := by
  pointwise! [OK]
theorem OV_at (h : Fin 8) (s : Fin 4096) (q : Fin 64) : OV b0 b2 b5 (ix3 h s q) = KN b0 b2 b5 (ix3 h s q) := by pointwise! [OV]
theorem OT_at (h : Fin 8) (q : Fin 64) (s : Fin 4096) : OT b0 b2 b5 (ix3 h q s) = KN b0 b2 b5 (ix3 h s q) := by pointwise! [OT]

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97) = OQ (m ((c.tc : Thread nD τ).loc main_arg0)) (m ((c.tc : Thread nD τ).loc main_arg1)) (m ((c.tc : Thread nD τ).loc main_arg3))
      ∧ r.2.mem ((c.tc : Thread nD τ).loc main_v98) = OK (m ((c.tc : Thread nD τ).loc main_arg0)) (m ((c.tc : Thread nD τ).loc main_arg2)) (m ((c.tc : Thread nD τ).loc main_arg4))
      ∧ r.2.mem ((c.tc : Thread nD τ).loc main_v99) = OV (m ((c.tc : Thread nD τ).loc main_arg0)) (m ((c.tc : Thread nD τ).loc main_arg2)) (m ((c.tc : Thread nD τ).loc main_arg5))
      ∧ r.2.mem ((c.tc : Thread nD τ).loc main_v101) = OT (m ((c.tc : Thread nD τ).loc main_arg0)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (Cert.Reference22Ideal.Value.run m ρ) fun r hr c => hr c

end Cert.Reference22Ideal.Fwd

end
-- ==== Proof.FwdEq.lean ====
/- The call mla_prep_fwd: its reference's results are what the kernel leaves. -/
module

public import proofs.«01_k».proof.Proof.FwdFin
public import proofs.«01_k».proof.Proof.FwdRef

@[expose] public section

set_option maxRecDepth 16384

noncomputable section

open Idealize.ShloMosaic Idealize.ShloMosaic.TcCoe Idealize.SL.Sem Cert.LowSpec

namespace Cert.Kernel22Ideal.Fwd

open Cert.Reference22Ideal.Fwd (R32 rr OQ OK OV OT OQ_at OK_at OV_at OT_at QT_at KN_at QR_at HR_at TQ_at TK_at)

/-- The last 32 of 96 columns after the turn, from those columns alone. -/
theorem RT_hi (Y : Fin 96 → EReal) (s : Fin 4096) (e : Fin 96) (h : ¬ e.val < 64) :
    RT Y (Ang s) e = R32 (fun j => Y ⟨64 + j.val, by omega⟩) s ⟨e.val - 64, by have := e.isLt; omega⟩ := by
  have he := e.isLt
  unfold RT R32
  rw [dif_neg h]
  by_cases h2 : e.val < 80
  · rw [dif_pos h2, dif_pos (by simp only; omega), sub_eq_add_neg]
    have e1 : (⟨64 + (e.val - 64), by omega⟩ : Fin 96) = e := Fin.ext (by simp only; omega)
    have e2 : (⟨64 + (16 + (e.val - 64)), by omega⟩ : Fin 96) = ⟨e.val + 16, by omega⟩ := Fin.ext (by simp only; omega)
    simp only [e1, e2]
  · rw [dif_neg h2, dif_neg (by simp only; omega)]
    have e1 : (⟨64 + (e.val - 64 - 16), by omega⟩ : Fin 96) = ⟨e.val - 16, by omega⟩ := Fin.ext (by simp only; omega)
    have e2 : (⟨64 + (16 + (e.val - 64 - 16)), by omega⟩ : Fin 96) = e := Fin.ext (by simp only; omega)
    have e3 : (⟨e.val - 64 - 16, by omega⟩ : Fin 16) = ⟨e.val - 80, by omega⟩ := Fin.ext (by simp only; omega)
    simp only [e1, e2, e3]

variable (m : (ℓ : Loc Cert.Kernel22Ideal.nD Cert.Kernel22Ideal.τ Cert.Kernel22Ideal.sig) → Buf (Elt Ideal) ℓ) (c : Dev Cert.Kernel22Ideal.nD)

theorem at0 (h : Fin 8) (s : Fin 4096) (q : Fin 128) : OQ (a0 m c) (a1 m c) (a3 m c) (ix3 h s q)
    = ext 96 (RT (fun e => ∑ k : Fin 256, nQ m c s k * a3 m c (ix3 k h e)) (Ang s)) q := by
  rw [OQ_at]
  by_cases h1 : q.val < 64
  · rw [dif_pos h1, ext_lo _ _ (by omega : q.val < 96)]
    unfold RT
    rw [dif_pos h1]
    exact QT_at ..
  · rw [dif_neg h1]
    by_cases h2 : q.val - 64 < 32
    · rw [dif_pos h2, ext_lo _ _ (by omega : q.val < 96), RT_hi _ _ _ h1]
      refine (TQ_at ..).trans ?_
      exact congrArg (fun Y => R32 Y s ⟨q.val - 64, h2⟩) (funext fun e => (QR_at ..).trans (QT_at ..))
    · rw [dif_neg h2, ext_hi _ _ (by omega : ¬ q.val < 96)]

theorem at1 (h : Fin 8) (s : Fin 4096) (q : Fin 128) : OK (a0 m c) (a2 m c) (a4 m c) (ix3 h s q)
    = ext 64 (fun e => ∑ k : Fin 128, nK m c s k * a4 m c (ix3 k h e)) q + ext 96 (RT (KR (hr m c s)) (Ang s)) q := by
  rw [OK_at]
  by_cases h1 : q.val < 64
  · rw [dif_pos h1, ext_lo _ _ h1, ext_lo _ _ (by omega : q.val < 96)]
    have e0 : RT (KR (hr m c s)) (Ang s) ⟨q.val, by omega⟩ = 0 := by
      unfold RT KR
      rw [dif_pos h1, dif_pos h1]
    rw [e0, add_zero]
    exact KN_at ..
  · rw [dif_neg h1, ext_hi _ _ h1, zero_add]
    by_cases h2 : q.val - 64 < 32
    · rw [dif_pos h2, ext_lo _ _ (by omega : q.val < 96), RT_hi _ _ _ h1]
      refine (TK_at ..).trans ?_
      refine congrArg (fun Y => R32 Y s ⟨q.val - 64, h2⟩) (funext fun e => (HR_at ..).trans ?_)
      unfold KR
      rw [dif_neg (by simp only; omega)]
      exact congrArg (hr m c s) (Fin.ext (by simp only; omega))
    · rw [dif_neg h2, ext_hi _ _ (by omega : ¬ q.val < 96)]

theorem res0 : OQ (a0 m c) (a1 m c) (a3 m c) = F10 m c := by
  funext y
  have hy : y = ix3 (n0 := 8) (n1 := 4096) (n2 := 128) (y 0) (y 1) (y 2) := eq_ix3 y
  exact (congrArg _ hy).trans (at0 m c (y 0) (y 1) (y 2))

theorem res1 : OK (a0 m c) (a2 m c) (a4 m c) = F11 m c := by
  funext y
  have hy : y = ix3 (n0 := 8) (n1 := 4096) (n2 := 128) (y 0) (y 1) (y 2) := eq_ix3 y
  exact (congrArg _ hy).trans (at1 m c (y 0) (y 1) (y 2))

theorem res2 : OV (a0 m c) (a2 m c) (a5 m c) = F12 m c := by
  funext y
  have hy : y = ix3 (n0 := 8) (n1 := 4096) (n2 := 64) (y 0) (y 1) (y 2) := eq_ix3 y
  exact (congrArg _ hy).trans ((OV_at (a0 m c) (a2 m c) (a5 m c) (y 0) (y 1) (y 2)).trans (KN_at ..))

theorem res3 : OT (a0 m c) (a2 m c) (a5 m c) = F13 m c := by
  funext y
  have hy : y = ix3 (n0 := 8) (n1 := 64) (n2 := 4096) (y 0) (y 1) (y 2) := eq_ix3 y
  exact (congrArg _ hy).trans ((OT_at (a0 m c) (a2 m c) (a5 m c) (y 0) (y 1) (y 2)).trans (KN_at ..))

end Cert.Kernel22Ideal.Fwd

end
-- ==== Proof.Claim22.lean ====
/- The claims about the programs of Kernel22 and Reference22. -/
module

public import proofs.«01_k».proof.Defs
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.FwdEq
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.C22

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)
theorem preserves : Cert.preserves_Kernel22_Kernel22Ideal := trivial

set_option maxHeartbeats 4000000 in
/-- Both programs end with the same four result arrays. -/
theorem algebraic : Cert.algebraic_Kernel22Ideal_Reference22Ideal := by
  intro m g m' g' hpre hagree
  refine ⟨fun c => Cert.Kernel22Ideal.Fwd.F10 m c, fun c => Cert.Kernel22Ideal.Fwd.F11 m c, fun c => Cert.Kernel22Ideal.Fwd.F12 m c, fun c => Cert.Kernel22Ideal.Fwd.F13 m c, ?_, ?_⟩
  · refine θ_run_mono (Cert.Kernel22Ideal.Value.run_blocks m g) ?_
    intro r hr c
    obtain ⟨k1, k2, k3, k4, kargs⟩ := hr c
    exact ⟨k1.trans (Cert.Kernel22Ideal.Fwd.final10 m c), k2.trans (Cert.Kernel22Ideal.Fwd.final11 m c), k3.trans (Cert.Kernel22Ideal.Fwd.final12 m c), k4.trans (Cert.Kernel22Ideal.Fwd.final13 m c), kargs⟩
  · refine θ_run_mono (Cert.Reference22Ideal.Fwd.run m' g') ?_
    intro r hr c
    obtain ⟨h0, h1, h2, h3, hargs⟩ := hr c
    obtain ⟨e0, e1, e2, e3, e4, e5⟩ := hagree c
    refine ⟨h0.trans ?_, h1.trans ?_, h2.trans ?_, h3.trans ?_, hargs⟩
    · rw [e0, e1, e3]; exact Cert.Kernel22Ideal.Fwd.res0 m c
    · rw [e0, e2, e4]; exact Cert.Kernel22Ideal.Fwd.res1 m c
    · rw [e0, e2, e5]; exact Cert.Kernel22Ideal.Fwd.res2 m c
    · rw [e0, e2, e5]; exact Cert.Kernel22Ideal.Fwd.res3 m c

end Cert.Proof.C22

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Pre_finite
public import proofs.«01_k».proof.Proof.Gen.Pre_finite4
public import proofs.«01_k».proof.Proof.Gen.Pre_finite10
public import proofs.«01_k».proof.Proof.Claim1
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import proofs.«01_k».proof.Proof.Claim10
public import proofs.«01_k».proof.Proof.Claim11
public import proofs.«01_k».proof.Proof.Claim12
public import proofs.«01_k».proof.Proof.Claim13
public import proofs.«01_k».proof.Proof.Claim15
public import proofs.«01_k».proof.Proof.Claim16
public import proofs.«01_k».proof.Proof.Claim17
public import proofs.«01_k».proof.Proof.Claim18
public import proofs.«01_k».proof.Proof.Claim19
public import proofs.«01_k».proof.Proof.Claim20
public import proofs.«01_k».proof.Proof.Claim21
public import proofs.«01_k».proof.Proof.Claim22

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_finite.Gen.facts, Cert.Pre_finite4.Gen.facts, Cert.Pre_finite10.Gen.facts,
   C1.frame_p,
   C1.frame_pi,
   C1.frame_pi_pre,
   C1.frame_ri,
   C1.frame_ri_pre,
   C2.frame_p,
   C2.frame_pi,
   C2.frame_ri,
   C3.frame_p,
   C3.frame_pi,
   C3.frame_ri,
   C4.frame_p,
   C4.frame_pi,
   C4.frame_pi_pre,
   C4.frame_ri,
   C4.frame_ri_pre,
   C5.frame_p,
   C5.frame_pi,
   C5.frame_ri,
   C6.frame_p,
   C6.frame_pi,
   C6.frame_ri,
   C7.frame_p,
   C7.frame_pi,
   C7.frame_ri,
   C8.frame_p,
   C8.frame_pi,
   C8.frame_ri,
   C9.frame_p,
   C9.frame_pi,
   C9.frame_ri,
   C10.frame_p,
   C10.frame_pi,
   C10.frame_pi_pre,
   C10.frame_ri,
   C10.frame_ri_pre,
   C11.frame_p,
   C11.frame_pi,
   C11.frame_ri,
   C12.frame_p,
   C12.frame_pi,
   C12.frame_ri,
   C13.frame_p,
   C13.frame_pi,
   C13.frame_ri,
   C15.frame_p,
   C15.frame_pi,
   C15.frame_ri,
   C16.frame_p,
   C16.frame_pi,
   C16.frame_ri,
   C17.frame_p,
   C17.frame_pi,
   C17.frame_ri,
   C18.frame_p,
   C18.frame_pi,
   C18.frame_ri,
   C19.frame_p,
   C19.frame_pi,
   C19.frame_ri,
   C20.frame_p,
   C20.frame_pi,
   C20.frame_ri,
   C21.frame_p,
   C21.frame_pi,
   C21.frame_ri,
   C22.frame_p,
   C22.frame_pi,
   C22.frame_ri,
   C1.preserves,
   C1.algebraic,
   C2.preserves,
   C2.algebraic,
   C3.preserves,
   C3.algebraic,
   C4.preserves,
   C4.algebraic,
   C5.preserves,
   C5.algebraic,
   C6.preserves,
   C6.algebraic,
   C7.preserves,
   C7.algebraic,
   C8.preserves,
   C8.algebraic,
   C9.preserves,
   C9.algebraic,
   C10.preserves,
   C10.algebraic,
   C11.preserves,
   C11.algebraic,
   C12.preserves,
   C12.algebraic,
   C13.preserves,
   C13.algebraic,
   C15.preserves,
   C15.algebraic,
   C16.preserves,
   C16.algebraic,
   C17.preserves,
   C17.algebraic,
   C18.preserves,
   C18.algebraic,
   C19.preserves,
   C19.algebraic,
   C20.preserves,
   C20.algebraic,
   C21.preserves,
   C21.algebraic,
   C22.preserves,
   C22.algebraic⟩

end Cert.Proof

end
